-- ==== Defs.lean ====
def Pre_Kernel [hPre_in_table : Cert.Pre_in_table.Facts] (m : (ℓ : Loc Cert.Kernel.nD Cert.Kernel.τ Cert.Kernel.sig) → Buf (Elt Bits) ℓ) : Prop :=
  ∀ c : Dev Cert.Kernel.nD,
    (Cert.Pre_in_table.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_in_table : Cert.Pre_in_table.Facts] (m : (ℓ : Loc Cert.KernelIdeal.nD Cert.KernelIdeal.τ Cert.KernelIdeal.sig) → Buf (Elt Ideal) ℓ) : Prop :=
  ∀ c : Dev Cert.KernelIdeal.nD,
    (Cert.Pre_in_table.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_table [hPre_in_table : Cert.Pre_in_table.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_table.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_in_table : Cert.Pre_in_table.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_in_table : Cert.Pre_in_table.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_table [hReferenceIdeal : Cert.ReferenceIdeal.Facts] [hPre_in_table : Cert.Pre_in_table.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_table m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_table : Cert.Pre_in_table.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_in_table : Cert.Pre_in_table.Facts),
    quiescent_Kernel (hKernel := hKernel) (hPre_in_table := hPre_in_table)
    ∧ quiescent_KernelIdeal (hKernelIdeal := hKernelIdeal) (hPre_in_table := hPre_in_table)
    ∧ quiescent_ReferenceIdeal (hReferenceIdeal := hReferenceIdeal)
    ∧ quiescent_ReferenceIdeal_pre_in_table (hReferenceIdeal := hReferenceIdeal) (hPre_in_table := hPre_in_table)
    ∧ preserves_Kernel_KernelIdeal
    ∧ algebraic_KernelIdeal_ReferenceIdeal (hKernelIdeal := hKernelIdeal) (hReferenceIdeal := hReferenceIdeal) (hPre_in_table := hPre_in_table)
-- ==== Pre_in_table.lean ====
abbrev S16384 : Shape := ⟨1, ![16384]⟩
abbrev S1000000x64 : Shape := ⟨2, ![1000000, 64]⟩
abbrev S_ : Shape := ⟨0, ![]⟩

class Facts : Prop where
  bcast_S_S16384 : S_.BroadcastsInDim S16384 (![] : Fin 0 → Fin S16384.rank)
  reducesTo_S16384_S_d0 : S16384.ReducesTo [0] S_
  h_S_ : 0 < S_.numel

variable [Facts]

def fn {F : FTy → Type} [FloatOps F] (main_arg0 : IVec S16384 32) (main_arg1 : FVec F S1000000x64 .f32) : IVec S_ 1 :=
  let main_c : IVec S_ 32 := constantI S_ 32 0#32
  let main_v0 : IVec S16384 32 := broadcastInDim S16384 ![] bcast_S_S16384 main_c
  let main_v1 : IVec S16384 1 := cmpi .sge main_arg0 main_v0
  let main_c_0 : IVec S_ 32 := constantI S_ 32 1000000#32
  let main_v2 : IVec S16384 32 := broadcastInDim S16384 ![] bcast_S_S16384 main_c_0
  let main_v3 : IVec S16384 1 := cmpi .slt main_arg0 main_v2
  let main_v4 : IVec S16384 1 := andi main_v1 main_v3
  let main_c_1 : IVec S_ 1 := constantI S_ 1 1#1
  let main_v5 : IVec S_ 1 := (fun x v => Host.reduce IntOp.andi x v reducesTo_S16384_S_d0 h_S_) main_v4 main_c_1
  main_v5
-- ==== Kernel.lean ====
abbrev S16384 : Shape := ⟨1, ![16384]⟩
abbrev S1000000x64 : Shape := ⟨2, ![1000000, 64]⟩
abbrev S_ : Shape := ⟨0, ![]⟩
abbrev S32x4x128 : Shape := ⟨3, ![32, 4, 128]⟩
abbrev S32x512 : Shape := ⟨2, ![32, 512]⟩
abbrev S500000x128 : Shape := ⟨2, ![500000, 128]⟩
abbrev S16384x128 : Shape := ⟨2, ![16384, 128]⟩
abbrev S4x128 : Shape := ⟨2, ![4, 128]⟩
abbrev S512 : Shape := ⟨1, ![512]⟩
abbrev S512x128 : Shape := ⟨2, ![512, 128]⟩
abbrev S2x128x128 : Shape := ⟨3, ![2, 128, 128]⟩
abbrev S4 : Shape := ⟨1, ![4]⟩
abbrev S2 : Shape := ⟨1, ![2]⟩
abbrev S1x4x128 : Shape := ⟨3, ![1, 4, 128]⟩
abbrev S1x512 : Shape := ⟨2, ![1, 512]⟩
abbrev S128x128 : Shape := ⟨2, ![128, 128]⟩
abbrev S1x128 : Shape := ⟨2, ![1, 128]⟩
abbrev S128 : Shape := ⟨1, ![128]⟩
abbrev S1 : Shape := ⟨1, ![1]⟩
abbrev S16 : Shape := ⟨1, ![16]⟩
abbrev S1x16 : Shape := ⟨2, ![1, 16]⟩
abbrev S1x1x16 : Shape := ⟨3, ![1, 1, 16]⟩
abbrev S1x128x128 : Shape := ⟨3, ![1, 128, 128]⟩

abbrev nBuf : Table → Nat
  | .hbm => 15
  | .local .scVector .vmem => 4
  | _ => 0

abbrev bufTy : (tb : Table) → Fin (nBuf tb) → BufTy
  | .hbm, ⟨0, _⟩ => ⟨S16384, .i32⟩
  | .hbm, ⟨1, _⟩ => ⟨S1000000x64, .f32⟩
  | .hbm, ⟨2, _⟩ => ⟨S_, .i32⟩
  | .hbm, ⟨3, _⟩ => ⟨S16384, .i32⟩
  | .hbm, ⟨4, _⟩ => ⟨S16384, .i32⟩
  | .hbm, ⟨5, _⟩ => ⟨S32x4x128, .i32⟩
  | .hbm, ⟨6, _⟩ => ⟨S_, .i32⟩
  | .hbm, ⟨7, _⟩ => ⟨S16384, .i32⟩
  | .hbm, ⟨8, _⟩ => ⟨S16384, .i32⟩
  | .hbm, ⟨9, _⟩ => ⟨S_, .i32⟩
  | .hbm, ⟨10, _⟩ => ⟨S16384, .i32⟩
  | .hbm, ⟨11, _⟩ => ⟨S16384, .i32⟩
  | .hbm, ⟨12, _⟩ => ⟨S32x512, .i32⟩
  | .hbm, ⟨13, _⟩ => ⟨S500000x128, .f32⟩
  | .hbm, ⟨14, _⟩ => ⟨S16384x128, .f32⟩
  | .local .scVector .vmem, ⟨0, _⟩ => ⟨S4x128, .i32⟩
  | .local .scVector .vmem, ⟨1, _⟩ => ⟨S512, .i32⟩
  | .local .scVector .vmem, ⟨2, _⟩ => ⟨S512x128, .f32⟩
  | .local .scVector .vmem, ⟨3, _⟩ => ⟨S2x128x128, .f32⟩
  | _, _ => ⟨S16384, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 8 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | _ => false

abbrev sig : RefSig :=
  ofTables nBuf rfl bufTy 4 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c_0 : Ref sig .tc := ⟨.hbm, 6, rfl⟩
abbrev main_v3 : Ref sig .tc := ⟨.hbm, 7, rfl⟩
abbrev main_v4 : Ref sig .tc := ⟨.hbm, 8, rfl⟩
abbrev main_c_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v2_scv : Ref sig .scVector := ⟨.hbm, 5, rfl⟩
abbrev main_v7_scv : Ref sig .scVector := ⟨.hbm, 12, rfl⟩
abbrev main_v8_scv : Ref sig .scVector := ⟨.hbm, 13, rfl⟩
abbrev main_v9_scv : Ref sig .scVector := ⟨.hbm, 14, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_137_r0 : BitVec 32 := 0#32
  let c0_i32_138_r0 : BitVec 32 := 0#32
  ![v1.toNat, 0, 0]
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_137_r1 : BitVec 32 := 0#32
  ![v1.toNat, 0]
@[reducible] def k0_t1_loop : Scf.Loop 32 :=
  let c0_i32_30 : BitVec 32 := 0#32
  let c8_i32 : BitVec 32 := 8#32
  let v34 : BitVec 32 := Scalar.addi c0_i32_30 c8_i32
  let c1_i32_31 : BitVec 32 := 1#32
  ⟨c0_i32_30, v34, c1_i32_31⟩
def k0_off3 (k0_t1 : Fin k0_t1_loop.trips) : Fin 1 → Nat :=
  let c0_i32_137 : BitVec 32 := 0#32
  let c0_i32_30 : BitVec 32 := 0#32
  let c1_i32_31 : BitVec 32 := 1#32
  let arg12 : BitVec 32 := Scf.iv c0_i32_30 c1_i32_31 k0_t1
  let c16_i32 : BitVec 32 := 16#32
  let v124 : BitVec 32 := Scalar.muli arg12 c16_i32
  let v125 : BitVec 32 := Scalar.addi c0_i32_137 v124
  let v126 : Index := Scalar.indexCast v125
  ![v126.toNat]
def k0_off4 (k0_t1 : Fin k0_t1_loop.trips) (v130 : BitVec 32) (c0_i32_140 : BitVec 32) : Fin 2 → Nat :=
  let c0_i32_138 : BitVec 32 := 0#32
  let c0_i32_30 : BitVec 32 := 0#32
  let c1_i32_31 : BitVec 32 := 1#32
  let arg12 : BitVec 32 := Scf.iv c0_i32_30 c1_i32_31 k0_t1
  let c16_i32 : BitVec 32 := 16#32
  let v124 : BitVec 32 := Scalar.muli arg12 c16_i32
  let v131 : BitVec 32 := Scalar.addi c0_i32_138 v124
  let c0_i32_139 : BitVec 32 := 0#32
  let v132 : BitVec 32 := Scalar.addi v131 c0_i32_139
  let v134 : Index := Scalar.indexCast v132
  let v133 : BitVec 32 := Scalar.addi v130 c0_i32_140
  let v135 : Index := Scalar.indexCast v133
  ![v134.toNat, v135.toNat]

def k0_chk1 (k0_t1 : Fin k0_t1_loop.trips) (v130 : BitVec 32) : Prop :=
  (∀ (r : Fin 4), ∀ a, (k0_off4 k0_t1 v130 (BitVec.ofNat 32 (16 * r.val))) a + S1x16.size a ≤ S512x128.size a)
theorem k0_off4_inb : ∀ (k0_t1 : Fin k0_t1_loop.trips) (v130 : BitVec 32) (k0_hw1 : k0_chk1 k0_t1 v130), ∀ (r : Fin 4), ∀ a, (k0_off4 k0_t1 v130 (BitVec.ofNat 32 (16 * r.val))) a + S1x16.size a ≤ S512x128.size a := fun k0_t1 v130 k0_hw1 r => k0_hw1 r

def k0_off5 (k0_t1 : Fin k0_t1_loop.trips) : Fin 3 → Nat :=
  let c0_i32_142 : BitVec 32 := 0#32
  let v139 : Index := Scalar.indexCast c0_i32_142
  let c0_i32_30 : BitVec 32 := 0#32
  let c1_i32_31 : BitVec 32 := 1#32
  let arg12 : BitVec 32 := Scf.iv c0_i32_30 c1_i32_31 k0_t1
  let c16_i32 : BitVec 32 := 16#32
  let v124 : BitVec 32 := Scalar.muli arg12 c16_i32
  let c0_i32_141 : BitVec 32 := 0#32
  let v138 : BitVec 32 := Scalar.addi v124 c0_i32_141
  let v140 : Index := Scalar.indexCast v138
  let c0 : Index := 0#32
  ![0, v140.toNat, 0]
def k0_off6 (k0_t1 : Fin k0_t1_loop.trips) : Fin 3 → Nat :=
  let c0_i32_144 : BitVec 32 := 0#32
  let v145 : Index := Scalar.indexCast c0_i32_144
  let c0_i32_30 : BitVec 32 := 0#32
  let c1_i32_31 : BitVec 32 := 1#32
  let arg12 : BitVec 32 := Scf.iv c0_i32_30 c1_i32_31 k0_t1
  let c16_i32 : BitVec 32 := 16#32
  let v124 : BitVec 32 := Scalar.muli arg12 c16_i32
  let c0_i32_143 : BitVec 32 := 0#32
  let v144 : BitVec 32 := Scalar.addi v124 c0_i32_143
  let v146 : Index := Scalar.indexCast v144
  let c64 : Index := 64#32
  ![0, v146.toNat, 64]
def k0_off7 (k0_t1 : Fin k0_t1_loop.trips) : Fin 3 → Nat :=
  let c0_i32_147 : BitVec 32 := 0#32
  let v156 : Index := Scalar.indexCast c0_i32_147
  let c0_i32_30 : BitVec 32 := 0#32
  let c1_i32_31 : BitVec 32 := 1#32
  let arg12 : BitVec 32 := Scf.iv c0_i32_30 c1_i32_31 k0_t1
  let c16_i32 : BitVec 32 := 16#32
  let v124 : BitVec 32 := Scalar.muli arg12 c16_i32
  let c0_i32_146 : BitVec 32 := 0#32
  let v155 : BitVec 32 := Scalar.addi v124 c0_i32_146
  let v157 : Index := Scalar.indexCast v155
  let c16 : Index := 16#32
  ![0, v157.toNat, 16]
def k0_off8 (k0_t1 : Fin k0_t1_loop.trips) : Fin 3 → Nat :=
  let c0_i32_149 : BitVec 32 := 0#32
  let v162 : Index := Scalar.indexCast c0_i32_149
  let c0_i32_30 : BitVec 32 := 0#32
  let c1_i32_31 : BitVec 32 := 1#32
  let arg12 : BitVec 32 := Scf.iv c0_i32_30 c1_i32_31 k0_t1
  let c16_i32 : BitVec 32 := 16#32
  let v124 : BitVec 32 := Scalar.muli arg12 c16_i32
  let c0_i32_148 : BitVec 32 := 0#32
  let v161 : BitVec 32 := Scalar.addi v124 c0_i32_148
  let v163 : Index := Scalar.indexCast v161
  let c80 : Index := 80#32
  ![0, v163.toNat, 80]
def k0_off9 (k0_t1 : Fin k0_t1_loop.trips) : Fin 3 → Nat :=
  let c0_i32_151 : BitVec 32 := 0#32
  let v173 : Index := Scalar.indexCast c0_i32_151
  let c0_i32_30 : BitVec 32 := 0#32
  let c1_i32_31 : BitVec 32 := 1#32
  let arg12 : BitVec 32 := Scf.iv c0_i32_30 c1_i32_31 k0_t1
  let c16_i32 : BitVec 32 := 16#32
  let v124 : BitVec 32 := Scalar.muli arg12 c16_i32
  let c0_i32_150 : BitVec 32 := 0#32
  let v172 : BitVec 32 := Scalar.addi v124 c0_i32_150
  let v174 : Index := Scalar.indexCast v172
  let c32 : Index := 32#32
  ![0, v174.toNat, 32]
def k0_off10 (k0_t1 : Fin k0_t1_loop.trips) : Fin 3 → Nat :=
  let c0_i32_153 : BitVec 32 := 0#32
  let v179 : Index := Scalar.indexCast c0_i32_153
  let c0_i32_30 : BitVec 32 := 0#32
  let c1_i32_31 : BitVec 32 := 1#32
  let arg12 : BitVec 32 := Scf.iv c0_i32_30 c1_i32_31 k0_t1
  let c16_i32 : BitVec 32 := 16#32
  let v124 : BitVec 32 := Scalar.muli arg12 c16_i32
  let c0_i32_152 : BitVec 32 := 0#32
  let v178 : BitVec 32 := Scalar.addi v124 c0_i32_152
  let v180 : Index := Scalar.indexCast v178
  let c96 : Index := 96#32
  ![0, v180.toNat, 96]
def k0_off11 (k0_t1 : Fin k0_t1_loop.trips) : Fin 3 → Nat :=
  let c0_i32_155 : BitVec 32 := 0#32
  let v190 : Index := Scalar.indexCast c0_i32_155
  let c0_i32_30 : BitVec 32 := 0#32
  let c1_i32_31 : BitVec 32 := 1#32
  let arg12 : BitVec 32 := Scf.iv c0_i32_30 c1_i32_31 k0_t1
  let c16_i32 : BitVec 32 := 16#32
  let v124 : BitVec 32 := Scalar.muli arg12 c16_i32
  let c0_i32_154 : BitVec 32 := 0#32
  let v189 : BitVec 32 := Scalar.addi v124 c0_i32_154
  let v191 : Index := Scalar.indexCast v189
  let c48 : Index := 48#32
  ![0, v191.toNat, 48]
def k0_off12 (k0_t1 : Fin k0_t1_loop.trips) : Fin 3 → Nat :=
  let c0_i32_157 : BitVec 32 := 0#32
  let v196 : Index := Scalar.indexCast c0_i32_157
  let c0_i32_30 : BitVec 32 := 0#32
  let c1_i32_31 : BitVec 32 := 1#32
  let arg12 : BitVec 32 := Scf.iv c0_i32_30 c1_i32_31 k0_t1
  let c16_i32 : BitVec 32 := 16#32
  let v124 : BitVec 32 := Scalar.muli arg12 c16_i32
  let c0_i32_156 : BitVec 32 := 0#32
  let v195 : BitVec 32 := Scalar.addi v124 c0_i32_156
  let v197 : Index := Scalar.indexCast v195
  let c112 : Index := 112#32
  ![0, v197.toNat, 112]
def k0_off13 (k0_t1 : Fin k0_t1_loop.trips) (v202 : BitVec 32) (c0_i32_160 : BitVec 32) : Fin 2 → Nat :=
  let c0_i32_158 : BitVec 32 := 0#32
  let c0_i32_30 : BitVec 32 := 0#32
  let c1_i32_31 : BitVec 32 := 1#32
  let arg12 : BitVec 32 := Scf.iv c0_i32_30 c1_i32_31 k0_t1
  let c16_i32 : BitVec 32 := 16#32
  let v124 : BitVec 32 := Scalar.muli arg12 c16_i32
  let v203 : BitVec 32 := Scalar.addi c0_i32_158 v124
  let c1_i32_159 : BitVec 32 := 1#32
  let v204 : BitVec 32 := Scalar.addi v203 c1_i32_159
  let v206 : Index := Scalar.indexCast v204
  let v205 : BitVec 32 := Scalar.addi v202 c0_i32_160
  let v207 : Index := Scalar.indexCast v205
  ![v206.toNat, v207.toNat]

def k0_chk2 (k0_t1 : Fin k0_t1_loop.trips) (v202 : BitVec 32) : Prop :=
  (∀ (r : Fin 4), ∀ a, (k0_off13 k0_t1 v202 (BitVec.ofNat 32 (16 * r.val))) a + S1x16.size a ≤ S512x128.size a)
theorem k0_off13_inb : ∀ (k0_t1 : Fin k0_t1_loop.trips) (v202 : BitVec 32) (k0_hw2 : k0_chk2 k0_t1 v202), ∀ (r : Fin 4), ∀ a, (k0_off13 k0_t1 v202 (BitVec.ofNat 32 (16 * r.val))) a + S1x16.size a ≤ S512x128.size a := fun k0_t1 v202 k0_hw2 r => k0_hw2 r

def k0_off14 (k0_t1 : Fin k0_t1_loop.trips) : Fin 3 → Nat :=
  let c0_i32_162 : BitVec 32 := 0#32
  let v211 : Index := Scalar.indexCast c0_i32_162
  let c0_i32_30 : BitVec 32 := 0#32
  let c1_i32_31 : BitVec 32 := 1#32
  let arg12 : BitVec 32 := Scf.iv c0_i32_30 c1_i32_31 k0_t1
  let c16_i32 : BitVec 32 := 16#32
  let v124 : BitVec 32 := Scalar.muli arg12 c16_i32
  let c1_i32_161 : BitVec 32 := 1#32
  let v210 : BitVec 32 := Scalar.addi v124 c1_i32_161
  let v212 : Index := Scalar.indexCast v210
  let c0_163 : Index := 0#32
  ![0, v212.toNat, 0]
def k0_off15 (k0_t1 : Fin k0_t1_loop.trips) : Fin 3 → Nat :=
  let c0_i32_165 : BitVec 32 := 0#32
  let v217 : Index := Scalar.indexCast c0_i32_165
  let c0_i32_30 : BitVec 32 := 0#32
  let c1_i32_31 : BitVec 32 := 1#32
  let arg12 : BitVec 32 := Scf.iv c0_i32_30 c1_i32_31 k0_t1
  let c16_i32 : BitVec 32 := 16#32
  let v124 : BitVec 32 := Scalar.muli arg12 c16_i32
  let c1_i32_164 : BitVec 32 := 1#32
  let v216 : BitVec 32 := Scalar.addi v124 c1_i32_164
  let v218 : Index := Scalar.indexCast v216
  let c64_166 : Index := 64#32
  ![0, v218.toNat, 64]
def k0_off16 (k0_t1 : Fin k0_t1_loop.trips) : Fin 3 → Nat :=
  let c0_i32_169 : BitVec 32 := 0#32
  let v228 : Index := Scalar.indexCast c0_i32_169
  let c0_i32_30 : BitVec 32 := 0#32
  let c1_i32_31 : BitVec 32 := 1#32
  let arg12 : BitVec 32 := Scf.iv c0_i32_30 c1_i32_31 k0_t1
  let c16_i32 : BitVec 32 := 16#32
  let v124 : BitVec 32 := Scalar.muli arg12 c16_i32
  let c1_i32_168 : BitVec 32 := 1#32
  let v227 : BitVec 32 := Scalar.addi v124 c1_i32_168
  let v229 : Index := Scalar.indexCast v227
  let c16_170 : Index := 16#32
  ![0, v229.toNat, 16]
def k0_off17 (k0_t1 : Fin k0_t1_loop.trips) : Fin 3 → Nat :=
  let c0_i32_172 : BitVec 32 := 0#32
  let v234 : Index := Scalar.indexCast c0_i32_172
  let c0_i32_30 : BitVec 32 := 0#32
  let c1_i32_31 : BitVec 32 := 1#32
  let arg12 : BitVec 32 := Scf.iv c0_i32_30 c1_i32_31 k0_t1
  let c16_i32 : BitVec 32 := 16#32
  let v124 : BitVec 32 := Scalar.muli arg12 c16_i32
  let c1_i32_171 : BitVec 32 := 1#32
  let v233 : BitVec 32 := Scalar.addi v124 c1_i32_171
  let v235 : Index := Scalar.indexCast v233
  let c80_173 : Index := 80#32
  ![0, v235.toNat, 80]
def k0_off18 (k0_t1 : Fin k0_t1_loop.trips) : Fin 3 → Nat :=
  let c0_i32_176 : BitVec 32 := 0#32
  let v245 : Index := Scalar.indexCast c0_i32_176
  let c0_i32_30 : BitVec 32 := 0#32
  let c1_i32_31 : BitVec 32 := 1#32
  let arg12 : BitVec 32 := Scf.iv c0_i32_30 c1_i32_31 k0_t1
  let c16_i32 : BitVec 32 := 16#32
  let v124 : BitVec 32 := Scalar.muli arg12 c16_i32
  let c1_i32_175 : BitVec 32 := 1#32
  let v244 : BitVec 32 := Scalar.addi v124 c1_i32_175
  let v246 : Index := Scalar.indexCast v244
  let c32_177 : Index := 32#32
  ![0, v246.toNat, 32]
def k0_off19 (k0_t1 : Fin k0_t1_loop.trips) : Fin 3 → Nat :=
  let c0_i32_179 : BitVec 32 := 0#32
  let v251 : Index := Scalar.indexCast c0_i32_179
  let c0_i32_30 : BitVec 32 := 0#32
  let c1_i32_31 : BitVec 32 := 1#32
  let arg12 : BitVec 32 := Scf.iv c0_i32_30 c1_i32_31 k0_t1
  let c16_i32 : BitVec 32 := 16#32
  let v124 : BitVec 32 := Scalar.muli arg12 c16_i32
  let c1_i32_178 : BitVec 32 := 1#32
  let v250 : BitVec 32 := Scalar.addi v124 c1_i32_178
  let v252 : Index := Scalar.indexCast v250
  let c96_180 : Index := 96#32
  ![0, v252.toNat, 96]
def k0_off20 (k0_t1 : Fin k0_t1_loop.trips) : Fin 3 → Nat :=
  let c0_i32_183 : BitVec 32 := 0#32
  let v262 : Index := Scalar.indexCast c0_i32_183
  let c0_i32_30 : BitVec 32 := 0#32
  let c1_i32_31 : BitVec 32 := 1#32
  let arg12 : BitVec 32 := Scf.iv c0_i32_30 c1_i32_31 k0_t1
  let c16_i32 : BitVec 32 := 16#32
  let v124 : BitVec 32 := Scalar.muli arg12 c16_i32
  let c1_i32_182 : BitVec 32 := 1#32
  let v261 : BitVec 32 := Scalar.addi v124 c1_i32_182
  let v263 : Index := Scalar.indexCast v261
  let c48_184 : Index := 48#32
  ![0, v263.toNat, 48]
def k0_off21 (k0_t1 : Fin k0_t1_loop.trips) : Fin 3 → Nat :=
  let c0_i32_186 : BitVec 32 := 0#32
  let v268 : Index := Scalar.indexCast c0_i32_186
  let c0_i32_30 : BitVec 32 := 0#32
  let c1_i32_31 : BitVec 32 := 1#32
  let arg12 : BitVec 32 := Scf.iv c0_i32_30 c1_i32_31 k0_t1
  let c16_i32 : BitVec 32 := 16#32
  let v124 : BitVec 32 := Scalar.muli arg12 c16_i32
  let c1_i32_185 : BitVec 32 := 1#32
  let v267 : BitVec 32 := Scalar.addi v124 c1_i32_185
  let v269 : Index := Scalar.indexCast v267
  let c112_187 : Index := 112#32
  ![0, v269.toNat, 112]
def k0_off22 (k0_t1 : Fin k0_t1_loop.trips) (v274 : BitVec 32) (c0_i32_190 : BitVec 32) : Fin 2 → Nat :=
  let c0_i32_188 : BitVec 32 := 0#32
  let c0_i32_30 : BitVec 32 := 0#32
  let c1_i32_31 : BitVec 32 := 1#32
  let arg12 : BitVec 32 := Scf.iv c0_i32_30 c1_i32_31 k0_t1
  let c16_i32 : BitVec 32 := 16#32
  let v124 : BitVec 32 := Scalar.muli arg12 c16_i32
  let v275 : BitVec 32 := Scalar.addi c0_i32_188 v124
  let c2_i32_189 : BitVec 32 := 2#32
  let v276 : BitVec 32 := Scalar.addi v275 c2_i32_189
  let v278 : Index := Scalar.indexCast v276
  let v277 : BitVec 32 := Scalar.addi v274 c0_i32_190
  let v279 : Index := Scalar.indexCast v277
  ![v278.toNat, v279.toNat]

def k0_chk3 (k0_t1 : Fin k0_t1_loop.trips) (v274 : BitVec 32) : Prop :=
  (∀ (r : Fin 4), ∀ a, (k0_off22 k0_t1 v274 (BitVec.ofNat 32 (16 * r.val))) a + S1x16.size a ≤ S512x128.size a)
theorem k0_off22_inb : ∀ (k0_t1 : Fin k0_t1_loop.trips) (v274 : BitVec 32) (k0_hw3 : k0_chk3 k0_t1 v274), ∀ (r : Fin 4), ∀ a, (k0_off22 k0_t1 v274 (BitVec.ofNat 32 (16 * r.val))) a + S1x16.size a ≤ S512x128.size a := fun k0_t1 v274 k0_hw3 r => k0_hw3 r

def k0_off23 (k0_t1 : Fin k0_t1_loop.trips) : Fin 3 → Nat :=
  let c0_i32_192 : BitVec 32 := 0#32
  let v283 : Index := Scalar.indexCast c0_i32_192
  let c0_i32_30 : BitVec 32 := 0#32
  let c1_i32_31 : BitVec 32 := 1#32
  let arg12 : BitVec 32 := Scf.iv c0_i32_30 c1_i32_31 k0_t1
  let c16_i32 : BitVec 32 := 16#32
  let v124 : BitVec 32 := Scalar.muli arg12 c16_i32
  let c2_i32_191 : BitVec 32 := 2#32
  let v282 : BitVec 32 := Scalar.addi v124 c2_i32_191
  let v284 : Index := Scalar.indexCast v282
  let c0_193 : Index := 0#32
  ![0, v284.toNat, 0]
def k0_off24 (k0_t1 : Fin k0_t1_loop.trips) : Fin 3 → Nat :=
  let c0_i32_195 : BitVec 32 := 0#32
  let v289 : Index := Scalar.indexCast c0_i32_195
  let c0_i32_30 : BitVec 32 := 0#32
  let c1_i32_31 : BitVec 32 := 1#32
  let arg12 : BitVec 32 := Scf.iv c0_i32_30 c1_i32_31 k0_t1
  let c16_i32 : BitVec 32 := 16#32
  let v124 : BitVec 32 := Scalar.muli arg12 c16_i32
  let c2_i32_194 : BitVec 32 := 2#32
  let v288 : BitVec 32 := Scalar.addi v124 c2_i32_194
  let v290 : Index := Scalar.indexCast v288
  let c64_196 : Index := 64#32
  ![0, v290.toNat, 64]
def k0_off25 (k0_t1 : Fin k0_t1_loop.trips) : Fin 3 → Nat :=
  let c0_i32_199 : BitVec 32 := 0#32
  let v300 : Index := Scalar.indexCast c0_i32_199
  let c0_i32_30 : BitVec 32 := 0#32
  let c1_i32_31 : BitVec 32 := 1#32
  let arg12 : BitVec 32 := Scf.iv c0_i32_30 c1_i32_31 k0_t1
  let c16_i32 : BitVec 32 := 16#32
  let v124 : BitVec 32 := Scalar.muli arg12 c16_i32
  let c2_i32_198 : BitVec 32 := 2#32
  let v299 : BitVec 32 := Scalar.addi v124 c2_i32_198
  let v301 : Index := Scalar.indexCast v299
  let c16_200 : Index := 16#32
  ![0, v301.toNat, 16]
def k0_off26 (k0_t1 : Fin k0_t1_loop.trips) : Fin 3 → Nat :=
  let c0_i32_202 : BitVec 32 := 0#32
  let v306 : Index := Scalar.indexCast c0_i32_202
  let c0_i32_30 : BitVec 32 := 0#32
  let c1_i32_31 : BitVec 32 := 1#32
  let arg12 : BitVec 32 := Scf.iv c0_i32_30 c1_i32_31 k0_t1
  let c16_i32 : BitVec 32 := 16#32
  let v124 : BitVec 32 := Scalar.muli arg12 c16_i32
  let c2_i32_201 : BitVec 32 := 2#32
  let v305 : BitVec 32 := Scalar.addi v124 c2_i32_201
  let v307 : Index := Scalar.indexCast v305
  let c80_203 : Index := 80#32
  ![0, v307.toNat, 80]
def k0_off27 (k0_t1 : Fin k0_t1_loop.trips) : Fin 3 → Nat :=
  let c0_i32_206 : BitVec 32 := 0#32
  let v317 : Index := Scalar.indexCast c0_i32_206
  let c0_i32_30 : BitVec 32 := 0#32
  let c1_i32_31 : BitVec 32 := 1#32
  let arg12 : BitVec 32 := Scf.iv c0_i32_30 c1_i32_31 k0_t1
  let c16_i32 : BitVec 32 := 16#32
  let v124 : BitVec 32 := Scalar.muli arg12 c16_i32
  let c2_i32_205 : BitVec 32 := 2#32
  let v316 : BitVec 32 := Scalar.addi v124 c2_i32_205
  let v318 : Index := Scalar.indexCast v316
  let c32_207 : Index := 32#32
  ![0, v318.toNat, 32]
def k0_off28 (k0_t1 : Fin k0_t1_loop.trips) : Fin 3 → Nat :=
  let c0_i32_209 : BitVec 32 := 0#32
  let v323 : Index := Scalar.indexCast c0_i32_209
  let c0_i32_30 : BitVec 32 := 0#32
  let c1_i32_31 : BitVec 32 := 1#32
  let arg12 : BitVec 32 := Scf.iv c0_i32_30 c1_i32_31 k0_t1
  let c16_i32 : BitVec 32 := 16#32
  let v124 : BitVec 32 := Scalar.muli arg12 c16_i32
  let c2_i32_208 : BitVec 32 := 2#32
  let v322 : BitVec 32 := Scalar.addi v124 c2_i32_208
  let v324 : Index := Scalar.indexCast v322
  let c96_210 : Index := 96#32
  ![0, v324.toNat, 96]
def k0_off29 (k0_t1 : Fin k0_t1_loop.trips) : Fin 3 → Nat :=
  let c0_i32_213 : BitVec 32 := 0#32
  let v334 : Index := Scalar.indexCast c0_i32_213
  let c0_i32_30 : BitVec 32 := 0#32
  let c1_i32_31 : BitVec 32 := 1#32
  let arg12 : BitVec 32 := Scf.iv c0_i32_30 c1_i32_31 k0_t1
  let c16_i32 : BitVec 32 := 16#32
  let v124 : BitVec 32 := Scalar.muli arg12 c16_i32
  let c2_i32_212 : BitVec 32 := 2#32
  let v333 : BitVec 32 := Scalar.addi v124 c2_i32_212
  let v335 : Index := Scalar.indexCast v333
  let c48_214 : Index := 48#32
  ![0, v335.toNat, 48]
def k0_off30 (k0_t1 : Fin k0_t1_loop.trips) : Fin 3 → Nat :=
  let c0_i32_216 : BitVec 32 := 0#32
  let v340 : Index := Scalar.indexCast c0_i32_216
  let c0_i32_30 : BitVec 32 := 0#32
  let c1_i32_31 : BitVec 32 := 1#32
  let arg12 : BitVec 32 := Scf.iv c0_i32_30 c1_i32_31 k0_t1
  let c16_i32 : BitVec 32 := 16#32
  let v124 : BitVec 32 := Scalar.muli arg12 c16_i32
  let c2_i32_215 : BitVec 32 := 2#32
  let v339 : BitVec 32 := Scalar.addi v124 c2_i32_215
  let v341 : Index := Scalar.indexCast v339
  let c112_217 : Index := 112#32
  ![0, v341.toNat, 112]
def k0_off31 (k0_t1 : Fin k0_t1_loop.trips) (v346 : BitVec 32) (c0_i32_220 : BitVec 32) : Fin 2 → Nat :=
  let c0_i32_218 : BitVec 32 := 0#32
  let c0_i32_30 : BitVec 32 := 0#32
  let c1_i32_31 : BitVec 32 := 1#32
  let arg12 : BitVec 32 := Scf.iv c0_i32_30 c1_i32_31 k0_t1
  let c16_i32 : BitVec 32 := 16#32
  let v124 : BitVec 32 := Scalar.muli arg12 c16_i32
  let v347 : BitVec 32 := Scalar.addi c0_i32_218 v124
  let c3_i32_219 : BitVec 32 := 3#32
  let v348 : BitVec 32 := Scalar.addi v347 c3_i32_219
  let v350 : Index := Scalar.indexCast v348
  let v349 : BitVec 32 := Scalar.addi v346 c0_i32_220
  let v351 : Index := Scalar.indexCast v349
  ![v350.toNat, v351.toNat]

def k0_chk4 (k0_t1 : Fin k0_t1_loop.trips) (v346 : BitVec 32) : Prop :=
  (∀ (r : Fin 4), ∀ a, (k0_off31 k0_t1 v346 (BitVec.ofNat 32 (16 * r.val))) a + S1x16.size a ≤ S512x128.size a)
theorem k0_off31_inb : ∀ (k0_t1 : Fin k0_t1_loop.trips) (v346 : BitVec 32) (k0_hw4 : k0_chk4 k0_t1 v346), ∀ (r : Fin 4), ∀ a, (k0_off31 k0_t1 v346 (BitVec.ofNat 32 (16 * r.val))) a + S1x16.size a ≤ S512x128.size a := fun k0_t1 v346 k0_hw4 r => k0_hw4 r

def k0_off32 (k0_t1 : Fin k0_t1_loop.trips) : Fin 3 → Nat :=
  let c0_i32_222 : BitVec 32 := 0#32
  let v355 : Index := Scalar.indexCast c0_i32_222
  let c0_i32_30 : BitVec 32 := 0#32
  let c1_i32_31 : BitVec 32 := 1#32
  let arg12 : BitVec 32 := Scf.iv c0_i32_30 c1_i32_31 k0_t1
  let c16_i32 : BitVec 32 := 16#32
  let v124 : BitVec 32 := Scalar.muli arg12 c16_i32
  let c3_i32_221 : BitVec 32 := 3#32
  let v354 : BitVec 32 := Scalar.addi v124 c3_i32_221
  let v356 : Index := Scalar.indexCast v354
  let c0_223 : Index := 0#32
  ![0, v356.toNat, 0]
def k0_off33 (k0_t1 : Fin k0_t1_loop.trips) : Fin 3 → Nat :=
  let c0_i32_225 : BitVec 32 := 0#32
  let v361 : Index := Scalar.indexCast c0_i32_225
  let c0_i32_30 : BitVec 32 := 0#32
  let c1_i32_31 : BitVec 32 := 1#32
  let arg12 : BitVec 32 := Scf.iv c0_i32_30 c1_i32_31 k0_t1
  let c16_i32 : BitVec 32 := 16#32
  let v124 : BitVec 32 := Scalar.muli arg12 c16_i32
  let c3_i32_224 : BitVec 32 := 3#32
  let v360 : BitVec 32 := Scalar.addi v124 c3_i32_224
  let v362 : Index := Scalar.indexCast v360
  let c64_226 : Index := 64#32
  ![0, v362.toNat, 64]
def k0_off34 (k0_t1 : Fin k0_t1_loop.trips) : Fin 3 → Nat :=
  let c0_i32_229 : BitVec 32 := 0#32
  let v372 : Index := Scalar.indexCast c0_i32_229
  let c0_i32_30 : BitVec 32 := 0#32
  let c1_i32_31 : BitVec 32 := 1#32
  let arg12 : BitVec 32 := Scf.iv c0_i32_30 c1_i32_31 k0_t1
  let c16_i32 : BitVec 32 := 16#32
  let v124 : BitVec 32 := Scalar.muli arg12 c16_i32
  let c3_i32_228 : BitVec 32 := 3#32
  let v371 : BitVec 32 := Scalar.addi v124 c3_i32_228
  let v373 : Index := Scalar.indexCast v371
  let c16_230 : Index := 16#32
  ![0, v373.toNat, 16]
def k0_off35 (k0_t1 : Fin k0_t1_loop.trips) : Fin 3 → Nat :=
  let c0_i32_232 : BitVec 32 := 0#32
  let v378 : Index := Scalar.indexCast c0_i32_232
  let c0_i32_30 : BitVec 32 := 0#32
  let c1_i32_31 : BitVec 32 := 1#32
  let arg12 : BitVec 32 := Scf.iv c0_i32_30 c1_i32_31 k0_t1
  let c16_i32 : BitVec 32 := 16#32
  let v124 : BitVec 32 := Scalar.muli arg12 c16_i32
  let c3_i32_231 : BitVec 32 := 3#32
  let v377 : BitVec 32 := Scalar.addi v124 c3_i32_231
  let v379 : Index := Scalar.indexCast v377
  let c80_233 : Index := 80#32
  ![0, v379.toNat, 80]
def k0_off36 (k0_t1 : Fin k0_t1_loop.trips) : Fin 3 → Nat :=
  let c0_i32_236 : BitVec 32 := 0#32
  let v389 : Index := Scalar.indexCast c0_i32_236
  let c0_i32_30 : BitVec 32 := 0#32
  let c1_i32_31 : BitVec 32 := 1#32
  let arg12 : BitVec 32 := Scf.iv c0_i32_30 c1_i32_31 k0_t1
  let c16_i32 : BitVec 32 := 16#32
  let v124 : BitVec 32 := Scalar.muli arg12 c16_i32
  let c3_i32_235 : BitVec 32 := 3#32
  let v388 : BitVec 32 := Scalar.addi v124 c3_i32_235
  let v390 : Index := Scalar.indexCast v388
  let c32_237 : Index := 32#32
  ![0, v390.toNat, 32]
def k0_off37 (k0_t1 : Fin k0_t1_loop.trips) : Fin 3 → Nat :=
  let c0_i32_239 : BitVec 32 := 0#32
  let v395 : Index := Scalar.indexCast c0_i32_239
  let c0_i32_30 : BitVec 32 := 0#32
  let c1_i32_31 : BitVec 32 := 1#32
  let arg12 : BitVec 32 := Scf.iv c0_i32_30 c1_i32_31 k0_t1
  let c16_i32 : BitVec 32 := 16#32
  let v124 : BitVec 32 := Scalar.muli arg12 c16_i32
  let c3_i32_238 : BitVec 32 := 3#32
  let v394 : BitVec 32 := Scalar.addi v124 c3_i32_238
  let v396 : Index := Scalar.indexCast v394
  let c96_240 : Index := 96#32
  ![0, v396.toNat, 96]
def k0_off38 (k0_t1 : Fin k0_t1_loop.trips) : Fin 3 → Nat :=
  let c0_i32_243 : BitVec 32 := 0#32
  let v406 : Index := Scalar.indexCast c0_i32_243
  let c0_i32_30 : BitVec 32 := 0#32
  let c1_i32_31 : BitVec 32 := 1#32
  let arg12 : BitVec 32 := Scf.iv c0_i32_30 c1_i32_31 k0_t1
  let c16_i32 : BitVec 32 := 16#32
  let v124 : BitVec 32 := Scalar.muli arg12 c16_i32
  let c3_i32_242 : BitVec 32 := 3#32
  let v405 : BitVec 32 := Scalar.addi v124 c3_i32_242
  let v407 : Index := Scalar.indexCast v405
  let c48_244 : Index := 48#32
  ![0, v407.toNat, 48]
def k0_off39 (k0_t1 : Fin k0_t1_loop.trips) : Fin 3 → Nat :=
  let c0_i32_246 : BitVec 32 := 0#32
  let v412 : Index := Scalar.indexCast c0_i32_246
  let c0_i32_30 : BitVec 32 := 0#32
  let c1_i32_31 : BitVec 32 := 1#32
  let arg12 : BitVec 32 := Scf.iv c0_i32_30 c1_i32_31 k0_t1
  let c16_i32 : BitVec 32 := 16#32
  let v124 : BitVec 32 := Scalar.muli arg12 c16_i32
  let c3_i32_245 : BitVec 32 := 3#32
  let v411 : BitVec 32 := Scalar.addi v124 c3_i32_245
  let v413 : Index := Scalar.indexCast v411
  let c112_247 : Index := 112#32
  ![0, v413.toNat, 112]
def k0_off40 (k0_t1 : Fin k0_t1_loop.trips) (v418 : BitVec 32) (c0_i32_249 : BitVec 32) : Fin 2 → Nat :=
  let c0_i32_248 : BitVec 32 := 0#32
  let c0_i32_30 : BitVec 32 := 0#32
  let c1_i32_31 : BitVec 32 := 1#32
  let arg12 : BitVec 32 := Scf.iv c0_i32_30 c1_i32_31 k0_t1
  let c16_i32 : BitVec 32 := 16#32
  let v124 : BitVec 32 := Scalar.muli arg12 c16_i32
  let v419 : BitVec 32 := Scalar.addi c0_i32_248 v124
  let c4_i32 : BitVec 32 := 4#32
  let v420 : BitVec 32 := Scalar.addi v419 c4_i32
  let v422 : Index := Scalar.indexCast v420
  let v421 : BitVec 32 := Scalar.addi v418 c0_i32_249
  let v423 : Index := Scalar.indexCast v421
  ![v422.toNat, v423.toNat]

def k0_chk5 (k0_t1 : Fin k0_t1_loop.trips) (v418 : BitVec 32) : Prop :=
  (∀ (r : Fin 4), ∀ a, (k0_off40 k0_t1 v418 (BitVec.ofNat 32 (16 * r.val))) a + S1x16.size a ≤ S512x128.size a)
theorem k0_off40_inb : ∀ (k0_t1 : Fin k0_t1_loop.trips) (v418 : BitVec 32) (k0_hw5 : k0_chk5 k0_t1 v418), ∀ (r : Fin 4), ∀ a, (k0_off40 k0_t1 v418 (BitVec.ofNat 32 (16 * r.val))) a + S1x16.size a ≤ S512x128.size a := fun k0_t1 v418 k0_hw5 r => k0_hw5 r

def k0_off41 (k0_t1 : Fin k0_t1_loop.trips) : Fin 3 → Nat :=
  let c0_i32_251 : BitVec 32 := 0#32
  let v427 : Index := Scalar.indexCast c0_i32_251
  let c0_i32_30 : BitVec 32 := 0#32
  let c1_i32_31 : BitVec 32 := 1#32
  let arg12 : BitVec 32 := Scf.iv c0_i32_30 c1_i32_31 k0_t1
  let c16_i32 : BitVec 32 := 16#32
  let v124 : BitVec 32 := Scalar.muli arg12 c16_i32
  let c4_i32_250 : BitVec 32 := 4#32
  let v426 : BitVec 32 := Scalar.addi v124 c4_i32_250
  let v428 : Index := Scalar.indexCast v426
  let c0_252 : Index := 0#32
  ![0, v428.toNat, 0]
def k0_off42 (k0_t1 : Fin k0_t1_loop.trips) : Fin 3 → Nat :=
  let c0_i32_254 : BitVec 32 := 0#32
  let v433 : Index := Scalar.indexCast c0_i32_254
  let c0_i32_30 : BitVec 32 := 0#32
  let c1_i32_31 : BitVec 32 := 1#32
  let arg12 : BitVec 32 := Scf.iv c0_i32_30 c1_i32_31 k0_t1
  let c16_i32 : BitVec 32 := 16#32
  let v124 : BitVec 32 := Scalar.muli arg12 c16_i32
  let c4_i32_253 : BitVec 32 := 4#32
  let v432 : BitVec 32 := Scalar.addi v124 c4_i32_253
  let v434 : Index := Scalar.indexCast v432
  let c64_255 : Index := 64#32
  ![0, v434.toNat, 64]
def k0_off43 (k0_t1 : Fin k0_t1_loop.trips) : Fin 3 → Nat :=
  let c0_i32_258 : BitVec 32 := 0#32
  let v444 : Index := Scalar.indexCast c0_i32_258
  let c0_i32_30 : BitVec 32 := 0#32
  let c1_i32_31 : BitVec 32 := 1#32
  let arg12 : BitVec 32 := Scf.iv c0_i32_30 c1_i32_31 k0_t1
  let c16_i32 : BitVec 32 := 16#32
  let v124 : BitVec 32 := Scalar.muli arg12 c16_i32
  let c4_i32_257 : BitVec 32 := 4#32
  let v443 : BitVec 32 := Scalar.addi v124 c4_i32_257
  let v445 : Index := Scalar.indexCast v443
  let c16_259 : Index := 16#32
  ![0, v445.toNat, 16]
def k0_off44 (k0_t1 : Fin k0_t1_loop.trips) : Fin 3 → Nat :=
  let c0_i32_261 : BitVec 32 := 0#32
  let v450 : Index := Scalar.indexCast c0_i32_261
  let c0_i32_30 : BitVec 32 := 0#32
  let c1_i32_31 : BitVec 32 := 1#32
  let arg12 : BitVec 32 := Scf.iv c0_i32_30 c1_i32_31 k0_t1
  let c16_i32 : BitVec 32 := 16#32
  let v124 : BitVec 32 := Scalar.muli arg12 c16_i32
  let c4_i32_260 : BitVec 32 := 4#32
  let v449 : BitVec 32 := Scalar.addi v124 c4_i32_260
  let v451 : Index := Scalar.indexCast v449
  let c80_262 : Index := 80#32
  ![0, v451.toNat, 80]
def k0_off45 (k0_t1 : Fin k0_t1_loop.trips) : Fin 3 → Nat :=
  let c0_i32_265 : BitVec 32 := 0#32
  let v461 : Index := Scalar.indexCast c0_i32_265
  let c0_i32_30 : BitVec 32 := 0#32
  let c1_i32_31 : BitVec 32 := 1#32
  let arg12 : BitVec 32 := Scf.iv c0_i32_30 c1_i32_31 k0_t1
  let c16_i32 : BitVec 32 := 16#32
  let v124 : BitVec 32 := Scalar.muli arg12 c16_i32
  let c4_i32_264 : BitVec 32 := 4#32
  let v460 : BitVec 32 := Scalar.addi v124 c4_i32_264
  let v462 : Index := Scalar.indexCast v460
  let c32_266 : Index := 32#32
  ![0, v462.toNat, 32]
def k0_off46 (k0_t1 : Fin k0_t1_loop.trips) : Fin 3 → Nat :=
  let c0_i32_268 : BitVec 32 := 0#32
  let v467 : Index := Scalar.indexCast c0_i32_268
  let c0_i32_30 : BitVec 32 := 0#32
  let c1_i32_31 : BitVec 32 := 1#32
  let arg12 : BitVec 32 := Scf.iv c0_i32_30 c1_i32_31 k0_t1
  let c16_i32 : BitVec 32 := 16#32
  let v124 : BitVec 32 := Scalar.muli arg12 c16_i32
  let c4_i32_267 : BitVec 32 := 4#32
  let v466 : BitVec 32 := Scalar.addi v124 c4_i32_267
  let v468 : Index := Scalar.indexCast v466
  let c96_269 : Index := 96#32
  ![0, v468.toNat, 96]
def k0_off47 (k0_t1 : Fin k0_t1_loop.trips) : Fin 3 → Nat :=
  let c0_i32_272 : BitVec 32 := 0#32
  let v478 : Index := Scalar.indexCast c0_i32_272
  let c0_i32_30 : BitVec 32 := 0#32
  let c1_i32_31 : BitVec 32 := 1#32
  let arg12 : BitVec 32 := Scf.iv c0_i32_30 c1_i32_31 k0_t1
  let c16_i32 : BitVec 32 := 16#32
  let v124 : BitVec 32 := Scalar.muli arg12 c16_i32
  let c4_i32_271 : BitVec 32 := 4#32
  let v477 : BitVec 32 := Scalar.addi v124 c4_i32_271
  let v479 : Index := Scalar.indexCast v477
  let c48_273 : Index := 48#32
  ![0, v479.toNat, 48]
def k0_off48 (k0_t1 : Fin k0_t1_loop.trips) : Fin 3 → Nat :=
  let c0_i32_275 : BitVec 32 := 0#32
  let v484 : Index := Scalar.indexCast c0_i32_275
  let c0_i32_30 : BitVec 32 := 0#32
  let c1_i32_31 : BitVec 32 := 1#32
  let arg12 : BitVec 32 := Scf.iv c0_i32_30 c1_i32_31 k0_t1
  let c16_i32 : BitVec 32 := 16#32
  let v124 : BitVec 32 := Scalar.muli arg12 c16_i32
  let c4_i32_274 : BitVec 32 := 4#32
  let v483 : BitVec 32 := Scalar.addi v124 c4_i32_274
  let v485 : Index := Scalar.indexCast v483
  let c112_276 : Index := 112#32
  ![0, v485.toNat, 112]
def k0_off49 (k0_t1 : Fin k0_t1_loop.trips) (v490 : BitVec 32) (c0_i32_278 : BitVec 32) : Fin 2 → Nat :=
  let c0_i32_277 : BitVec 32 := 0#32
  let c0_i32_30 : BitVec 32 := 0#32
  let c1_i32_31 : BitVec 32 := 1#32
  let arg12 : BitVec 32 := Scf.iv c0_i32_30 c1_i32_31 k0_t1
  let c16_i32 : BitVec 32 := 16#32
  let v124 : BitVec 32 := Scalar.muli arg12 c16_i32
  let v491 : BitVec 32 := Scalar.addi c0_i32_277 v124
  let c5_i32 : BitVec 32 := 5#32
  let v492 : BitVec 32 := Scalar.addi v491 c5_i32
  let v494 : Index := Scalar.indexCast v492
  let v493 : BitVec 32 := Scalar.addi v490 c0_i32_278
  let v495 : Index := Scalar.indexCast v493
  ![v494.toNat, v495.toNat]

def k0_chk6 (k0_t1 : Fin k0_t1_loop.trips) (v490 : BitVec 32) : Prop :=
  (∀ (r : Fin 4), ∀ a, (k0_off49 k0_t1 v490 (BitVec.ofNat 32 (16 * r.val))) a + S1x16.size a ≤ S512x128.size a)
theorem k0_off49_inb : ∀ (k0_t1 : Fin k0_t1_loop.trips) (v490 : BitVec 32) (k0_hw6 : k0_chk6 k0_t1 v490), ∀ (r : Fin 4), ∀ a, (k0_off49 k0_t1 v490 (BitVec.ofNat 32 (16 * r.val))) a + S1x16.size a ≤ S512x128.size a := fun k0_t1 v490 k0_hw6 r => k0_hw6 r

def k0_off50 (k0_t1 : Fin k0_t1_loop.trips) : Fin 3 → Nat :=
  let c0_i32_280 : BitVec 32 := 0#32
  let v499 : Index := Scalar.indexCast c0_i32_280
  let c0_i32_30 : BitVec 32 := 0#32
  let c1_i32_31 : BitVec 32 := 1#32
  let arg12 : BitVec 32 := Scf.iv c0_i32_30 c1_i32_31 k0_t1
  let c16_i32 : BitVec 32 := 16#32
  let v124 : BitVec 32 := Scalar.muli arg12 c16_i32
  let c5_i32_279 : BitVec 32 := 5#32
  let v498 : BitVec 32 := Scalar.addi v124 c5_i32_279
  let v500 : Index := Scalar.indexCast v498
  let c0_281 : Index := 0#32
  ![0, v500.toNat, 0]
def k0_off51 (k0_t1 : Fin k0_t1_loop.trips) : Fin 3 → Nat :=
  let c0_i32_283 : BitVec 32 := 0#32
  let v505 : Index := Scalar.indexCast c0_i32_283
  let c0_i32_30 : BitVec 32 := 0#32
  let c1_i32_31 : BitVec 32 := 1#32
  let arg12 : BitVec 32 := Scf.iv c0_i32_30 c1_i32_31 k0_t1
  let c16_i32 : BitVec 32 := 16#32
  let v124 : BitVec 32 := Scalar.muli arg12 c16_i32
  let c5_i32_282 : BitVec 32 := 5#32
  let v504 : BitVec 32 := Scalar.addi v124 c5_i32_282
  let v506 : Index := Scalar.indexCast v504
  let c64_284 : Index := 64#32
  ![0, v506.toNat, 64]
def k0_off52 (k0_t1 : Fin k0_t1_loop.trips) : Fin 3 → Nat :=
  let c0_i32_287 : BitVec 32 := 0#32
  let v516 : Index := Scalar.indexCast c0_i32_287
  let c0_i32_30 : BitVec 32 := 0#32
  let c1_i32_31 : BitVec 32 := 1#32
  let arg12 : BitVec 32 := Scf.iv c0_i32_30 c1_i32_31 k0_t1
  let c16_i32 : BitVec 32 := 16#32
  let v124 : BitVec 32 := Scalar.muli arg12 c16_i32
  let c5_i32_286 : BitVec 32 := 5#32
  let v515 : BitVec 32 := Scalar.addi v124 c5_i32_286
  let v517 : Index := Scalar.indexCast v515
  let c16_288 : Index := 16#32
  ![0, v517.toNat, 16]
def k0_off53 (k0_t1 : Fin k0_t1_loop.trips) : Fin 3 → Nat :=
  let c0_i32_290 : BitVec 32 := 0#32
  let v522 : Index := Scalar.indexCast c0_i32_290
  let c0_i32_30 : BitVec 32 := 0#32
  let c1_i32_31 : BitVec 32 := 1#32
  let arg12 : BitVec 32 := Scf.iv c0_i32_30 c1_i32_31 k0_t1
  let c16_i32 : BitVec 32 := 16#32
  let v124 : BitVec 32 := Scalar.muli arg12 c16_i32
  let c5_i32_289 : BitVec 32 := 5#32
  let v521 : BitVec 32 := Scalar.addi v124 c5_i32_289
  let v523 : Index := Scalar.indexCast v521
  let c80_291 : Index := 80#32
  ![0, v523.toNat, 80]
def k0_off54 (k0_t1 : Fin k0_t1_loop.trips) : Fin 3 → Nat :=
  let c0_i32_294 : BitVec 32 := 0#32
  let v533 : Index := Scalar.indexCast c0_i32_294
  let c0_i32_30 : BitVec 32 := 0#32
  let c1_i32_31 : BitVec 32 := 1#32
  let arg12 : BitVec 32 := Scf.iv c0_i32_30 c1_i32_31 k0_t1
  let c16_i32 : BitVec 32 := 16#32
  let v124 : BitVec 32 := Scalar.muli arg12 c16_i32
  let c5_i32_293 : BitVec 32 := 5#32
  let v532 : BitVec 32 := Scalar.addi v124 c5_i32_293
  let v534 : Index := Scalar.indexCast v532
  let c32_295 : Index := 32#32
  ![0, v534.toNat, 32]
def k0_off55 (k0_t1 : Fin k0_t1_loop.trips) : Fin 3 → Nat :=
  let c0_i32_297 : BitVec 32 := 0#32
  let v539 : Index := Scalar.indexCast c0_i32_297
  let c0_i32_30 : BitVec 32 := 0#32
  let c1_i32_31 : BitVec 32 := 1#32
  let arg12 : BitVec 32 := Scf.iv c0_i32_30 c1_i32_31 k0_t1
  let c16_i32 : BitVec 32 := 16#32
  let v124 : BitVec 32 := Scalar.muli arg12 c16_i32
  let c5_i32_296 : BitVec 32 := 5#32
  let v538 : BitVec 32 := Scalar.addi v124 c5_i32_296
  let v540 : Index := Scalar.indexCast v538
  let c96_298 : Index := 96#32
  ![0, v540.toNat, 96]
def k0_off56 (k0_t1 : Fin k0_t1_loop.trips) : Fin 3 → Nat :=
  let c0_i32_301 : BitVec 32 := 0#32
  let v550 : Index := Scalar.indexCast c0_i32_301
  let c0_i32_30 : BitVec 32 := 0#32
  let c1_i32_31 : BitVec 32 := 1#32
  let arg12 : BitVec 32 := Scf.iv c0_i32_30 c1_i32_31 k0_t1
  let c16_i32 : BitVec 32 := 16#32
  let v124 : BitVec 32 := Scalar.muli arg12 c16_i32
  let c5_i32_300 : BitVec 32 := 5#32
  let v549 : BitVec 32 := Scalar.addi v124 c5_i32_300
  let v551 : Index := Scalar.indexCast v549
  let c48_302 : Index := 48#32
  ![0, v551.toNat, 48]
def k0_off57 (k0_t1 : Fin k0_t1_loop.trips) : Fin 3 → Nat :=
  let c0_i32_304 : BitVec 32 := 0#32
  let v556 : Index := Scalar.indexCast c0_i32_304
  let c0_i32_30 : BitVec 32 := 0#32
  let c1_i32_31 : BitVec 32 := 1#32
  let arg12 : BitVec 32 := Scf.iv c0_i32_30 c1_i32_31 k0_t1
  let c16_i32 : BitVec 32 := 16#32
  let v124 : BitVec 32 := Scalar.muli arg12 c16_i32
  let c5_i32_303 : BitVec 32 := 5#32
  let v555 : BitVec 32 := Scalar.addi v124 c5_i32_303
  let v557 : Index := Scalar.indexCast v555
  let c112_305 : Index := 112#32
  ![0, v557.toNat, 112]
def k0_off58 (k0_t1 : Fin k0_t1_loop.trips) (v562 : BitVec 32) (c0_i32_307 : BitVec 32) : Fin 2 → Nat :=
  let c0_i32_306 : BitVec 32 := 0#32
  let c0_i32_30 : BitVec 32 := 0#32
  let c1_i32_31 : BitVec 32 := 1#32
  let arg12 : BitVec 32 := Scf.iv c0_i32_30 c1_i32_31 k0_t1
  let c16_i32 : BitVec 32 := 16#32
  let v124 : BitVec 32 := Scalar.muli arg12 c16_i32
  let v563 : BitVec 32 := Scalar.addi c0_i32_306 v124
  let c6_i32 : BitVec 32 := 6#32
  let v564 : BitVec 32 := Scalar.addi v563 c6_i32
  let v566 : Index := Scalar.indexCast v564
  let v565 : BitVec 32 := Scalar.addi v562 c0_i32_307
  let v567 : Index := Scalar.indexCast v565
  ![v566.toNat, v567.toNat]

def k0_chk7 (k0_t1 : Fin k0_t1_loop.trips) (v562 : BitVec 32) : Prop :=
  (∀ (r : Fin 4), ∀ a, (k0_off58 k0_t1 v562 (BitVec.ofNat 32 (16 * r.val))) a + S1x16.size a ≤ S512x128.size a)
theorem k0_off58_inb : ∀ (k0_t1 : Fin k0_t1_loop.trips) (v562 : BitVec 32) (k0_hw7 : k0_chk7 k0_t1 v562), ∀ (r : Fin 4), ∀ a, (k0_off58 k0_t1 v562 (BitVec.ofNat 32 (16 * r.val))) a + S1x16.size a ≤ S512x128.size a := fun k0_t1 v562 k0_hw7 r => k0_hw7 r

def k0_off59 (k0_t1 : Fin k0_t1_loop.trips) : Fin 3 → Nat :=
  let c0_i32_309 : BitVec 32 := 0#32
  let v571 : Index := Scalar.indexCast c0_i32_309
  let c0_i32_30 : BitVec 32 := 0#32
  let c1_i32_31 : BitVec 32 := 1#32
  let arg12 : BitVec 32 := Scf.iv c0_i32_30 c1_i32_31 k0_t1
  let c16_i32 : BitVec 32 := 16#32
  let v124 : BitVec 32 := Scalar.muli arg12 c16_i32
  let c6_i32_308 : BitVec 32 := 6#32
  let v570 : BitVec 32 := Scalar.addi v124 c6_i32_308
  let v572 : Index := Scalar.indexCast v570
  let c0_310 : Index := 0#32
  ![0, v572.toNat, 0]
def k0_off60 (k0_t1 : Fin k0_t1_loop.trips) : Fin 3 → Nat :=
  let c0_i32_312 : BitVec 32 := 0#32
  let v577 : Index := Scalar.indexCast c0_i32_312
  let c0_i32_30 : BitVec 32 := 0#32
  let c1_i32_31 : BitVec 32 := 1#32
  let arg12 : BitVec 32 := Scf.iv c0_i32_30 c1_i32_31 k0_t1
  let c16_i32 : BitVec 32 := 16#32
  let v124 : BitVec 32 := Scalar.muli arg12 c16_i32
  let c6_i32_311 : BitVec 32 := 6#32
  let v576 : BitVec 32 := Scalar.addi v124 c6_i32_311
  let v578 : Index := Scalar.indexCast v576
  let c64_313 : Index := 64#32
  ![0, v578.toNat, 64]
def k0_off61 (k0_t1 : Fin k0_t1_loop.trips) : Fin 3 → Nat :=
  let c0_i32_316 : BitVec 32 := 0#32
  let v588 : Index := Scalar.indexCast c0_i32_316
  let c0_i32_30 : BitVec 32 := 0#32
  let c1_i32_31 : BitVec 32 := 1#32
  let arg12 : BitVec 32 := Scf.iv c0_i32_30 c1_i32_31 k0_t1
  let c16_i32 : BitVec 32 := 16#32
  let v124 : BitVec 32 := Scalar.muli arg12 c16_i32
  let c6_i32_315 : BitVec 32 := 6#32
  let v587 : BitVec 32 := Scalar.addi v124 c6_i32_315
  let v589 : Index := Scalar.indexCast v587
  let c16_317 : Index := 16#32
  ![0, v589.toNat, 16]
def k0_off62 (k0_t1 : Fin k0_t1_loop.trips) : Fin 3 → Nat :=
  let c0_i32_319 : BitVec 32 := 0#32
  let v594 : Index := Scalar.indexCast c0_i32_319
  let c0_i32_30 : BitVec 32 := 0#32
  let c1_i32_31 : BitVec 32 := 1#32
  let arg12 : BitVec 32 := Scf.iv c0_i32_30 c1_i32_31 k0_t1
  let c16_i32 : BitVec 32 := 16#32
  let v124 : BitVec 32 := Scalar.muli arg12 c16_i32
  let c6_i32_318 : BitVec 32 := 6#32
  let v593 : BitVec 32 := Scalar.addi v124 c6_i32_318
  let v595 : Index := Scalar.indexCast v593
  let c80_320 : Index := 80#32
  ![0, v595.toNat, 80]
def k0_off63 (k0_t1 : Fin k0_t1_loop.trips) : Fin 3 → Nat :=
  let c0_i32_323 : BitVec 32 := 0#32
  let v605 : Index := Scalar.indexCast c0_i32_323
  let c0_i32_30 : BitVec 32 := 0#32
  let c1_i32_31 : BitVec 32 := 1#32
  let arg12 : BitVec 32 := Scf.iv c0_i32_30 c1_i32_31 k0_t1
  let c16_i32 : BitVec 32 := 16#32
  let v124 : BitVec 32 := Scalar.muli arg12 c16_i32
  let c6_i32_322 : BitVec 32 := 6#32
  let v604 : BitVec 32 := Scalar.addi v124 c6_i32_322
  let v606 : Index := Scalar.indexCast v604
  let c32_324 : Index := 32#32
  ![0, v606.toNat, 32]
def k0_off64 (k0_t1 : Fin k0_t1_loop.trips) : Fin 3 → Nat :=
  let c0_i32_326 : BitVec 32 := 0#32
  let v611 : Index := Scalar.indexCast c0_i32_326
  let c0_i32_30 : BitVec 32 := 0#32
  let c1_i32_31 : BitVec 32 := 1#32
  let arg12 : BitVec 32 := Scf.iv c0_i32_30 c1_i32_31 k0_t1
  let c16_i32 : BitVec 32 := 16#32
  let v124 : BitVec 32 := Scalar.muli arg12 c16_i32
  let c6_i32_325 : BitVec 32 := 6#32
  let v610 : BitVec 32 := Scalar.addi v124 c6_i32_325
  let v612 : Index := Scalar.indexCast v610
  let c96_327 : Index := 96#32
  ![0, v612.toNat, 96]
def k0_off65 (k0_t1 : Fin k0_t1_loop.trips) : Fin 3 → Nat :=
  let c0_i32_330 : BitVec 32 := 0#32
  let v622 : Index := Scalar.indexCast c0_i32_330
  let c0_i32_30 : BitVec 32 := 0#32
  let c1_i32_31 : BitVec 32 := 1#32
  let arg12 : BitVec 32 := Scf.iv c0_i32_30 c1_i32_31 k0_t1
  let c16_i32 : BitVec 32 := 16#32
  let v124 : BitVec 32 := Scalar.muli arg12 c16_i32
  let c6_i32_329 : BitVec 32 := 6#32
  let v621 : BitVec 32 := Scalar.addi v124 c6_i32_329
  let v623 : Index := Scalar.indexCast v621
  let c48_331 : Index := 48#32
  ![0, v623.toNat, 48]
def k0_off66 (k0_t1 : Fin k0_t1_loop.trips) : Fin 3 → Nat :=
  let c0_i32_333 : BitVec 32 := 0#32
  let v628 : Index := Scalar.indexCast c0_i32_333
  let c0_i32_30 : BitVec 32 := 0#32
  let c1_i32_31 : BitVec 32 := 1#32
  let arg12 : BitVec 32 := Scf.iv c0_i32_30 c1_i32_31 k0_t1
  let c16_i32 : BitVec 32 := 16#32
  let v124 : BitVec 32 := Scalar.muli arg12 c16_i32
  let c6_i32_332 : BitVec 32 := 6#32
  let v627 : BitVec 32 := Scalar.addi v124 c6_i32_332
  let v629 : Index := Scalar.indexCast v627
  let c112_334 : Index := 112#32
  ![0, v629.toNat, 112]
def k0_off67 (k0_t1 : Fin k0_t1_loop.trips) (v634 : BitVec 32) (c0_i32_336 : BitVec 32) : Fin 2 → Nat :=
  let c0_i32_335 : BitVec 32 := 0#32
  let c0_i32_30 : BitVec 32 := 0#32
  let c1_i32_31 : BitVec 32 := 1#32
  let arg12 : BitVec 32 := Scf.iv c0_i32_30 c1_i32_31 k0_t1
  let c16_i32 : BitVec 32 := 16#32
  let v124 : BitVec 32 := Scalar.muli arg12 c16_i32
  let v635 : BitVec 32 := Scalar.addi c0_i32_335 v124
  let c7_i32 : BitVec 32 := 7#32
  let v636 : BitVec 32 := Scalar.addi v635 c7_i32
  let v638 : Index := Scalar.indexCast v636
  let v637 : BitVec 32 := Scalar.addi v634 c0_i32_336
  let v639 : Index := Scalar.indexCast v637
  ![v638.toNat, v639.toNat]

def k0_chk8 (k0_t1 : Fin k0_t1_loop.trips) (v634 : BitVec 32) : Prop :=
  (∀ (r : Fin 4), ∀ a, (k0_off67 k0_t1 v634 (BitVec.ofNat 32 (16 * r.val))) a + S1x16.size a ≤ S512x128.size a)
theorem k0_off67_inb : ∀ (k0_t1 : Fin k0_t1_loop.trips) (v634 : BitVec 32) (k0_hw8 : k0_chk8 k0_t1 v634), ∀ (r : Fin 4), ∀ a, (k0_off67 k0_t1 v634 (BitVec.ofNat 32 (16 * r.val))) a + S1x16.size a ≤ S512x128.size a := fun k0_t1 v634 k0_hw8 r => k0_hw8 r

def k0_off68 (k0_t1 : Fin k0_t1_loop.trips) : Fin 3 → Nat :=
  let c0_i32_338 : BitVec 32 := 0#32
  let v643 : Index := Scalar.indexCast c0_i32_338
  let c0_i32_30 : BitVec 32 := 0#32
  let c1_i32_31 : BitVec 32 := 1#32
  let arg12 : BitVec 32 := Scf.iv c0_i32_30 c1_i32_31 k0_t1
  let c16_i32 : BitVec 32 := 16#32
  let v124 : BitVec 32 := Scalar.muli arg12 c16_i32
  let c7_i32_337 : BitVec 32 := 7#32
  let v642 : BitVec 32 := Scalar.addi v124 c7_i32_337
  let v644 : Index := Scalar.indexCast v642
  let c0_339 : Index := 0#32
  ![0, v644.toNat, 0]
def k0_off69 (k0_t1 : Fin k0_t1_loop.trips) : Fin 3 → Nat :=
  let c0_i32_341 : BitVec 32 := 0#32
  let v649 : Index := Scalar.indexCast c0_i32_341
  let c0_i32_30 : BitVec 32 := 0#32
  let c1_i32_31 : BitVec 32 := 1#32
  let arg12 : BitVec 32 := Scf.iv c0_i32_30 c1_i32_31 k0_t1
  let c16_i32 : BitVec 32 := 16#32
  let v124 : BitVec 32 := Scalar.muli arg12 c16_i32
  let c7_i32_340 : BitVec 32 := 7#32
  let v648 : BitVec 32 := Scalar.addi v124 c7_i32_340
  let v650 : Index := Scalar.indexCast v648
  let c64_342 : Index := 64#32
  ![0, v650.toNat, 64]
def k0_off70 (k0_t1 : Fin k0_t1_loop.trips) : Fin 3 → Nat :=
  let c0_i32_345 : BitVec 32 := 0#32
  let v660 : Index := Scalar.indexCast c0_i32_345
  let c0_i32_30 : BitVec 32 := 0#32
  let c1_i32_31 : BitVec 32 := 1#32
  let arg12 : BitVec 32 := Scf.iv c0_i32_30 c1_i32_31 k0_t1
  let c16_i32 : BitVec 32 := 16#32
  let v124 : BitVec 32 := Scalar.muli arg12 c16_i32
  let c7_i32_344 : BitVec 32 := 7#32
  let v659 : BitVec 32 := Scalar.addi v124 c7_i32_344
  let v661 : Index := Scalar.indexCast v659
  let c16_346 : Index := 16#32
  ![0, v661.toNat, 16]
def k0_off71 (k0_t1 : Fin k0_t1_loop.trips) : Fin 3 → Nat :=
  let c0_i32_348 : BitVec 32 := 0#32
  let v666 : Index := Scalar.indexCast c0_i32_348
  let c0_i32_30 : BitVec 32 := 0#32
  let c1_i32_31 : BitVec 32 := 1#32
  let arg12 : BitVec 32 := Scf.iv c0_i32_30 c1_i32_31 k0_t1
  let c16_i32 : BitVec 32 := 16#32
  let v124 : BitVec 32 := Scalar.muli arg12 c16_i32
  let c7_i32_347 : BitVec 32 := 7#32
  let v665 : BitVec 32 := Scalar.addi v124 c7_i32_347
  let v667 : Index := Scalar.indexCast v665
  let c80_349 : Index := 80#32
  ![0, v667.toNat, 80]
def k0_off72 (k0_t1 : Fin k0_t1_loop.trips) : Fin 3 → Nat :=
  let c0_i32_352 : BitVec 32 := 0#32
  let v677 : Index := Scalar.indexCast c0_i32_352
  let c0_i32_30 : BitVec 32 := 0#32
  let c1_i32_31 : BitVec 32 := 1#32
  let arg12 : BitVec 32 := Scf.iv c0_i32_30 c1_i32_31 k0_t1
  let c16_i32 : BitVec 32 := 16#32
  let v124 : BitVec 32 := Scalar.muli arg12 c16_i32
  let c7_i32_351 : BitVec 32 := 7#32
  let v676 : BitVec 32 := Scalar.addi v124 c7_i32_351
  let v678 : Index := Scalar.indexCast v676
  let c32_353 : Index := 32#32
  ![0, v678.toNat, 32]
def k0_off73 (k0_t1 : Fin k0_t1_loop.trips) : Fin 3 → Nat :=
  let c0_i32_355 : BitVec 32 := 0#32
  let v683 : Index := Scalar.indexCast c0_i32_355
  let c0_i32_30 : BitVec 32 := 0#32
  let c1_i32_31 : BitVec 32 := 1#32
  let arg12 : BitVec 32 := Scf.iv c0_i32_30 c1_i32_31 k0_t1
  let c16_i32 : BitVec 32 := 16#32
  let v124 : BitVec 32 := Scalar.muli arg12 c16_i32
  let c7_i32_354 : BitVec 32 := 7#32
  let v682 : BitVec 32 := Scalar.addi v124 c7_i32_354
  let v684 : Index := Scalar.indexCast v682
  let c96_356 : Index := 96#32
  ![0, v684.toNat, 96]
def k0_off74 (k0_t1 : Fin k0_t1_loop.trips) : Fin 3 → Nat :=
  let c0_i32_359 : BitVec 32 := 0#32
  let v694 : Index := Scalar.indexCast c0_i32_359
  let c0_i32_30 : BitVec 32 := 0#32
  let c1_i32_31 : BitVec 32 := 1#32
  let arg12 : BitVec 32 := Scf.iv c0_i32_30 c1_i32_31 k0_t1
  let c16_i32 : BitVec 32 := 16#32
  let v124 : BitVec 32 := Scalar.muli arg12 c16_i32
  let c7_i32_358 : BitVec 32 := 7#32
  let v693 : BitVec 32 := Scalar.addi v124 c7_i32_358
  let v695 : Index := Scalar.indexCast v693
  let c48_360 : Index := 48#32
  ![0, v695.toNat, 48]
def k0_off75 (k0_t1 : Fin k0_t1_loop.trips) : Fin 3 → Nat :=
  let c0_i32_362 : BitVec 32 := 0#32
  let v700 : Index := Scalar.indexCast c0_i32_362
  let c0_i32_30 : BitVec 32 := 0#32
  let c1_i32_31 : BitVec 32 := 1#32
  let arg12 : BitVec 32 := Scf.iv c0_i32_30 c1_i32_31 k0_t1
  let c16_i32 : BitVec 32 := 16#32
  let v124 : BitVec 32 := Scalar.muli arg12 c16_i32
  let c7_i32_361 : BitVec 32 := 7#32
  let v699 : BitVec 32 := Scalar.addi v124 c7_i32_361
  let v701 : Index := Scalar.indexCast v699
  let c112_363 : Index := 112#32
  ![0, v701.toNat, 112]
def k0_off76 (k0_t1 : Fin k0_t1_loop.trips) (v706 : BitVec 32) (c0_i32_366 : BitVec 32) : Fin 2 → Nat :=
  let c0_i32_364 : BitVec 32 := 0#32
  let c0_i32_30 : BitVec 32 := 0#32
  let c1_i32_31 : BitVec 32 := 1#32
  let arg12 : BitVec 32 := Scf.iv c0_i32_30 c1_i32_31 k0_t1
  let c16_i32 : BitVec 32 := 16#32
  let v124 : BitVec 32 := Scalar.muli arg12 c16_i32
  let v707 : BitVec 32 := Scalar.addi c0_i32_364 v124
  let c8_i32_365 : BitVec 32 := 8#32
  let v708 : BitVec 32 := Scalar.addi v707 c8_i32_365
  let v710 : Index := Scalar.indexCast v708
  let v709 : BitVec 32 := Scalar.addi v706 c0_i32_366
  let v711 : Index := Scalar.indexCast v709
  ![v710.toNat, v711.toNat]

def k0_chk9 (k0_t1 : Fin k0_t1_loop.trips) (v706 : BitVec 32) : Prop :=
  (∀ (r : Fin 4), ∀ a, (k0_off76 k0_t1 v706 (BitVec.ofNat 32 (16 * r.val))) a + S1x16.size a ≤ S512x128.size a)
theorem k0_off76_inb : ∀ (k0_t1 : Fin k0_t1_loop.trips) (v706 : BitVec 32) (k0_hw9 : k0_chk9 k0_t1 v706), ∀ (r : Fin 4), ∀ a, (k0_off76 k0_t1 v706 (BitVec.ofNat 32 (16 * r.val))) a + S1x16.size a ≤ S512x128.size a := fun k0_t1 v706 k0_hw9 r => k0_hw9 r

def k0_off77 (k0_t1 : Fin k0_t1_loop.trips) : Fin 3 → Nat :=
  let c0_i32_368 : BitVec 32 := 0#32
  let v715 : Index := Scalar.indexCast c0_i32_368
  let c0_i32_30 : BitVec 32 := 0#32
  let c1_i32_31 : BitVec 32 := 1#32
  let arg12 : BitVec 32 := Scf.iv c0_i32_30 c1_i32_31 k0_t1
  let c16_i32 : BitVec 32 := 16#32
  let v124 : BitVec 32 := Scalar.muli arg12 c16_i32
  let c8_i32_367 : BitVec 32 := 8#32
  let v714 : BitVec 32 := Scalar.addi v124 c8_i32_367
  let v716 : Index := Scalar.indexCast v714
  let c0_369 : Index := 0#32
  ![0, v716.toNat, 0]
def k0_off78 (k0_t1 : Fin k0_t1_loop.trips) : Fin 3 → Nat :=
  let c0_i32_371 : BitVec 32 := 0#32
  let v721 : Index := Scalar.indexCast c0_i32_371
  let c0_i32_30 : BitVec 32 := 0#32
  let c1_i32_31 : BitVec 32 := 1#32
  let arg12 : BitVec 32 := Scf.iv c0_i32_30 c1_i32_31 k0_t1
  let c16_i32 : BitVec 32 := 16#32
  let v124 : BitVec 32 := Scalar.muli arg12 c16_i32
  let c8_i32_370 : BitVec 32 := 8#32
  let v720 : BitVec 32 := Scalar.addi v124 c8_i32_370
  let v722 : Index := Scalar.indexCast v720
  let c64_372 : Index := 64#32
  ![0, v722.toNat, 64]
def k0_off79 (k0_t1 : Fin k0_t1_loop.trips) : Fin 3 → Nat :=
  let c0_i32_375 : BitVec 32 := 0#32
  let v732 : Index := Scalar.indexCast c0_i32_375
  let c0_i32_30 : BitVec 32 := 0#32
  let c1_i32_31 : BitVec 32 := 1#32
  let arg12 : BitVec 32 := Scf.iv c0_i32_30 c1_i32_31 k0_t1
  let c16_i32 : BitVec 32 := 16#32
  let v124 : BitVec 32 := Scalar.muli arg12 c16_i32
  let c8_i32_374 : BitVec 32 := 8#32
  let v731 : BitVec 32 := Scalar.addi v124 c8_i32_374
  let v733 : Index := Scalar.indexCast v731
  let c16_376 : Index := 16#32
  ![0, v733.toNat, 16]
def k0_off80 (k0_t1 : Fin k0_t1_loop.trips) : Fin 3 → Nat :=
  let c0_i32_378 : BitVec 32 := 0#32
  let v738 : Index := Scalar.indexCast c0_i32_378
  let c0_i32_30 : BitVec 32 := 0#32
  let c1_i32_31 : BitVec 32 := 1#32
  let arg12 : BitVec 32 := Scf.iv c0_i32_30 c1_i32_31 k0_t1
  let c16_i32 : BitVec 32 := 16#32
  let v124 : BitVec 32 := Scalar.muli arg12 c16_i32
  let c8_i32_377 : BitVec 32 := 8#32
  let v737 : BitVec 32 := Scalar.addi v124 c8_i32_377
  let v739 : Index := Scalar.indexCast v737
  let c80_379 : Index := 80#32
  ![0, v739.toNat, 80]
def k0_off81 (k0_t1 : Fin k0_t1_loop.trips) : Fin 3 → Nat :=
  let c0_i32_382 : BitVec 32 := 0#32
  let v749 : Index := Scalar.indexCast c0_i32_382
  let c0_i32_30 : BitVec 32 := 0#32
  let c1_i32_31 : BitVec 32 := 1#32
  let arg12 : BitVec 32 := Scf.iv c0_i32_30 c1_i32_31 k0_t1
  let c16_i32 : BitVec 32 := 16#32
  let v124 : BitVec 32 := Scalar.muli arg12 c16_i32
  let c8_i32_381 : BitVec 32 := 8#32
  let v748 : BitVec 32 := Scalar.addi v124 c8_i32_381
  let v750 : Index := Scalar.indexCast v748
  let c32_383 : Index := 32#32
  ![0, v750.toNat, 32]
def k0_off82 (k0_t1 : Fin k0_t1_loop.trips) : Fin 3 → Nat :=
  let c0_i32_385 : BitVec 32 := 0#32
  let v755 : Index := Scalar.indexCast c0_i32_385
  let c0_i32_30 : BitVec 32 := 0#32
  let c1_i32_31 : BitVec 32 := 1#32
  let arg12 : BitVec 32 := Scf.iv c0_i32_30 c1_i32_31 k0_t1
  let c16_i32 : BitVec 32 := 16#32
  let v124 : BitVec 32 := Scalar.muli arg12 c16_i32
  let c8_i32_384 : BitVec 32 := 8#32
  let v754 : BitVec 32 := Scalar.addi v124 c8_i32_384
  let v756 : Index := Scalar.indexCast v754
  let c96_386 : Index := 96#32
  ![0, v756.toNat, 96]
def k0_off83 (k0_t1 : Fin k0_t1_loop.trips) : Fin 3 → Nat :=
  let c0_i32_389 : BitVec 32 := 0#32
  let v766 : Index := Scalar.indexCast c0_i32_389
  let c0_i32_30 : BitVec 32 := 0#32
  let c1_i32_31 : BitVec 32 := 1#32
  let arg12 : BitVec 32 := Scf.iv c0_i32_30 c1_i32_31 k0_t1
  let c16_i32 : BitVec 32 := 16#32
  let v124 : BitVec 32 := Scalar.muli arg12 c16_i32
  let c8_i32_388 : BitVec 32 := 8#32
  let v765 : BitVec 32 := Scalar.addi v124 c8_i32_388
  let v767 : Index := Scalar.indexCast v765
  let c48_390 : Index := 48#32
  ![0, v767.toNat, 48]
def k0_off84 (k0_t1 : Fin k0_t1_loop.trips) : Fin 3 → Nat :=
  let c0_i32_392 : BitVec 32 := 0#32
  let v772 : Index := Scalar.indexCast c0_i32_392
  let c0_i32_30 : BitVec 32 := 0#32
  let c1_i32_31 : BitVec 32 := 1#32
  let arg12 : BitVec 32 := Scf.iv c0_i32_30 c1_i32_31 k0_t1
  let c16_i32 : BitVec 32 := 16#32
  let v124 : BitVec 32 := Scalar.muli arg12 c16_i32
  let c8_i32_391 : BitVec 32 := 8#32
  let v771 : BitVec 32 := Scalar.addi v124 c8_i32_391
  let v773 : Index := Scalar.indexCast v771
  let c112_393 : Index := 112#32
  ![0, v773.toNat, 112]
def k0_off85 (k0_t1 : Fin k0_t1_loop.trips) (v778 : BitVec 32) (c0_i32_395 : BitVec 32) : Fin 2 → Nat :=
  let c0_i32_394 : BitVec 32 := 0#32
  let c0_i32_30 : BitVec 32 := 0#32
  let c1_i32_31 : BitVec 32 := 1#32
  let arg12 : BitVec 32 := Scf.iv c0_i32_30 c1_i32_31 k0_t1
  let c16_i32 : BitVec 32 := 16#32
  let v124 : BitVec 32 := Scalar.muli arg12 c16_i32
  let v779 : BitVec 32 := Scalar.addi c0_i32_394 v124
  let c9_i32 : BitVec 32 := 9#32
  let v780 : BitVec 32 := Scalar.addi v779 c9_i32
  let v782 : Index := Scalar.indexCast v780
  let v781 : BitVec 32 := Scalar.addi v778 c0_i32_395
  let v783 : Index := Scalar.indexCast v781
  ![v782.toNat, v783.toNat]

def k0_chk10 (k0_t1 : Fin k0_t1_loop.trips) (v778 : BitVec 32) : Prop :=
  (∀ (r : Fin 4), ∀ a, (k0_off85 k0_t1 v778 (BitVec.ofNat 32 (16 * r.val))) a + S1x16.size a ≤ S512x128.size a)
theorem k0_off85_inb : ∀ (k0_t1 : Fin k0_t1_loop.trips) (v778 : BitVec 32) (k0_hw10 : k0_chk10 k0_t1 v778), ∀ (r : Fin 4), ∀ a, (k0_off85 k0_t1 v778 (BitVec.ofNat 32 (16 * r.val))) a + S1x16.size a ≤ S512x128.size a := fun k0_t1 v778 k0_hw10 r => k0_hw10 r

def k0_off86 (k0_t1 : Fin k0_t1_loop.trips) : Fin 3 → Nat :=
  let c0_i32_397 : BitVec 32 := 0#32
  let v787 : Index := Scalar.indexCast c0_i32_397
  let c0_i32_30 : BitVec 32 := 0#32
  let c1_i32_31 : BitVec 32 := 1#32
  let arg12 : BitVec 32 := Scf.iv c0_i32_30 c1_i32_31 k0_t1
  let c16_i32 : BitVec 32 := 16#32
  let v124 : BitVec 32 := Scalar.muli arg12 c16_i32
  let c9_i32_396 : BitVec 32 := 9#32
  let v786 : BitVec 32 := Scalar.addi v124 c9_i32_396
  let v788 : Index := Scalar.indexCast v786
  let c0_398 : Index := 0#32
  ![0, v788.toNat, 0]
def k0_off87 (k0_t1 : Fin k0_t1_loop.trips) : Fin 3 → Nat :=
  let c0_i32_400 : BitVec 32 := 0#32
  let v793 : Index := Scalar.indexCast c0_i32_400
  let c0_i32_30 : BitVec 32 := 0#32
  let c1_i32_31 : BitVec 32 := 1#32
  let arg12 : BitVec 32 := Scf.iv c0_i32_30 c1_i32_31 k0_t1
  let c16_i32 : BitVec 32 := 16#32
  let v124 : BitVec 32 := Scalar.muli arg12 c16_i32
  let c9_i32_399 : BitVec 32 := 9#32
  let v792 : BitVec 32 := Scalar.addi v124 c9_i32_399
  let v794 : Index := Scalar.indexCast v792
  let c64_401 : Index := 64#32
  ![0, v794.toNat, 64]
def k0_off88 (k0_t1 : Fin k0_t1_loop.trips) : Fin 3 → Nat :=
  let c0_i32_404 : BitVec 32 := 0#32
  let v804 : Index := Scalar.indexCast c0_i32_404
  let c0_i32_30 : BitVec 32 := 0#32
  let c1_i32_31 : BitVec 32 := 1#32
  let arg12 : BitVec 32 := Scf.iv c0_i32_30 c1_i32_31 k0_t1
  let c16_i32 : BitVec 32 := 16#32
  let v124 : BitVec 32 := Scalar.muli arg12 c16_i32
  let c9_i32_403 : BitVec 32 := 9#32
  let v803 : BitVec 32 := Scalar.addi v124 c9_i32_403
  let v805 : Index := Scalar.indexCast v803
  let c16_405 : Index := 16#32
  ![0, v805.toNat, 16]
def k0_off89 (k0_t1 : Fin k0_t1_loop.trips) : Fin 3 → Nat :=
  let c0_i32_407 : BitVec 32 := 0#32
  let v810 : Index := Scalar.indexCast c0_i32_407
  let c0_i32_30 : BitVec 32 := 0#32
  let c1_i32_31 : BitVec 32 := 1#32
  let arg12 : BitVec 32 := Scf.iv c0_i32_30 c1_i32_31 k0_t1
  let c16_i32 : BitVec 32 := 16#32
  let v124 : BitVec 32 := Scalar.muli arg12 c16_i32
  let c9_i32_406 : BitVec 32 := 9#32
  let v809 : BitVec 32 := Scalar.addi v124 c9_i32_406
  let v811 : Index := Scalar.indexCast v809
  let c80_408 : Index := 80#32
  ![0, v811.toNat, 80]
def k0_off90 (k0_t1 : Fin k0_t1_loop.trips) : Fin 3 → Nat :=
  let c0_i32_411 : BitVec 32 := 0#32
  let v821 : Index := Scalar.indexCast c0_i32_411
  let c0_i32_30 : BitVec 32 := 0#32
  let c1_i32_31 : BitVec 32 := 1#32
  let arg12 : BitVec 32 := Scf.iv c0_i32_30 c1_i32_31 k0_t1
  let c16_i32 : BitVec 32 := 16#32
  let v124 : BitVec 32 := Scalar.muli arg12 c16_i32
  let c9_i32_410 : BitVec 32 := 9#32
  let v820 : BitVec 32 := Scalar.addi v124 c9_i32_410
  let v822 : Index := Scalar.indexCast v820
  let c32_412 : Index := 32#32
  ![0, v822.toNat, 32]
def k0_off91 (k0_t1 : Fin k0_t1_loop.trips) : Fin 3 → Nat :=
  let c0_i32_414 : BitVec 32 := 0#32
  let v827 : Index := Scalar.indexCast c0_i32_414
  let c0_i32_30 : BitVec 32 := 0#32
  let c1_i32_31 : BitVec 32 := 1#32
  let arg12 : BitVec 32 := Scf.iv c0_i32_30 c1_i32_31 k0_t1
  let c16_i32 : BitVec 32 := 16#32
  let v124 : BitVec 32 := Scalar.muli arg12 c16_i32
  let c9_i32_413 : BitVec 32 := 9#32
  let v826 : BitVec 32 := Scalar.addi v124 c9_i32_413
  let v828 : Index := Scalar.indexCast v826
  let c96_415 : Index := 96#32
  ![0, v828.toNat, 96]
def k0_off92 (k0_t1 : Fin k0_t1_loop.trips) : Fin 3 → Nat :=
  let c0_i32_418 : BitVec 32 := 0#32
  let v838 : Index := Scalar.indexCast c0_i32_418
  let c0_i32_30 : BitVec 32 := 0#32
  let c1_i32_31 : BitVec 32 := 1#32
  let arg12 : BitVec 32 := Scf.iv c0_i32_30 c1_i32_31 k0_t1
  let c16_i32 : BitVec 32 := 16#32
  let v124 : BitVec 32 := Scalar.muli arg12 c16_i32
  let c9_i32_417 : BitVec 32 := 9#32
  let v837 : BitVec 32 := Scalar.addi v124 c9_i32_417
  let v839 : Index := Scalar.indexCast v837
  let c48_419 : Index := 48#32
  ![0, v839.toNat, 48]
def k0_off93 (k0_t1 : Fin k0_t1_loop.trips) : Fin 3 → Nat :=
  let c0_i32_421 : BitVec 32 := 0#32
  let v844 : Index := Scalar.indexCast c0_i32_421
  let c0_i32_30 : BitVec 32 := 0#32
  let c1_i32_31 : BitVec 32 := 1#32
  let arg12 : BitVec 32 := Scf.iv c0_i32_30 c1_i32_31 k0_t1
  let c16_i32 : BitVec 32 := 16#32
  let v124 : BitVec 32 := Scalar.muli arg12 c16_i32
  let c9_i32_420 : BitVec 32 := 9#32
  let v843 : BitVec 32 := Scalar.addi v124 c9_i32_420
  let v845 : Index := Scalar.indexCast v843
  let c112_422 : Index := 112#32
  ![0, v845.toNat, 112]
def k0_off94 (k0_t1 : Fin k0_t1_loop.trips) (v850 : BitVec 32) (c0_i32_424 : BitVec 32) : Fin 2 → Nat :=
  let c0_i32_423 : BitVec 32 := 0#32
  let c0_i32_30 : BitVec 32 := 0#32
  let c1_i32_31 : BitVec 32 := 1#32
  let arg12 : BitVec 32 := Scf.iv c0_i32_30 c1_i32_31 k0_t1
  let c16_i32 : BitVec 32 := 16#32
  let v124 : BitVec 32 := Scalar.muli arg12 c16_i32
  let v851 : BitVec 32 := Scalar.addi c0_i32_423 v124
  let c10_i32 : BitVec 32 := 10#32
  let v852 : BitVec 32 := Scalar.addi v851 c10_i32
  let v854 : Index := Scalar.indexCast v852
  let v853 : BitVec 32 := Scalar.addi v850 c0_i32_424
  let v855 : Index := Scalar.indexCast v853
  ![v854.toNat, v855.toNat]

def k0_chk11 (k0_t1 : Fin k0_t1_loop.trips) (v850 : BitVec 32) : Prop :=
  (∀ (r : Fin 4), ∀ a, (k0_off94 k0_t1 v850 (BitVec.ofNat 32 (16 * r.val))) a + S1x16.size a ≤ S512x128.size a)
theorem k0_off94_inb : ∀ (k0_t1 : Fin k0_t1_loop.trips) (v850 : BitVec 32) (k0_hw11 : k0_chk11 k0_t1 v850), ∀ (r : Fin 4), ∀ a, (k0_off94 k0_t1 v850 (BitVec.ofNat 32 (16 * r.val))) a + S1x16.size a ≤ S512x128.size a := fun k0_t1 v850 k0_hw11 r => k0_hw11 r

def k0_off95 (k0_t1 : Fin k0_t1_loop.trips) : Fin 3 → Nat :=
  let c0_i32_426 : BitVec 32 := 0#32
  let v859 : Index := Scalar.indexCast c0_i32_426
  let c0_i32_30 : BitVec 32 := 0#32
  let c1_i32_31 : BitVec 32 := 1#32
  let arg12 : BitVec 32 := Scf.iv c0_i32_30 c1_i32_31 k0_t1
  let c16_i32 : BitVec 32 := 16#32
  let v124 : BitVec 32 := Scalar.muli arg12 c16_i32
  let c10_i32_425 : BitVec 32 := 10#32
  let v858 : BitVec 32 := Scalar.addi v124 c10_i32_425
  let v860 : Index := Scalar.indexCast v858
  let c0_427 : Index := 0#32
  ![0, v860.toNat, 0]
def k0_off96 (k0_t1 : Fin k0_t1_loop.trips) : Fin 3 → Nat :=
  let c0_i32_429 : BitVec 32 := 0#32
  let v865 : Index := Scalar.indexCast c0_i32_429
  let c0_i32_30 : BitVec 32 := 0#32
  let c1_i32_31 : BitVec 32 := 1#32
  let arg12 : BitVec 32 := Scf.iv c0_i32_30 c1_i32_31 k0_t1
  let c16_i32 : BitVec 32 := 16#32
  let v124 : BitVec 32 := Scalar.muli arg12 c16_i32
  let c10_i32_428 : BitVec 32 := 10#32
  let v864 : BitVec 32 := Scalar.addi v124 c10_i32_428
  let v866 : Index := Scalar.indexCast v864
  let c64_430 : Index := 64#32
  ![0, v866.toNat, 64]
def k0_off97 (k0_t1 : Fin k0_t1_loop.trips) : Fin 3 → Nat :=
  let c0_i32_433 : BitVec 32 := 0#32
  let v876 : Index := Scalar.indexCast c0_i32_433
  let c0_i32_30 : BitVec 32 := 0#32
  let c1_i32_31 : BitVec 32 := 1#32
  let arg12 : BitVec 32 := Scf.iv c0_i32_30 c1_i32_31 k0_t1
  let c16_i32 : BitVec 32 := 16#32
  let v124 : BitVec 32 := Scalar.muli arg12 c16_i32
  let c10_i32_432 : BitVec 32 := 10#32
  let v875 : BitVec 32 := Scalar.addi v124 c10_i32_432
  let v877 : Index := Scalar.indexCast v875
  let c16_434 : Index := 16#32
  ![0, v877.toNat, 16]
def k0_off98 (k0_t1 : Fin k0_t1_loop.trips) : Fin 3 → Nat :=
  let c0_i32_436 : BitVec 32 := 0#32
  let v882 : Index := Scalar.indexCast c0_i32_436
  let c0_i32_30 : BitVec 32 := 0#32
  let c1_i32_31 : BitVec 32 := 1#32
  let arg12 : BitVec 32 := Scf.iv c0_i32_30 c1_i32_31 k0_t1
  let c16_i32 : BitVec 32 := 16#32
  let v124 : BitVec 32 := Scalar.muli arg12 c16_i32
  let c10_i32_435 : BitVec 32 := 10#32
  let v881 : BitVec 32 := Scalar.addi v124 c10_i32_435
  let v883 : Index := Scalar.indexCast v881
  let c80_437 : Index := 80#32
  ![0, v883.toNat, 80]
def k0_off99 (k0_t1 : Fin k0_t1_loop.trips) : Fin 3 → Nat :=
  let c0_i32_440 : BitVec 32 := 0#32
  let v893 : Index := Scalar.indexCast c0_i32_440
  let c0_i32_30 : BitVec 32 := 0#32
  let c1_i32_31 : BitVec 32 := 1#32
  let arg12 : BitVec 32 := Scf.iv c0_i32_30 c1_i32_31 k0_t1
  let c16_i32 : BitVec 32 := 16#32
  let v124 : BitVec 32 := Scalar.muli arg12 c16_i32
  let c10_i32_439 : BitVec 32 := 10#32
  let v892 : BitVec 32 := Scalar.addi v124 c10_i32_439
  let v894 : Index := Scalar.indexCast v892
  let c32_441 : Index := 32#32
  ![0, v894.toNat, 32]
def k0_off100 (k0_t1 : Fin k0_t1_loop.trips) : Fin 3 → Nat :=
  let c0_i32_443 : BitVec 32 := 0#32
  let v899 : Index := Scalar.indexCast c0_i32_443
  let c0_i32_30 : BitVec 32 := 0#32
  let c1_i32_31 : BitVec 32 := 1#32
  let arg12 : BitVec 32 := Scf.iv c0_i32_30 c1_i32_31 k0_t1
  let c16_i32 : BitVec 32 := 16#32
  let v124 : BitVec 32 := Scalar.muli arg12 c16_i32
  let c10_i32_442 : BitVec 32 := 10#32
  let v898 : BitVec 32 := Scalar.addi v124 c10_i32_442
  let v900 : Index := Scalar.indexCast v898
  let c96_444 : Index := 96#32
  ![0, v900.toNat, 96]
def k0_off101 (k0_t1 : Fin k0_t1_loop.trips) : Fin 3 → Nat :=
  let c0_i32_447 : BitVec 32 := 0#32
  let v910 : Index := Scalar.indexCast c0_i32_447
  let c0_i32_30 : BitVec 32 := 0#32
  let c1_i32_31 : BitVec 32 := 1#32
  let arg12 : BitVec 32 := Scf.iv c0_i32_30 c1_i32_31 k0_t1
  let c16_i32 : BitVec 32 := 16#32
  let v124 : BitVec 32 := Scalar.muli arg12 c16_i32
  let c10_i32_446 : BitVec 32 := 10#32
  let v909 : BitVec 32 := Scalar.addi v124 c10_i32_446
  let v911 : Index := Scalar.indexCast v909
  let c48_448 : Index := 48#32
  ![0, v911.toNat, 48]
def k0_off102 (k0_t1 : Fin k0_t1_loop.trips) : Fin 3 → Nat :=
  let c0_i32_450 : BitVec 32 := 0#32
  let v916 : Index := Scalar.indexCast c0_i32_450
  let c0_i32_30 : BitVec 32 := 0#32
  let c1_i32_31 : BitVec 32 := 1#32
  let arg12 : BitVec 32 := Scf.iv c0_i32_30 c1_i32_31 k0_t1
  let c16_i32 : BitVec 32 := 16#32
  let v124 : BitVec 32 := Scalar.muli arg12 c16_i32
  let c10_i32_449 : BitVec 32 := 10#32
  let v915 : BitVec 32 := Scalar.addi v124 c10_i32_449
  let v917 : Index := Scalar.indexCast v915
  let c112_451 : Index := 112#32
  ![0, v917.toNat, 112]
def k0_off103 (k0_t1 : Fin k0_t1_loop.trips) (v922 : BitVec 32) (c0_i32_453 : BitVec 32) : Fin 2 → Nat :=
  let c0_i32_452 : BitVec 32 := 0#32
  let c0_i32_30 : BitVec 32 := 0#32
  let c1_i32_31 : BitVec 32 := 1#32
  let arg12 : BitVec 32 := Scf.iv c0_i32_30 c1_i32_31 k0_t1
  let c16_i32 : BitVec 32 := 16#32
  let v124 : BitVec 32 := Scalar.muli arg12 c16_i32
  let v923 : BitVec 32 := Scalar.addi c0_i32_452 v124
  let c11_i32 : BitVec 32 := 11#32
  let v924 : BitVec 32 := Scalar.addi v923 c11_i32
  let v926 : Index := Scalar.indexCast v924
  let v925 : BitVec 32 := Scalar.addi v922 c0_i32_453
  let v927 : Index := Scalar.indexCast v925
  ![v926.toNat, v927.toNat]

def k0_chk12 (k0_t1 : Fin k0_t1_loop.trips) (v922 : BitVec 32) : Prop :=
  (∀ (r : Fin 4), ∀ a, (k0_off103 k0_t1 v922 (BitVec.ofNat 32 (16 * r.val))) a + S1x16.size a ≤ S512x128.size a)
theorem k0_off103_inb : ∀ (k0_t1 : Fin k0_t1_loop.trips) (v922 : BitVec 32) (k0_hw12 : k0_chk12 k0_t1 v922), ∀ (r : Fin 4), ∀ a, (k0_off103 k0_t1 v922 (BitVec.ofNat 32 (16 * r.val))) a + S1x16.size a ≤ S512x128.size a := fun k0_t1 v922 k0_hw12 r => k0_hw12 r

def k0_off104 (k0_t1 : Fin k0_t1_loop.trips) : Fin 3 → Nat :=
  let c0_i32_455 : BitVec 32 := 0#32
  let v931 : Index := Scalar.indexCast c0_i32_455
  let c0_i32_30 : BitVec 32 := 0#32
  let c1_i32_31 : BitVec 32 := 1#32
  let arg12 : BitVec 32 := Scf.iv c0_i32_30 c1_i32_31 k0_t1
  let c16_i32 : BitVec 32 := 16#32
  let v124 : BitVec 32 := Scalar.muli arg12 c16_i32
  let c11_i32_454 : BitVec 32 := 11#32
  let v930 : BitVec 32 := Scalar.addi v124 c11_i32_454
  let v932 : Index := Scalar.indexCast v930
  let c0_456 : Index := 0#32
  ![0, v932.toNat, 0]
def k0_off105 (k0_t1 : Fin k0_t1_loop.trips) : Fin 3 → Nat :=
  let c0_i32_458 : BitVec 32 := 0#32
  let v937 : Index := Scalar.indexCast c0_i32_458
  let c0_i32_30 : BitVec 32 := 0#32
  let c1_i32_31 : BitVec 32 := 1#32
  let arg12 : BitVec 32 := Scf.iv c0_i32_30 c1_i32_31 k0_t1
  let c16_i32 : BitVec 32 := 16#32
  let v124 : BitVec 32 := Scalar.muli arg12 c16_i32
  let c11_i32_457 : BitVec 32 := 11#32
  let v936 : BitVec 32 := Scalar.addi v124 c11_i32_457
  let v938 : Index := Scalar.indexCast v936
  let c64_459 : Index := 64#32
  ![0, v938.toNat, 64]
def k0_off106 (k0_t1 : Fin k0_t1_loop.trips) : Fin 3 → Nat :=
  let c0_i32_462 : BitVec 32 := 0#32
  let v948 : Index := Scalar.indexCast c0_i32_462
  let c0_i32_30 : BitVec 32 := 0#32
  let c1_i32_31 : BitVec 32 := 1#32
  let arg12 : BitVec 32 := Scf.iv c0_i32_30 c1_i32_31 k0_t1
  let c16_i32 : BitVec 32 := 16#32
  let v124 : BitVec 32 := Scalar.muli arg12 c16_i32
  let c11_i32_461 : BitVec 32 := 11#32
  let v947 : BitVec 32 := Scalar.addi v124 c11_i32_461
  let v949 : Index := Scalar.indexCast v947
  let c16_463 : Index := 16#32
  ![0, v949.toNat, 16]
def k0_off107 (k0_t1 : Fin k0_t1_loop.trips) : Fin 3 → Nat :=
  let c0_i32_465 : BitVec 32 := 0#32
  let v954 : Index := Scalar.indexCast c0_i32_465
  let c0_i32_30 : BitVec 32 := 0#32
  let c1_i32_31 : BitVec 32 := 1#32
  let arg12 : BitVec 32 := Scf.iv c0_i32_30 c1_i32_31 k0_t1
  let c16_i32 : BitVec 32 := 16#32
  let v124 : BitVec 32 := Scalar.muli arg12 c16_i32
  let c11_i32_464 : BitVec 32 := 11#32
  let v953 : BitVec 32 := Scalar.addi v124 c11_i32_464
  let v955 : Index := Scalar.indexCast v953
  let c80_466 : Index := 80#32
  ![0, v955.toNat, 80]
def k0_off108 (k0_t1 : Fin k0_t1_loop.trips) : Fin 3 → Nat :=
  let c0_i32_469 : BitVec 32 := 0#32
  let v965 : Index := Scalar.indexCast c0_i32_469
  let c0_i32_30 : BitVec 32 := 0#32
  let c1_i32_31 : BitVec 32 := 1#32
  let arg12 : BitVec 32 := Scf.iv c0_i32_30 c1_i32_31 k0_t1
  let c16_i32 : BitVec 32 := 16#32
  let v124 : BitVec 32 := Scalar.muli arg12 c16_i32
  let c11_i32_468 : BitVec 32 := 11#32
  let v964 : BitVec 32 := Scalar.addi v124 c11_i32_468
  let v966 : Index := Scalar.indexCast v964
  let c32_470 : Index := 32#32
  ![0, v966.toNat, 32]
def k0_off109 (k0_t1 : Fin k0_t1_loop.trips) : Fin 3 → Nat :=
  let c0_i32_472 : BitVec 32 := 0#32
  let v971 : Index := Scalar.indexCast c0_i32_472
  let c0_i32_30 : BitVec 32 := 0#32
  let c1_i32_31 : BitVec 32 := 1#32
  let arg12 : BitVec 32 := Scf.iv c0_i32_30 c1_i32_31 k0_t1
  let c16_i32 : BitVec 32 := 16#32
  let v124 : BitVec 32 := Scalar.muli arg12 c16_i32
  let c11_i32_471 : BitVec 32 := 11#32
  let v970 : BitVec 32 := Scalar.addi v124 c11_i32_471
  let v972 : Index := Scalar.indexCast v970
  let c96_473 : Index := 96#32
  ![0, v972.toNat, 96]
def k0_off110 (k0_t1 : Fin k0_t1_loop.trips) : Fin 3 → Nat :=
  let c0_i32_476 : BitVec 32 := 0#32
  let v982 : Index := Scalar.indexCast c0_i32_476
  let c0_i32_30 : BitVec 32 := 0#32
  let c1_i32_31 : BitVec 32 := 1#32
  let arg12 : BitVec 32 := Scf.iv c0_i32_30 c1_i32_31 k0_t1
  let c16_i32 : BitVec 32 := 16#32
  let v124 : BitVec 32 := Scalar.muli arg12 c16_i32
  let c11_i32_475 : BitVec 32 := 11#32
  let v981 : BitVec 32 := Scalar.addi v124 c11_i32_475
  let v983 : Index := Scalar.indexCast v981
  let c48_477 : Index := 48#32
  ![0, v983.toNat, 48]
def k0_off111 (k0_t1 : Fin k0_t1_loop.trips) : Fin 3 → Nat :=
  let c0_i32_479 : BitVec 32 := 0#32
  let v988 : Index := Scalar.indexCast c0_i32_479
  let c0_i32_30 : BitVec 32 := 0#32
  let c1_i32_31 : BitVec 32 := 1#32
  let arg12 : BitVec 32 := Scf.iv c0_i32_30 c1_i32_31 k0_t1
  let c16_i32 : BitVec 32 := 16#32
  let v124 : BitVec 32 := Scalar.muli arg12 c16_i32
  let c11_i32_478 : BitVec 32 := 11#32
  let v987 : BitVec 32 := Scalar.addi v124 c11_i32_478
  let v989 : Index := Scalar.indexCast v987
  let c112_480 : Index := 112#32
  ![0, v989.toNat, 112]
def k0_off112 (k0_t1 : Fin k0_t1_loop.trips) (v994 : BitVec 32) (c0_i32_482 : BitVec 32) : Fin 2 → Nat :=
  let c0_i32_481 : BitVec 32 := 0#32
  let c0_i32_30 : BitVec 32 := 0#32
  let c1_i32_31 : BitVec 32 := 1#32
  let arg12 : BitVec 32 := Scf.iv c0_i32_30 c1_i32_31 k0_t1
  let c16_i32 : BitVec 32 := 16#32
  let v124 : BitVec 32 := Scalar.muli arg12 c16_i32
  let v995 : BitVec 32 := Scalar.addi c0_i32_481 v124
  let c12_i32 : BitVec 32 := 12#32
  let v996 : BitVec 32 := Scalar.addi v995 c12_i32
  let v998 : Index := Scalar.indexCast v996
  let v997 : BitVec 32 := Scalar.addi v994 c0_i32_482
  let v999 : Index := Scalar.indexCast v997
  ![v998.toNat, v999.toNat]

def k0_chk13 (k0_t1 : Fin k0_t1_loop.trips) (v994 : BitVec 32) : Prop :=
  (∀ (r : Fin 4), ∀ a, (k0_off112 k0_t1 v994 (BitVec.ofNat 32 (16 * r.val))) a + S1x16.size a ≤ S512x128.size a)
theorem k0_off112_inb : ∀ (k0_t1 : Fin k0_t1_loop.trips) (v994 : BitVec 32) (k0_hw13 : k0_chk13 k0_t1 v994), ∀ (r : Fin 4), ∀ a, (k0_off112 k0_t1 v994 (BitVec.ofNat 32 (16 * r.val))) a + S1x16.size a ≤ S512x128.size a := fun k0_t1 v994 k0_hw13 r => k0_hw13 r

def k0_off113 (k0_t1 : Fin k0_t1_loop.trips) : Fin 3 → Nat :=
  let c0_i32_484 : BitVec 32 := 0#32
  let v1003 : Index := Scalar.indexCast c0_i32_484
  let c0_i32_30 : BitVec 32 := 0#32
  let c1_i32_31 : BitVec 32 := 1#32
  let arg12 : BitVec 32 := Scf.iv c0_i32_30 c1_i32_31 k0_t1
  let c16_i32 : BitVec 32 := 16#32
  let v124 : BitVec 32 := Scalar.muli arg12 c16_i32
  let c12_i32_483 : BitVec 32 := 12#32
  let v1002 : BitVec 32 := Scalar.addi v124 c12_i32_483
  let v1004 : Index := Scalar.indexCast v1002
  let c0_485 : Index := 0#32
  ![0, v1004.toNat, 0]
def k0_off114 (k0_t1 : Fin k0_t1_loop.trips) : Fin 3 → Nat :=
  let c0_i32_487 : BitVec 32 := 0#32
  let v1009 : Index := Scalar.indexCast c0_i32_487
  let c0_i32_30 : BitVec 32 := 0#32
  let c1_i32_31 : BitVec 32 := 1#32
  let arg12 : BitVec 32 := Scf.iv c0_i32_30 c1_i32_31 k0_t1
  let c16_i32 : BitVec 32 := 16#32
  let v124 : BitVec 32 := Scalar.muli arg12 c16_i32
  let c12_i32_486 : BitVec 32 := 12#32
  let v1008 : BitVec 32 := Scalar.addi v124 c12_i32_486
  let v1010 : Index := Scalar.indexCast v1008
  let c64_488 : Index := 64#32
  ![0, v1010.toNat, 64]
def k0_off115 (k0_t1 : Fin k0_t1_loop.trips) : Fin 3 → Nat :=
  let c0_i32_491 : BitVec 32 := 0#32
  let v1020 : Index := Scalar.indexCast c0_i32_491
  let c0_i32_30 : BitVec 32 := 0#32
  let c1_i32_31 : BitVec 32 := 1#32
  let arg12 : BitVec 32 := Scf.iv c0_i32_30 c1_i32_31 k0_t1
  let c16_i32 : BitVec 32 := 16#32
  let v124 : BitVec 32 := Scalar.muli arg12 c16_i32
  let c12_i32_490 : BitVec 32 := 12#32
  let v1019 : BitVec 32 := Scalar.addi v124 c12_i32_490
  let v1021 : Index := Scalar.indexCast v1019
  let c16_492 : Index := 16#32
  ![0, v1021.toNat, 16]
def k0_off116 (k0_t1 : Fin k0_t1_loop.trips) : Fin 3 → Nat :=
  let c0_i32_494 : BitVec 32 := 0#32
  let v1026 : Index := Scalar.indexCast c0_i32_494
  let c0_i32_30 : BitVec 32 := 0#32
  let c1_i32_31 : BitVec 32 := 1#32
  let arg12 : BitVec 32 := Scf.iv c0_i32_30 c1_i32_31 k0_t1
  let c16_i32 : BitVec 32 := 16#32
  let v124 : BitVec 32 := Scalar.muli arg12 c16_i32
  let c12_i32_493 : BitVec 32 := 12#32
  let v1025 : BitVec 32 := Scalar.addi v124 c12_i32_493
  let v1027 : Index := Scalar.indexCast v1025
  let c80_495 : Index := 80#32
  ![0, v1027.toNat, 80]
def k0_off117 (k0_t1 : Fin k0_t1_loop.trips) : Fin 3 → Nat :=
  let c0_i32_498 : BitVec 32 := 0#32
  let v1037 : Index := Scalar.indexCast c0_i32_498
  let c0_i32_30 : BitVec 32 := 0#32
  let c1_i32_31 : BitVec 32 := 1#32
  let arg12 : BitVec 32 := Scf.iv c0_i32_30 c1_i32_31 k0_t1
  let c16_i32 : BitVec 32 := 16#32
  let v124 : BitVec 32 := Scalar.muli arg12 c16_i32
  let c12_i32_497 : BitVec 32 := 12#32
  let v1036 : BitVec 32 := Scalar.addi v124 c12_i32_497
  let v1038 : Index := Scalar.indexCast v1036
  let c32_499 : Index := 32#32
  ![0, v1038.toNat, 32]
def k0_off118 (k0_t1 : Fin k0_t1_loop.trips) : Fin 3 → Nat :=
  let c0_i32_501 : BitVec 32 := 0#32
  let v1043 : Index := Scalar.indexCast c0_i32_501
  let c0_i32_30 : BitVec 32 := 0#32
  let c1_i32_31 : BitVec 32 := 1#32
  let arg12 : BitVec 32 := Scf.iv c0_i32_30 c1_i32_31 k0_t1
  let c16_i32 : BitVec 32 := 16#32
  let v124 : BitVec 32 := Scalar.muli arg12 c16_i32
  let c12_i32_500 : BitVec 32 := 12#32
  let v1042 : BitVec 32 := Scalar.addi v124 c12_i32_500
  let v1044 : Index := Scalar.indexCast v1042
  let c96_502 : Index := 96#32
  ![0, v1044.toNat, 96]
def k0_off119 (k0_t1 : Fin k0_t1_loop.trips) : Fin 3 → Nat :=
  let c0_i32_505 : BitVec 32 := 0#32
  let v1054 : Index := Scalar.indexCast c0_i32_505
  let c0_i32_30 : BitVec 32 := 0#32
  let c1_i32_31 : BitVec 32 := 1#32
  let arg12 : BitVec 32 := Scf.iv c0_i32_30 c1_i32_31 k0_t1
  let c16_i32 : BitVec 32 := 16#32
  let v124 : BitVec 32 := Scalar.muli arg12 c16_i32
  let c12_i32_504 : BitVec 32 := 12#32
  let v1053 : BitVec 32 := Scalar.addi v124 c12_i32_504
  let v1055 : Index := Scalar.indexCast v1053
  let c48_506 : Index := 48#32
  ![0, v1055.toNat, 48]
def k0_off120 (k0_t1 : Fin k0_t1_loop.trips) : Fin 3 → Nat :=
  let c0_i32_508 : BitVec 32 := 0#32
  let v1060 : Index := Scalar.indexCast c0_i32_508
  let c0_i32_30 : BitVec 32 := 0#32
  let c1_i32_31 : BitVec 32 := 1#32
  let arg12 : BitVec 32 := Scf.iv c0_i32_30 c1_i32_31 k0_t1
  let c16_i32 : BitVec 32 := 16#32
  let v124 : BitVec 32 := Scalar.muli arg12 c16_i32
  let c12_i32_507 : BitVec 32 := 12#32
  let v1059 : BitVec 32 := Scalar.addi v124 c12_i32_507
  let v1061 : Index := Scalar.indexCast v1059
  let c112_509 : Index := 112#32
  ![0, v1061.toNat, 112]
def k0_off121 (k0_t1 : Fin k0_t1_loop.trips) (v1066 : BitVec 32) (c0_i32_511 : BitVec 32) : Fin 2 → Nat :=
  let c0_i32_510 : BitVec 32 := 0#32
  let c0_i32_30 : BitVec 32 := 0#32
  let c1_i32_31 : BitVec 32 := 1#32
  let arg12 : BitVec 32 := Scf.iv c0_i32_30 c1_i32_31 k0_t1
  let c16_i32 : BitVec 32 := 16#32
  let v124 : BitVec 32 := Scalar.muli arg12 c16_i32
  let v1067 : BitVec 32 := Scalar.addi c0_i32_510 v124
  let c13_i32 : BitVec 32 := 13#32
  let v1068 : BitVec 32 := Scalar.addi v1067 c13_i32
  let v1070 : Index := Scalar.indexCast v1068
  let v1069 : BitVec 32 := Scalar.addi v1066 c0_i32_511
  let v1071 : Index := Scalar.indexCast v1069
  ![v1070.toNat, v1071.toNat]

def k0_chk14 (k0_t1 : Fin k0_t1_loop.trips) (v1066 : BitVec 32) : Prop :=
  (∀ (r : Fin 4), ∀ a, (k0_off121 k0_t1 v1066 (BitVec.ofNat 32 (16 * r.val))) a + S1x16.size a ≤ S512x128.size a)
theorem k0_off121_inb : ∀ (k0_t1 : Fin k0_t1_loop.trips) (v1066 : BitVec 32) (k0_hw14 : k0_chk14 k0_t1 v1066), ∀ (r : Fin 4), ∀ a, (k0_off121 k0_t1 v1066 (BitVec.ofNat 32 (16 * r.val))) a + S1x16.size a ≤ S512x128.size a := fun k0_t1 v1066 k0_hw14 r => k0_hw14 r

def k0_off122 (k0_t1 : Fin k0_t1_loop.trips) : Fin 3 → Nat :=
  let c0_i32_513 : BitVec 32 := 0#32
  let v1075 : Index := Scalar.indexCast c0_i32_513
  let c0_i32_30 : BitVec 32 := 0#32
  let c1_i32_31 : BitVec 32 := 1#32
  let arg12 : BitVec 32 := Scf.iv c0_i32_30 c1_i32_31 k0_t1
  let c16_i32 : BitVec 32 := 16#32
  let v124 : BitVec 32 := Scalar.muli arg12 c16_i32
  let c13_i32_512 : BitVec 32 := 13#32
  let v1074 : BitVec 32 := Scalar.addi v124 c13_i32_512
  let v1076 : Index := Scalar.indexCast v1074
  let c0_514 : Index := 0#32
  ![0, v1076.toNat, 0]
def k0_off123 (k0_t1 : Fin k0_t1_loop.trips) : Fin 3 → Nat :=
  let c0_i32_516 : BitVec 32 := 0#32
  let v1081 : Index := Scalar.indexCast c0_i32_516
  let c0_i32_30 : BitVec 32 := 0#32
  let c1_i32_31 : BitVec 32 := 1#32
  let arg12 : BitVec 32 := Scf.iv c0_i32_30 c1_i32_31 k0_t1
  let c16_i32 : BitVec 32 := 16#32
  let v124 : BitVec 32 := Scalar.muli arg12 c16_i32
  let c13_i32_515 : BitVec 32 := 13#32
  let v1080 : BitVec 32 := Scalar.addi v124 c13_i32_515
  let v1082 : Index := Scalar.indexCast v1080
  let c64_517 : Index := 64#32
  ![0, v1082.toNat, 64]
def k0_off124 (k0_t1 : Fin k0_t1_loop.trips) : Fin 3 → Nat :=
  let c0_i32_520 : BitVec 32 := 0#32
  let v1092 : Index := Scalar.indexCast c0_i32_520
  let c0_i32_30 : BitVec 32 := 0#32
  let c1_i32_31 : BitVec 32 := 1#32
  let arg12 : BitVec 32 := Scf.iv c0_i32_30 c1_i32_31 k0_t1
  let c16_i32 : BitVec 32 := 16#32
  let v124 : BitVec 32 := Scalar.muli arg12 c16_i32
  let c13_i32_519 : BitVec 32 := 13#32
  let v1091 : BitVec 32 := Scalar.addi v124 c13_i32_519
  let v1093 : Index := Scalar.indexCast v1091
  let c16_521 : Index := 16#32
  ![0, v1093.toNat, 16]
def k0_off125 (k0_t1 : Fin k0_t1_loop.trips) : Fin 3 → Nat :=
  let c0_i32_523 : BitVec 32 := 0#32
  let v1098 : Index := Scalar.indexCast c0_i32_523
  let c0_i32_30 : BitVec 32 := 0#32
  let c1_i32_31 : BitVec 32 := 1#32
  let arg12 : BitVec 32 := Scf.iv c0_i32_30 c1_i32_31 k0_t1
  let c16_i32 : BitVec 32 := 16#32
  let v124 : BitVec 32 := Scalar.muli arg12 c16_i32
  let c13_i32_522 : BitVec 32 := 13#32
  let v1097 : BitVec 32 := Scalar.addi v124 c13_i32_522
  let v1099 : Index := Scalar.indexCast v1097
  let c80_524 : Index := 80#32
  ![0, v1099.toNat, 80]
def k0_off126 (k0_t1 : Fin k0_t1_loop.trips) : Fin 3 → Nat :=
  let c0_i32_527 : BitVec 32 := 0#32
  let v1109 : Index := Scalar.indexCast c0_i32_527
  let c0_i32_30 : BitVec 32 := 0#32
  let c1_i32_31 : BitVec 32 := 1#32
  let arg12 : BitVec 32 := Scf.iv c0_i32_30 c1_i32_31 k0_t1
  let c16_i32 : BitVec 32 := 16#32
  let v124 : BitVec 32 := Scalar.muli arg12 c16_i32
  let c13_i32_526 : BitVec 32 := 13#32
  let v1108 : BitVec 32 := Scalar.addi v124 c13_i32_526
  let v1110 : Index := Scalar.indexCast v1108
  let c32_528 : Index := 32#32
  ![0, v1110.toNat, 32]
def k0_off127 (k0_t1 : Fin k0_t1_loop.trips) : Fin 3 → Nat :=
  let c0_i32_530 : BitVec 32 := 0#32
  let v1115 : Index := Scalar.indexCast c0_i32_530
  let c0_i32_30 : BitVec 32 := 0#32
  let c1_i32_31 : BitVec 32 := 1#32
  let arg12 : BitVec 32 := Scf.iv c0_i32_30 c1_i32_31 k0_t1
  let c16_i32 : BitVec 32 := 16#32
  let v124 : BitVec 32 := Scalar.muli arg12 c16_i32
  let c13_i32_529 : BitVec 32 := 13#32
  let v1114 : BitVec 32 := Scalar.addi v124 c13_i32_529
  let v1116 : Index := Scalar.indexCast v1114
  let c96_531 : Index := 96#32
  ![0, v1116.toNat, 96]
def k0_off128 (k0_t1 : Fin k0_t1_loop.trips) : Fin 3 → Nat :=
  let c0_i32_534 : BitVec 32 := 0#32
  let v1126 : Index := Scalar.indexCast c0_i32_534
  let c0_i32_30 : BitVec 32 := 0#32
  let c1_i32_31 : BitVec 32 := 1#32
  let arg12 : BitVec 32 := Scf.iv c0_i32_30 c1_i32_31 k0_t1
  let c16_i32 : BitVec 32 := 16#32
  let v124 : BitVec 32 := Scalar.muli arg12 c16_i32
  let c13_i32_533 : BitVec 32 := 13#32
  let v1125 : BitVec 32 := Scalar.addi v124 c13_i32_533
  let v1127 : Index := Scalar.indexCast v1125
  let c48_535 : Index := 48#32
  ![0, v1127.toNat, 48]
def k0_off129 (k0_t1 : Fin k0_t1_loop.trips) : Fin 3 → Nat :=
  let c0_i32_537 : BitVec 32 := 0#32
  let v1132 : Index := Scalar.indexCast c0_i32_537
  let c0_i32_30 : BitVec 32 := 0#32
  let c1_i32_31 : BitVec 32 := 1#32
  let arg12 : BitVec 32 := Scf.iv c0_i32_30 c1_i32_31 k0_t1
  let c16_i32 : BitVec 32 := 16#32
  let v124 : BitVec 32 := Scalar.muli arg12 c16_i32
  let c13_i32_536 : BitVec 32 := 13#32
  let v1131 : BitVec 32 := Scalar.addi v124 c13_i32_536
  let v1133 : Index := Scalar.indexCast v1131
  let c112_538 : Index := 112#32
  ![0, v1133.toNat, 112]
def k0_off130 (k0_t1 : Fin k0_t1_loop.trips) (v1138 : BitVec 32) (c0_i32_540 : BitVec 32) : Fin 2 → Nat :=
  let c0_i32_539 : BitVec 32 := 0#32
  let c0_i32_30 : BitVec 32 := 0#32
  let c1_i32_31 : BitVec 32 := 1#32
  let arg12 : BitVec 32 := Scf.iv c0_i32_30 c1_i32_31 k0_t1
  let c16_i32 : BitVec 32 := 16#32
  let v124 : BitVec 32 := Scalar.muli arg12 c16_i32
  let v1139 : BitVec 32 := Scalar.addi c0_i32_539 v124
  let c14_i32 : BitVec 32 := 14#32
  let v1140 : BitVec 32 := Scalar.addi v1139 c14_i32
  let v1142 : Index := Scalar.indexCast v1140
  let v1141 : BitVec 32 := Scalar.addi v1138 c0_i32_540
  let v1143 : Index := Scalar.indexCast v1141
  ![v1142.toNat, v1143.toNat]

def k0_chk15 (k0_t1 : Fin k0_t1_loop.trips) (v1138 : BitVec 32) : Prop :=
  (∀ (r : Fin 4), ∀ a, (k0_off130 k0_t1 v1138 (BitVec.ofNat 32 (16 * r.val))) a + S1x16.size a ≤ S512x128.size a)
theorem k0_off130_inb : ∀ (k0_t1 : Fin k0_t1_loop.trips) (v1138 : BitVec 32) (k0_hw15 : k0_chk15 k0_t1 v1138), ∀ (r : Fin 4), ∀ a, (k0_off130 k0_t1 v1138 (BitVec.ofNat 32 (16 * r.val))) a + S1x16.size a ≤ S512x128.size a := fun k0_t1 v1138 k0_hw15 r => k0_hw15 r

def k0_off131 (k0_t1 : Fin k0_t1_loop.trips) : Fin 3 → Nat :=
  let c0_i32_542 : BitVec 32 := 0#32
  let v1147 : Index := Scalar.indexCast c0_i32_542
  let c0_i32_30 : BitVec 32 := 0#32
  let c1_i32_31 : BitVec 32 := 1#32
  let arg12 : BitVec 32 := Scf.iv c0_i32_30 c1_i32_31 k0_t1
  let c16_i32 : BitVec 32 := 16#32
  let v124 : BitVec 32 := Scalar.muli arg12 c16_i32
  let c14_i32_541 : BitVec 32 := 14#32
  let v1146 : BitVec 32 := Scalar.addi v124 c14_i32_541
  let v1148 : Index := Scalar.indexCast v1146
  let c0_543 : Index := 0#32
  ![0, v1148.toNat, 0]
def k0_off132 (k0_t1 : Fin k0_t1_loop.trips) : Fin 3 → Nat :=
  let c0_i32_545 : BitVec 32 := 0#32
  let v1153 : Index := Scalar.indexCast c0_i32_545
  let c0_i32_30 : BitVec 32 := 0#32
  let c1_i32_31 : BitVec 32 := 1#32
  let arg12 : BitVec 32 := Scf.iv c0_i32_30 c1_i32_31 k0_t1
  let c16_i32 : BitVec 32 := 16#32
  let v124 : BitVec 32 := Scalar.muli arg12 c16_i32
  let c14_i32_544 : BitVec 32 := 14#32
  let v1152 : BitVec 32 := Scalar.addi v124 c14_i32_544
  let v1154 : Index := Scalar.indexCast v1152
  let c64_546 : Index := 64#32
  ![0, v1154.toNat, 64]
def k0_off133 (k0_t1 : Fin k0_t1_loop.trips) : Fin 3 → Nat :=
  let c0_i32_549 : BitVec 32 := 0#32
  let v1164 : Index := Scalar.indexCast c0_i32_549
  let c0_i32_30 : BitVec 32 := 0#32
  let c1_i32_31 : BitVec 32 := 1#32
  let arg12 : BitVec 32 := Scf.iv c0_i32_30 c1_i32_31 k0_t1
  let c16_i32 : BitVec 32 := 16#32
  let v124 : BitVec 32 := Scalar.muli arg12 c16_i32
  let c14_i32_548 : BitVec 32 := 14#32
  let v1163 : BitVec 32 := Scalar.addi v124 c14_i32_548
  let v1165 : Index := Scalar.indexCast v1163
  let c16_550 : Index := 16#32
  ![0, v1165.toNat, 16]
def k0_off134 (k0_t1 : Fin k0_t1_loop.trips) : Fin 3 → Nat :=
  let c0_i32_552 : BitVec 32 := 0#32
  let v1170 : Index := Scalar.indexCast c0_i32_552
  let c0_i32_30 : BitVec 32 := 0#32
  let c1_i32_31 : BitVec 32 := 1#32
  let arg12 : BitVec 32 := Scf.iv c0_i32_30 c1_i32_31 k0_t1
  let c16_i32 : BitVec 32 := 16#32
  let v124 : BitVec 32 := Scalar.muli arg12 c16_i32
  let c14_i32_551 : BitVec 32 := 14#32
  let v1169 : BitVec 32 := Scalar.addi v124 c14_i32_551
  let v1171 : Index := Scalar.indexCast v1169
  let c80_553 : Index := 80#32
  ![0, v1171.toNat, 80]
def k0_off135 (k0_t1 : Fin k0_t1_loop.trips) : Fin 3 → Nat :=
  let c0_i32_556 : BitVec 32 := 0#32
  let v1181 : Index := Scalar.indexCast c0_i32_556
  let c0_i32_30 : BitVec 32 := 0#32
  let c1_i32_31 : BitVec 32 := 1#32
  let arg12 : BitVec 32 := Scf.iv c0_i32_30 c1_i32_31 k0_t1
  let c16_i32 : BitVec 32 := 16#32
  let v124 : BitVec 32 := Scalar.muli arg12 c16_i32
  let c14_i32_555 : BitVec 32 := 14#32
  let v1180 : BitVec 32 := Scalar.addi v124 c14_i32_555
  let v1182 : Index := Scalar.indexCast v1180
  let c32_557 : Index := 32#32
  ![0, v1182.toNat, 32]
def k0_off136 (k0_t1 : Fin k0_t1_loop.trips) : Fin 3 → Nat :=
  let c0_i32_559 : BitVec 32 := 0#32
  let v1187 : Index := Scalar.indexCast c0_i32_559
  let c0_i32_30 : BitVec 32 := 0#32
  let c1_i32_31 : BitVec 32 := 1#32
  let arg12 : BitVec 32 := Scf.iv c0_i32_30 c1_i32_31 k0_t1
  let c16_i32 : BitVec 32 := 16#32
  let v124 : BitVec 32 := Scalar.muli arg12 c16_i32
  let c14_i32_558 : BitVec 32 := 14#32
  let v1186 : BitVec 32 := Scalar.addi v124 c14_i32_558
  let v1188 : Index := Scalar.indexCast v1186
  let c96_560 : Index := 96#32
  ![0, v1188.toNat, 96]
def k0_off137 (k0_t1 : Fin k0_t1_loop.trips) : Fin 3 → Nat :=
  let c0_i32_563 : BitVec 32 := 0#32
  let v1198 : Index := Scalar.indexCast c0_i32_563
  let c0_i32_30 : BitVec 32 := 0#32
  let c1_i32_31 : BitVec 32 := 1#32
  let arg12 : BitVec 32 := Scf.iv c0_i32_30 c1_i32_31 k0_t1
  let c16_i32 : BitVec 32 := 16#32
  let v124 : BitVec 32 := Scalar.muli arg12 c16_i32
  let c14_i32_562 : BitVec 32 := 14#32
  let v1197 : BitVec 32 := Scalar.addi v124 c14_i32_562
  let v1199 : Index := Scalar.indexCast v1197
  let c48_564 : Index := 48#32
  ![0, v1199.toNat, 48]
def k0_off138 (k0_t1 : Fin k0_t1_loop.trips) : Fin 3 → Nat :=
  let c0_i32_566 : BitVec 32 := 0#32
  let v1204 : Index := Scalar.indexCast c0_i32_566
  let c0_i32_30 : BitVec 32 := 0#32
  let c1_i32_31 : BitVec 32 := 1#32
  let arg12 : BitVec 32 := Scf.iv c0_i32_30 c1_i32_31 k0_t1
  let c16_i32 : BitVec 32 := 16#32
  let v124 : BitVec 32 := Scalar.muli arg12 c16_i32
  let c14_i32_565 : BitVec 32 := 14#32
  let v1203 : BitVec 32 := Scalar.addi v124 c14_i32_565
  let v1205 : Index := Scalar.indexCast v1203
  let c112_567 : Index := 112#32
  ![0, v1205.toNat, 112]
def k0_off139 (k0_t1 : Fin k0_t1_loop.trips) (v1210 : BitVec 32) (c0_i32_569 : BitVec 32) : Fin 2 → Nat :=
  let c0_i32_568 : BitVec 32 := 0#32
  let c0_i32_30 : BitVec 32 := 0#32
  let c1_i32_31 : BitVec 32 := 1#32
  let arg12 : BitVec 32 := Scf.iv c0_i32_30 c1_i32_31 k0_t1
  let c16_i32 : BitVec 32 := 16#32
  let v124 : BitVec 32 := Scalar.muli arg12 c16_i32
  let v1211 : BitVec 32 := Scalar.addi c0_i32_568 v124
  let c15_i32 : BitVec 32 := 15#32
  let v1212 : BitVec 32 := Scalar.addi v1211 c15_i32
  let v1214 : Index := Scalar.indexCast v1212
  let v1213 : BitVec 32 := Scalar.addi v1210 c0_i32_569
  let v1215 : Index := Scalar.indexCast v1213
  ![v1214.toNat, v1215.toNat]

def k0_chk16 (k0_t1 : Fin k0_t1_loop.trips) (v1210 : BitVec 32) : Prop :=
  (∀ (r : Fin 4), ∀ a, (k0_off139 k0_t1 v1210 (BitVec.ofNat 32 (16 * r.val))) a + S1x16.size a ≤ S512x128.size a)
theorem k0_off139_inb : ∀ (k0_t1 : Fin k0_t1_loop.trips) (v1210 : BitVec 32) (k0_hw16 : k0_chk16 k0_t1 v1210), ∀ (r : Fin 4), ∀ a, (k0_off139 k0_t1 v1210 (BitVec.ofNat 32 (16 * r.val))) a + S1x16.size a ≤ S512x128.size a := fun k0_t1 v1210 k0_hw16 r => k0_hw16 r

def k0_off140 (k0_t1 : Fin k0_t1_loop.trips) : Fin 3 → Nat :=
  let c0_i32_571 : BitVec 32 := 0#32
  let v1219 : Index := Scalar.indexCast c0_i32_571
  let c0_i32_30 : BitVec 32 := 0#32
  let c1_i32_31 : BitVec 32 := 1#32
  let arg12 : BitVec 32 := Scf.iv c0_i32_30 c1_i32_31 k0_t1
  let c16_i32 : BitVec 32 := 16#32
  let v124 : BitVec 32 := Scalar.muli arg12 c16_i32
  let c15_i32_570 : BitVec 32 := 15#32
  let v1218 : BitVec 32 := Scalar.addi v124 c15_i32_570
  let v1220 : Index := Scalar.indexCast v1218
  let c0_572 : Index := 0#32
  ![0, v1220.toNat, 0]
def k0_off141 (k0_t1 : Fin k0_t1_loop.trips) : Fin 3 → Nat :=
  let c0_i32_574 : BitVec 32 := 0#32
  let v1225 : Index := Scalar.indexCast c0_i32_574
  let c0_i32_30 : BitVec 32 := 0#32
  let c1_i32_31 : BitVec 32 := 1#32
  let arg12 : BitVec 32 := Scf.iv c0_i32_30 c1_i32_31 k0_t1
  let c16_i32 : BitVec 32 := 16#32
  let v124 : BitVec 32 := Scalar.muli arg12 c16_i32
  let c15_i32_573 : BitVec 32 := 15#32
  let v1224 : BitVec 32 := Scalar.addi v124 c15_i32_573
  let v1226 : Index := Scalar.indexCast v1224
  let c64_575 : Index := 64#32
  ![0, v1226.toNat, 64]
def k0_off142 (k0_t1 : Fin k0_t1_loop.trips) : Fin 3 → Nat :=
  let c0_i32_578 : BitVec 32 := 0#32
  let v1236 : Index := Scalar.indexCast c0_i32_578
  let c0_i32_30 : BitVec 32 := 0#32
  let c1_i32_31 : BitVec 32 := 1#32
  let arg12 : BitVec 32 := Scf.iv c0_i32_30 c1_i32_31 k0_t1
  let c16_i32 : BitVec 32 := 16#32
  let v124 : BitVec 32 := Scalar.muli arg12 c16_i32
  let c15_i32_577 : BitVec 32 := 15#32
  let v1235 : BitVec 32 := Scalar.addi v124 c15_i32_577
  let v1237 : Index := Scalar.indexCast v1235
  let c16_579 : Index := 16#32
  ![0, v1237.toNat, 16]
def k0_off143 (k0_t1 : Fin k0_t1_loop.trips) : Fin 3 → Nat :=
  let c0_i32_581 : BitVec 32 := 0#32
  let v1242 : Index := Scalar.indexCast c0_i32_581
  let c0_i32_30 : BitVec 32 := 0#32
  let c1_i32_31 : BitVec 32 := 1#32
  let arg12 : BitVec 32 := Scf.iv c0_i32_30 c1_i32_31 k0_t1
  let c16_i32 : BitVec 32 := 16#32
  let v124 : BitVec 32 := Scalar.muli arg12 c16_i32
  let c15_i32_580 : BitVec 32 := 15#32
  let v1241 : BitVec 32 := Scalar.addi v124 c15_i32_580
  let v1243 : Index := Scalar.indexCast v1241
  let c80_582 : Index := 80#32
  ![0, v1243.toNat, 80]
def k0_off144 (k0_t1 : Fin k0_t1_loop.trips) : Fin 3 → Nat :=
  let c0_i32_585 : BitVec 32 := 0#32
  let v1253 : Index := Scalar.indexCast c0_i32_585
  let c0_i32_30 : BitVec 32 := 0#32
  let c1_i32_31 : BitVec 32 := 1#32
  let arg12 : BitVec 32 := Scf.iv c0_i32_30 c1_i32_31 k0_t1
  let c16_i32 : BitVec 32 := 16#32
  let v124 : BitVec 32 := Scalar.muli arg12 c16_i32
  let c15_i32_584 : BitVec 32 := 15#32
  let v1252 : BitVec 32 := Scalar.addi v124 c15_i32_584
  let v1254 : Index := Scalar.indexCast v1252
  let c32_586 : Index := 32#32
  ![0, v1254.toNat, 32]
def k0_off145 (k0_t1 : Fin k0_t1_loop.trips) : Fin 3 → Nat :=
  let c0_i32_588 : BitVec 32 := 0#32
  let v1259 : Index := Scalar.indexCast c0_i32_588
  let c0_i32_30 : BitVec 32 := 0#32
  let c1_i32_31 : BitVec 32 := 1#32
  let arg12 : BitVec 32 := Scf.iv c0_i32_30 c1_i32_31 k0_t1
  let c16_i32 : BitVec 32 := 16#32
  let v124 : BitVec 32 := Scalar.muli arg12 c16_i32
  let c15_i32_587 : BitVec 32 := 15#32
  let v1258 : BitVec 32 := Scalar.addi v124 c15_i32_587
  let v1260 : Index := Scalar.indexCast v1258
  let c96_589 : Index := 96#32
  ![0, v1260.toNat, 96]
def k0_off146 (k0_t1 : Fin k0_t1_loop.trips) : Fin 3 → Nat :=
  let c0_i32_592 : BitVec 32 := 0#32
  let v1270 : Index := Scalar.indexCast c0_i32_592
  let c0_i32_30 : BitVec 32 := 0#32
  let c1_i32_31 : BitVec 32 := 1#32
  let arg12 : BitVec 32 := Scf.iv c0_i32_30 c1_i32_31 k0_t1
  let c16_i32 : BitVec 32 := 16#32
  let v124 : BitVec 32 := Scalar.muli arg12 c16_i32
  let c15_i32_591 : BitVec 32 := 15#32
  let v1269 : BitVec 32 := Scalar.addi v124 c15_i32_591
  let v1271 : Index := Scalar.indexCast v1269
  let c48_593 : Index := 48#32
  ![0, v1271.toNat, 48]
def k0_off147 (k0_t1 : Fin k0_t1_loop.trips) : Fin 3 → Nat :=
  let c0_i32_595 : BitVec 32 := 0#32
  let v1276 : Index := Scalar.indexCast c0_i32_595
  let c0_i32_30 : BitVec 32 := 0#32
  let c1_i32_31 : BitVec 32 := 1#32
  let arg12 : BitVec 32 := Scf.iv c0_i32_30 c1_i32_31 k0_t1
  let c16_i32 : BitVec 32 := 16#32
  let v124 : BitVec 32 := Scalar.muli arg12 c16_i32
  let c15_i32_594 : BitVec 32 := 15#32
  let v1275 : BitVec 32 := Scalar.addi v124 c15_i32_594
  let v1277 : Index := Scalar.indexCast v1275
  let c112_596 : Index := 112#32
  ![0, v1277.toNat, 112]
def k0_off148 (i : grid0.Coords) (c0_i32_33 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v35 : BitVec 32 := Scalar.addi v2 c0_i32_33
  let c0_i32_38 : BitVec 32 := 0#32
  ![v35.toNat, 0]
@[reducible] def k0_t2_loop : Scf.Loop 32 :=
  let c0_i32_50 : BitVec 32 := 0#32
  let c8_i32_51 : BitVec 32 := 8#32
  let v50 : BitVec 32 := Scalar.addi c0_i32_50 c8_i32_51
  let c1_i32_52 : BitVec 32 := 1#32
  ⟨c0_i32_50, v50, c1_i32_52⟩
def k0_off149 (k0_t2 : Fin k0_t2_loop.trips) : Fin 1 → Nat :=
  let c128_i32_137 : BitVec 32 := 128#32
  let c0_i32_50 : BitVec 32 := 0#32
  let c1_i32_52 : BitVec 32 := 1#32
  let arg12 : BitVec 32 := Scf.iv c0_i32_50 c1_i32_52 k0_t2
  let c16_i32 : BitVec 32 := 16#32
  let v124 : BitVec 32 := Scalar.muli arg12 c16_i32
  let v125 : BitVec 32 := Scalar.addi c128_i32_137 v124
  let v126 : Index := Scalar.indexCast v125
  ![v126.toNat]
def k0_off150 (k0_t2 : Fin k0_t2_loop.trips) (v130 : BitVec 32) (c0_i32_140 : BitVec 32) : Fin 2 → Nat :=
  let c128_i32_138 : BitVec 32 := 128#32
  let c0_i32_50 : BitVec 32 := 0#32
  let c1_i32_52 : BitVec 32 := 1#32
  let arg12 : BitVec 32 := Scf.iv c0_i32_50 c1_i32_52 k0_t2
  let c16_i32 : BitVec 32 := 16#32
  let v124 : BitVec 32 := Scalar.muli arg12 c16_i32
  let v131 : BitVec 32 := Scalar.addi c128_i32_138 v124
  let c0_i32_139 : BitVec 32 := 0#32
  let v132 : BitVec 32 := Scalar.addi v131 c0_i32_139
  let v134 : Index := Scalar.indexCast v132
  let v133 : BitVec 32 := Scalar.addi v130 c0_i32_140
  let v135 : Index := Scalar.indexCast v133
  ![v134.toNat, v135.toNat]

def k0_chk17 (k0_t2 : Fin k0_t2_loop.trips) (v130 : BitVec 32) : Prop :=
  (∀ (r : Fin 4), ∀ a, (k0_off150 k0_t2 v130 (BitVec.ofNat 32 (16 * r.val))) a + S1x16.size a ≤ S512x128.size a)
theorem k0_off150_inb : ∀ (k0_t2 : Fin k0_t2_loop.trips) (v130 : BitVec 32) (k0_hw17 : k0_chk17 k0_t2 v130), ∀ (r : Fin 4), ∀ a, (k0_off150 k0_t2 v130 (BitVec.ofNat 32 (16 * r.val))) a + S1x16.size a ≤ S512x128.size a := fun k0_t2 v130 k0_hw17 r => k0_hw17 r

def k0_off151 (k0_t2 : Fin k0_t2_loop.trips) : Fin 3 → Nat :=
  let c1_i32_142 : BitVec 32 := 1#32
  let v139 : Index := Scalar.indexCast c1_i32_142
  let c0_i32_50 : BitVec 32 := 0#32
  let c1_i32_52 : BitVec 32 := 1#32
  let arg12 : BitVec 32 := Scf.iv c0_i32_50 c1_i32_52 k0_t2
  let c16_i32 : BitVec 32 := 16#32
  let v124 : BitVec 32 := Scalar.muli arg12 c16_i32
  let c0_i32_141 : BitVec 32 := 0#32
  let v138 : BitVec 32 := Scalar.addi v124 c0_i32_141
  let v140 : Index := Scalar.indexCast v138
  let c0 : Index := 0#32
  ![1, v140.toNat, 0]
def k0_off152 (k0_t2 : Fin k0_t2_loop.trips) : Fin 3 → Nat :=
  let c1_i32_144 : BitVec 32 := 1#32
  let v145 : Index := Scalar.indexCast c1_i32_144
  let c0_i32_50 : BitVec 32 := 0#32
  let c1_i32_52 : BitVec 32 := 1#32
  let arg12 : BitVec 32 := Scf.iv c0_i32_50 c1_i32_52 k0_t2
  let c16_i32 : BitVec 32 := 16#32
  let v124 : BitVec 32 := Scalar.muli arg12 c16_i32
  let c0_i32_143 : BitVec 32 := 0#32
  let v144 : BitVec 32 := Scalar.addi v124 c0_i32_143
  let v146 : Index := Scalar.indexCast v144
  let c64 : Index := 64#32
  ![1, v146.toNat, 64]
def k0_off153 (k0_t2 : Fin k0_t2_loop.trips) : Fin 3 → Nat :=
  let c1_i32_147 : BitVec 32 := 1#32
  let v156 : Index := Scalar.indexCast c1_i32_147
  let c0_i32_50 : BitVec 32 := 0#32
  let c1_i32_52 : BitVec 32 := 1#32
  let arg12 : BitVec 32 := Scf.iv c0_i32_50 c1_i32_52 k0_t2
  let c16_i32 : BitVec 32 := 16#32
  let v124 : BitVec 32 := Scalar.muli arg12 c16_i32
  let c0_i32_146 : BitVec 32 := 0#32
  let v155 : BitVec 32 := Scalar.addi v124 c0_i32_146
  let v157 : Index := Scalar.indexCast v155
  let c16 : Index := 16#32
  ![1, v157.toNat, 16]
def k0_off154 (k0_t2 : Fin k0_t2_loop.trips) : Fin 3 → Nat :=
  let c1_i32_149 : BitVec 32 := 1#32
  let v162 : Index := Scalar.indexCast c1_i32_149
  let c0_i32_50 : BitVec 32 := 0#32
  let c1_i32_52 : BitVec 32 := 1#32
  let arg12 : BitVec 32 := Scf.iv c0_i32_50 c1_i32_52 k0_t2
  let c16_i32 : BitVec 32 := 16#32
  let v124 : BitVec 32 := Scalar.muli arg12 c16_i32
  let c0_i32_148 : BitVec 32 := 0#32
  let v161 : BitVec 32 := Scalar.addi v124 c0_i32_148
  let v163 : Index := Scalar.indexCast v161
  let c80 : Index := 80#32
  ![1, v163.toNat, 80]
def k0_off155 (k0_t2 : Fin k0_t2_loop.trips) : Fin 3 → Nat :=
  let c1_i32_151 : BitVec 32 := 1#32
  let v173 : Index := Scalar.indexCast c1_i32_151
  let c0_i32_50 : BitVec 32 := 0#32
  let c1_i32_52 : BitVec 32 := 1#32
  let arg12 : BitVec 32 := Scf.iv c0_i32_50 c1_i32_52 k0_t2
  let c16_i32 : BitVec 32 := 16#32
  let v124 : BitVec 32 := Scalar.muli arg12 c16_i32
  let c0_i32_150 : BitVec 32 := 0#32
  let v172 : BitVec 32 := Scalar.addi v124 c0_i32_150
  let v174 : Index := Scalar.indexCast v172
  let c32 : Index := 32#32
  ![1, v174.toNat, 32]
def k0_off156 (k0_t2 : Fin k0_t2_loop.trips) : Fin 3 → Nat :=
  let c1_i32_153 : BitVec 32 := 1#32
  let v179 : Index := Scalar.indexCast c1_i32_153
  let c0_i32_50 : BitVec 32 := 0#32
  let c1_i32_52 : BitVec 32 := 1#32
  let arg12 : BitVec 32 := Scf.iv c0_i32_50 c1_i32_52 k0_t2
  let c16_i32 : BitVec 32 := 16#32
  let v124 : BitVec 32 := Scalar.muli arg12 c16_i32
  let c0_i32_152 : BitVec 32 := 0#32
  let v178 : BitVec 32 := Scalar.addi v124 c0_i32_152
  let v180 : Index := Scalar.indexCast v178
  let c96 : Index := 96#32
  ![1, v180.toNat, 96]
def k0_off157 (k0_t2 : Fin k0_t2_loop.trips) : Fin 3 → Nat :=
  let c1_i32_155 : BitVec 32 := 1#32
  let v190 : Index := Scalar.indexCast c1_i32_155
  let c0_i32_50 : BitVec 32 := 0#32
  let c1_i32_52 : BitVec 32 := 1#32
  let arg12 : BitVec 32 := Scf.iv c0_i32_50 c1_i32_52 k0_t2
  let c16_i32 : BitVec 32 := 16#32
  let v124 : BitVec 32 := Scalar.muli arg12 c16_i32
  let c0_i32_154 : BitVec 32 := 0#32
  let v189 : BitVec 32 := Scalar.addi v124 c0_i32_154
  let v191 : Index := Scalar.indexCast v189
  let c48 : Index := 48#32
  ![1, v191.toNat, 48]
def k0_off158 (k0_t2 : Fin k0_t2_loop.trips) : Fin 3 → Nat :=
  let c1_i32_157 : BitVec 32 := 1#32
  let v196 : Index := Scalar.indexCast c1_i32_157
  let c0_i32_50 : BitVec 32 := 0#32
  let c1_i32_52 : BitVec 32 := 1#32
  let arg12 : BitVec 32 := Scf.iv c0_i32_50 c1_i32_52 k0_t2
  let c16_i32 : BitVec 32 := 16#32
  let v124 : BitVec 32 := Scalar.muli arg12 c16_i32
  let c0_i32_156 : BitVec 32 := 0#32
  let v195 : BitVec 32 := Scalar.addi v124 c0_i32_156
  let v197 : Index := Scalar.indexCast v195
  let c112 : Index := 112#32
  ![1, v197.toNat, 112]
def k0_off159 (k0_t2 : Fin k0_t2_loop.trips) (v202 : BitVec 32) (c0_i32_160 : BitVec 32) : Fin 2 → Nat :=
  let c128_i32_158 : BitVec 32 := 128#32
  let c0_i32_50 : BitVec 32 := 0#32
  let c1_i32_52 : BitVec 32 := 1#32
  let arg12 : BitVec 32 := Scf.iv c0_i32_50 c1_i32_52 k0_t2
  let c16_i32 : BitVec 32 := 16#32
  let v124 : BitVec 32 := Scalar.muli arg12 c16_i32
  let v203 : BitVec 32 := Scalar.addi c128_i32_158 v124
  let c1_i32_159 : BitVec 32 := 1#32
  let v204 : BitVec 32 := Scalar.addi v203 c1_i32_159
  let v206 : Index := Scalar.indexCast v204
  let v205 : BitVec 32 := Scalar.addi v202 c0_i32_160
  let v207 : Index := Scalar.indexCast v205
  ![v206.toNat, v207.toNat]

def k0_chk18 (k0_t2 : Fin k0_t2_loop.trips) (v202 : BitVec 32) : Prop :=
  (∀ (r : Fin 4), ∀ a, (k0_off159 k0_t2 v202 (BitVec.ofNat 32 (16 * r.val))) a + S1x16.size a ≤ S512x128.size a)
theorem k0_off159_inb : ∀ (k0_t2 : Fin k0_t2_loop.trips) (v202 : BitVec 32) (k0_hw18 : k0_chk18 k0_t2 v202), ∀ (r : Fin 4), ∀ a, (k0_off159 k0_t2 v202 (BitVec.ofNat 32 (16 * r.val))) a + S1x16.size a ≤ S512x128.size a := fun k0_t2 v202 k0_hw18 r => k0_hw18 r

def k0_off160 (k0_t2 : Fin k0_t2_loop.trips) : Fin 3 → Nat :=
  let c1_i32_162 : BitVec 32 := 1#32
  let v211 : Index := Scalar.indexCast c1_i32_162
  let c0_i32_50 : BitVec 32 := 0#32
  let c1_i32_52 : BitVec 32 := 1#32
  let arg12 : BitVec 32 := Scf.iv c0_i32_50 c1_i32_52 k0_t2
  let c16_i32 : BitVec 32 := 16#32
  let v124 : BitVec 32 := Scalar.muli arg12 c16_i32
  let c1_i32_161 : BitVec 32 := 1#32
  let v210 : BitVec 32 := Scalar.addi v124 c1_i32_161
  let v212 : Index := Scalar.indexCast v210
  let c0_163 : Index := 0#32
  ![1, v212.toNat, 0]
def k0_off161 (k0_t2 : Fin k0_t2_loop.trips) : Fin 3 → Nat :=
  let c1_i32_165 : BitVec 32 := 1#32
  let v217 : Index := Scalar.indexCast c1_i32_165
  let c0_i32_50 : BitVec 32 := 0#32
  let c1_i32_52 : BitVec 32 := 1#32
  let arg12 : BitVec 32 := Scf.iv c0_i32_50 c1_i32_52 k0_t2
  let c16_i32 : BitVec 32 := 16#32
  let v124 : BitVec 32 := Scalar.muli arg12 c16_i32
  let c1_i32_164 : BitVec 32 := 1#32
  let v216 : BitVec 32 := Scalar.addi v124 c1_i32_164
  let v218 : Index := Scalar.indexCast v216
  let c64_166 : Index := 64#32
  ![1, v218.toNat, 64]
def k0_off162 (k0_t2 : Fin k0_t2_loop.trips) : Fin 3 → Nat :=
  let c1_i32_169 : BitVec 32 := 1#32
  let v228 : Index := Scalar.indexCast c1_i32_169
  let c0_i32_50 : BitVec 32 := 0#32
  let c1_i32_52 : BitVec 32 := 1#32
  let arg12 : BitVec 32 := Scf.iv c0_i32_50 c1_i32_52 k0_t2
  let c16_i32 : BitVec 32 := 16#32
  let v124 : BitVec 32 := Scalar.muli arg12 c16_i32
  let c1_i32_168 : BitVec 32 := 1#32
  let v227 : BitVec 32 := Scalar.addi v124 c1_i32_168
  let v229 : Index := Scalar.indexCast v227
  let c16_170 : Index := 16#32
  ![1, v229.toNat, 16]
def k0_off163 (k0_t2 : Fin k0_t2_loop.trips) : Fin 3 → Nat :=
  let c1_i32_172 : BitVec 32 := 1#32
  let v234 : Index := Scalar.indexCast c1_i32_172
  let c0_i32_50 : BitVec 32 := 0#32
  let c1_i32_52 : BitVec 32 := 1#32
  let arg12 : BitVec 32 := Scf.iv c0_i32_50 c1_i32_52 k0_t2
  let c16_i32 : BitVec 32 := 16#32
  let v124 : BitVec 32 := Scalar.muli arg12 c16_i32
  let c1_i32_171 : BitVec 32 := 1#32
  let v233 : BitVec 32 := Scalar.addi v124 c1_i32_171
  let v235 : Index := Scalar.indexCast v233
  let c80_173 : Index := 80#32
  ![1, v235.toNat, 80]
def k0_off164 (k0_t2 : Fin k0_t2_loop.trips) : Fin 3 → Nat :=
  let c1_i32_176 : BitVec 32 := 1#32
  let v245 : Index := Scalar.indexCast c1_i32_176
  let c0_i32_50 : BitVec 32 := 0#32
  let c1_i32_52 : BitVec 32 := 1#32
  let arg12 : BitVec 32 := Scf.iv c0_i32_50 c1_i32_52 k0_t2
  let c16_i32 : BitVec 32 := 16#32
  let v124 : BitVec 32 := Scalar.muli arg12 c16_i32
  let c1_i32_175 : BitVec 32 := 1#32
  let v244 : BitVec 32 := Scalar.addi v124 c1_i32_175
  let v246 : Index := Scalar.indexCast v244
  let c32_177 : Index := 32#32
  ![1, v246.toNat, 32]
def k0_off165 (k0_t2 : Fin k0_t2_loop.trips) : Fin 3 → Nat :=
  let c1_i32_179 : BitVec 32 := 1#32
  let v251 : Index := Scalar.indexCast c1_i32_179
  let c0_i32_50 : BitVec 32 := 0#32
  let c1_i32_52 : BitVec 32 := 1#32
  let arg12 : BitVec 32 := Scf.iv c0_i32_50 c1_i32_52 k0_t2
  let c16_i32 : BitVec 32 := 16#32
  let v124 : BitVec 32 := Scalar.muli arg12 c16_i32
  let c1_i32_178 : BitVec 32 := 1#32
  let v250 : BitVec 32 := Scalar.addi v124 c1_i32_178
  let v252 : Index := Scalar.indexCast v250
  let c96_180 : Index := 96#32
  ![1, v252.toNat, 96]
def k0_off166 (k0_t2 : Fin k0_t2_loop.trips) : Fin 3 → Nat :=
  let c1_i32_183 : BitVec 32 := 1#32
  let v262 : Index := Scalar.indexCast c1_i32_183
  let c0_i32_50 : BitVec 32 := 0#32
  let c1_i32_52 : BitVec 32 := 1#32
  let arg12 : BitVec 32 := Scf.iv c0_i32_50 c1_i32_52 k0_t2
  let c16_i32 : BitVec 32 := 16#32
  let v124 : BitVec 32 := Scalar.muli arg12 c16_i32
  let c1_i32_182 : BitVec 32 := 1#32
  let v261 : BitVec 32 := Scalar.addi v124 c1_i32_182
  let v263 : Index := Scalar.indexCast v261
  let c48_184 : Index := 48#32
  ![1, v263.toNat, 48]
def k0_off167 (k0_t2 : Fin k0_t2_loop.trips) : Fin 3 → Nat :=
  let c1_i32_186 : BitVec 32 := 1#32
  let v268 : Index := Scalar.indexCast c1_i32_186
  let c0_i32_50 : BitVec 32 := 0#32
  let c1_i32_52 : BitVec 32 := 1#32
  let arg12 : BitVec 32 := Scf.iv c0_i32_50 c1_i32_52 k0_t2
  let c16_i32 : BitVec 32 := 16#32
  let v124 : BitVec 32 := Scalar.muli arg12 c16_i32
  let c1_i32_185 : BitVec 32 := 1#32
  let v267 : BitVec 32 := Scalar.addi v124 c1_i32_185
  let v269 : Index := Scalar.indexCast v267
  let c112_187 : Index := 112#32
  ![1, v269.toNat, 112]
def k0_off168 (k0_t2 : Fin k0_t2_loop.trips) (v274 : BitVec 32) (c0_i32_190 : BitVec 32) : Fin 2 → Nat :=
  let c128_i32_188 : BitVec 32 := 128#32
  let c0_i32_50 : BitVec 32 := 0#32
  let c1_i32_52 : BitVec 32 := 1#32
  let arg12 : BitVec 32 := Scf.iv c0_i32_50 c1_i32_52 k0_t2
  let c16_i32 : BitVec 32 := 16#32
  let v124 : BitVec 32 := Scalar.muli arg12 c16_i32
  let v275 : BitVec 32 := Scalar.addi c128_i32_188 v124
  let c2_i32_189 : BitVec 32 := 2#32
  let v276 : BitVec 32 := Scalar.addi v275 c2_i32_189
  let v278 : Index := Scalar.indexCast v276
  let v277 : BitVec 32 := Scalar.addi v274 c0_i32_190
  let v279 : Index := Scalar.indexCast v277
  ![v278.toNat, v279.toNat]

def k0_chk19 (k0_t2 : Fin k0_t2_loop.trips) (v274 : BitVec 32) : Prop :=
  (∀ (r : Fin 4), ∀ a, (k0_off168 k0_t2 v274 (BitVec.ofNat 32 (16 * r.val))) a + S1x16.size a ≤ S512x128.size a)
theorem k0_off168_inb : ∀ (k0_t2 : Fin k0_t2_loop.trips) (v274 : BitVec 32) (k0_hw19 : k0_chk19 k0_t2 v274), ∀ (r : Fin 4), ∀ a, (k0_off168 k0_t2 v274 (BitVec.ofNat 32 (16 * r.val))) a + S1x16.size a ≤ S512x128.size a := fun k0_t2 v274 k0_hw19 r => k0_hw19 r

def k0_off169 (k0_t2 : Fin k0_t2_loop.trips) : Fin 3 → Nat :=
  let c1_i32_192 : BitVec 32 := 1#32
  let v283 : Index := Scalar.indexCast c1_i32_192
  let c0_i32_50 : BitVec 32 := 0#32
  let c1_i32_52 : BitVec 32 := 1#32
  let arg12 : BitVec 32 := Scf.iv c0_i32_50 c1_i32_52 k0_t2
  let c16_i32 : BitVec 32 := 16#32
  let v124 : BitVec 32 := Scalar.muli arg12 c16_i32
  let c2_i32_191 : BitVec 32 := 2#32
  let v282 : BitVec 32 := Scalar.addi v124 c2_i32_191
  let v284 : Index := Scalar.indexCast v282
  let c0_193 : Index := 0#32
  ![1, v284.toNat, 0]
def k0_off170 (k0_t2 : Fin k0_t2_loop.trips) : Fin 3 → Nat :=
  let c1_i32_195 : BitVec 32 := 1#32
  let v289 : Index := Scalar.indexCast c1_i32_195
  let c0_i32_50 : BitVec 32 := 0#32
  let c1_i32_52 : BitVec 32 := 1#32
  let arg12 : BitVec 32 := Scf.iv c0_i32_50 c1_i32_52 k0_t2
  let c16_i32 : BitVec 32 := 16#32
  let v124 : BitVec 32 := Scalar.muli arg12 c16_i32
  let c2_i32_194 : BitVec 32 := 2#32
  let v288 : BitVec 32 := Scalar.addi v124 c2_i32_194
  let v290 : Index := Scalar.indexCast v288
  let c64_196 : Index := 64#32
  ![1, v290.toNat, 64]
def k0_off171 (k0_t2 : Fin k0_t2_loop.trips) : Fin 3 → Nat :=
  let c1_i32_199 : BitVec 32 := 1#32
  let v300 : Index := Scalar.indexCast c1_i32_199
  let c0_i32_50 : BitVec 32 := 0#32
  let c1_i32_52 : BitVec 32 := 1#32
  let arg12 : BitVec 32 := Scf.iv c0_i32_50 c1_i32_52 k0_t2
  let c16_i32 : BitVec 32 := 16#32
  let v124 : BitVec 32 := Scalar.muli arg12 c16_i32
  let c2_i32_198 : BitVec 32 := 2#32
  let v299 : BitVec 32 := Scalar.addi v124 c2_i32_198
  let v301 : Index := Scalar.indexCast v299
  let c16_200 : Index := 16#32
  ![1, v301.toNat, 16]
def k0_off172 (k0_t2 : Fin k0_t2_loop.trips) : Fin 3 → Nat :=
  let c1_i32_202 : BitVec 32 := 1#32
  let v306 : Index := Scalar.indexCast c1_i32_202
  let c0_i32_50 : BitVec 32 := 0#32
  let c1_i32_52 : BitVec 32 := 1#32
  let arg12 : BitVec 32 := Scf.iv c0_i32_50 c1_i32_52 k0_t2
  let c16_i32 : BitVec 32 := 16#32
  let v124 : BitVec 32 := Scalar.muli arg12 c16_i32
  let c2_i32_201 : BitVec 32 := 2#32
  let v305 : BitVec 32 := Scalar.addi v124 c2_i32_201
  let v307 : Index := Scalar.indexCast v305
  let c80_203 : Index := 80#32
  ![1, v307.toNat, 80]
def k0_off173 (k0_t2 : Fin k0_t2_loop.trips) : Fin 3 → Nat :=
  let c1_i32_206 : BitVec 32 := 1#32
  let v317 : Index := Scalar.indexCast c1_i32_206
  let c0_i32_50 : BitVec 32 := 0#32
  let c1_i32_52 : BitVec 32 := 1#32
  let arg12 : BitVec 32 := Scf.iv c0_i32_50 c1_i32_52 k0_t2
  let c16_i32 : BitVec 32 := 16#32
  let v124 : BitVec 32 := Scalar.muli arg12 c16_i32
  let c2_i32_205 : BitVec 32 := 2#32
  let v316 : BitVec 32 := Scalar.addi v124 c2_i32_205
  let v318 : Index := Scalar.indexCast v316
  let c32_207 : Index := 32#32
  ![1, v318.toNat, 32]
def k0_off174 (k0_t2 : Fin k0_t2_loop.trips) : Fin 3 → Nat :=
  let c1_i32_209 : BitVec 32 := 1#32
  let v323 : Index := Scalar.indexCast c1_i32_209
  let c0_i32_50 : BitVec 32 := 0#32
  let c1_i32_52 : BitVec 32 := 1#32
  let arg12 : BitVec 32 := Scf.iv c0_i32_50 c1_i32_52 k0_t2
  let c16_i32 : BitVec 32 := 16#32
  let v124 : BitVec 32 := Scalar.muli arg12 c16_i32
  let c2_i32_208 : BitVec 32 := 2#32
  let v322 : BitVec 32 := Scalar.addi v124 c2_i32_208
  let v324 : Index := Scalar.indexCast v322
  let c96_210 : Index := 96#32
  ![1, v324.toNat, 96]
def k0_off175 (k0_t2 : Fin k0_t2_loop.trips) : Fin 3 → Nat :=
  let c1_i32_213 : BitVec 32 := 1#32
  let v334 : Index := Scalar.indexCast c1_i32_213
  let c0_i32_50 : BitVec 32 := 0#32
  let c1_i32_52 : BitVec 32 := 1#32
  let arg12 : BitVec 32 := Scf.iv c0_i32_50 c1_i32_52 k0_t2
  let c16_i32 : BitVec 32 := 16#32
  let v124 : BitVec 32 := Scalar.muli arg12 c16_i32
  let c2_i32_212 : BitVec 32 := 2#32
  let v333 : BitVec 32 := Scalar.addi v124 c2_i32_212
  let v335 : Index := Scalar.indexCast v333
  let c48_214 : Index := 48#32
  ![1, v335.toNat, 48]
def k0_off176 (k0_t2 : Fin k0_t2_loop.trips) : Fin 3 → Nat :=
  let c1_i32_216 : BitVec 32 := 1#32
  let v340 : Index := Scalar.indexCast c1_i32_216
  let c0_i32_50 : BitVec 32 := 0#32
  let c1_i32_52 : BitVec 32 := 1#32
  let arg12 : BitVec 32 := Scf.iv c0_i32_50 c1_i32_52 k0_t2
  let c16_i32 : BitVec 32 := 16#32
  let v124 : BitVec 32 := Scalar.muli arg12 c16_i32
  let c2_i32_215 : BitVec 32 := 2#32
  let v339 : BitVec 32 := Scalar.addi v124 c2_i32_215
  let v341 : Index := Scalar.indexCast v339
  let c112_217 : Index := 112#32
  ![1, v341.toNat, 112]
def k0_off177 (k0_t2 : Fin k0_t2_loop.trips) (v346 : BitVec 32) (c0_i32_220 : BitVec 32) : Fin 2 → Nat :=
  let c128_i32_218 : BitVec 32 := 128#32
  let c0_i32_50 : BitVec 32 := 0#32
  let c1_i32_52 : BitVec 32 := 1#32
  let arg12 : BitVec 32 := Scf.iv c0_i32_50 c1_i32_52 k0_t2
  let c16_i32 : BitVec 32 := 16#32
  let v124 : BitVec 32 := Scalar.muli arg12 c16_i32
  let v347 : BitVec 32 := Scalar.addi c128_i32_218 v124
  let c3_i32_219 : BitVec 32 := 3#32
  let v348 : BitVec 32 := Scalar.addi v347 c3_i32_219
  let v350 : Index := Scalar.indexCast v348
  let v349 : BitVec 32 := Scalar.addi v346 c0_i32_220
  let v351 : Index := Scalar.indexCast v349
  ![v350.toNat, v351.toNat]

def k0_chk20 (k0_t2 : Fin k0_t2_loop.trips) (v346 : BitVec 32) : Prop :=
  (∀ (r : Fin 4), ∀ a, (k0_off177 k0_t2 v346 (BitVec.ofNat 32 (16 * r.val))) a + S1x16.size a ≤ S512x128.size a)
theorem k0_off177_inb : ∀ (k0_t2 : Fin k0_t2_loop.trips) (v346 : BitVec 32) (k0_hw20 : k0_chk20 k0_t2 v346), ∀ (r : Fin 4), ∀ a, (k0_off177 k0_t2 v346 (BitVec.ofNat 32 (16 * r.val))) a + S1x16.size a ≤ S512x128.size a := fun k0_t2 v346 k0_hw20 r => k0_hw20 r

def k0_off178 (k0_t2 : Fin k0_t2_loop.trips) : Fin 3 → Nat :=
  let c1_i32_222 : BitVec 32 := 1#32
  let v355 : Index := Scalar.indexCast c1_i32_222
  let c0_i32_50 : BitVec 32 := 0#32
  let c1_i32_52 : BitVec 32 := 1#32
  let arg12 : BitVec 32 := Scf.iv c0_i32_50 c1_i32_52 k0_t2
  let c16_i32 : BitVec 32 := 16#32
  let v124 : BitVec 32 := Scalar.muli arg12 c16_i32
  let c3_i32_221 : BitVec 32 := 3#32
  let v354 : BitVec 32 := Scalar.addi v124 c3_i32_221
  let v356 : Index := Scalar.indexCast v354
  let c0_223 : Index := 0#32
  ![1, v356.toNat, 0]
def k0_off179 (k0_t2 : Fin k0_t2_loop.trips) : Fin 3 → Nat :=
  let c1_i32_225 : BitVec 32 := 1#32
  let v361 : Index := Scalar.indexCast c1_i32_225
  let c0_i32_50 : BitVec 32 := 0#32
  let c1_i32_52 : BitVec 32 := 1#32
  let arg12 : BitVec 32 := Scf.iv c0_i32_50 c1_i32_52 k0_t2
  let c16_i32 : BitVec 32 := 16#32
  let v124 : BitVec 32 := Scalar.muli arg12 c16_i32
  let c3_i32_224 : BitVec 32 := 3#32
  let v360 : BitVec 32 := Scalar.addi v124 c3_i32_224
  let v362 : Index := Scalar.indexCast v360
  let c64_226 : Index := 64#32
  ![1, v362.toNat, 64]
def k0_off180 (k0_t2 : Fin k0_t2_loop.trips) : Fin 3 → Nat :=
  let c1_i32_229 : BitVec 32 := 1#32
  let v372 : Index := Scalar.indexCast c1_i32_229
  let c0_i32_50 : BitVec 32 := 0#32
  let c1_i32_52 : BitVec 32 := 1#32
  let arg12 : BitVec 32 := Scf.iv c0_i32_50 c1_i32_52 k0_t2
  let c16_i32 : BitVec 32 := 16#32
  let v124 : BitVec 32 := Scalar.muli arg12 c16_i32
  let c3_i32_228 : BitVec 32 := 3#32
  let v371 : BitVec 32 := Scalar.addi v124 c3_i32_228
  let v373 : Index := Scalar.indexCast v371
  let c16_230 : Index := 16#32
  ![1, v373.toNat, 16]
def k0_off181 (k0_t2 : Fin k0_t2_loop.trips) : Fin 3 → Nat :=
  let c1_i32_232 : BitVec 32 := 1#32
  let v378 : Index := Scalar.indexCast c1_i32_232
  let c0_i32_50 : BitVec 32 := 0#32
  let c1_i32_52 : BitVec 32 := 1#32
  let arg12 : BitVec 32 := Scf.iv c0_i32_50 c1_i32_52 k0_t2
  let c16_i32 : BitVec 32 := 16#32
  let v124 : BitVec 32 := Scalar.muli arg12 c16_i32
  let c3_i32_231 : BitVec 32 := 3#32
  let v377 : BitVec 32 := Scalar.addi v124 c3_i32_231
  let v379 : Index := Scalar.indexCast v377
  let c80_233 : Index := 80#32
  ![1, v379.toNat, 80]
def k0_off182 (k0_t2 : Fin k0_t2_loop.trips) : Fin 3 → Nat :=
  let c1_i32_236 : BitVec 32 := 1#32
  let v389 : Index := Scalar.indexCast c1_i32_236
  let c0_i32_50 : BitVec 32 := 0#32
  let c1_i32_52 : BitVec 32 := 1#32
  let arg12 : BitVec 32 := Scf.iv c0_i32_50 c1_i32_52 k0_t2
  let c16_i32 : BitVec 32 := 16#32
  let v124 : BitVec 32 := Scalar.muli arg12 c16_i32
  let c3_i32_235 : BitVec 32 := 3#32
  let v388 : BitVec 32 := Scalar.addi v124 c3_i32_235
  let v390 : Index := Scalar.indexCast v388
  let c32_237 : Index := 32#32
  ![1, v390.toNat, 32]
def k0_off183 (k0_t2 : Fin k0_t2_loop.trips) : Fin 3 → Nat :=
  let c1_i32_239 : BitVec 32 := 1#32
  let v395 : Index := Scalar.indexCast c1_i32_239
  let c0_i32_50 : BitVec 32 := 0#32
  let c1_i32_52 : BitVec 32 := 1#32
  let arg12 : BitVec 32 := Scf.iv c0_i32_50 c1_i32_52 k0_t2
  let c16_i32 : BitVec 32 := 16#32
  let v124 : BitVec 32 := Scalar.muli arg12 c16_i32
  let c3_i32_238 : BitVec 32 := 3#32
  let v394 : BitVec 32 := Scalar.addi v124 c3_i32_238
  let v396 : Index := Scalar.indexCast v394
  let c96_240 : Index := 96#32
  ![1, v396.toNat, 96]
def k0_off184 (k0_t2 : Fin k0_t2_loop.trips) : Fin 3 → Nat :=
  let c1_i32_243 : BitVec 32 := 1#32
  let v406 : Index := Scalar.indexCast c1_i32_243
  let c0_i32_50 : BitVec 32 := 0#32
  let c1_i32_52 : BitVec 32 := 1#32
  let arg12 : BitVec 32 := Scf.iv c0_i32_50 c1_i32_52 k0_t2
  let c16_i32 : BitVec 32 := 16#32
  let v124 : BitVec 32 := Scalar.muli arg12 c16_i32
  let c3_i32_242 : BitVec 32 := 3#32
  let v405 : BitVec 32 := Scalar.addi v124 c3_i32_242
  let v407 : Index := Scalar.indexCast v405
  let c48_244 : Index := 48#32
  ![1, v407.toNat, 48]
def k0_off185 (k0_t2 : Fin k0_t2_loop.trips) : Fin 3 → Nat :=
  let c1_i32_246 : BitVec 32 := 1#32
  let v412 : Index := Scalar.indexCast c1_i32_246
  let c0_i32_50 : BitVec 32 := 0#32
  let c1_i32_52 : BitVec 32 := 1#32
  let arg12 : BitVec 32 := Scf.iv c0_i32_50 c1_i32_52 k0_t2
  let c16_i32 : BitVec 32 := 16#32
  let v124 : BitVec 32 := Scalar.muli arg12 c16_i32
  let c3_i32_245 : BitVec 32 := 3#32
  let v411 : BitVec 32 := Scalar.addi v124 c3_i32_245
  let v413 : Index := Scalar.indexCast v411
  let c112_247 : Index := 112#32
  ![1, v413.toNat, 112]
def k0_off186 (k0_t2 : Fin k0_t2_loop.trips) (v418 : BitVec 32) (c0_i32_249 : BitVec 32) : Fin 2 → Nat :=
  let c128_i32_248 : BitVec 32 := 128#32
  let c0_i32_50 : BitVec 32 := 0#32
  let c1_i32_52 : BitVec 32 := 1#32
  let arg12 : BitVec 32 := Scf.iv c0_i32_50 c1_i32_52 k0_t2
  let c16_i32 : BitVec 32 := 16#32
  let v124 : BitVec 32 := Scalar.muli arg12 c16_i32
  let v419 : BitVec 32 := Scalar.addi c128_i32_248 v124
  let c4_i32 : BitVec 32 := 4#32
  let v420 : BitVec 32 := Scalar.addi v419 c4_i32
  let v422 : Index := Scalar.indexCast v420
  let v421 : BitVec 32 := Scalar.addi v418 c0_i32_249
  let v423 : Index := Scalar.indexCast v421
  ![v422.toNat, v423.toNat]

def k0_chk21 (k0_t2 : Fin k0_t2_loop.trips) (v418 : BitVec 32) : Prop :=
  (∀ (r : Fin 4), ∀ a, (k0_off186 k0_t2 v418 (BitVec.ofNat 32 (16 * r.val))) a + S1x16.size a ≤ S512x128.size a)
theorem k0_off186_inb : ∀ (k0_t2 : Fin k0_t2_loop.trips) (v418 : BitVec 32) (k0_hw21 : k0_chk21 k0_t2 v418), ∀ (r : Fin 4), ∀ a, (k0_off186 k0_t2 v418 (BitVec.ofNat 32 (16 * r.val))) a + S1x16.size a ≤ S512x128.size a := fun k0_t2 v418 k0_hw21 r => k0_hw21 r

def k0_off187 (k0_t2 : Fin k0_t2_loop.trips) : Fin 3 → Nat :=
  let c1_i32_251 : BitVec 32 := 1#32
  let v427 : Index := Scalar.indexCast c1_i32_251
  let c0_i32_50 : BitVec 32 := 0#32
  let c1_i32_52 : BitVec 32 := 1#32
  let arg12 : BitVec 32 := Scf.iv c0_i32_50 c1_i32_52 k0_t2
  let c16_i32 : BitVec 32 := 16#32
  let v124 : BitVec 32 := Scalar.muli arg12 c16_i32
  let c4_i32_250 : BitVec 32 := 4#32
  let v426 : BitVec 32 := Scalar.addi v124 c4_i32_250
  let v428 : Index := Scalar.indexCast v426
  let c0_252 : Index := 0#32
  ![1, v428.toNat, 0]
def k0_off188 (k0_t2 : Fin k0_t2_loop.trips) : Fin 3 → Nat :=
  let c1_i32_254 : BitVec 32 := 1#32
  let v433 : Index := Scalar.indexCast c1_i32_254
  let c0_i32_50 : BitVec 32 := 0#32
  let c1_i32_52 : BitVec 32 := 1#32
  let arg12 : BitVec 32 := Scf.iv c0_i32_50 c1_i32_52 k0_t2
  let c16_i32 : BitVec 32 := 16#32
  let v124 : BitVec 32 := Scalar.muli arg12 c16_i32
  let c4_i32_253 : BitVec 32 := 4#32
  let v432 : BitVec 32 := Scalar.addi v124 c4_i32_253
  let v434 : Index := Scalar.indexCast v432
  let c64_255 : Index := 64#32
  ![1, v434.toNat, 64]
def k0_off189 (k0_t2 : Fin k0_t2_loop.trips) : Fin 3 → Nat :=
  let c1_i32_258 : BitVec 32 := 1#32
  let v444 : Index := Scalar.indexCast c1_i32_258
  let c0_i32_50 : BitVec 32 := 0#32
  let c1_i32_52 : BitVec 32 := 1#32
  let arg12 : BitVec 32 := Scf.iv c0_i32_50 c1_i32_52 k0_t2
  let c16_i32 : BitVec 32 := 16#32
  let v124 : BitVec 32 := Scalar.muli arg12 c16_i32
  let c4_i32_257 : BitVec 32 := 4#32
  let v443 : BitVec 32 := Scalar.addi v124 c4_i32_257
  let v445 : Index := Scalar.indexCast v443
  let c16_259 : Index := 16#32
  ![1, v445.toNat, 16]
def k0_off190 (k0_t2 : Fin k0_t2_loop.trips) : Fin 3 → Nat :=
  let c1_i32_261 : BitVec 32 := 1#32
  let v450 : Index := Scalar.indexCast c1_i32_261
  let c0_i32_50 : BitVec 32 := 0#32
  let c1_i32_52 : BitVec 32 := 1#32
  let arg12 : BitVec 32 := Scf.iv c0_i32_50 c1_i32_52 k0_t2
  let c16_i32 : BitVec 32 := 16#32
  let v124 : BitVec 32 := Scalar.muli arg12 c16_i32
  let c4_i32_260 : BitVec 32 := 4#32
  let v449 : BitVec 32 := Scalar.addi v124 c4_i32_260
  let v451 : Index := Scalar.indexCast v449
  let c80_262 : Index := 80#32
  ![1, v451.toNat, 80]
def k0_off191 (k0_t2 : Fin k0_t2_loop.trips) : Fin 3 → Nat :=
  let c1_i32_265 : BitVec 32 := 1#32
  let v461 : Index := Scalar.indexCast c1_i32_265
  let c0_i32_50 : BitVec 32 := 0#32
  let c1_i32_52 : BitVec 32 := 1#32
  let arg12 : BitVec 32 := Scf.iv c0_i32_50 c1_i32_52 k0_t2
  let c16_i32 : BitVec 32 := 16#32
  let v124 : BitVec 32 := Scalar.muli arg12 c16_i32
  let c4_i32_264 : BitVec 32 := 4#32
  let v460 : BitVec 32 := Scalar.addi v124 c4_i32_264
  let v462 : Index := Scalar.indexCast v460
  let c32_266 : Index := 32#32
  ![1, v462.toNat, 32]
def k0_off192 (k0_t2 : Fin k0_t2_loop.trips) : Fin 3 → Nat :=
  let c1_i32_268 : BitVec 32 := 1#32
  let v467 : Index := Scalar.indexCast c1_i32_268
  let c0_i32_50 : BitVec 32 := 0#32
  let c1_i32_52 : BitVec 32 := 1#32
  let arg12 : BitVec 32 := Scf.iv c0_i32_50 c1_i32_52 k0_t2
  let c16_i32 : BitVec 32 := 16#32
  let v124 : BitVec 32 := Scalar.muli arg12 c16_i32
  let c4_i32_267 : BitVec 32 := 4#32
  let v466 : BitVec 32 := Scalar.addi v124 c4_i32_267
  let v468 : Index := Scalar.indexCast v466
  let c96_269 : Index := 96#32
  ![1, v468.toNat, 96]
def k0_off193 (k0_t2 : Fin k0_t2_loop.trips) : Fin 3 → Nat :=
  let c1_i32_272 : BitVec 32 := 1#32
  let v478 : Index := Scalar.indexCast c1_i32_272
  let c0_i32_50 : BitVec 32 := 0#32
  let c1_i32_52 : BitVec 32 := 1#32
  let arg12 : BitVec 32 := Scf.iv c0_i32_50 c1_i32_52 k0_t2
  let c16_i32 : BitVec 32 := 16#32
  let v124 : BitVec 32 := Scalar.muli arg12 c16_i32
  let c4_i32_271 : BitVec 32 := 4#32
  let v477 : BitVec 32 := Scalar.addi v124 c4_i32_271
  let v479 : Index := Scalar.indexCast v477
  let c48_273 : Index := 48#32
  ![1, v479.toNat, 48]
def k0_off194 (k0_t2 : Fin k0_t2_loop.trips) : Fin 3 → Nat :=
  let c1_i32_275 : BitVec 32 := 1#32
  let v484 : Index := Scalar.indexCast c1_i32_275
  let c0_i32_50 : BitVec 32 := 0#32
  let c1_i32_52 : BitVec 32 := 1#32
  let arg12 : BitVec 32 := Scf.iv c0_i32_50 c1_i32_52 k0_t2
  let c16_i32 : BitVec 32 := 16#32
  let v124 : BitVec 32 := Scalar.muli arg12 c16_i32
  let c4_i32_274 : BitVec 32 := 4#32
  let v483 : BitVec 32 := Scalar.addi v124 c4_i32_274
  let v485 : Index := Scalar.indexCast v483
  let c112_276 : Index := 112#32
  ![1, v485.toNat, 112]
def k0_off195 (k0_t2 : Fin k0_t2_loop.trips) (v490 : BitVec 32) (c0_i32_278 : BitVec 32) : Fin 2 → Nat :=
  let c128_i32_277 : BitVec 32 := 128#32
  let c0_i32_50 : BitVec 32 := 0#32
  let c1_i32_52 : BitVec 32 := 1#32
  let arg12 : BitVec 32 := Scf.iv c0_i32_50 c1_i32_52 k0_t2
  let c16_i32 : BitVec 32 := 16#32
  let v124 : BitVec 32 := Scalar.muli arg12 c16_i32
  let v491 : BitVec 32 := Scalar.addi c128_i32_277 v124
  let c5_i32 : BitVec 32 := 5#32
  let v492 : BitVec 32 := Scalar.addi v491 c5_i32
  let v494 : Index := Scalar.indexCast v492
  let v493 : BitVec 32 := Scalar.addi v490 c0_i32_278
  let v495 : Index := Scalar.indexCast v493
  ![v494.toNat, v495.toNat]

def k0_chk22 (k0_t2 : Fin k0_t2_loop.trips) (v490 : BitVec 32) : Prop :=
  (∀ (r : Fin 4), ∀ a, (k0_off195 k0_t2 v490 (BitVec.ofNat 32 (16 * r.val))) a + S1x16.size a ≤ S512x128.size a)
theorem k0_off195_inb : ∀ (k0_t2 : Fin k0_t2_loop.trips) (v490 : BitVec 32) (k0_hw22 : k0_chk22 k0_t2 v490), ∀ (r : Fin 4), ∀ a, (k0_off195 k0_t2 v490 (BitVec.ofNat 32 (16 * r.val))) a + S1x16.size a ≤ S512x128.size a := fun k0_t2 v490 k0_hw22 r => k0_hw22 r

def k0_off196 (k0_t2 : Fin k0_t2_loop.trips) : Fin 3 → Nat :=
  let c1_i32_280 : BitVec 32 := 1#32
  let v499 : Index := Scalar.indexCast c1_i32_280
  let c0_i32_50 : BitVec 32 := 0#32
  let c1_i32_52 : BitVec 32 := 1#32
  let arg12 : BitVec 32 := Scf.iv c0_i32_50 c1_i32_52 k0_t2
  let c16_i32 : BitVec 32 := 16#32
  let v124 : BitVec 32 := Scalar.muli arg12 c16_i32
  let c5_i32_279 : BitVec 32 := 5#32
  let v498 : BitVec 32 := Scalar.addi v124 c5_i32_279
  let v500 : Index := Scalar.indexCast v498
  let c0_281 : Index := 0#32
  ![1, v500.toNat, 0]
def k0_off197 (k0_t2 : Fin k0_t2_loop.trips) : Fin 3 → Nat :=
  let c1_i32_283 : BitVec 32 := 1#32
  let v505 : Index := Scalar.indexCast c1_i32_283
  let c0_i32_50 : BitVec 32 := 0#32
  let c1_i32_52 : BitVec 32 := 1#32
  let arg12 : BitVec 32 := Scf.iv c0_i32_50 c1_i32_52 k0_t2
  let c16_i32 : BitVec 32 := 16#32
  let v124 : BitVec 32 := Scalar.muli arg12 c16_i32
  let c5_i32_282 : BitVec 32 := 5#32
  let v504 : BitVec 32 := Scalar.addi v124 c5_i32_282
  let v506 : Index := Scalar.indexCast v504
  let c64_284 : Index := 64#32
  ![1, v506.toNat, 64]
def k0_off198 (k0_t2 : Fin k0_t2_loop.trips) : Fin 3 → Nat :=
  let c1_i32_287 : BitVec 32 := 1#32
  let v516 : Index := Scalar.indexCast c1_i32_287
  let c0_i32_50 : BitVec 32 := 0#32
  let c1_i32_52 : BitVec 32 := 1#32
  let arg12 : BitVec 32 := Scf.iv c0_i32_50 c1_i32_52 k0_t2
  let c16_i32 : BitVec 32 := 16#32
  let v124 : BitVec 32 := Scalar.muli arg12 c16_i32
  let c5_i32_286 : BitVec 32 := 5#32
  let v515 : BitVec 32 := Scalar.addi v124 c5_i32_286
  let v517 : Index := Scalar.indexCast v515
  let c16_288 : Index := 16#32
  ![1, v517.toNat, 16]
def k0_off199 (k0_t2 : Fin k0_t2_loop.trips) : Fin 3 → Nat :=
  let c1_i32_290 : BitVec 32 := 1#32
  let v522 : Index := Scalar.indexCast c1_i32_290
  let c0_i32_50 : BitVec 32 := 0#32
  let c1_i32_52 : BitVec 32 := 1#32
  let arg12 : BitVec 32 := Scf.iv c0_i32_50 c1_i32_52 k0_t2
  let c16_i32 : BitVec 32 := 16#32
  let v124 : BitVec 32 := Scalar.muli arg12 c16_i32
  let c5_i32_289 : BitVec 32 := 5#32
  let v521 : BitVec 32 := Scalar.addi v124 c5_i32_289
  let v523 : Index := Scalar.indexCast v521
  let c80_291 : Index := 80#32
  ![1, v523.toNat, 80]
def k0_off200 (k0_t2 : Fin k0_t2_loop.trips) : Fin 3 → Nat :=
  let c1_i32_294 : BitVec 32 := 1#32
  let v533 : Index := Scalar.indexCast c1_i32_294
  let c0_i32_50 : BitVec 32 := 0#32
  let c1_i32_52 : BitVec 32 := 1#32
  let arg12 : BitVec 32 := Scf.iv c0_i32_50 c1_i32_52 k0_t2
  let c16_i32 : BitVec 32 := 16#32
  let v124 : BitVec 32 := Scalar.muli arg12 c16_i32
  let c5_i32_293 : BitVec 32 := 5#32
  let v532 : BitVec 32 := Scalar.addi v124 c5_i32_293
  let v534 : Index := Scalar.indexCast v532
  let c32_295 : Index := 32#32
  ![1, v534.toNat, 32]
def k0_off201 (k0_t2 : Fin k0_t2_loop.trips) : Fin 3 → Nat :=
  let c1_i32_297 : BitVec 32 := 1#32
  let v539 : Index := Scalar.indexCast c1_i32_297
  let c0_i32_50 : BitVec 32 := 0#32
  let c1_i32_52 : BitVec 32 := 1#32
  let arg12 : BitVec 32 := Scf.iv c0_i32_50 c1_i32_52 k0_t2
  let c16_i32 : BitVec 32 := 16#32
  let v124 : BitVec 32 := Scalar.muli arg12 c16_i32
  let c5_i32_296 : BitVec 32 := 5#32
  let v538 : BitVec 32 := Scalar.addi v124 c5_i32_296
  let v540 : Index := Scalar.indexCast v538
  let c96_298 : Index := 96#32
  ![1, v540.toNat, 96]
def k0_off202 (k0_t2 : Fin k0_t2_loop.trips) : Fin 3 → Nat :=
  let c1_i32_301 : BitVec 32 := 1#32
  let v550 : Index := Scalar.indexCast c1_i32_301
  let c0_i32_50 : BitVec 32 := 0#32
  let c1_i32_52 : BitVec 32 := 1#32
  let arg12 : BitVec 32 := Scf.iv c0_i32_50 c1_i32_52 k0_t2
  let c16_i32 : BitVec 32 := 16#32
  let v124 : BitVec 32 := Scalar.muli arg12 c16_i32
  let c5_i32_300 : BitVec 32 := 5#32
  let v549 : BitVec 32 := Scalar.addi v124 c5_i32_300
  let v551 : Index := Scalar.indexCast v549
  let c48_302 : Index := 48#32
  ![1, v551.toNat, 48]
def k0_off203 (k0_t2 : Fin k0_t2_loop.trips) : Fin 3 → Nat :=
  let c1_i32_304 : BitVec 32 := 1#32
  let v556 : Index := Scalar.indexCast c1_i32_304
  let c0_i32_50 : BitVec 32 := 0#32
  let c1_i32_52 : BitVec 32 := 1#32
  let arg12 : BitVec 32 := Scf.iv c0_i32_50 c1_i32_52 k0_t2
  let c16_i32 : BitVec 32 := 16#32
  let v124 : BitVec 32 := Scalar.muli arg12 c16_i32
  let c5_i32_303 : BitVec 32 := 5#32
  let v555 : BitVec 32 := Scalar.addi v124 c5_i32_303
  let v557 : Index := Scalar.indexCast v555
  let c112_305 : Index := 112#32
  ![1, v557.toNat, 112]
def k0_off204 (k0_t2 : Fin k0_t2_loop.trips) (v562 : BitVec 32) (c0_i32_307 : BitVec 32) : Fin 2 → Nat :=
  let c128_i32_306 : BitVec 32 := 128#32
  let c0_i32_50 : BitVec 32 := 0#32
  let c1_i32_52 : BitVec 32 := 1#32
  let arg12 : BitVec 32 := Scf.iv c0_i32_50 c1_i32_52 k0_t2
  let c16_i32 : BitVec 32 := 16#32
  let v124 : BitVec 32 := Scalar.muli arg12 c16_i32
  let v563 : BitVec 32 := Scalar.addi c128_i32_306 v124
  let c6_i32 : BitVec 32 := 6#32
  let v564 : BitVec 32 := Scalar.addi v563 c6_i32
  let v566 : Index := Scalar.indexCast v564
  let v565 : BitVec 32 := Scalar.addi v562 c0_i32_307
  let v567 : Index := Scalar.indexCast v565
  ![v566.toNat, v567.toNat]

def k0_chk23 (k0_t2 : Fin k0_t2_loop.trips) (v562 : BitVec 32) : Prop :=
  (∀ (r : Fin 4), ∀ a, (k0_off204 k0_t2 v562 (BitVec.ofNat 32 (16 * r.val))) a + S1x16.size a ≤ S512x128.size a)
theorem k0_off204_inb : ∀ (k0_t2 : Fin k0_t2_loop.trips) (v562 : BitVec 32) (k0_hw23 : k0_chk23 k0_t2 v562), ∀ (r : Fin 4), ∀ a, (k0_off204 k0_t2 v562 (BitVec.ofNat 32 (16 * r.val))) a + S1x16.size a ≤ S512x128.size a := fun k0_t2 v562 k0_hw23 r => k0_hw23 r

def k0_off205 (k0_t2 : Fin k0_t2_loop.trips) : Fin 3 → Nat :=
  let c1_i32_309 : BitVec 32 := 1#32
  let v571 : Index := Scalar.indexCast c1_i32_309
  let c0_i32_50 : BitVec 32 := 0#32
  let c1_i32_52 : BitVec 32 := 1#32
  let arg12 : BitVec 32 := Scf.iv c0_i32_50 c1_i32_52 k0_t2
  let c16_i32 : BitVec 32 := 16#32
  let v124 : BitVec 32 := Scalar.muli arg12 c16_i32
  let c6_i32_308 : BitVec 32 := 6#32
  let v570 : BitVec 32 := Scalar.addi v124 c6_i32_308
  let v572 : Index := Scalar.indexCast v570
  let c0_310 : Index := 0#32
  ![1, v572.toNat, 0]
def k0_off206 (k0_t2 : Fin k0_t2_loop.trips) : Fin 3 → Nat :=
  let c1_i32_312 : BitVec 32 := 1#32
  let v577 : Index := Scalar.indexCast c1_i32_312
  let c0_i32_50 : BitVec 32 := 0#32
  let c1_i32_52 : BitVec 32 := 1#32
  let arg12 : BitVec 32 := Scf.iv c0_i32_50 c1_i32_52 k0_t2
  let c16_i32 : BitVec 32 := 16#32
  let v124 : BitVec 32 := Scalar.muli arg12 c16_i32
  let c6_i32_311 : BitVec 32 := 6#32
  let v576 : BitVec 32 := Scalar.addi v124 c6_i32_311
  let v578 : Index := Scalar.indexCast v576
  let c64_313 : Index := 64#32
  ![1, v578.toNat, 64]
def k0_off207 (k0_t2 : Fin k0_t2_loop.trips) : Fin 3 → Nat :=
  let c1_i32_316 : BitVec 32 := 1#32
  let v588 : Index := Scalar.indexCast c1_i32_316
  let c0_i32_50 : BitVec 32 := 0#32
  let c1_i32_52 : BitVec 32 := 1#32
  let arg12 : BitVec 32 := Scf.iv c0_i32_50 c1_i32_52 k0_t2
  let c16_i32 : BitVec 32 := 16#32
  let v124 : BitVec 32 := Scalar.muli arg12 c16_i32
  let c6_i32_315 : BitVec 32 := 6#32
  let v587 : BitVec 32 := Scalar.addi v124 c6_i32_315
  let v589 : Index := Scalar.indexCast v587
  let c16_317 : Index := 16#32
  ![1, v589.toNat, 16]
def k0_off208 (k0_t2 : Fin k0_t2_loop.trips) : Fin 3 → Nat :=
  let c1_i32_319 : BitVec 32 := 1#32
  let v594 : Index := Scalar.indexCast c1_i32_319
  let c0_i32_50 : BitVec 32 := 0#32
  let c1_i32_52 : BitVec 32 := 1#32
  let arg12 : BitVec 32 := Scf.iv c0_i32_50 c1_i32_52 k0_t2
  let c16_i32 : BitVec 32 := 16#32
  let v124 : BitVec 32 := Scalar.muli arg12 c16_i32
  let c6_i32_318 : BitVec 32 := 6#32
  let v593 : BitVec 32 := Scalar.addi v124 c6_i32_318
  let v595 : Index := Scalar.indexCast v593
  let c80_320 : Index := 80#32
  ![1, v595.toNat, 80]
def k0_off209 (k0_t2 : Fin k0_t2_loop.trips) : Fin 3 → Nat :=
  let c1_i32_323 : BitVec 32 := 1#32
  let v605 : Index := Scalar.indexCast c1_i32_323
  let c0_i32_50 : BitVec 32 := 0#32
  let c1_i32_52 : BitVec 32 := 1#32
  let arg12 : BitVec 32 := Scf.iv c0_i32_50 c1_i32_52 k0_t2
  let c16_i32 : BitVec 32 := 16#32
  let v124 : BitVec 32 := Scalar.muli arg12 c16_i32
  let c6_i32_322 : BitVec 32 := 6#32
  let v604 : BitVec 32 := Scalar.addi v124 c6_i32_322
  let v606 : Index := Scalar.indexCast v604
  let c32_324 : Index := 32#32
  ![1, v606.toNat, 32]
def k0_off210 (k0_t2 : Fin k0_t2_loop.trips) : Fin 3 → Nat :=
  let c1_i32_326 : BitVec 32 := 1#32
  let v611 : Index := Scalar.indexCast c1_i32_326
  let c0_i32_50 : BitVec 32 := 0#32
  let c1_i32_52 : BitVec 32 := 1#32
  let arg12 : BitVec 32 := Scf.iv c0_i32_50 c1_i32_52 k0_t2
  let c16_i32 : BitVec 32 := 16#32
  let v124 : BitVec 32 := Scalar.muli arg12 c16_i32
  let c6_i32_325 : BitVec 32 := 6#32
  let v610 : BitVec 32 := Scalar.addi v124 c6_i32_325
  let v612 : Index := Scalar.indexCast v610
  let c96_327 : Index := 96#32
  ![1, v612.toNat, 96]
def k0_off211 (k0_t2 : Fin k0_t2_loop.trips) : Fin 3 → Nat :=
  let c1_i32_330 : BitVec 32 := 1#32
  let v622 : Index := Scalar.indexCast c1_i32_330
  let c0_i32_50 : BitVec 32 := 0#32
  let c1_i32_52 : BitVec 32 := 1#32
  let arg12 : BitVec 32 := Scf.iv c0_i32_50 c1_i32_52 k0_t2
  let c16_i32 : BitVec 32 := 16#32
  let v124 : BitVec 32 := Scalar.muli arg12 c16_i32
  let c6_i32_329 : BitVec 32 := 6#32
  let v621 : BitVec 32 := Scalar.addi v124 c6_i32_329
  let v623 : Index := Scalar.indexCast v621
  let c48_331 : Index := 48#32
  ![1, v623.toNat, 48]
def k0_off212 (k0_t2 : Fin k0_t2_loop.trips) : Fin 3 → Nat :=
  let c1_i32_333 : BitVec 32 := 1#32
  let v628 : Index := Scalar.indexCast c1_i32_333
  let c0_i32_50 : BitVec 32 := 0#32
  let c1_i32_52 : BitVec 32 := 1#32
  let arg12 : BitVec 32 := Scf.iv c0_i32_50 c1_i32_52 k0_t2
  let c16_i32 : BitVec 32 := 16#32
  let v124 : BitVec 32 := Scalar.muli arg12 c16_i32
  let c6_i32_332 : BitVec 32 := 6#32
  let v627 : BitVec 32 := Scalar.addi v124 c6_i32_332
  let v629 : Index := Scalar.indexCast v627
  let c112_334 : Index := 112#32
  ![1, v629.toNat, 112]
def k0_off213 (k0_t2 : Fin k0_t2_loop.trips) (v634 : BitVec 32) (c0_i32_336 : BitVec 32) : Fin 2 → Nat :=
  let c128_i32_335 : BitVec 32 := 128#32
  let c0_i32_50 : BitVec 32 := 0#32
  let c1_i32_52 : BitVec 32 := 1#32
  let arg12 : BitVec 32 := Scf.iv c0_i32_50 c1_i32_52 k0_t2
  let c16_i32 : BitVec 32 := 16#32
  let v124 : BitVec 32 := Scalar.muli arg12 c16_i32
  let v635 : BitVec 32 := Scalar.addi c128_i32_335 v124
  let c7_i32 : BitVec 32 := 7#32
  let v636 : BitVec 32 := Scalar.addi v635 c7_i32
  let v638 : Index := Scalar.indexCast v636
  let v637 : BitVec 32 := Scalar.addi v634 c0_i32_336
  let v639 : Index := Scalar.indexCast v637
  ![v638.toNat, v639.toNat]

def k0_chk24 (k0_t2 : Fin k0_t2_loop.trips) (v634 : BitVec 32) : Prop :=
  (∀ (r : Fin 4), ∀ a, (k0_off213 k0_t2 v634 (BitVec.ofNat 32 (16 * r.val))) a + S1x16.size a ≤ S512x128.size a)
theorem k0_off213_inb : ∀ (k0_t2 : Fin k0_t2_loop.trips) (v634 : BitVec 32) (k0_hw24 : k0_chk24 k0_t2 v634), ∀ (r : Fin 4), ∀ a, (k0_off213 k0_t2 v634 (BitVec.ofNat 32 (16 * r.val))) a + S1x16.size a ≤ S512x128.size a := fun k0_t2 v634 k0_hw24 r => k0_hw24 r

def k0_off214 (k0_t2 : Fin k0_t2_loop.trips) : Fin 3 → Nat :=
  let c1_i32_338 : BitVec 32 := 1#32
  let v643 : Index := Scalar.indexCast c1_i32_338
  let c0_i32_50 : BitVec 32 := 0#32
  let c1_i32_52 : BitVec 32 := 1#32
  let arg12 : BitVec 32 := Scf.iv c0_i32_50 c1_i32_52 k0_t2
  let c16_i32 : BitVec 32 := 16#32
  let v124 : BitVec 32 := Scalar.muli arg12 c16_i32
  let c7_i32_337 : BitVec 32 := 7#32
  let v642 : BitVec 32 := Scalar.addi v124 c7_i32_337
  let v644 : Index := Scalar.indexCast v642
  let c0_339 : Index := 0#32
  ![1, v644.toNat, 0]
def k0_off215 (k0_t2 : Fin k0_t2_loop.trips) : Fin 3 → Nat :=
  let c1_i32_341 : BitVec 32 := 1#32
  let v649 : Index := Scalar.indexCast c1_i32_341
  let c0_i32_50 : BitVec 32 := 0#32
  let c1_i32_52 : BitVec 32 := 1#32
  let arg12 : BitVec 32 := Scf.iv c0_i32_50 c1_i32_52 k0_t2
  let c16_i32 : BitVec 32 := 16#32
  let v124 : BitVec 32 := Scalar.muli arg12 c16_i32
  let c7_i32_340 : BitVec 32 := 7#32
  let v648 : BitVec 32 := Scalar.addi v124 c7_i32_340
  let v650 : Index := Scalar.indexCast v648
  let c64_342 : Index := 64#32
  ![1, v650.toNat, 64]
def k0_off216 (k0_t2 : Fin k0_t2_loop.trips) : Fin 3 → Nat :=
  let c1_i32_345 : BitVec 32 := 1#32
  let v660 : Index := Scalar.indexCast c1_i32_345
  let c0_i32_50 : BitVec 32 := 0#32
  let c1_i32_52 : BitVec 32 := 1#32
  let arg12 : BitVec 32 := Scf.iv c0_i32_50 c1_i32_52 k0_t2
  let c16_i32 : BitVec 32 := 16#32
  let v124 : BitVec 32 := Scalar.muli arg12 c16_i32
  let c7_i32_344 : BitVec 32 := 7#32
  let v659 : BitVec 32 := Scalar.addi v124 c7_i32_344
  let v661 : Index := Scalar.indexCast v659
  let c16_346 : Index := 16#32
  ![1, v661.toNat, 16]
def k0_off217 (k0_t2 : Fin k0_t2_loop.trips) : Fin 3 → Nat :=
  let c1_i32_348 : BitVec 32 := 1#32
  let v666 : Index := Scalar.indexCast c1_i32_348
  let c0_i32_50 : BitVec 32 := 0#32
  let c1_i32_52 : BitVec 32 := 1#32
  let arg12 : BitVec 32 := Scf.iv c0_i32_50 c1_i32_52 k0_t2
  let c16_i32 : BitVec 32 := 16#32
  let v124 : BitVec 32 := Scalar.muli arg12 c16_i32
  let c7_i32_347 : BitVec 32 := 7#32
  let v665 : BitVec 32 := Scalar.addi v124 c7_i32_347
  let v667 : Index := Scalar.indexCast v665
  let c80_349 : Index := 80#32
  ![1, v667.toNat, 80]
def k0_off218 (k0_t2 : Fin k0_t2_loop.trips) : Fin 3 → Nat :=
  let c1_i32_352 : BitVec 32 := 1#32
  let v677 : Index := Scalar.indexCast c1_i32_352
  let c0_i32_50 : BitVec 32 := 0#32
  let c1_i32_52 : BitVec 32 := 1#32
  let arg12 : BitVec 32 := Scf.iv c0_i32_50 c1_i32_52 k0_t2
  let c16_i32 : BitVec 32 := 16#32
  let v124 : BitVec 32 := Scalar.muli arg12 c16_i32
  let c7_i32_351 : BitVec 32 := 7#32
  let v676 : BitVec 32 := Scalar.addi v124 c7_i32_351
  let v678 : Index := Scalar.indexCast v676
  let c32_353 : Index := 32#32
  ![1, v678.toNat, 32]
def k0_off219 (k0_t2 : Fin k0_t2_loop.trips) : Fin 3 → Nat :=
  let c1_i32_355 : BitVec 32 := 1#32
  let v683 : Index := Scalar.indexCast c1_i32_355
  let c0_i32_50 : BitVec 32 := 0#32
  let c1_i32_52 : BitVec 32 := 1#32
  let arg12 : BitVec 32 := Scf.iv c0_i32_50 c1_i32_52 k0_t2
  let c16_i32 : BitVec 32 := 16#32
  let v124 : BitVec 32 := Scalar.muli arg12 c16_i32
  let c7_i32_354 : BitVec 32 := 7#32
  let v682 : BitVec 32 := Scalar.addi v124 c7_i32_354
  let v684 : Index := Scalar.indexCast v682
  let c96_356 : Index := 96#32
  ![1, v684.toNat, 96]
def k0_off220 (k0_t2 : Fin k0_t2_loop.trips) : Fin 3 → Nat :=
  let c1_i32_359 : BitVec 32 := 1#32
  let v694 : Index := Scalar.indexCast c1_i32_359
  let c0_i32_50 : BitVec 32 := 0#32
  let c1_i32_52 : BitVec 32 := 1#32
  let arg12 : BitVec 32 := Scf.iv c0_i32_50 c1_i32_52 k0_t2
  let c16_i32 : BitVec 32 := 16#32
  let v124 : BitVec 32 := Scalar.muli arg12 c16_i32
  let c7_i32_358 : BitVec 32 := 7#32
  let v693 : BitVec 32 := Scalar.addi v124 c7_i32_358
  let v695 : Index := Scalar.indexCast v693
  let c48_360 : Index := 48#32
  ![1, v695.toNat, 48]
def k0_off221 (k0_t2 : Fin k0_t2_loop.trips) : Fin 3 → Nat :=
  let c1_i32_362 : BitVec 32 := 1#32
  let v700 : Index := Scalar.indexCast c1_i32_362
  let c0_i32_50 : BitVec 32 := 0#32
  let c1_i32_52 : BitVec 32 := 1#32
  let arg12 : BitVec 32 := Scf.iv c0_i32_50 c1_i32_52 k0_t2
  let c16_i32 : BitVec 32 := 16#32
  let v124 : BitVec 32 := Scalar.muli arg12 c16_i32
  let c7_i32_361 : BitVec 32 := 7#32
  let v699 : BitVec 32 := Scalar.addi v124 c7_i32_361
  let v701 : Index := Scalar.indexCast v699
  let c112_363 : Index := 112#32
  ![1, v701.toNat, 112]
def k0_off222 (k0_t2 : Fin k0_t2_loop.trips) (v706 : BitVec 32) (c0_i32_366 : BitVec 32) : Fin 2 → Nat :=
  let c128_i32_364 : BitVec 32 := 128#32
  let c0_i32_50 : BitVec 32 := 0#32
  let c1_i32_52 : BitVec 32 := 1#32
  let arg12 : BitVec 32 := Scf.iv c0_i32_50 c1_i32_52 k0_t2
  let c16_i32 : BitVec 32 := 16#32
  let v124 : BitVec 32 := Scalar.muli arg12 c16_i32
  let v707 : BitVec 32 := Scalar.addi c128_i32_364 v124
  let c8_i32_365 : BitVec 32 := 8#32
  let v708 : BitVec 32 := Scalar.addi v707 c8_i32_365
  let v710 : Index := Scalar.indexCast v708
  let v709 : BitVec 32 := Scalar.addi v706 c0_i32_366
  let v711 : Index := Scalar.indexCast v709
  ![v710.toNat, v711.toNat]

def k0_chk25 (k0_t2 : Fin k0_t2_loop.trips) (v706 : BitVec 32) : Prop :=
  (∀ (r : Fin 4), ∀ a, (k0_off222 k0_t2 v706 (BitVec.ofNat 32 (16 * r.val))) a + S1x16.size a ≤ S512x128.size a)
theorem k0_off222_inb : ∀ (k0_t2 : Fin k0_t2_loop.trips) (v706 : BitVec 32) (k0_hw25 : k0_chk25 k0_t2 v706), ∀ (r : Fin 4), ∀ a, (k0_off222 k0_t2 v706 (BitVec.ofNat 32 (16 * r.val))) a + S1x16.size a ≤ S512x128.size a := fun k0_t2 v706 k0_hw25 r => k0_hw25 r

def k0_off223 (k0_t2 : Fin k0_t2_loop.trips) : Fin 3 → Nat :=
  let c1_i32_368 : BitVec 32 := 1#32
  let v715 : Index := Scalar.indexCast c1_i32_368
  let c0_i32_50 : BitVec 32 := 0#32
  let c1_i32_52 : BitVec 32 := 1#32
  let arg12 : BitVec 32 := Scf.iv c0_i32_50 c1_i32_52 k0_t2
  let c16_i32 : BitVec 32 := 16#32
  let v124 : BitVec 32 := Scalar.muli arg12 c16_i32
  let c8_i32_367 : BitVec 32 := 8#32
  let v714 : BitVec 32 := Scalar.addi v124 c8_i32_367
  let v716 : Index := Scalar.indexCast v714
  let c0_369 : Index := 0#32
  ![1, v716.toNat, 0]
def k0_off224 (k0_t2 : Fin k0_t2_loop.trips) : Fin 3 → Nat :=
  let c1_i32_371 : BitVec 32 := 1#32
  let v721 : Index := Scalar.indexCast c1_i32_371
  let c0_i32_50 : BitVec 32 := 0#32
  let c1_i32_52 : BitVec 32 := 1#32
  let arg12 : BitVec 32 := Scf.iv c0_i32_50 c1_i32_52 k0_t2
  let c16_i32 : BitVec 32 := 16#32
  let v124 : BitVec 32 := Scalar.muli arg12 c16_i32
  let c8_i32_370 : BitVec 32 := 8#32
  let v720 : BitVec 32 := Scalar.addi v124 c8_i32_370
  let v722 : Index := Scalar.indexCast v720
  let c64_372 : Index := 64#32
  ![1, v722.toNat, 64]
def k0_off225 (k0_t2 : Fin k0_t2_loop.trips) : Fin 3 → Nat :=
  let c1_i32_375 : BitVec 32 := 1#32
  let v732 : Index := Scalar.indexCast c1_i32_375
  let c0_i32_50 : BitVec 32 := 0#32
  let c1_i32_52 : BitVec 32 := 1#32
  let arg12 : BitVec 32 := Scf.iv c0_i32_50 c1_i32_52 k0_t2
  let c16_i32 : BitVec 32 := 16#32
  let v124 : BitVec 32 := Scalar.muli arg12 c16_i32
  let c8_i32_374 : BitVec 32 := 8#32
  let v731 : BitVec 32 := Scalar.addi v124 c8_i32_374
  let v733 : Index := Scalar.indexCast v731
  let c16_376 : Index := 16#32
  ![1, v733.toNat, 16]
def k0_off226 (k0_t2 : Fin k0_t2_loop.trips) : Fin 3 → Nat :=
  let c1_i32_378 : BitVec 32 := 1#32
  let v738 : Index := Scalar.indexCast c1_i32_378
  let c0_i32_50 : BitVec 32 := 0#32
  let c1_i32_52 : BitVec 32 := 1#32
  let arg12 : BitVec 32 := Scf.iv c0_i32_50 c1_i32_52 k0_t2
  let c16_i32 : BitVec 32 := 16#32
  let v124 : BitVec 32 := Scalar.muli arg12 c16_i32
  let c8_i32_377 : BitVec 32 := 8#32
  let v737 : BitVec 32 := Scalar.addi v124 c8_i32_377
  let v739 : Index := Scalar.indexCast v737
  let c80_379 : Index := 80#32
  ![1, v739.toNat, 80]
def k0_off227 (k0_t2 : Fin k0_t2_loop.trips) : Fin 3 → Nat :=
  let c1_i32_382 : BitVec 32 := 1#32
  let v749 : Index := Scalar.indexCast c1_i32_382
  let c0_i32_50 : BitVec 32 := 0#32
  let c1_i32_52 : BitVec 32 := 1#32
  let arg12 : BitVec 32 := Scf.iv c0_i32_50 c1_i32_52 k0_t2
  let c16_i32 : BitVec 32 := 16#32
  let v124 : BitVec 32 := Scalar.muli arg12 c16_i32
  let c8_i32_381 : BitVec 32 := 8#32
  let v748 : BitVec 32 := Scalar.addi v124 c8_i32_381
  let v750 : Index := Scalar.indexCast v748
  let c32_383 : Index := 32#32
  ![1, v750.toNat, 32]
def k0_off228 (k0_t2 : Fin k0_t2_loop.trips) : Fin 3 → Nat :=
  let c1_i32_385 : BitVec 32 := 1#32
  let v755 : Index := Scalar.indexCast c1_i32_385
  let c0_i32_50 : BitVec 32 := 0#32
  let c1_i32_52 : BitVec 32 := 1#32
  let arg12 : BitVec 32 := Scf.iv c0_i32_50 c1_i32_52 k0_t2
  let c16_i32 : BitVec 32 := 16#32
  let v124 : BitVec 32 := Scalar.muli arg12 c16_i32
  let c8_i32_384 : BitVec 32 := 8#32
  let v754 : BitVec 32 := Scalar.addi v124 c8_i32_384
  let v756 : Index := Scalar.indexCast v754
  let c96_386 : Index := 96#32
  ![1, v756.toNat, 96]
def k0_off229 (k0_t2 : Fin k0_t2_loop.trips) : Fin 3 → Nat :=
  let c1_i32_389 : BitVec 32 := 1#32
  let v766 : Index := Scalar.indexCast c1_i32_389
  let c0_i32_50 : BitVec 32 := 0#32
  let c1_i32_52 : BitVec 32 := 1#32
  let arg12 : BitVec 32 := Scf.iv c0_i32_50 c1_i32_52 k0_t2
  let c16_i32 : BitVec 32 := 16#32
  let v124 : BitVec 32 := Scalar.muli arg12 c16_i32
  let c8_i32_388 : BitVec 32 := 8#32
  let v765 : BitVec 32 := Scalar.addi v124 c8_i32_388
  let v767 : Index := Scalar.indexCast v765
  let c48_390 : Index := 48#32
  ![1, v767.toNat, 48]
def k0_off230 (k0_t2 : Fin k0_t2_loop.trips) : Fin 3 → Nat :=
  let c1_i32_392 : BitVec 32 := 1#32
  let v772 : Index := Scalar.indexCast c1_i32_392
  let c0_i32_50 : BitVec 32 := 0#32
  let c1_i32_52 : BitVec 32 := 1#32
  let arg12 : BitVec 32 := Scf.iv c0_i32_50 c1_i32_52 k0_t2
  let c16_i32 : BitVec 32 := 16#32
  let v124 : BitVec 32 := Scalar.muli arg12 c16_i32
  let c8_i32_391 : BitVec 32 := 8#32
  let v771 : BitVec 32 := Scalar.addi v124 c8_i32_391
  let v773 : Index := Scalar.indexCast v771
  let c112_393 : Index := 112#32
  ![1, v773.toNat, 112]
def k0_off231 (k0_t2 : Fin k0_t2_loop.trips) (v778 : BitVec 32) (c0_i32_395 : BitVec 32) : Fin 2 → Nat :=
  let c128_i32_394 : BitVec 32 := 128#32
  let c0_i32_50 : BitVec 32 := 0#32
  let c1_i32_52 : BitVec 32 := 1#32
  let arg12 : BitVec 32 := Scf.iv c0_i32_50 c1_i32_52 k0_t2
  let c16_i32 : BitVec 32 := 16#32
  let v124 : BitVec 32 := Scalar.muli arg12 c16_i32
  let v779 : BitVec 32 := Scalar.addi c128_i32_394 v124
  let c9_i32 : BitVec 32 := 9#32
  let v780 : BitVec 32 := Scalar.addi v779 c9_i32
  let v782 : Index := Scalar.indexCast v780
  let v781 : BitVec 32 := Scalar.addi v778 c0_i32_395
  let v783 : Index := Scalar.indexCast v781
  ![v782.toNat, v783.toNat]

def k0_chk26 (k0_t2 : Fin k0_t2_loop.trips) (v778 : BitVec 32) : Prop :=
  (∀ (r : Fin 4), ∀ a, (k0_off231 k0_t2 v778 (BitVec.ofNat 32 (16 * r.val))) a + S1x16.size a ≤ S512x128.size a)
theorem k0_off231_inb : ∀ (k0_t2 : Fin k0_t2_loop.trips) (v778 : BitVec 32) (k0_hw26 : k0_chk26 k0_t2 v778), ∀ (r : Fin 4), ∀ a, (k0_off231 k0_t2 v778 (BitVec.ofNat 32 (16 * r.val))) a + S1x16.size a ≤ S512x128.size a := fun k0_t2 v778 k0_hw26 r => k0_hw26 r

def k0_off232 (k0_t2 : Fin k0_t2_loop.trips) : Fin 3 → Nat :=
  let c1_i32_397 : BitVec 32 := 1#32
  let v787 : Index := Scalar.indexCast c1_i32_397
  let c0_i32_50 : BitVec 32 := 0#32
  let c1_i32_52 : BitVec 32 := 1#32
  let arg12 : BitVec 32 := Scf.iv c0_i32_50 c1_i32_52 k0_t2
  let c16_i32 : BitVec 32 := 16#32
  let v124 : BitVec 32 := Scalar.muli arg12 c16_i32
  let c9_i32_396 : BitVec 32 := 9#32
  let v786 : BitVec 32 := Scalar.addi v124 c9_i32_396
  let v788 : Index := Scalar.indexCast v786
  let c0_398 : Index := 0#32
  ![1, v788.toNat, 0]
def k0_off233 (k0_t2 : Fin k0_t2_loop.trips) : Fin 3 → Nat :=
  let c1_i32_400 : BitVec 32 := 1#32
  let v793 : Index := Scalar.indexCast c1_i32_400
  let c0_i32_50 : BitVec 32 := 0#32
  let c1_i32_52 : BitVec 32 := 1#32
  let arg12 : BitVec 32 := Scf.iv c0_i32_50 c1_i32_52 k0_t2
  let c16_i32 : BitVec 32 := 16#32
  let v124 : BitVec 32 := Scalar.muli arg12 c16_i32
  let c9_i32_399 : BitVec 32 := 9#32
  let v792 : BitVec 32 := Scalar.addi v124 c9_i32_399
  let v794 : Index := Scalar.indexCast v792
  let c64_401 : Index := 64#32
  ![1, v794.toNat, 64]
def k0_off234 (k0_t2 : Fin k0_t2_loop.trips) : Fin 3 → Nat :=
  let c1_i32_404 : BitVec 32 := 1#32
  let v804 : Index := Scalar.indexCast c1_i32_404
  let c0_i32_50 : BitVec 32 := 0#32
  let c1_i32_52 : BitVec 32 := 1#32
  let arg12 : BitVec 32 := Scf.iv c0_i32_50 c1_i32_52 k0_t2
  let c16_i32 : BitVec 32 := 16#32
  let v124 : BitVec 32 := Scalar.muli arg12 c16_i32
  let c9_i32_403 : BitVec 32 := 9#32
  let v803 : BitVec 32 := Scalar.addi v124 c9_i32_403
  let v805 : Index := Scalar.indexCast v803
  let c16_405 : Index := 16#32
  ![1, v805.toNat, 16]
def k0_off235 (k0_t2 : Fin k0_t2_loop.trips) : Fin 3 → Nat :=
  let c1_i32_407 : BitVec 32 := 1#32
  let v810 : Index := Scalar.indexCast c1_i32_407
  let c0_i32_50 : BitVec 32 := 0#32
  let c1_i32_52 : BitVec 32 := 1#32
  let arg12 : BitVec 32 := Scf.iv c0_i32_50 c1_i32_52 k0_t2
  let c16_i32 : BitVec 32 := 16#32
  let v124 : BitVec 32 := Scalar.muli arg12 c16_i32
  let c9_i32_406 : BitVec 32 := 9#32
  let v809 : BitVec 32 := Scalar.addi v124 c9_i32_406
  let v811 : Index := Scalar.indexCast v809
  let c80_408 : Index := 80#32
  ![1, v811.toNat, 80]
def k0_off236 (k0_t2 : Fin k0_t2_loop.trips) : Fin 3 → Nat :=
  let c1_i32_411 : BitVec 32 := 1#32
  let v821 : Index := Scalar.indexCast c1_i32_411
  let c0_i32_50 : BitVec 32 := 0#32
  let c1_i32_52 : BitVec 32 := 1#32
  let arg12 : BitVec 32 := Scf.iv c0_i32_50 c1_i32_52 k0_t2
  let c16_i32 : BitVec 32 := 16#32
  let v124 : BitVec 32 := Scalar.muli arg12 c16_i32
  let c9_i32_410 : BitVec 32 := 9#32
  let v820 : BitVec 32 := Scalar.addi v124 c9_i32_410
  let v822 : Index := Scalar.indexCast v820
  let c32_412 : Index := 32#32
  ![1, v822.toNat, 32]
def k0_off237 (k0_t2 : Fin k0_t2_loop.trips) : Fin 3 → Nat :=
  let c1_i32_414 : BitVec 32 := 1#32
  let v827 : Index := Scalar.indexCast c1_i32_414
  let c0_i32_50 : BitVec 32 := 0#32
  let c1_i32_52 : BitVec 32 := 1#32
  let arg12 : BitVec 32 := Scf.iv c0_i32_50 c1_i32_52 k0_t2
  let c16_i32 : BitVec 32 := 16#32
  let v124 : BitVec 32 := Scalar.muli arg12 c16_i32
  let c9_i32_413 : BitVec 32 := 9#32
  let v826 : BitVec 32 := Scalar.addi v124 c9_i32_413
  let v828 : Index := Scalar.indexCast v826
  let c96_415 : Index := 96#32
  ![1, v828.toNat, 96]
def k0_off238 (k0_t2 : Fin k0_t2_loop.trips) : Fin 3 → Nat :=
  let c1_i32_418 : BitVec 32 := 1#32
  let v838 : Index := Scalar.indexCast c1_i32_418
  let c0_i32_50 : BitVec 32 := 0#32
  let c1_i32_52 : BitVec 32 := 1#32
  let arg12 : BitVec 32 := Scf.iv c0_i32_50 c1_i32_52 k0_t2
  let c16_i32 : BitVec 32 := 16#32
  let v124 : BitVec 32 := Scalar.muli arg12 c16_i32
  let c9_i32_417 : BitVec 32 := 9#32
  let v837 : BitVec 32 := Scalar.addi v124 c9_i32_417
  let v839 : Index := Scalar.indexCast v837
  let c48_419 : Index := 48#32
  ![1, v839.toNat, 48]
def k0_off239 (k0_t2 : Fin k0_t2_loop.trips) : Fin 3 → Nat :=
  let c1_i32_421 : BitVec 32 := 1#32
  let v844 : Index := Scalar.indexCast c1_i32_421
  let c0_i32_50 : BitVec 32 := 0#32
  let c1_i32_52 : BitVec 32 := 1#32
  let arg12 : BitVec 32 := Scf.iv c0_i32_50 c1_i32_52 k0_t2
  let c16_i32 : BitVec 32 := 16#32
  let v124 : BitVec 32 := Scalar.muli arg12 c16_i32
  let c9_i32_420 : BitVec 32 := 9#32
  let v843 : BitVec 32 := Scalar.addi v124 c9_i32_420
  let v845 : Index := Scalar.indexCast v843
  let c112_422 : Index := 112#32
  ![1, v845.toNat, 112]
def k0_off240 (k0_t2 : Fin k0_t2_loop.trips) (v850 : BitVec 32) (c0_i32_424 : BitVec 32) : Fin 2 → Nat :=
  let c128_i32_423 : BitVec 32 := 128#32
  let c0_i32_50 : BitVec 32 := 0#32
  let c1_i32_52 : BitVec 32 := 1#32
  let arg12 : BitVec 32 := Scf.iv c0_i32_50 c1_i32_52 k0_t2
  let c16_i32 : BitVec 32 := 16#32
  let v124 : BitVec 32 := Scalar.muli arg12 c16_i32
  let v851 : BitVec 32 := Scalar.addi c128_i32_423 v124
  let c10_i32 : BitVec 32 := 10#32
  let v852 : BitVec 32 := Scalar.addi v851 c10_i32
  let v854 : Index := Scalar.indexCast v852
  let v853 : BitVec 32 := Scalar.addi v850 c0_i32_424
  let v855 : Index := Scalar.indexCast v853
  ![v854.toNat, v855.toNat]

def k0_chk27 (k0_t2 : Fin k0_t2_loop.trips) (v850 : BitVec 32) : Prop :=
  (∀ (r : Fin 4), ∀ a, (k0_off240 k0_t2 v850 (BitVec.ofNat 32 (16 * r.val))) a + S1x16.size a ≤ S512x128.size a)
theorem k0_off240_inb : ∀ (k0_t2 : Fin k0_t2_loop.trips) (v850 : BitVec 32) (k0_hw27 : k0_chk27 k0_t2 v850), ∀ (r : Fin 4), ∀ a, (k0_off240 k0_t2 v850 (BitVec.ofNat 32 (16 * r.val))) a + S1x16.size a ≤ S512x128.size a := fun k0_t2 v850 k0_hw27 r => k0_hw27 r

def k0_off241 (k0_t2 : Fin k0_t2_loop.trips) : Fin 3 → Nat :=
  let c1_i32_426 : BitVec 32 := 1#32
  let v859 : Index := Scalar.indexCast c1_i32_426
  let c0_i32_50 : BitVec 32 := 0#32
  let c1_i32_52 : BitVec 32 := 1#32
  let arg12 : BitVec 32 := Scf.iv c0_i32_50 c1_i32_52 k0_t2
  let c16_i32 : BitVec 32 := 16#32
  let v124 : BitVec 32 := Scalar.muli arg12 c16_i32
  let c10_i32_425 : BitVec 32 := 10#32
  let v858 : BitVec 32 := Scalar.addi v124 c10_i32_425
  let v860 : Index := Scalar.indexCast v858
  let c0_427 : Index := 0#32
  ![1, v860.toNat, 0]
def k0_off242 (k0_t2 : Fin k0_t2_loop.trips) : Fin 3 → Nat :=
  let c1_i32_429 : BitVec 32 := 1#32
  let v865 : Index := Scalar.indexCast c1_i32_429
  let c0_i32_50 : BitVec 32 := 0#32
  let c1_i32_52 : BitVec 32 := 1#32
  let arg12 : BitVec 32 := Scf.iv c0_i32_50 c1_i32_52 k0_t2
  let c16_i32 : BitVec 32 := 16#32
  let v124 : BitVec 32 := Scalar.muli arg12 c16_i32
  let c10_i32_428 : BitVec 32 := 10#32
  let v864 : BitVec 32 := Scalar.addi v124 c10_i32_428
  let v866 : Index := Scalar.indexCast v864
  let c64_430 : Index := 64#32
  ![1, v866.toNat, 64]
def k0_off243 (k0_t2 : Fin k0_t2_loop.trips) : Fin 3 → Nat :=
  let c1_i32_433 : BitVec 32 := 1#32
  let v876 : Index := Scalar.indexCast c1_i32_433
  let c0_i32_50 : BitVec 32 := 0#32
  let c1_i32_52 : BitVec 32 := 1#32
  let arg12 : BitVec 32 := Scf.iv c0_i32_50 c1_i32_52 k0_t2
  let c16_i32 : BitVec 32 := 16#32
  let v124 : BitVec 32 := Scalar.muli arg12 c16_i32
  let c10_i32_432 : BitVec 32 := 10#32
  let v875 : BitVec 32 := Scalar.addi v124 c10_i32_432
  let v877 : Index := Scalar.indexCast v875
  let c16_434 : Index := 16#32
  ![1, v877.toNat, 16]
def k0_off244 (k0_t2 : Fin k0_t2_loop.trips) : Fin 3 → Nat :=
  let c1_i32_436 : BitVec 32 := 1#32
  let v882 : Index := Scalar.indexCast c1_i32_436
  let c0_i32_50 : BitVec 32 := 0#32
  let c1_i32_52 : BitVec 32 := 1#32
  let arg12 : BitVec 32 := Scf.iv c0_i32_50 c1_i32_52 k0_t2
  let c16_i32 : BitVec 32 := 16#32
  let v124 : BitVec 32 := Scalar.muli arg12 c16_i32
  let c10_i32_435 : BitVec 32 := 10#32
  let v881 : BitVec 32 := Scalar.addi v124 c10_i32_435
  let v883 : Index := Scalar.indexCast v881
  let c80_437 : Index := 80#32
  ![1, v883.toNat, 80]
def k0_off245 (k0_t2 : Fin k0_t2_loop.trips) : Fin 3 → Nat :=
  let c1_i32_440 : BitVec 32 := 1#32
  let v893 : Index := Scalar.indexCast c1_i32_440
  let c0_i32_50 : BitVec 32 := 0#32
  let c1_i32_52 : BitVec 32 := 1#32
  let arg12 : BitVec 32 := Scf.iv c0_i32_50 c1_i32_52 k0_t2
  let c16_i32 : BitVec 32 := 16#32
  let v124 : BitVec 32 := Scalar.muli arg12 c16_i32
  let c10_i32_439 : BitVec 32 := 10#32
  let v892 : BitVec 32 := Scalar.addi v124 c10_i32_439
  let v894 : Index := Scalar.indexCast v892
  let c32_441 : Index := 32#32
  ![1, v894.toNat, 32]
def k0_off246 (k0_t2 : Fin k0_t2_loop.trips) : Fin 3 → Nat :=
  let c1_i32_443 : BitVec 32 := 1#32
  let v899 : Index := Scalar.indexCast c1_i32_443
  let c0_i32_50 : BitVec 32 := 0#32
  let c1_i32_52 : BitVec 32 := 1#32
  let arg12 : BitVec 32 := Scf.iv c0_i32_50 c1_i32_52 k0_t2
  let c16_i32 : BitVec 32 := 16#32
  let v124 : BitVec 32 := Scalar.muli arg12 c16_i32
  let c10_i32_442 : BitVec 32 := 10#32
  let v898 : BitVec 32 := Scalar.addi v124 c10_i32_442
  let v900 : Index := Scalar.indexCast v898
  let c96_444 : Index := 96#32
  ![1, v900.toNat, 96]
def k0_off247 (k0_t2 : Fin k0_t2_loop.trips) : Fin 3 → Nat :=
  let c1_i32_447 : BitVec 32 := 1#32
  let v910 : Index := Scalar.indexCast c1_i32_447
  let c0_i32_50 : BitVec 32 := 0#32
  let c1_i32_52 : BitVec 32 := 1#32
  let arg12 : BitVec 32 := Scf.iv c0_i32_50 c1_i32_52 k0_t2
  let c16_i32 : BitVec 32 := 16#32
  let v124 : BitVec 32 := Scalar.muli arg12 c16_i32
  let c10_i32_446 : BitVec 32 := 10#32
  let v909 : BitVec 32 := Scalar.addi v124 c10_i32_446
  let v911 : Index := Scalar.indexCast v909
  let c48_448 : Index := 48#32
  ![1, v911.toNat, 48]
def k0_off248 (k0_t2 : Fin k0_t2_loop.trips) : Fin 3 → Nat :=
  let c1_i32_450 : BitVec 32 := 1#32
  let v916 : Index := Scalar.indexCast c1_i32_450
  let c0_i32_50 : BitVec 32 := 0#32
  let c1_i32_52 : BitVec 32 := 1#32
  let arg12 : BitVec 32 := Scf.iv c0_i32_50 c1_i32_52 k0_t2
  let c16_i32 : BitVec 32 := 16#32
  let v124 : BitVec 32 := Scalar.muli arg12 c16_i32
  let c10_i32_449 : BitVec 32 := 10#32
  let v915 : BitVec 32 := Scalar.addi v124 c10_i32_449
  let v917 : Index := Scalar.indexCast v915
  let c112_451 : Index := 112#32
  ![1, v917.toNat, 112]
def k0_off249 (k0_t2 : Fin k0_t2_loop.trips) (v922 : BitVec 32) (c0_i32_453 : BitVec 32) : Fin 2 → Nat :=
  let c128_i32_452 : BitVec 32 := 128#32
  let c0_i32_50 : BitVec 32 := 0#32
  let c1_i32_52 : BitVec 32 := 1#32
  let arg12 : BitVec 32 := Scf.iv c0_i32_50 c1_i32_52 k0_t2
  let c16_i32 : BitVec 32 := 16#32
  let v124 : BitVec 32 := Scalar.muli arg12 c16_i32
  let v923 : BitVec 32 := Scalar.addi c128_i32_452 v124
  let c11_i32 : BitVec 32 := 11#32
  let v924 : BitVec 32 := Scalar.addi v923 c11_i32
  let v926 : Index := Scalar.indexCast v924
  let v925 : BitVec 32 := Scalar.addi v922 c0_i32_453
  let v927 : Index := Scalar.indexCast v925
  ![v926.toNat, v927.toNat]

def k0_chk28 (k0_t2 : Fin k0_t2_loop.trips) (v922 : BitVec 32) : Prop :=
  (∀ (r : Fin 4), ∀ a, (k0_off249 k0_t2 v922 (BitVec.ofNat 32 (16 * r.val))) a + S1x16.size a ≤ S512x128.size a)
theorem k0_off249_inb : ∀ (k0_t2 : Fin k0_t2_loop.trips) (v922 : BitVec 32) (k0_hw28 : k0_chk28 k0_t2 v922), ∀ (r : Fin 4), ∀ a, (k0_off249 k0_t2 v922 (BitVec.ofNat 32 (16 * r.val))) a + S1x16.size a ≤ S512x128.size a := fun k0_t2 v922 k0_hw28 r => k0_hw28 r

def k0_off250 (k0_t2 : Fin k0_t2_loop.trips) : Fin 3 → Nat :=
  let c1_i32_455 : BitVec 32 := 1#32
  let v931 : Index := Scalar.indexCast c1_i32_455
  let c0_i32_50 : BitVec 32 := 0#32
  let c1_i32_52 : BitVec 32 := 1#32
  let arg12 : BitVec 32 := Scf.iv c0_i32_50 c1_i32_52 k0_t2
  let c16_i32 : BitVec 32 := 16#32
  let v124 : BitVec 32 := Scalar.muli arg12 c16_i32
  let c11_i32_454 : BitVec 32 := 11#32
  let v930 : BitVec 32 := Scalar.addi v124 c11_i32_454
  let v932 : Index := Scalar.indexCast v930
  let c0_456 : Index := 0#32
  ![1, v932.toNat, 0]
def k0_off251 (k0_t2 : Fin k0_t2_loop.trips) : Fin 3 → Nat :=
  let c1_i32_458 : BitVec 32 := 1#32
  let v937 : Index := Scalar.indexCast c1_i32_458
  let c0_i32_50 : BitVec 32 := 0#32
  let c1_i32_52 : BitVec 32 := 1#32
  let arg12 : BitVec 32 := Scf.iv c0_i32_50 c1_i32_52 k0_t2
  let c16_i32 : BitVec 32 := 16#32
  let v124 : BitVec 32 := Scalar.muli arg12 c16_i32
  let c11_i32_457 : BitVec 32 := 11#32
  let v936 : BitVec 32 := Scalar.addi v124 c11_i32_457
  let v938 : Index := Scalar.indexCast v936
  let c64_459 : Index := 64#32
  ![1, v938.toNat, 64]
def k0_off252 (k0_t2 : Fin k0_t2_loop.trips) : Fin 3 → Nat :=
  let c1_i32_462 : BitVec 32 := 1#32
  let v948 : Index := Scalar.indexCast c1_i32_462
  let c0_i32_50 : BitVec 32 := 0#32
  let c1_i32_52 : BitVec 32 := 1#32
  let arg12 : BitVec 32 := Scf.iv c0_i32_50 c1_i32_52 k0_t2
  let c16_i32 : BitVec 32 := 16#32
  let v124 : BitVec 32 := Scalar.muli arg12 c16_i32
  let c11_i32_461 : BitVec 32 := 11#32
  let v947 : BitVec 32 := Scalar.addi v124 c11_i32_461
  let v949 : Index := Scalar.indexCast v947
  let c16_463 : Index := 16#32
  ![1, v949.toNat, 16]
def k0_off253 (k0_t2 : Fin k0_t2_loop.trips) : Fin 3 → Nat :=
  let c1_i32_465 : BitVec 32 := 1#32
  let v954 : Index := Scalar.indexCast c1_i32_465
  let c0_i32_50 : BitVec 32 := 0#32
  let c1_i32_52 : BitVec 32 := 1#32
  let arg12 : BitVec 32 := Scf.iv c0_i32_50 c1_i32_52 k0_t2
  let c16_i32 : BitVec 32 := 16#32
  let v124 : BitVec 32 := Scalar.muli arg12 c16_i32
  let c11_i32_464 : BitVec 32 := 11#32
  let v953 : BitVec 32 := Scalar.addi v124 c11_i32_464
  let v955 : Index := Scalar.indexCast v953
  let c80_466 : Index := 80#32
  ![1, v955.toNat, 80]
def k0_off254 (k0_t2 : Fin k0_t2_loop.trips) : Fin 3 → Nat :=
  let c1_i32_469 : BitVec 32 := 1#32
  let v965 : Index := Scalar.indexCast c1_i32_469
  let c0_i32_50 : BitVec 32 := 0#32
  let c1_i32_52 : BitVec 32 := 1#32
  let arg12 : BitVec 32 := Scf.iv c0_i32_50 c1_i32_52 k0_t2
  let c16_i32 : BitVec 32 := 16#32
  let v124 : BitVec 32 := Scalar.muli arg12 c16_i32
  let c11_i32_468 : BitVec 32 := 11#32
  let v964 : BitVec 32 := Scalar.addi v124 c11_i32_468
  let v966 : Index := Scalar.indexCast v964
  let c32_470 : Index := 32#32
  ![1, v966.toNat, 32]
def k0_off255 (k0_t2 : Fin k0_t2_loop.trips) : Fin 3 → Nat :=
  let c1_i32_472 : BitVec 32 := 1#32
  let v971 : Index := Scalar.indexCast c1_i32_472
  let c0_i32_50 : BitVec 32 := 0#32
  let c1_i32_52 : BitVec 32 := 1#32
  let arg12 : BitVec 32 := Scf.iv c0_i32_50 c1_i32_52 k0_t2
  let c16_i32 : BitVec 32 := 16#32
  let v124 : BitVec 32 := Scalar.muli arg12 c16_i32
  let c11_i32_471 : BitVec 32 := 11#32
  let v970 : BitVec 32 := Scalar.addi v124 c11_i32_471
  let v972 : Index := Scalar.indexCast v970
  let c96_473 : Index := 96#32
  ![1, v972.toNat, 96]
def k0_off256 (k0_t2 : Fin k0_t2_loop.trips) : Fin 3 → Nat :=
  let c1_i32_476 : BitVec 32 := 1#32
  let v982 : Index := Scalar.indexCast c1_i32_476
  let c0_i32_50 : BitVec 32 := 0#32
  let c1_i32_52 : BitVec 32 := 1#32
  let arg12 : BitVec 32 := Scf.iv c0_i32_50 c1_i32_52 k0_t2
  let c16_i32 : BitVec 32 := 16#32
  let v124 : BitVec 32 := Scalar.muli arg12 c16_i32
  let c11_i32_475 : BitVec 32 := 11#32
  let v981 : BitVec 32 := Scalar.addi v124 c11_i32_475
  let v983 : Index := Scalar.indexCast v981
  let c48_477 : Index := 48#32
  ![1, v983.toNat, 48]
def k0_off257 (k0_t2 : Fin k0_t2_loop.trips) : Fin 3 → Nat :=
  let c1_i32_479 : BitVec 32 := 1#32
  let v988 : Index := Scalar.indexCast c1_i32_479
  let c0_i32_50 : BitVec 32 := 0#32
  let c1_i32_52 : BitVec 32 := 1#32
  let arg12 : BitVec 32 := Scf.iv c0_i32_50 c1_i32_52 k0_t2
  let c16_i32 : BitVec 32 := 16#32
  let v124 : BitVec 32 := Scalar.muli arg12 c16_i32
  let c11_i32_478 : BitVec 32 := 11#32
  let v987 : BitVec 32 := Scalar.addi v124 c11_i32_478
  let v989 : Index := Scalar.indexCast v987
  let c112_480 : Index := 112#32
  ![1, v989.toNat, 112]
def k0_off258 (k0_t2 : Fin k0_t2_loop.trips) (v994 : BitVec 32) (c0_i32_482 : BitVec 32) : Fin 2 → Nat :=
  let c128_i32_481 : BitVec 32 := 128#32
  let c0_i32_50 : BitVec 32 := 0#32
  let c1_i32_52 : BitVec 32 := 1#32
  let arg12 : BitVec 32 := Scf.iv c0_i32_50 c1_i32_52 k0_t2
  let c16_i32 : BitVec 32 := 16#32
  let v124 : BitVec 32 := Scalar.muli arg12 c16_i32
  let v995 : BitVec 32 := Scalar.addi c128_i32_481 v124
  let c12_i32 : BitVec 32 := 12#32
  let v996 : BitVec 32 := Scalar.addi v995 c12_i32
  let v998 : Index := Scalar.indexCast v996
  let v997 : BitVec 32 := Scalar.addi v994 c0_i32_482
  let v999 : Index := Scalar.indexCast v997
  ![v998.toNat, v999.toNat]

def k0_chk29 (k0_t2 : Fin k0_t2_loop.trips) (v994 : BitVec 32) : Prop :=
  (∀ (r : Fin 4), ∀ a, (k0_off258 k0_t2 v994 (BitVec.ofNat 32 (16 * r.val))) a + S1x16.size a ≤ S512x128.size a)
theorem k0_off258_inb : ∀ (k0_t2 : Fin k0_t2_loop.trips) (v994 : BitVec 32) (k0_hw29 : k0_chk29 k0_t2 v994), ∀ (r : Fin 4), ∀ a, (k0_off258 k0_t2 v994 (BitVec.ofNat 32 (16 * r.val))) a + S1x16.size a ≤ S512x128.size a := fun k0_t2 v994 k0_hw29 r => k0_hw29 r

def k0_off259 (k0_t2 : Fin k0_t2_loop.trips) : Fin 3 → Nat :=
  let c1_i32_484 : BitVec 32 := 1#32
  let v1003 : Index := Scalar.indexCast c1_i32_484
  let c0_i32_50 : BitVec 32 := 0#32
  let c1_i32_52 : BitVec 32 := 1#32
  let arg12 : BitVec 32 := Scf.iv c0_i32_50 c1_i32_52 k0_t2
  let c16_i32 : BitVec 32 := 16#32
  let v124 : BitVec 32 := Scalar.muli arg12 c16_i32
  let c12_i32_483 : BitVec 32 := 12#32
  let v1002 : BitVec 32 := Scalar.addi v124 c12_i32_483
  let v1004 : Index := Scalar.indexCast v1002
  let c0_485 : Index := 0#32
  ![1, v1004.toNat, 0]
def k0_off260 (k0_t2 : Fin k0_t2_loop.trips) : Fin 3 → Nat :=
  let c1_i32_487 : BitVec 32 := 1#32
  let v1009 : Index := Scalar.indexCast c1_i32_487
  let c0_i32_50 : BitVec 32 := 0#32
  let c1_i32_52 : BitVec 32 := 1#32
  let arg12 : BitVec 32 := Scf.iv c0_i32_50 c1_i32_52 k0_t2
  let c16_i32 : BitVec 32 := 16#32
  let v124 : BitVec 32 := Scalar.muli arg12 c16_i32
  let c12_i32_486 : BitVec 32 := 12#32
  let v1008 : BitVec 32 := Scalar.addi v124 c12_i32_486
  let v1010 : Index := Scalar.indexCast v1008
  let c64_488 : Index := 64#32
  ![1, v1010.toNat, 64]
def k0_off261 (k0_t2 : Fin k0_t2_loop.trips) : Fin 3 → Nat :=
  let c1_i32_491 : BitVec 32 := 1#32
  let v1020 : Index := Scalar.indexCast c1_i32_491
  let c0_i32_50 : BitVec 32 := 0#32
  let c1_i32_52 : BitVec 32 := 1#32
  let arg12 : BitVec 32 := Scf.iv c0_i32_50 c1_i32_52 k0_t2
  let c16_i32 : BitVec 32 := 16#32
  let v124 : BitVec 32 := Scalar.muli arg12 c16_i32
  let c12_i32_490 : BitVec 32 := 12#32
  let v1019 : BitVec 32 := Scalar.addi v124 c12_i32_490
  let v1021 : Index := Scalar.indexCast v1019
  let c16_492 : Index := 16#32
  ![1, v1021.toNat, 16]
def k0_off262 (k0_t2 : Fin k0_t2_loop.trips) : Fin 3 → Nat :=
  let c1_i32_494 : BitVec 32 := 1#32
  let v1026 : Index := Scalar.indexCast c1_i32_494
  let c0_i32_50 : BitVec 32 := 0#32
  let c1_i32_52 : BitVec 32 := 1#32
  let arg12 : BitVec 32 := Scf.iv c0_i32_50 c1_i32_52 k0_t2
  let c16_i32 : BitVec 32 := 16#32
  let v124 : BitVec 32 := Scalar.muli arg12 c16_i32
  let c12_i32_493 : BitVec 32 := 12#32
  let v1025 : BitVec 32 := Scalar.addi v124 c12_i32_493
  let v1027 : Index := Scalar.indexCast v1025
  let c80_495 : Index := 80#32
  ![1, v1027.toNat, 80]
def k0_off263 (k0_t2 : Fin k0_t2_loop.trips) : Fin 3 → Nat :=
  let c1_i32_498 : BitVec 32 := 1#32
  let v1037 : Index := Scalar.indexCast c1_i32_498
  let c0_i32_50 : BitVec 32 := 0#32
  let c1_i32_52 : BitVec 32 := 1#32
  let arg12 : BitVec 32 := Scf.iv c0_i32_50 c1_i32_52 k0_t2
  let c16_i32 : BitVec 32 := 16#32
  let v124 : BitVec 32 := Scalar.muli arg12 c16_i32
  let c12_i32_497 : BitVec 32 := 12#32
  let v1036 : BitVec 32 := Scalar.addi v124 c12_i32_497
  let v1038 : Index := Scalar.indexCast v1036
  let c32_499 : Index := 32#32
  ![1, v1038.toNat, 32]
def k0_off264 (k0_t2 : Fin k0_t2_loop.trips) : Fin 3 → Nat :=
  let c1_i32_501 : BitVec 32 := 1#32
  let v1043 : Index := Scalar.indexCast c1_i32_501
  let c0_i32_50 : BitVec 32 := 0#32
  let c1_i32_52 : BitVec 32 := 1#32
  let arg12 : BitVec 32 := Scf.iv c0_i32_50 c1_i32_52 k0_t2
  let c16_i32 : BitVec 32 := 16#32
  let v124 : BitVec 32 := Scalar.muli arg12 c16_i32
  let c12_i32_500 : BitVec 32 := 12#32
  let v1042 : BitVec 32 := Scalar.addi v124 c12_i32_500
  let v1044 : Index := Scalar.indexCast v1042
  let c96_502 : Index := 96#32
  ![1, v1044.toNat, 96]
def k0_off265 (k0_t2 : Fin k0_t2_loop.trips) : Fin 3 → Nat :=
  let c1_i32_505 : BitVec 32 := 1#32
  let v1054 : Index := Scalar.indexCast c1_i32_505
  let c0_i32_50 : BitVec 32 := 0#32
  let c1_i32_52 : BitVec 32 := 1#32
  let arg12 : BitVec 32 := Scf.iv c0_i32_50 c1_i32_52 k0_t2
  let c16_i32 : BitVec 32 := 16#32
  let v124 : BitVec 32 := Scalar.muli arg12 c16_i32
  let c12_i32_504 : BitVec 32 := 12#32
  let v1053 : BitVec 32 := Scalar.addi v124 c12_i32_504
  let v1055 : Index := Scalar.indexCast v1053
  let c48_506 : Index := 48#32
  ![1, v1055.toNat, 48]
def k0_off266 (k0_t2 : Fin k0_t2_loop.trips) : Fin 3 → Nat :=
  let c1_i32_508 : BitVec 32 := 1#32
  let v1060 : Index := Scalar.indexCast c1_i32_508
  let c0_i32_50 : BitVec 32 := 0#32
  let c1_i32_52 : BitVec 32 := 1#32
  let arg12 : BitVec 32 := Scf.iv c0_i32_50 c1_i32_52 k0_t2
  let c16_i32 : BitVec 32 := 16#32
  let v124 : BitVec 32 := Scalar.muli arg12 c16_i32
  let c12_i32_507 : BitVec 32 := 12#32
  let v1059 : BitVec 32 := Scalar.addi v124 c12_i32_507
  let v1061 : Index := Scalar.indexCast v1059
  let c112_509 : Index := 112#32
  ![1, v1061.toNat, 112]
def k0_off267 (k0_t2 : Fin k0_t2_loop.trips) (v1066 : BitVec 32) (c0_i32_511 : BitVec 32) : Fin 2 → Nat :=
  let c128_i32_510 : BitVec 32 := 128#32
  let c0_i32_50 : BitVec 32 := 0#32
  let c1_i32_52 : BitVec 32 := 1#32
  let arg12 : BitVec 32 := Scf.iv c0_i32_50 c1_i32_52 k0_t2
  let c16_i32 : BitVec 32 := 16#32
  let v124 : BitVec 32 := Scalar.muli arg12 c16_i32
  let v1067 : BitVec 32 := Scalar.addi c128_i32_510 v124
  let c13_i32 : BitVec 32 := 13#32
  let v1068 : BitVec 32 := Scalar.addi v1067 c13_i32
  let v1070 : Index := Scalar.indexCast v1068
  let v1069 : BitVec 32 := Scalar.addi v1066 c0_i32_511
  let v1071 : Index := Scalar.indexCast v1069
  ![v1070.toNat, v1071.toNat]

def k0_chk30 (k0_t2 : Fin k0_t2_loop.trips) (v1066 : BitVec 32) : Prop :=
  (∀ (r : Fin 4), ∀ a, (k0_off267 k0_t2 v1066 (BitVec.ofNat 32 (16 * r.val))) a + S1x16.size a ≤ S512x128.size a)
theorem k0_off267_inb : ∀ (k0_t2 : Fin k0_t2_loop.trips) (v1066 : BitVec 32) (k0_hw30 : k0_chk30 k0_t2 v1066), ∀ (r : Fin 4), ∀ a, (k0_off267 k0_t2 v1066 (BitVec.ofNat 32 (16 * r.val))) a + S1x16.size a ≤ S512x128.size a := fun k0_t2 v1066 k0_hw30 r => k0_hw30 r

def k0_off268 (k0_t2 : Fin k0_t2_loop.trips) : Fin 3 → Nat :=
  let c1_i32_513 : BitVec 32 := 1#32
  let v1075 : Index := Scalar.indexCast c1_i32_513
  let c0_i32_50 : BitVec 32 := 0#32
  let c1_i32_52 : BitVec 32 := 1#32
  let arg12 : BitVec 32 := Scf.iv c0_i32_50 c1_i32_52 k0_t2
  let c16_i32 : BitVec 32 := 16#32
  let v124 : BitVec 32 := Scalar.muli arg12 c16_i32
  let c13_i32_512 : BitVec 32 := 13#32
  let v1074 : BitVec 32 := Scalar.addi v124 c13_i32_512
  let v1076 : Index := Scalar.indexCast v1074
  let c0_514 : Index := 0#32
  ![1, v1076.toNat, 0]
def k0_off269 (k0_t2 : Fin k0_t2_loop.trips) : Fin 3 → Nat :=
  let c1_i32_516 : BitVec 32 := 1#32
  let v1081 : Index := Scalar.indexCast c1_i32_516
  let c0_i32_50 : BitVec 32 := 0#32
  let c1_i32_52 : BitVec 32 := 1#32
  let arg12 : BitVec 32 := Scf.iv c0_i32_50 c1_i32_52 k0_t2
  let c16_i32 : BitVec 32 := 16#32
  let v124 : BitVec 32 := Scalar.muli arg12 c16_i32
  let c13_i32_515 : BitVec 32 := 13#32
  let v1080 : BitVec 32 := Scalar.addi v124 c13_i32_515
  let v1082 : Index := Scalar.indexCast v1080
  let c64_517 : Index := 64#32
  ![1, v1082.toNat, 64]
def k0_off270 (k0_t2 : Fin k0_t2_loop.trips) : Fin 3 → Nat :=
  let c1_i32_520 : BitVec 32 := 1#32
  let v1092 : Index := Scalar.indexCast c1_i32_520
  let c0_i32_50 : BitVec 32 := 0#32
  let c1_i32_52 : BitVec 32 := 1#32
  let arg12 : BitVec 32 := Scf.iv c0_i32_50 c1_i32_52 k0_t2
  let c16_i32 : BitVec 32 := 16#32
  let v124 : BitVec 32 := Scalar.muli arg12 c16_i32
  let c13_i32_519 : BitVec 32 := 13#32
  let v1091 : BitVec 32 := Scalar.addi v124 c13_i32_519
  let v1093 : Index := Scalar.indexCast v1091
  let c16_521 : Index := 16#32
  ![1, v1093.toNat, 16]
def k0_off271 (k0_t2 : Fin k0_t2_loop.trips) : Fin 3 → Nat :=
  let c1_i32_523 : BitVec 32 := 1#32
  let v1098 : Index := Scalar.indexCast c1_i32_523
  let c0_i32_50 : BitVec 32 := 0#32
  let c1_i32_52 : BitVec 32 := 1#32
  let arg12 : BitVec 32 := Scf.iv c0_i32_50 c1_i32_52 k0_t2
  let c16_i32 : BitVec 32 := 16#32
  let v124 : BitVec 32 := Scalar.muli arg12 c16_i32
  let c13_i32_522 : BitVec 32 := 13#32
  let v1097 : BitVec 32 := Scalar.addi v124 c13_i32_522
  let v1099 : Index := Scalar.indexCast v1097
  let c80_524 : Index := 80#32
  ![1, v1099.toNat, 80]
def k0_off272 (k0_t2 : Fin k0_t2_loop.trips) : Fin 3 → Nat :=
  let c1_i32_527 : BitVec 32 := 1#32
  let v1109 : Index := Scalar.indexCast c1_i32_527
  let c0_i32_50 : BitVec 32 := 0#32
  let c1_i32_52 : BitVec 32 := 1#32
  let arg12 : BitVec 32 := Scf.iv c0_i32_50 c1_i32_52 k0_t2
  let c16_i32 : BitVec 32 := 16#32
  let v124 : BitVec 32 := Scalar.muli arg12 c16_i32
  let c13_i32_526 : BitVec 32 := 13#32
  let v1108 : BitVec 32 := Scalar.addi v124 c13_i32_526
  let v1110 : Index := Scalar.indexCast v1108
  let c32_528 : Index := 32#32
  ![1, v1110.toNat, 32]
def k0_off273 (k0_t2 : Fin k0_t2_loop.trips) : Fin 3 → Nat :=
  let c1_i32_530 : BitVec 32 := 1#32
  let v1115 : Index := Scalar.indexCast c1_i32_530
  let c0_i32_50 : BitVec 32 := 0#32
  let c1_i32_52 : BitVec 32 := 1#32
  let arg12 : BitVec 32 := Scf.iv c0_i32_50 c1_i32_52 k0_t2
  let c16_i32 : BitVec 32 := 16#32
  let v124 : BitVec 32 := Scalar.muli arg12 c16_i32
  let c13_i32_529 : BitVec 32 := 13#32
  let v1114 : BitVec 32 := Scalar.addi v124 c13_i32_529
  let v1116 : Index := Scalar.indexCast v1114
  let c96_531 : Index := 96#32
  ![1, v1116.toNat, 96]
def k0_off274 (k0_t2 : Fin k0_t2_loop.trips) : Fin 3 → Nat :=
  let c1_i32_534 : BitVec 32 := 1#32
  let v1126 : Index := Scalar.indexCast c1_i32_534
  let c0_i32_50 : BitVec 32 := 0#32
  let c1_i32_52 : BitVec 32 := 1#32
  let arg12 : BitVec 32 := Scf.iv c0_i32_50 c1_i32_52 k0_t2
  let c16_i32 : BitVec 32 := 16#32
  let v124 : BitVec 32 := Scalar.muli arg12 c16_i32
  let c13_i32_533 : BitVec 32 := 13#32
  let v1125 : BitVec 32 := Scalar.addi v124 c13_i32_533
  let v1127 : Index := Scalar.indexCast v1125
  let c48_535 : Index := 48#32
  ![1, v1127.toNat, 48]
def k0_off275 (k0_t2 : Fin k0_t2_loop.trips) : Fin 3 → Nat :=
  let c1_i32_537 : BitVec 32 := 1#32
  let v1132 : Index := Scalar.indexCast c1_i32_537
  let c0_i32_50 : BitVec 32 := 0#32
  let c1_i32_52 : BitVec 32 := 1#32
  let arg12 : BitVec 32 := Scf.iv c0_i32_50 c1_i32_52 k0_t2
  let c16_i32 : BitVec 32 := 16#32
  let v124 : BitVec 32 := Scalar.muli arg12 c16_i32
  let c13_i32_536 : BitVec 32 := 13#32
  let v1131 : BitVec 32 := Scalar.addi v124 c13_i32_536
  let v1133 : Index := Scalar.indexCast v1131
  let c112_538 : Index := 112#32
  ![1, v1133.toNat, 112]
def k0_off276 (k0_t2 : Fin k0_t2_loop.trips) (v1138 : BitVec 32) (c0_i32_540 : BitVec 32) : Fin 2 → Nat :=
  let c128_i32_539 : BitVec 32 := 128#32
  let c0_i32_50 : BitVec 32 := 0#32
  let c1_i32_52 : BitVec 32 := 1#32
  let arg12 : BitVec 32 := Scf.iv c0_i32_50 c1_i32_52 k0_t2
  let c16_i32 : BitVec 32 := 16#32
  let v124 : BitVec 32 := Scalar.muli arg12 c16_i32
  let v1139 : BitVec 32 := Scalar.addi c128_i32_539 v124
  let c14_i32 : BitVec 32 := 14#32
  let v1140 : BitVec 32 := Scalar.addi v1139 c14_i32
  let v1142 : Index := Scalar.indexCast v1140
  let v1141 : BitVec 32 := Scalar.addi v1138 c0_i32_540
  let v1143 : Index := Scalar.indexCast v1141
  ![v1142.toNat, v1143.toNat]

def k0_chk31 (k0_t2 : Fin k0_t2_loop.trips) (v1138 : BitVec 32) : Prop :=
  (∀ (r : Fin 4), ∀ a, (k0_off276 k0_t2 v1138 (BitVec.ofNat 32 (16 * r.val))) a + S1x16.size a ≤ S512x128.size a)
theorem k0_off276_inb : ∀ (k0_t2 : Fin k0_t2_loop.trips) (v1138 : BitVec 32) (k0_hw31 : k0_chk31 k0_t2 v1138), ∀ (r : Fin 4), ∀ a, (k0_off276 k0_t2 v1138 (BitVec.ofNat 32 (16 * r.val))) a + S1x16.size a ≤ S512x128.size a := fun k0_t2 v1138 k0_hw31 r => k0_hw31 r

def k0_off277 (k0_t2 : Fin k0_t2_loop.trips) : Fin 3 → Nat :=
  let c1_i32_542 : BitVec 32 := 1#32
  let v1147 : Index := Scalar.indexCast c1_i32_542
  let c0_i32_50 : BitVec 32 := 0#32
  let c1_i32_52 : BitVec 32 := 1#32
  let arg12 : BitVec 32 := Scf.iv c0_i32_50 c1_i32_52 k0_t2
  let c16_i32 : BitVec 32 := 16#32
  let v124 : BitVec 32 := Scalar.muli arg12 c16_i32
  let c14_i32_541 : BitVec 32 := 14#32
  let v1146 : BitVec 32 := Scalar.addi v124 c14_i32_541
  let v1148 : Index := Scalar.indexCast v1146
  let c0_543 : Index := 0#32
  ![1, v1148.toNat, 0]
def k0_off278 (k0_t2 : Fin k0_t2_loop.trips) : Fin 3 → Nat :=
  let c1_i32_545 : BitVec 32 := 1#32
  let v1153 : Index := Scalar.indexCast c1_i32_545
  let c0_i32_50 : BitVec 32 := 0#32
  let c1_i32_52 : BitVec 32 := 1#32
  let arg12 : BitVec 32 := Scf.iv c0_i32_50 c1_i32_52 k0_t2
  let c16_i32 : BitVec 32 := 16#32
  let v124 : BitVec 32 := Scalar.muli arg12 c16_i32
  let c14_i32_544 : BitVec 32 := 14#32
  let v1152 : BitVec 32 := Scalar.addi v124 c14_i32_544
  let v1154 : Index := Scalar.indexCast v1152
  let c64_546 : Index := 64#32
  ![1, v1154.toNat, 64]
def k0_off279 (k0_t2 : Fin k0_t2_loop.trips) : Fin 3 → Nat :=
  let c1_i32_549 : BitVec 32 := 1#32
  let v1164 : Index := Scalar.indexCast c1_i32_549
  let c0_i32_50 : BitVec 32 := 0#32
  let c1_i32_52 : BitVec 32 := 1#32
  let arg12 : BitVec 32 := Scf.iv c0_i32_50 c1_i32_52 k0_t2
  let c16_i32 : BitVec 32 := 16#32
  let v124 : BitVec 32 := Scalar.muli arg12 c16_i32
  let c14_i32_548 : BitVec 32 := 14#32
  let v1163 : BitVec 32 := Scalar.addi v124 c14_i32_548
  let v1165 : Index := Scalar.indexCast v1163
  let c16_550 : Index := 16#32
  ![1, v1165.toNat, 16]
def k0_off280 (k0_t2 : Fin k0_t2_loop.trips) : Fin 3 → Nat :=
  let c1_i32_552 : BitVec 32 := 1#32
  let v1170 : Index := Scalar.indexCast c1_i32_552
  let c0_i32_50 : BitVec 32 := 0#32
  let c1_i32_52 : BitVec 32 := 1#32
  let arg12 : BitVec 32 := Scf.iv c0_i32_50 c1_i32_52 k0_t2
  let c16_i32 : BitVec 32 := 16#32
  let v124 : BitVec 32 := Scalar.muli arg12 c16_i32
  let c14_i32_551 : BitVec 32 := 14#32
  let v1169 : BitVec 32 := Scalar.addi v124 c14_i32_551
  let v1171 : Index := Scalar.indexCast v1169
  let c80_553 : Index := 80#32
  ![1, v1171.toNat, 80]
def k0_off281 (k0_t2 : Fin k0_t2_loop.trips) : Fin 3 → Nat :=
  let c1_i32_556 : BitVec 32 := 1#32
  let v1181 : Index := Scalar.indexCast c1_i32_556
  let c0_i32_50 : BitVec 32 := 0#32
  let c1_i32_52 : BitVec 32 := 1#32
  let arg12 : BitVec 32 := Scf.iv c0_i32_50 c1_i32_52 k0_t2
  let c16_i32 : BitVec 32 := 16#32
  let v124 : BitVec 32 := Scalar.muli arg12 c16_i32
  let c14_i32_555 : BitVec 32 := 14#32
  let v1180 : BitVec 32 := Scalar.addi v124 c14_i32_555
  let v1182 : Index := Scalar.indexCast v1180
  let c32_557 : Index := 32#32
  ![1, v1182.toNat, 32]
def k0_off282 (k0_t2 : Fin k0_t2_loop.trips) : Fin 3 → Nat :=
  let c1_i32_559 : BitVec 32 := 1#32
  let v1187 : Index := Scalar.indexCast c1_i32_559
  let c0_i32_50 : BitVec 32 := 0#32
  let c1_i32_52 : BitVec 32 := 1#32
  let arg12 : BitVec 32 := Scf.iv c0_i32_50 c1_i32_52 k0_t2
  let c16_i32 : BitVec 32 := 16#32
  let v124 : BitVec 32 := Scalar.muli arg12 c16_i32
  let c14_i32_558 : BitVec 32 := 14#32
  let v1186 : BitVec 32 := Scalar.addi v124 c14_i32_558
  let v1188 : Index := Scalar.indexCast v1186
  let c96_560 : Index := 96#32
  ![1, v1188.toNat, 96]
def k0_off283 (k0_t2 : Fin k0_t2_loop.trips) : Fin 3 → Nat :=
  let c1_i32_563 : BitVec 32 := 1#32
  let v1198 : Index := Scalar.indexCast c1_i32_563
  let c0_i32_50 : BitVec 32 := 0#32
  let c1_i32_52 : BitVec 32 := 1#32
  let arg12 : BitVec 32 := Scf.iv c0_i32_50 c1_i32_52 k0_t2
  let c16_i32 : BitVec 32 := 16#32
  let v124 : BitVec 32 := Scalar.muli arg12 c16_i32
  let c14_i32_562 : BitVec 32 := 14#32
  let v1197 : BitVec 32 := Scalar.addi v124 c14_i32_562
  let v1199 : Index := Scalar.indexCast v1197
  let c48_564 : Index := 48#32
  ![1, v1199.toNat, 48]
def k0_off284 (k0_t2 : Fin k0_t2_loop.trips) : Fin 3 → Nat :=
  let c1_i32_566 : BitVec 32 := 1#32
  let v1204 : Index := Scalar.indexCast c1_i32_566
  let c0_i32_50 : BitVec 32 := 0#32
  let c1_i32_52 : BitVec 32 := 1#32
  let arg12 : BitVec 32 := Scf.iv c0_i32_50 c1_i32_52 k0_t2
  let c16_i32 : BitVec 32 := 16#32
  let v124 : BitVec 32 := Scalar.muli arg12 c16_i32
  let c14_i32_565 : BitVec 32 := 14#32
  let v1203 : BitVec 32 := Scalar.addi v124 c14_i32_565
  let v1205 : Index := Scalar.indexCast v1203
  let c112_567 : Index := 112#32
  ![1, v1205.toNat, 112]
def k0_off285 (k0_t2 : Fin k0_t2_loop.trips) (v1210 : BitVec 32) (c0_i32_569 : BitVec 32) : Fin 2 → Nat :=
  let c128_i32_568 : BitVec 32 := 128#32
  let c0_i32_50 : BitVec 32 := 0#32
  let c1_i32_52 : BitVec 32 := 1#32
  let arg12 : BitVec 32 := Scf.iv c0_i32_50 c1_i32_52 k0_t2
  let c16_i32 : BitVec 32 := 16#32
  let v124 : BitVec 32 := Scalar.muli arg12 c16_i32
  let v1211 : BitVec 32 := Scalar.addi c128_i32_568 v124
  let c15_i32 : BitVec 32 := 15#32
  let v1212 : BitVec 32 := Scalar.addi v1211 c15_i32
  let v1214 : Index := Scalar.indexCast v1212
  let v1213 : BitVec 32 := Scalar.addi v1210 c0_i32_569
  let v1215 : Index := Scalar.indexCast v1213
  ![v1214.toNat, v1215.toNat]

def k0_chk32 (k0_t2 : Fin k0_t2_loop.trips) (v1210 : BitVec 32) : Prop :=
  (∀ (r : Fin 4), ∀ a, (k0_off285 k0_t2 v1210 (BitVec.ofNat 32 (16 * r.val))) a + S1x16.size a ≤ S512x128.size a)
theorem k0_off285_inb : ∀ (k0_t2 : Fin k0_t2_loop.trips) (v1210 : BitVec 32) (k0_hw32 : k0_chk32 k0_t2 v1210), ∀ (r : Fin 4), ∀ a, (k0_off285 k0_t2 v1210 (BitVec.ofNat 32 (16 * r.val))) a + S1x16.size a ≤ S512x128.size a := fun k0_t2 v1210 k0_hw32 r => k0_hw32 r

def k0_off286 (k0_t2 : Fin k0_t2_loop.trips) : Fin 3 → Nat :=
  let c1_i32_571 : BitVec 32 := 1#32
  let v1219 : Index := Scalar.indexCast c1_i32_571
  let c0_i32_50 : BitVec 32 := 0#32
  let c1_i32_52 : BitVec 32 := 1#32
  let arg12 : BitVec 32 := Scf.iv c0_i32_50 c1_i32_52 k0_t2
  let c16_i32 : BitVec 32 := 16#32
  let v124 : BitVec 32 := Scalar.muli arg12 c16_i32
  let c15_i32_570 : BitVec 32 := 15#32
  let v1218 : BitVec 32 := Scalar.addi v124 c15_i32_570
  let v1220 : Index := Scalar.indexCast v1218
  let c0_572 : Index := 0#32
  ![1, v1220.toNat, 0]
def k0_off287 (k0_t2 : Fin k0_t2_loop.trips) : Fin 3 → Nat :=
  let c1_i32_574 : BitVec 32 := 1#32
  let v1225 : Index := Scalar.indexCast c1_i32_574
  let c0_i32_50 : BitVec 32 := 0#32
  let c1_i32_52 : BitVec 32 := 1#32
  let arg12 : BitVec 32 := Scf.iv c0_i32_50 c1_i32_52 k0_t2
  let c16_i32 : BitVec 32 := 16#32
  let v124 : BitVec 32 := Scalar.muli arg12 c16_i32
  let c15_i32_573 : BitVec 32 := 15#32
  let v1224 : BitVec 32 := Scalar.addi v124 c15_i32_573
  let v1226 : Index := Scalar.indexCast v1224
  let c64_575 : Index := 64#32
  ![1, v1226.toNat, 64]
def k0_off288 (k0_t2 : Fin k0_t2_loop.trips) : Fin 3 → Nat :=
  let c1_i32_578 : BitVec 32 := 1#32
  let v1236 : Index := Scalar.indexCast c1_i32_578
  let c0_i32_50 : BitVec 32 := 0#32
  let c1_i32_52 : BitVec 32 := 1#32
  let arg12 : BitVec 32 := Scf.iv c0_i32_50 c1_i32_52 k0_t2
  let c16_i32 : BitVec 32 := 16#32
  let v124 : BitVec 32 := Scalar.muli arg12 c16_i32
  let c15_i32_577 : BitVec 32 := 15#32
  let v1235 : BitVec 32 := Scalar.addi v124 c15_i32_577
  let v1237 : Index := Scalar.indexCast v1235
  let c16_579 : Index := 16#32
  ![1, v1237.toNat, 16]
def k0_off289 (k0_t2 : Fin k0_t2_loop.trips) : Fin 3 → Nat :=
  let c1_i32_581 : BitVec 32 := 1#32
  let v1242 : Index := Scalar.indexCast c1_i32_581
  let c0_i32_50 : BitVec 32 := 0#32
  let c1_i32_52 : BitVec 32 := 1#32
  let arg12 : BitVec 32 := Scf.iv c0_i32_50 c1_i32_52 k0_t2
  let c16_i32 : BitVec 32 := 16#32
  let v124 : BitVec 32 := Scalar.muli arg12 c16_i32
  let c15_i32_580 : BitVec 32 := 15#32
  let v1241 : BitVec 32 := Scalar.addi v124 c15_i32_580
  let v1243 : Index := Scalar.indexCast v1241
  let c80_582 : Index := 80#32
  ![1, v1243.toNat, 80]
def k0_off290 (k0_t2 : Fin k0_t2_loop.trips) : Fin 3 → Nat :=
  let c1_i32_585 : BitVec 32 := 1#32
  let v1253 : Index := Scalar.indexCast c1_i32_585
  let c0_i32_50 : BitVec 32 := 0#32
  let c1_i32_52 : BitVec 32 := 1#32
  let arg12 : BitVec 32 := Scf.iv c0_i32_50 c1_i32_52 k0_t2
  let c16_i32 : BitVec 32 := 16#32
  let v124 : BitVec 32 := Scalar.muli arg12 c16_i32
  let c15_i32_584 : BitVec 32 := 15#32
  let v1252 : BitVec 32 := Scalar.addi v124 c15_i32_584
  let v1254 : Index := Scalar.indexCast v1252
  let c32_586 : Index := 32#32
  ![1, v1254.toNat, 32]
def k0_off291 (k0_t2 : Fin k0_t2_loop.trips) : Fin 3 → Nat :=
  let c1_i32_588 : BitVec 32 := 1#32
  let v1259 : Index := Scalar.indexCast c1_i32_588
  let c0_i32_50 : BitVec 32 := 0#32
  let c1_i32_52 : BitVec 32 := 1#32
  let arg12 : BitVec 32 := Scf.iv c0_i32_50 c1_i32_52 k0_t2
  let c16_i32 : BitVec 32 := 16#32
  let v124 : BitVec 32 := Scalar.muli arg12 c16_i32
  let c15_i32_587 : BitVec 32 := 15#32
  let v1258 : BitVec 32 := Scalar.addi v124 c15_i32_587
  let v1260 : Index := Scalar.indexCast v1258
  let c96_589 : Index := 96#32
  ![1, v1260.toNat, 96]
def k0_off292 (k0_t2 : Fin k0_t2_loop.trips) : Fin 3 → Nat :=
  let c1_i32_592 : BitVec 32 := 1#32
  let v1270 : Index := Scalar.indexCast c1_i32_592
  let c0_i32_50 : BitVec 32 := 0#32
  let c1_i32_52 : BitVec 32 := 1#32
  let arg12 : BitVec 32 := Scf.iv c0_i32_50 c1_i32_52 k0_t2
  let c16_i32 : BitVec 32 := 16#32
  let v124 : BitVec 32 := Scalar.muli arg12 c16_i32
  let c15_i32_591 : BitVec 32 := 15#32
  let v1269 : BitVec 32 := Scalar.addi v124 c15_i32_591
  let v1271 : Index := Scalar.indexCast v1269
  let c48_593 : Index := 48#32
  ![1, v1271.toNat, 48]
def k0_off293 (k0_t2 : Fin k0_t2_loop.trips) : Fin 3 → Nat :=
  let c1_i32_595 : BitVec 32 := 1#32
  let v1276 : Index := Scalar.indexCast c1_i32_595
  let c0_i32_50 : BitVec 32 := 0#32
  let c1_i32_52 : BitVec 32 := 1#32
  let arg12 : BitVec 32 := Scf.iv c0_i32_50 c1_i32_52 k0_t2
  let c16_i32 : BitVec 32 := 16#32
  let v124 : BitVec 32 := Scalar.muli arg12 c16_i32
  let c15_i32_594 : BitVec 32 := 15#32
  let v1275 : BitVec 32 := Scalar.addi v124 c15_i32_594
  let v1277 : Index := Scalar.indexCast v1275
  let c112_596 : Index := 112#32
  ![1, v1277.toNat, 112]
@[reducible] def k0_t3_loop : Scf.Loop 32 :=
  let c0_i32_79 : BitVec 32 := 0#32
  let c8_i32_80 : BitVec 32 := 8#32
  let v74 : BitVec 32 := Scalar.addi c0_i32_79 c8_i32_80
  let c1_i32_81 : BitVec 32 := 1#32
  ⟨c0_i32_79, v74, c1_i32_81⟩
def k0_off294 (k0_t3 : Fin k0_t3_loop.trips) : Fin 1 → Nat :=
  let c256_i32_137 : BitVec 32 := 256#32
  let c0_i32_79 : BitVec 32 := 0#32
  let c1_i32_81 : BitVec 32 := 1#32
  let arg12 : BitVec 32 := Scf.iv c0_i32_79 c1_i32_81 k0_t3
  let c16_i32 : BitVec 32 := 16#32
  let v124 : BitVec 32 := Scalar.muli arg12 c16_i32
  let v125 : BitVec 32 := Scalar.addi c256_i32_137 v124
  let v126 : Index := Scalar.indexCast v125
  ![v126.toNat]
def k0_off295 (k0_t3 : Fin k0_t3_loop.trips) (v130 : BitVec 32) (c0_i32_140 : BitVec 32) : Fin 2 → Nat :=
  let c256_i32_138 : BitVec 32 := 256#32
  let c0_i32_79 : BitVec 32 := 0#32
  let c1_i32_81 : BitVec 32 := 1#32
  let arg12 : BitVec 32 := Scf.iv c0_i32_79 c1_i32_81 k0_t3
  let c16_i32 : BitVec 32 := 16#32
  let v124 : BitVec 32 := Scalar.muli arg12 c16_i32
  let v131 : BitVec 32 := Scalar.addi c256_i32_138 v124
  let c0_i32_139 : BitVec 32 := 0#32
  let v132 : BitVec 32 := Scalar.addi v131 c0_i32_139
  let v134 : Index := Scalar.indexCast v132
  let v133 : BitVec 32 := Scalar.addi v130 c0_i32_140
  let v135 : Index := Scalar.indexCast v133
  ![v134.toNat, v135.toNat]

def k0_chk33 (k0_t3 : Fin k0_t3_loop.trips) (v130 : BitVec 32) : Prop :=
  (∀ (r : Fin 4), ∀ a, (k0_off295 k0_t3 v130 (BitVec.ofNat 32 (16 * r.val))) a + S1x16.size a ≤ S512x128.size a)
theorem k0_off295_inb : ∀ (k0_t3 : Fin k0_t3_loop.trips) (v130 : BitVec 32) (k0_hw33 : k0_chk33 k0_t3 v130), ∀ (r : Fin 4), ∀ a, (k0_off295 k0_t3 v130 (BitVec.ofNat 32 (16 * r.val))) a + S1x16.size a ≤ S512x128.size a := fun k0_t3 v130 k0_hw33 r => k0_hw33 r

def k0_off296 (k0_t3 : Fin k0_t3_loop.trips) : Fin 3 → Nat :=
  let c0_i32_142 : BitVec 32 := 0#32
  let v139 : Index := Scalar.indexCast c0_i32_142
  let c0_i32_79 : BitVec 32 := 0#32
  let c1_i32_81 : BitVec 32 := 1#32
  let arg12 : BitVec 32 := Scf.iv c0_i32_79 c1_i32_81 k0_t3
  let c16_i32 : BitVec 32 := 16#32
  let v124 : BitVec 32 := Scalar.muli arg12 c16_i32
  let c0_i32_141 : BitVec 32 := 0#32
  let v138 : BitVec 32 := Scalar.addi v124 c0_i32_141
  let v140 : Index := Scalar.indexCast v138
  let c0 : Index := 0#32
  ![0, v140.toNat, 0]
def k0_off297 (k0_t3 : Fin k0_t3_loop.trips) : Fin 3 → Nat :=
  let c0_i32_144 : BitVec 32 := 0#32
  let v145 : Index := Scalar.indexCast c0_i32_144
  let c0_i32_79 : BitVec 32 := 0#32
  let c1_i32_81 : BitVec 32 := 1#32
  let arg12 : BitVec 32 := Scf.iv c0_i32_79 c1_i32_81 k0_t3
  let c16_i32 : BitVec 32 := 16#32
  let v124 : BitVec 32 := Scalar.muli arg12 c16_i32
  let c0_i32_143 : BitVec 32 := 0#32
  let v144 : BitVec 32 := Scalar.addi v124 c0_i32_143
  let v146 : Index := Scalar.indexCast v144
  let c64 : Index := 64#32
  ![0, v146.toNat, 64]
def k0_off298 (k0_t3 : Fin k0_t3_loop.trips) : Fin 3 → Nat :=
  let c0_i32_147 : BitVec 32 := 0#32
  let v156 : Index := Scalar.indexCast c0_i32_147
  let c0_i32_79 : BitVec 32 := 0#32
  let c1_i32_81 : BitVec 32 := 1#32
  let arg12 : BitVec 32 := Scf.iv c0_i32_79 c1_i32_81 k0_t3
  let c16_i32 : BitVec 32 := 16#32
  let v124 : BitVec 32 := Scalar.muli arg12 c16_i32
  let c0_i32_146 : BitVec 32 := 0#32
  let v155 : BitVec 32 := Scalar.addi v124 c0_i32_146
  let v157 : Index := Scalar.indexCast v155
  let c16 : Index := 16#32
  ![0, v157.toNat, 16]
def k0_off299 (k0_t3 : Fin k0_t3_loop.trips) : Fin 3 → Nat :=
  let c0_i32_149 : BitVec 32 := 0#32
  let v162 : Index := Scalar.indexCast c0_i32_149
  let c0_i32_79 : BitVec 32 := 0#32
  let c1_i32_81 : BitVec 32 := 1#32
  let arg12 : BitVec 32 := Scf.iv c0_i32_79 c1_i32_81 k0_t3
  let c16_i32 : BitVec 32 := 16#32
  let v124 : BitVec 32 := Scalar.muli arg12 c16_i32
  let c0_i32_148 : BitVec 32 := 0#32
  let v161 : BitVec 32 := Scalar.addi v124 c0_i32_148
  let v163 : Index := Scalar.indexCast v161
  let c80 : Index := 80#32
  ![0, v163.toNat, 80]
def k0_off300 (k0_t3 : Fin k0_t3_loop.trips) : Fin 3 → Nat :=
  let c0_i32_151 : BitVec 32 := 0#32
  let v173 : Index := Scalar.indexCast c0_i32_151
  let c0_i32_79 : BitVec 32 := 0#32
  let c1_i32_81 : BitVec 32 := 1#32
  let arg12 : BitVec 32 := Scf.iv c0_i32_79 c1_i32_81 k0_t3
  let c16_i32 : BitVec 32 := 16#32
  let v124 : BitVec 32 := Scalar.muli arg12 c16_i32
  let c0_i32_150 : BitVec 32 := 0#32
  let v172 : BitVec 32 := Scalar.addi v124 c0_i32_150
  let v174 : Index := Scalar.indexCast v172
  let c32 : Index := 32#32
  ![0, v174.toNat, 32]
def k0_off301 (k0_t3 : Fin k0_t3_loop.trips) : Fin 3 → Nat :=
  let c0_i32_153 : BitVec 32 := 0#32
  let v179 : Index := Scalar.indexCast c0_i32_153
  let c0_i32_79 : BitVec 32 := 0#32
  let c1_i32_81 : BitVec 32 := 1#32
  let arg12 : BitVec 32 := Scf.iv c0_i32_79 c1_i32_81 k0_t3
  let c16_i32 : BitVec 32 := 16#32
  let v124 : BitVec 32 := Scalar.muli arg12 c16_i32
  let c0_i32_152 : BitVec 32 := 0#32
  let v178 : BitVec 32 := Scalar.addi v124 c0_i32_152
  let v180 : Index := Scalar.indexCast v178
  let c96 : Index := 96#32
  ![0, v180.toNat, 96]
def k0_off302 (k0_t3 : Fin k0_t3_loop.trips) : Fin 3 → Nat :=
  let c0_i32_155 : BitVec 32 := 0#32
  let v190 : Index := Scalar.indexCast c0_i32_155
  let c0_i32_79 : BitVec 32 := 0#32
  let c1_i32_81 : BitVec 32 := 1#32
  let arg12 : BitVec 32 := Scf.iv c0_i32_79 c1_i32_81 k0_t3
  let c16_i32 : BitVec 32 := 16#32
  let v124 : BitVec 32 := Scalar.muli arg12 c16_i32
  let c0_i32_154 : BitVec 32 := 0#32
  let v189 : BitVec 32 := Scalar.addi v124 c0_i32_154
  let v191 : Index := Scalar.indexCast v189
  let c48 : Index := 48#32
  ![0, v191.toNat, 48]
def k0_off303 (k0_t3 : Fin k0_t3_loop.trips) : Fin 3 → Nat :=
  let c0_i32_157 : BitVec 32 := 0#32
  let v196 : Index := Scalar.indexCast c0_i32_157
  let c0_i32_79 : BitVec 32 := 0#32
  let c1_i32_81 : BitVec 32 := 1#32
  let arg12 : BitVec 32 := Scf.iv c0_i32_79 c1_i32_81 k0_t3
  let c16_i32 : BitVec 32 := 16#32
  let v124 : BitVec 32 := Scalar.muli arg12 c16_i32
  let c0_i32_156 : BitVec 32 := 0#32
  let v195 : BitVec 32 := Scalar.addi v124 c0_i32_156
  let v197 : Index := Scalar.indexCast v195
  let c112 : Index := 112#32
  ![0, v197.toNat, 112]
def k0_off304 (k0_t3 : Fin k0_t3_loop.trips) (v202 : BitVec 32) (c0_i32_160 : BitVec 32) : Fin 2 → Nat :=
  let c256_i32_158 : BitVec 32 := 256#32
  let c0_i32_79 : BitVec 32 := 0#32
  let c1_i32_81 : BitVec 32 := 1#32
  let arg12 : BitVec 32 := Scf.iv c0_i32_79 c1_i32_81 k0_t3
  let c16_i32 : BitVec 32 := 16#32
  let v124 : BitVec 32 := Scalar.muli arg12 c16_i32
  let v203 : BitVec 32 := Scalar.addi c256_i32_158 v124
  let c1_i32_159 : BitVec 32 := 1#32
  let v204 : BitVec 32 := Scalar.addi v203 c1_i32_159
  let v206 : Index := Scalar.indexCast v204
  let v205 : BitVec 32 := Scalar.addi v202 c0_i32_160
  let v207 : Index := Scalar.indexCast v205
  ![v206.toNat, v207.toNat]

def k0_chk34 (k0_t3 : Fin k0_t3_loop.trips) (v202 : BitVec 32) : Prop :=
  (∀ (r : Fin 4), ∀ a, (k0_off304 k0_t3 v202 (BitVec.ofNat 32 (16 * r.val))) a + S1x16.size a ≤ S512x128.size a)
theorem k0_off304_inb : ∀ (k0_t3 : Fin k0_t3_loop.trips) (v202 : BitVec 32) (k0_hw34 : k0_chk34 k0_t3 v202), ∀ (r : Fin 4), ∀ a, (k0_off304 k0_t3 v202 (BitVec.ofNat 32 (16 * r.val))) a + S1x16.size a ≤ S512x128.size a := fun k0_t3 v202 k0_hw34 r => k0_hw34 r

def k0_off305 (k0_t3 : Fin k0_t3_loop.trips) : Fin 3 → Nat :=
  let c0_i32_162 : BitVec 32 := 0#32
  let v211 : Index := Scalar.indexCast c0_i32_162
  let c0_i32_79 : BitVec 32 := 0#32
  let c1_i32_81 : BitVec 32 := 1#32
  let arg12 : BitVec 32 := Scf.iv c0_i32_79 c1_i32_81 k0_t3
  let c16_i32 : BitVec 32 := 16#32
  let v124 : BitVec 32 := Scalar.muli arg12 c16_i32
  let c1_i32_161 : BitVec 32 := 1#32
  let v210 : BitVec 32 := Scalar.addi v124 c1_i32_161
  let v212 : Index := Scalar.indexCast v210
  let c0_163 : Index := 0#32
  ![0, v212.toNat, 0]
def k0_off306 (k0_t3 : Fin k0_t3_loop.trips) : Fin 3 → Nat :=
  let c0_i32_165 : BitVec 32 := 0#32
  let v217 : Index := Scalar.indexCast c0_i32_165
  let c0_i32_79 : BitVec 32 := 0#32
  let c1_i32_81 : BitVec 32 := 1#32
  let arg12 : BitVec 32 := Scf.iv c0_i32_79 c1_i32_81 k0_t3
  let c16_i32 : BitVec 32 := 16#32
  let v124 : BitVec 32 := Scalar.muli arg12 c16_i32
  let c1_i32_164 : BitVec 32 := 1#32
  let v216 : BitVec 32 := Scalar.addi v124 c1_i32_164
  let v218 : Index := Scalar.indexCast v216
  let c64_166 : Index := 64#32
  ![0, v218.toNat, 64]
def k0_off307 (k0_t3 : Fin k0_t3_loop.trips) : Fin 3 → Nat :=
  let c0_i32_169 : BitVec 32 := 0#32
  let v228 : Index := Scalar.indexCast c0_i32_169
  let c0_i32_79 : BitVec 32 := 0#32
  let c1_i32_81 : BitVec 32 := 1#32
  let arg12 : BitVec 32 := Scf.iv c0_i32_79 c1_i32_81 k0_t3
  let c16_i32 : BitVec 32 := 16#32
  let v124 : BitVec 32 := Scalar.muli arg12 c16_i32
  let c1_i32_168 : BitVec 32 := 1#32
  let v227 : BitVec 32 := Scalar.addi v124 c1_i32_168
  let v229 : Index := Scalar.indexCast v227
  let c16_170 : Index := 16#32
  ![0, v229.toNat, 16]
def k0_off308 (k0_t3 : Fin k0_t3_loop.trips) : Fin 3 → Nat :=
  let c0_i32_172 : BitVec 32 := 0#32
  let v234 : Index := Scalar.indexCast c0_i32_172
  let c0_i32_79 : BitVec 32 := 0#32
  let c1_i32_81 : BitVec 32 := 1#32
  let arg12 : BitVec 32 := Scf.iv c0_i32_79 c1_i32_81 k0_t3
  let c16_i32 : BitVec 32 := 16#32
  let v124 : BitVec 32 := Scalar.muli arg12 c16_i32
  let c1_i32_171 : BitVec 32 := 1#32
  let v233 : BitVec 32 := Scalar.addi v124 c1_i32_171
  let v235 : Index := Scalar.indexCast v233
  let c80_173 : Index := 80#32
  ![0, v235.toNat, 80]
def k0_off309 (k0_t3 : Fin k0_t3_loop.trips) : Fin 3 → Nat :=
  let c0_i32_176 : BitVec 32 := 0#32
  let v245 : Index := Scalar.indexCast c0_i32_176
  let c0_i32_79 : BitVec 32 := 0#32
  let c1_i32_81 : BitVec 32 := 1#32
  let arg12 : BitVec 32 := Scf.iv c0_i32_79 c1_i32_81 k0_t3
  let c16_i32 : BitVec 32 := 16#32
  let v124 : BitVec 32 := Scalar.muli arg12 c16_i32
  let c1_i32_175 : BitVec 32 := 1#32
  let v244 : BitVec 32 := Scalar.addi v124 c1_i32_175
  let v246 : Index := Scalar.indexCast v244
  let c32_177 : Index := 32#32
  ![0, v246.toNat, 32]
def k0_off310 (k0_t3 : Fin k0_t3_loop.trips) : Fin 3 → Nat :=
  let c0_i32_179 : BitVec 32 := 0#32
  let v251 : Index := Scalar.indexCast c0_i32_179
  let c0_i32_79 : BitVec 32 := 0#32
  let c1_i32_81 : BitVec 32 := 1#32
  let arg12 : BitVec 32 := Scf.iv c0_i32_79 c1_i32_81 k0_t3
  let c16_i32 : BitVec 32 := 16#32
  let v124 : BitVec 32 := Scalar.muli arg12 c16_i32
  let c1_i32_178 : BitVec 32 := 1#32
  let v250 : BitVec 32 := Scalar.addi v124 c1_i32_178
  let v252 : Index := Scalar.indexCast v250
  let c96_180 : Index := 96#32
  ![0, v252.toNat, 96]
def k0_off311 (k0_t3 : Fin k0_t3_loop.trips) : Fin 3 → Nat :=
  let c0_i32_183 : BitVec 32 := 0#32
  let v262 : Index := Scalar.indexCast c0_i32_183
  let c0_i32_79 : BitVec 32 := 0#32
  let c1_i32_81 : BitVec 32 := 1#32
  let arg12 : BitVec 32 := Scf.iv c0_i32_79 c1_i32_81 k0_t3
  let c16_i32 : BitVec 32 := 16#32
  let v124 : BitVec 32 := Scalar.muli arg12 c16_i32
  let c1_i32_182 : BitVec 32 := 1#32
  let v261 : BitVec 32 := Scalar.addi v124 c1_i32_182
  let v263 : Index := Scalar.indexCast v261
  let c48_184 : Index := 48#32
  ![0, v263.toNat, 48]
def k0_off312 (k0_t3 : Fin k0_t3_loop.trips) : Fin 3 → Nat :=
  let c0_i32_186 : BitVec 32 := 0#32
  let v268 : Index := Scalar.indexCast c0_i32_186
  let c0_i32_79 : BitVec 32 := 0#32
  let c1_i32_81 : BitVec 32 := 1#32
  let arg12 : BitVec 32 := Scf.iv c0_i32_79 c1_i32_81 k0_t3
  let c16_i32 : BitVec 32 := 16#32
  let v124 : BitVec 32 := Scalar.muli arg12 c16_i32
  let c1_i32_185 : BitVec 32 := 1#32
  let v267 : BitVec 32 := Scalar.addi v124 c1_i32_185
  let v269 : Index := Scalar.indexCast v267
  let c112_187 : Index := 112#32
  ![0, v269.toNat, 112]
def k0_off313 (k0_t3 : Fin k0_t3_loop.trips) (v274 : BitVec 32) (c0_i32_190 : BitVec 32) : Fin 2 → Nat :=
  let c256_i32_188 : BitVec 32 := 256#32
  let c0_i32_79 : BitVec 32 := 0#32
  let c1_i32_81 : BitVec 32 := 1#32
  let arg12 : BitVec 32 := Scf.iv c0_i32_79 c1_i32_81 k0_t3
  let c16_i32 : BitVec 32 := 16#32
  let v124 : BitVec 32 := Scalar.muli arg12 c16_i32
  let v275 : BitVec 32 := Scalar.addi c256_i32_188 v124
  let c2_i32_189 : BitVec 32 := 2#32
  let v276 : BitVec 32 := Scalar.addi v275 c2_i32_189
  let v278 : Index := Scalar.indexCast v276
  let v277 : BitVec 32 := Scalar.addi v274 c0_i32_190
  let v279 : Index := Scalar.indexCast v277
  ![v278.toNat, v279.toNat]

def k0_chk35 (k0_t3 : Fin k0_t3_loop.trips) (v274 : BitVec 32) : Prop :=
  (∀ (r : Fin 4), ∀ a, (k0_off313 k0_t3 v274 (BitVec.ofNat 32 (16 * r.val))) a + S1x16.size a ≤ S512x128.size a)
theorem k0_off313_inb : ∀ (k0_t3 : Fin k0_t3_loop.trips) (v274 : BitVec 32) (k0_hw35 : k0_chk35 k0_t3 v274), ∀ (r : Fin 4), ∀ a, (k0_off313 k0_t3 v274 (BitVec.ofNat 32 (16 * r.val))) a + S1x16.size a ≤ S512x128.size a := fun k0_t3 v274 k0_hw35 r => k0_hw35 r

def k0_off314 (k0_t3 : Fin k0_t3_loop.trips) : Fin 3 → Nat :=
  let c0_i32_192 : BitVec 32 := 0#32
  let v283 : Index := Scalar.indexCast c0_i32_192
  let c0_i32_79 : BitVec 32 := 0#32
  let c1_i32_81 : BitVec 32 := 1#32
  let arg12 : BitVec 32 := Scf.iv c0_i32_79 c1_i32_81 k0_t3
  let c16_i32 : BitVec 32 := 16#32
  let v124 : BitVec 32 := Scalar.muli arg12 c16_i32
  let c2_i32_191 : BitVec 32 := 2#32
  let v282 : BitVec 32 := Scalar.addi v124 c2_i32_191
  let v284 : Index := Scalar.indexCast v282
  let c0_193 : Index := 0#32
  ![0, v284.toNat, 0]
def k0_off315 (k0_t3 : Fin k0_t3_loop.trips) : Fin 3 → Nat :=
  let c0_i32_195 : BitVec 32 := 0#32
  let v289 : Index := Scalar.indexCast c0_i32_195
  let c0_i32_79 : BitVec 32 := 0#32
  let c1_i32_81 : BitVec 32 := 1#32
  let arg12 : BitVec 32 := Scf.iv c0_i32_79 c1_i32_81 k0_t3
  let c16_i32 : BitVec 32 := 16#32
  let v124 : BitVec 32 := Scalar.muli arg12 c16_i32
  let c2_i32_194 : BitVec 32 := 2#32
  let v288 : BitVec 32 := Scalar.addi v124 c2_i32_194
  let v290 : Index := Scalar.indexCast v288
  let c64_196 : Index := 64#32
  ![0, v290.toNat, 64]
def k0_off316 (k0_t3 : Fin k0_t3_loop.trips) : Fin 3 → Nat :=
  let c0_i32_199 : BitVec 32 := 0#32
  let v300 : Index := Scalar.indexCast c0_i32_199
  let c0_i32_79 : BitVec 32 := 0#32
  let c1_i32_81 : BitVec 32 := 1#32
  let arg12 : BitVec 32 := Scf.iv c0_i32_79 c1_i32_81 k0_t3
  let c16_i32 : BitVec 32 := 16#32
  let v124 : BitVec 32 := Scalar.muli arg12 c16_i32
  let c2_i32_198 : BitVec 32 := 2#32
  let v299 : BitVec 32 := Scalar.addi v124 c2_i32_198
  let v301 : Index := Scalar.indexCast v299
  let c16_200 : Index := 16#32
  ![0, v301.toNat, 16]
def k0_off317 (k0_t3 : Fin k0_t3_loop.trips) : Fin 3 → Nat :=
  let c0_i32_202 : BitVec 32 := 0#32
  let v306 : Index := Scalar.indexCast c0_i32_202
  let c0_i32_79 : BitVec 32 := 0#32
  let c1_i32_81 : BitVec 32 := 1#32
  let arg12 : BitVec 32 := Scf.iv c0_i32_79 c1_i32_81 k0_t3
  let c16_i32 : BitVec 32 := 16#32
  let v124 : BitVec 32 := Scalar.muli arg12 c16_i32
  let c2_i32_201 : BitVec 32 := 2#32
  let v305 : BitVec 32 := Scalar.addi v124 c2_i32_201
  let v307 : Index := Scalar.indexCast v305
  let c80_203 : Index := 80#32
  ![0, v307.toNat, 80]
def k0_off318 (k0_t3 : Fin k0_t3_loop.trips) : Fin 3 → Nat :=
  let c0_i32_206 : BitVec 32 := 0#32
  let v317 : Index := Scalar.indexCast c0_i32_206
  let c0_i32_79 : BitVec 32 := 0#32
  let c1_i32_81 : BitVec 32 := 1#32
  let arg12 : BitVec 32 := Scf.iv c0_i32_79 c1_i32_81 k0_t3
  let c16_i32 : BitVec 32 := 16#32
  let v124 : BitVec 32 := Scalar.muli arg12 c16_i32
  let c2_i32_205 : BitVec 32 := 2#32
  let v316 : BitVec 32 := Scalar.addi v124 c2_i32_205
  let v318 : Index := Scalar.indexCast v316
  let c32_207 : Index := 32#32
  ![0, v318.toNat, 32]
def k0_off319 (k0_t3 : Fin k0_t3_loop.trips) : Fin 3 → Nat :=
  let c0_i32_209 : BitVec 32 := 0#32
  let v323 : Index := Scalar.indexCast c0_i32_209
  let c0_i32_79 : BitVec 32 := 0#32
  let c1_i32_81 : BitVec 32 := 1#32
  let arg12 : BitVec 32 := Scf.iv c0_i32_79 c1_i32_81 k0_t3
  let c16_i32 : BitVec 32 := 16#32
  let v124 : BitVec 32 := Scalar.muli arg12 c16_i32
  let c2_i32_208 : BitVec 32 := 2#32
  let v322 : BitVec 32 := Scalar.addi v124 c2_i32_208
  let v324 : Index := Scalar.indexCast v322
  let c96_210 : Index := 96#32
  ![0, v324.toNat, 96]
def k0_off320 (k0_t3 : Fin k0_t3_loop.trips) : Fin 3 → Nat :=
  let c0_i32_213 : BitVec 32 := 0#32
  let v334 : Index := Scalar.indexCast c0_i32_213
  let c0_i32_79 : BitVec 32 := 0#32
  let c1_i32_81 : BitVec 32 := 1#32
  let arg12 : BitVec 32 := Scf.iv c0_i32_79 c1_i32_81 k0_t3
  let c16_i32 : BitVec 32 := 16#32
  let v124 : BitVec 32 := Scalar.muli arg12 c16_i32
  let c2_i32_212 : BitVec 32 := 2#32
  let v333 : BitVec 32 := Scalar.addi v124 c2_i32_212
  let v335 : Index := Scalar.indexCast v333
  let c48_214 : Index := 48#32
  ![0, v335.toNat, 48]
def k0_off321 (k0_t3 : Fin k0_t3_loop.trips) : Fin 3 → Nat :=
  let c0_i32_216 : BitVec 32 := 0#32
  let v340 : Index := Scalar.indexCast c0_i32_216
  let c0_i32_79 : BitVec 32 := 0#32
  let c1_i32_81 : BitVec 32 := 1#32
  let arg12 : BitVec 32 := Scf.iv c0_i32_79 c1_i32_81 k0_t3
  let c16_i32 : BitVec 32 := 16#32
  let v124 : BitVec 32 := Scalar.muli arg12 c16_i32
  let c2_i32_215 : BitVec 32 := 2#32
  let v339 : BitVec 32 := Scalar.addi v124 c2_i32_215
  let v341 : Index := Scalar.indexCast v339
  let c112_217 : Index := 112#32
  ![0, v341.toNat, 112]
def k0_off322 (k0_t3 : Fin k0_t3_loop.trips) (v346 : BitVec 32) (c0_i32_220 : BitVec 32) : Fin 2 → Nat :=
  let c256_i32_218 : BitVec 32 := 256#32
  let c0_i32_79 : BitVec 32 := 0#32
  let c1_i32_81 : BitVec 32 := 1#32
  let arg12 : BitVec 32 := Scf.iv c0_i32_79 c1_i32_81 k0_t3
  let c16_i32 : BitVec 32 := 16#32
  let v124 : BitVec 32 := Scalar.muli arg12 c16_i32
  let v347 : BitVec 32 := Scalar.addi c256_i32_218 v124
  let c3_i32_219 : BitVec 32 := 3#32
  let v348 : BitVec 32 := Scalar.addi v347 c3_i32_219
  let v350 : Index := Scalar.indexCast v348
  let v349 : BitVec 32 := Scalar.addi v346 c0_i32_220
  let v351 : Index := Scalar.indexCast v349
  ![v350.toNat, v351.toNat]

def k0_chk36 (k0_t3 : Fin k0_t3_loop.trips) (v346 : BitVec 32) : Prop :=
  (∀ (r : Fin 4), ∀ a, (k0_off322 k0_t3 v346 (BitVec.ofNat 32 (16 * r.val))) a + S1x16.size a ≤ S512x128.size a)
theorem k0_off322_inb : ∀ (k0_t3 : Fin k0_t3_loop.trips) (v346 : BitVec 32) (k0_hw36 : k0_chk36 k0_t3 v346), ∀ (r : Fin 4), ∀ a, (k0_off322 k0_t3 v346 (BitVec.ofNat 32 (16 * r.val))) a + S1x16.size a ≤ S512x128.size a := fun k0_t3 v346 k0_hw36 r => k0_hw36 r

def k0_off323 (k0_t3 : Fin k0_t3_loop.trips) : Fin 3 → Nat :=
  let c0_i32_222 : BitVec 32 := 0#32
  let v355 : Index := Scalar.indexCast c0_i32_222
  let c0_i32_79 : BitVec 32 := 0#32
  let c1_i32_81 : BitVec 32 := 1#32
  let arg12 : BitVec 32 := Scf.iv c0_i32_79 c1_i32_81 k0_t3
  let c16_i32 : BitVec 32 := 16#32
  let v124 : BitVec 32 := Scalar.muli arg12 c16_i32
  let c3_i32_221 : BitVec 32 := 3#32
  let v354 : BitVec 32 := Scalar.addi v124 c3_i32_221
  let v356 : Index := Scalar.indexCast v354
  let c0_223 : Index := 0#32
  ![0, v356.toNat, 0]
def k0_off324 (k0_t3 : Fin k0_t3_loop.trips) : Fin 3 → Nat :=
  let c0_i32_225 : BitVec 32 := 0#32
  let v361 : Index := Scalar.indexCast c0_i32_225
  let c0_i32_79 : BitVec 32 := 0#32
  let c1_i32_81 : BitVec 32 := 1#32
  let arg12 : BitVec 32 := Scf.iv c0_i32_79 c1_i32_81 k0_t3
  let c16_i32 : BitVec 32 := 16#32
  let v124 : BitVec 32 := Scalar.muli arg12 c16_i32
  let c3_i32_224 : BitVec 32 := 3#32
  let v360 : BitVec 32 := Scalar.addi v124 c3_i32_224
  let v362 : Index := Scalar.indexCast v360
  let c64_226 : Index := 64#32
  ![0, v362.toNat, 64]
def k0_off325 (k0_t3 : Fin k0_t3_loop.trips) : Fin 3 → Nat :=
  let c0_i32_229 : BitVec 32 := 0#32
  let v372 : Index := Scalar.indexCast c0_i32_229
  let c0_i32_79 : BitVec 32 := 0#32
  let c1_i32_81 : BitVec 32 := 1#32
  let arg12 : BitVec 32 := Scf.iv c0_i32_79 c1_i32_81 k0_t3
  let c16_i32 : BitVec 32 := 16#32
  let v124 : BitVec 32 := Scalar.muli arg12 c16_i32
  let c3_i32_228 : BitVec 32 := 3#32
  let v371 : BitVec 32 := Scalar.addi v124 c3_i32_228
  let v373 : Index := Scalar.indexCast v371
  let c16_230 : Index := 16#32
  ![0, v373.toNat, 16]
def k0_off326 (k0_t3 : Fin k0_t3_loop.trips) : Fin 3 → Nat :=
  let c0_i32_232 : BitVec 32 := 0#32
  let v378 : Index := Scalar.indexCast c0_i32_232
  let c0_i32_79 : BitVec 32 := 0#32
  let c1_i32_81 : BitVec 32 := 1#32
  let arg12 : BitVec 32 := Scf.iv c0_i32_79 c1_i32_81 k0_t3
  let c16_i32 : BitVec 32 := 16#32
  let v124 : BitVec 32 := Scalar.muli arg12 c16_i32
  let c3_i32_231 : BitVec 32 := 3#32
  let v377 : BitVec 32 := Scalar.addi v124 c3_i32_231
  let v379 : Index := Scalar.indexCast v377
  let c80_233 : Index := 80#32
  ![0, v379.toNat, 80]
def k0_off327 (k0_t3 : Fin k0_t3_loop.trips) : Fin 3 → Nat :=
  let c0_i32_236 : BitVec 32 := 0#32
  let v389 : Index := Scalar.indexCast c0_i32_236
  let c0_i32_79 : BitVec 32 := 0#32
  let c1_i32_81 : BitVec 32 := 1#32
  let arg12 : BitVec 32 := Scf.iv c0_i32_79 c1_i32_81 k0_t3
  let c16_i32 : BitVec 32 := 16#32
  let v124 : BitVec 32 := Scalar.muli arg12 c16_i32
  let c3_i32_235 : BitVec 32 := 3#32
  let v388 : BitVec 32 := Scalar.addi v124 c3_i32_235
  let v390 : Index := Scalar.indexCast v388
  let c32_237 : Index := 32#32
  ![0, v390.toNat, 32]
def k0_off328 (k0_t3 : Fin k0_t3_loop.trips) : Fin 3 → Nat :=
  let c0_i32_239 : BitVec 32 := 0#32
  let v395 : Index := Scalar.indexCast c0_i32_239
  let c0_i32_79 : BitVec 32 := 0#32
  let c1_i32_81 : BitVec 32 := 1#32
  let arg12 : BitVec 32 := Scf.iv c0_i32_79 c1_i32_81 k0_t3
  let c16_i32 : BitVec 32 := 16#32
  let v124 : BitVec 32 := Scalar.muli arg12 c16_i32
  let c3_i32_238 : BitVec 32 := 3#32
  let v394 : BitVec 32 := Scalar.addi v124 c3_i32_238
  let v396 : Index := Scalar.indexCast v394
  let c96_240 : Index := 96#32
  ![0, v396.toNat, 96]
def k0_off329 (k0_t3 : Fin k0_t3_loop.trips) : Fin 3 → Nat :=
  let c0_i32_243 : BitVec 32 := 0#32
  let v406 : Index := Scalar.indexCast c0_i32_243
  let c0_i32_79 : BitVec 32 := 0#32
  let c1_i32_81 : BitVec 32 := 1#32
  let arg12 : BitVec 32 := Scf.iv c0_i32_79 c1_i32_81 k0_t3
  let c16_i32 : BitVec 32 := 16#32
  let v124 : BitVec 32 := Scalar.muli arg12 c16_i32
  let c3_i32_242 : BitVec 32 := 3#32
  let v405 : BitVec 32 := Scalar.addi v124 c3_i32_242
  let v407 : Index := Scalar.indexCast v405
  let c48_244 : Index := 48#32
  ![0, v407.toNat, 48]
def k0_off330 (k0_t3 : Fin k0_t3_loop.trips) : Fin 3 → Nat :=
  let c0_i32_246 : BitVec 32 := 0#32
  let v412 : Index := Scalar.indexCast c0_i32_246
  let c0_i32_79 : BitVec 32 := 0#32
  let c1_i32_81 : BitVec 32 := 1#32
  let arg12 : BitVec 32 := Scf.iv c0_i32_79 c1_i32_81 k0_t3
  let c16_i32 : BitVec 32 := 16#32
  let v124 : BitVec 32 := Scalar.muli arg12 c16_i32
  let c3_i32_245 : BitVec 32 := 3#32
  let v411 : BitVec 32 := Scalar.addi v124 c3_i32_245
  let v413 : Index := Scalar.indexCast v411
  let c112_247 : Index := 112#32
  ![0, v413.toNat, 112]
def k0_off331 (k0_t3 : Fin k0_t3_loop.trips) (v418 : BitVec 32) (c0_i32_249 : BitVec 32) : Fin 2 → Nat :=
  let c256_i32_248 : BitVec 32 := 256#32
  let c0_i32_79 : BitVec 32 := 0#32
  let c1_i32_81 : BitVec 32 := 1#32
  let arg12 : BitVec 32 := Scf.iv c0_i32_79 c1_i32_81 k0_t3
  let c16_i32 : BitVec 32 := 16#32
  let v124 : BitVec 32 := Scalar.muli arg12 c16_i32
  let v419 : BitVec 32 := Scalar.addi c256_i32_248 v124
  let c4_i32 : BitVec 32 := 4#32
  let v420 : BitVec 32 := Scalar.addi v419 c4_i32
  let v422 : Index := Scalar.indexCast v420
  let v421 : BitVec 32 := Scalar.addi v418 c0_i32_249
  let v423 : Index := Scalar.indexCast v421
  ![v422.toNat, v423.toNat]

def k0_chk37 (k0_t3 : Fin k0_t3_loop.trips) (v418 : BitVec 32) : Prop :=
  (∀ (r : Fin 4), ∀ a, (k0_off331 k0_t3 v418 (BitVec.ofNat 32 (16 * r.val))) a + S1x16.size a ≤ S512x128.size a)
theorem k0_off331_inb : ∀ (k0_t3 : Fin k0_t3_loop.trips) (v418 : BitVec 32) (k0_hw37 : k0_chk37 k0_t3 v418), ∀ (r : Fin 4), ∀ a, (k0_off331 k0_t3 v418 (BitVec.ofNat 32 (16 * r.val))) a + S1x16.size a ≤ S512x128.size a := fun k0_t3 v418 k0_hw37 r => k0_hw37 r

def k0_off332 (k0_t3 : Fin k0_t3_loop.trips) : Fin 3 → Nat :=
  let c0_i32_251 : BitVec 32 := 0#32
  let v427 : Index := Scalar.indexCast c0_i32_251
  let c0_i32_79 : BitVec 32 := 0#32
  let c1_i32_81 : BitVec 32 := 1#32
  let arg12 : BitVec 32 := Scf.iv c0_i32_79 c1_i32_81 k0_t3
  let c16_i32 : BitVec 32 := 16#32
  let v124 : BitVec 32 := Scalar.muli arg12 c16_i32
  let c4_i32_250 : BitVec 32 := 4#32
  let v426 : BitVec 32 := Scalar.addi v124 c4_i32_250
  let v428 : Index := Scalar.indexCast v426
  let c0_252 : Index := 0#32
  ![0, v428.toNat, 0]
def k0_off333 (k0_t3 : Fin k0_t3_loop.trips) : Fin 3 → Nat :=
  let c0_i32_254 : BitVec 32 := 0#32
  let v433 : Index := Scalar.indexCast c0_i32_254
  let c0_i32_79 : BitVec 32 := 0#32
  let c1_i32_81 : BitVec 32 := 1#32
  let arg12 : BitVec 32 := Scf.iv c0_i32_79 c1_i32_81 k0_t3
  let c16_i32 : BitVec 32 := 16#32
  let v124 : BitVec 32 := Scalar.muli arg12 c16_i32
  let c4_i32_253 : BitVec 32 := 4#32
  let v432 : BitVec 32 := Scalar.addi v124 c4_i32_253
  let v434 : Index := Scalar.indexCast v432
  let c64_255 : Index := 64#32
  ![0, v434.toNat, 64]
def k0_off334 (k0_t3 : Fin k0_t3_loop.trips) : Fin 3 → Nat :=
  let c0_i32_258 : BitVec 32 := 0#32
  let v444 : Index := Scalar.indexCast c0_i32_258
  let c0_i32_79 : BitVec 32 := 0#32
  let c1_i32_81 : BitVec 32 := 1#32
  let arg12 : BitVec 32 := Scf.iv c0_i32_79 c1_i32_81 k0_t3
  let c16_i32 : BitVec 32 := 16#32
  let v124 : BitVec 32 := Scalar.muli arg12 c16_i32
  let c4_i32_257 : BitVec 32 := 4#32
  let v443 : BitVec 32 := Scalar.addi v124 c4_i32_257
  let v445 : Index := Scalar.indexCast v443
  let c16_259 : Index := 16#32
  ![0, v445.toNat, 16]
def k0_off335 (k0_t3 : Fin k0_t3_loop.trips) : Fin 3 → Nat :=
  let c0_i32_261 : BitVec 32 := 0#32
  let v450 : Index := Scalar.indexCast c0_i32_261
  let c0_i32_79 : BitVec 32 := 0#32
  let c1_i32_81 : BitVec 32 := 1#32
  let arg12 : BitVec 32 := Scf.iv c0_i32_79 c1_i32_81 k0_t3
  let c16_i32 : BitVec 32 := 16#32
  let v124 : BitVec 32 := Scalar.muli arg12 c16_i32
  let c4_i32_260 : BitVec 32 := 4#32
  let v449 : BitVec 32 := Scalar.addi v124 c4_i32_260
  let v451 : Index := Scalar.indexCast v449
  let c80_262 : Index := 80#32
  ![0, v451.toNat, 80]
def k0_off336 (k0_t3 : Fin k0_t3_loop.trips) : Fin 3 → Nat :=
  let c0_i32_265 : BitVec 32 := 0#32
  let v461 : Index := Scalar.indexCast c0_i32_265
  let c0_i32_79 : BitVec 32 := 0#32
  let c1_i32_81 : BitVec 32 := 1#32
  let arg12 : BitVec 32 := Scf.iv c0_i32_79 c1_i32_81 k0_t3
  let c16_i32 : BitVec 32 := 16#32
  let v124 : BitVec 32 := Scalar.muli arg12 c16_i32
  let c4_i32_264 : BitVec 32 := 4#32
  let v460 : BitVec 32 := Scalar.addi v124 c4_i32_264
  let v462 : Index := Scalar.indexCast v460
  let c32_266 : Index := 32#32
  ![0, v462.toNat, 32]
def k0_off337 (k0_t3 : Fin k0_t3_loop.trips) : Fin 3 → Nat :=
  let c0_i32_268 : BitVec 32 := 0#32
  let v467 : Index := Scalar.indexCast c0_i32_268
  let c0_i32_79 : BitVec 32 := 0#32
  let c1_i32_81 : BitVec 32 := 1#32
  let arg12 : BitVec 32 := Scf.iv c0_i32_79 c1_i32_81 k0_t3
  let c16_i32 : BitVec 32 := 16#32
  let v124 : BitVec 32 := Scalar.muli arg12 c16_i32
  let c4_i32_267 : BitVec 32 := 4#32
  let v466 : BitVec 32 := Scalar.addi v124 c4_i32_267
  let v468 : Index := Scalar.indexCast v466
  let c96_269 : Index := 96#32
  ![0, v468.toNat, 96]
def k0_off338 (k0_t3 : Fin k0_t3_loop.trips) : Fin 3 → Nat :=
  let c0_i32_272 : BitVec 32 := 0#32
  let v478 : Index := Scalar.indexCast c0_i32_272
  let c0_i32_79 : BitVec 32 := 0#32
  let c1_i32_81 : BitVec 32 := 1#32
  let arg12 : BitVec 32 := Scf.iv c0_i32_79 c1_i32_81 k0_t3
  let c16_i32 : BitVec 32 := 16#32
  let v124 : BitVec 32 := Scalar.muli arg12 c16_i32
  let c4_i32_271 : BitVec 32 := 4#32
  let v477 : BitVec 32 := Scalar.addi v124 c4_i32_271
  let v479 : Index := Scalar.indexCast v477
  let c48_273 : Index := 48#32
  ![0, v479.toNat, 48]
def k0_off339 (k0_t3 : Fin k0_t3_loop.trips) : Fin 3 → Nat :=
  let c0_i32_275 : BitVec 32 := 0#32
  let v484 : Index := Scalar.indexCast c0_i32_275
  let c0_i32_79 : BitVec 32 := 0#32
  let c1_i32_81 : BitVec 32 := 1#32
  let arg12 : BitVec 32 := Scf.iv c0_i32_79 c1_i32_81 k0_t3
  let c16_i32 : BitVec 32 := 16#32
  let v124 : BitVec 32 := Scalar.muli arg12 c16_i32
  let c4_i32_274 : BitVec 32 := 4#32
  let v483 : BitVec 32 := Scalar.addi v124 c4_i32_274
  let v485 : Index := Scalar.indexCast v483
  let c112_276 : Index := 112#32
  ![0, v485.toNat, 112]
def k0_off340 (k0_t3 : Fin k0_t3_loop.trips) (v490 : BitVec 32) (c0_i32_278 : BitVec 32) : Fin 2 → Nat :=
  let c256_i32_277 : BitVec 32 := 256#32
  let c0_i32_79 : BitVec 32 := 0#32
  let c1_i32_81 : BitVec 32 := 1#32
  let arg12 : BitVec 32 := Scf.iv c0_i32_79 c1_i32_81 k0_t3
  let c16_i32 : BitVec 32 := 16#32
  let v124 : BitVec 32 := Scalar.muli arg12 c16_i32
  let v491 : BitVec 32 := Scalar.addi c256_i32_277 v124
  let c5_i32 : BitVec 32 := 5#32
  let v492 : BitVec 32 := Scalar.addi v491 c5_i32
  let v494 : Index := Scalar.indexCast v492
  let v493 : BitVec 32 := Scalar.addi v490 c0_i32_278
  let v495 : Index := Scalar.indexCast v493
  ![v494.toNat, v495.toNat]

def k0_chk38 (k0_t3 : Fin k0_t3_loop.trips) (v490 : BitVec 32) : Prop :=
  (∀ (r : Fin 4), ∀ a, (k0_off340 k0_t3 v490 (BitVec.ofNat 32 (16 * r.val))) a + S1x16.size a ≤ S512x128.size a)
theorem k0_off340_inb : ∀ (k0_t3 : Fin k0_t3_loop.trips) (v490 : BitVec 32) (k0_hw38 : k0_chk38 k0_t3 v490), ∀ (r : Fin 4), ∀ a, (k0_off340 k0_t3 v490 (BitVec.ofNat 32 (16 * r.val))) a + S1x16.size a ≤ S512x128.size a := fun k0_t3 v490 k0_hw38 r => k0_hw38 r

def k0_off341 (k0_t3 : Fin k0_t3_loop.trips) : Fin 3 → Nat :=
  let c0_i32_280 : BitVec 32 := 0#32
  let v499 : Index := Scalar.indexCast c0_i32_280
  let c0_i32_79 : BitVec 32 := 0#32
  let c1_i32_81 : BitVec 32 := 1#32
  let arg12 : BitVec 32 := Scf.iv c0_i32_79 c1_i32_81 k0_t3
  let c16_i32 : BitVec 32 := 16#32
  let v124 : BitVec 32 := Scalar.muli arg12 c16_i32
  let c5_i32_279 : BitVec 32 := 5#32
  let v498 : BitVec 32 := Scalar.addi v124 c5_i32_279
  let v500 : Index := Scalar.indexCast v498
  let c0_281 : Index := 0#32
  ![0, v500.toNat, 0]
def k0_off342 (k0_t3 : Fin k0_t3_loop.trips) : Fin 3 → Nat :=
  let c0_i32_283 : BitVec 32 := 0#32
  let v505 : Index := Scalar.indexCast c0_i32_283
  let c0_i32_79 : BitVec 32 := 0#32
  let c1_i32_81 : BitVec 32 := 1#32
  let arg12 : BitVec 32 := Scf.iv c0_i32_79 c1_i32_81 k0_t3
  let c16_i32 : BitVec 32 := 16#32
  let v124 : BitVec 32 := Scalar.muli arg12 c16_i32
  let c5_i32_282 : BitVec 32 := 5#32
  let v504 : BitVec 32 := Scalar.addi v124 c5_i32_282
  let v506 : Index := Scalar.indexCast v504
  let c64_284 : Index := 64#32
  ![0, v506.toNat, 64]
def k0_off343 (k0_t3 : Fin k0_t3_loop.trips) : Fin 3 → Nat :=
  let c0_i32_287 : BitVec 32 := 0#32
  let v516 : Index := Scalar.indexCast c0_i32_287
  let c0_i32_79 : BitVec 32 := 0#32
  let c1_i32_81 : BitVec 32 := 1#32
  let arg12 : BitVec 32 := Scf.iv c0_i32_79 c1_i32_81 k0_t3
  let c16_i32 : BitVec 32 := 16#32
  let v124 : BitVec 32 := Scalar.muli arg12 c16_i32
  let c5_i32_286 : BitVec 32 := 5#32
  let v515 : BitVec 32 := Scalar.addi v124 c5_i32_286
  let v517 : Index := Scalar.indexCast v515
  let c16_288 : Index := 16#32
  ![0, v517.toNat, 16]
def k0_off344 (k0_t3 : Fin k0_t3_loop.trips) : Fin 3 → Nat :=
  let c0_i32_290 : BitVec 32 := 0#32
  let v522 : Index := Scalar.indexCast c0_i32_290
  let c0_i32_79 : BitVec 32 := 0#32
  let c1_i32_81 : BitVec 32 := 1#32
  let arg12 : BitVec 32 := Scf.iv c0_i32_79 c1_i32_81 k0_t3
  let c16_i32 : BitVec 32 := 16#32
  let v124 : BitVec 32 := Scalar.muli arg12 c16_i32
  let c5_i32_289 : BitVec 32 := 5#32
  let v521 : BitVec 32 := Scalar.addi v124 c5_i32_289
  let v523 : Index := Scalar.indexCast v521
  let c80_291 : Index := 80#32
  ![0, v523.toNat, 80]
def k0_off345 (k0_t3 : Fin k0_t3_loop.trips) : Fin 3 → Nat :=
  let c0_i32_294 : BitVec 32 := 0#32
  let v533 : Index := Scalar.indexCast c0_i32_294
  let c0_i32_79 : BitVec 32 := 0#32
  let c1_i32_81 : BitVec 32 := 1#32
  let arg12 : BitVec 32 := Scf.iv c0_i32_79 c1_i32_81 k0_t3
  let c16_i32 : BitVec 32 := 16#32
  let v124 : BitVec 32 := Scalar.muli arg12 c16_i32
  let c5_i32_293 : BitVec 32 := 5#32
  let v532 : BitVec 32 := Scalar.addi v124 c5_i32_293
  let v534 : Index := Scalar.indexCast v532
  let c32_295 : Index := 32#32
  ![0, v534.toNat, 32]
def k0_off346 (k0_t3 : Fin k0_t3_loop.trips) : Fin 3 → Nat :=
  let c0_i32_297 : BitVec 32 := 0#32
  let v539 : Index := Scalar.indexCast c0_i32_297
  let c0_i32_79 : BitVec 32 := 0#32
  let c1_i32_81 : BitVec 32 := 1#32
  let arg12 : BitVec 32 := Scf.iv c0_i32_79 c1_i32_81 k0_t3
  let c16_i32 : BitVec 32 := 16#32
  let v124 : BitVec 32 := Scalar.muli arg12 c16_i32
  let c5_i32_296 : BitVec 32 := 5#32
  let v538 : BitVec 32 := Scalar.addi v124 c5_i32_296
  let v540 : Index := Scalar.indexCast v538
  let c96_298 : Index := 96#32
  ![0, v540.toNat, 96]
def k0_off347 (k0_t3 : Fin k0_t3_loop.trips) : Fin 3 → Nat :=
  let c0_i32_301 : BitVec 32 := 0#32
  let v550 : Index := Scalar.indexCast c0_i32_301
  let c0_i32_79 : BitVec 32 := 0#32
  let c1_i32_81 : BitVec 32 := 1#32
  let arg12 : BitVec 32 := Scf.iv c0_i32_79 c1_i32_81 k0_t3
  let c16_i32 : BitVec 32 := 16#32
  let v124 : BitVec 32 := Scalar.muli arg12 c16_i32
  let c5_i32_300 : BitVec 32 := 5#32
  let v549 : BitVec 32 := Scalar.addi v124 c5_i32_300
  let v551 : Index := Scalar.indexCast v549
  let c48_302 : Index := 48#32
  ![0, v551.toNat, 48]
def k0_off348 (k0_t3 : Fin k0_t3_loop.trips) : Fin 3 → Nat :=
  let c0_i32_304 : BitVec 32 := 0#32
  let v556 : Index := Scalar.indexCast c0_i32_304
  let c0_i32_79 : BitVec 32 := 0#32
  let c1_i32_81 : BitVec 32 := 1#32
  let arg12 : BitVec 32 := Scf.iv c0_i32_79 c1_i32_81 k0_t3
  let c16_i32 : BitVec 32 := 16#32
  let v124 : BitVec 32 := Scalar.muli arg12 c16_i32
  let c5_i32_303 : BitVec 32 := 5#32
  let v555 : BitVec 32 := Scalar.addi v124 c5_i32_303
  let v557 : Index := Scalar.indexCast v555
  let c112_305 : Index := 112#32
  ![0, v557.toNat, 112]
def k0_off349 (k0_t3 : Fin k0_t3_loop.trips) (v562 : BitVec 32) (c0_i32_307 : BitVec 32) : Fin 2 → Nat :=
  let c256_i32_306 : BitVec 32 := 256#32
  let c0_i32_79 : BitVec 32 := 0#32
  let c1_i32_81 : BitVec 32 := 1#32
  let arg12 : BitVec 32 := Scf.iv c0_i32_79 c1_i32_81 k0_t3
  let c16_i32 : BitVec 32 := 16#32
  let v124 : BitVec 32 := Scalar.muli arg12 c16_i32
  let v563 : BitVec 32 := Scalar.addi c256_i32_306 v124
  let c6_i32 : BitVec 32 := 6#32
  let v564 : BitVec 32 := Scalar.addi v563 c6_i32
  let v566 : Index := Scalar.indexCast v564
  let v565 : BitVec 32 := Scalar.addi v562 c0_i32_307
  let v567 : Index := Scalar.indexCast v565
  ![v566.toNat, v567.toNat]

def k0_chk39 (k0_t3 : Fin k0_t3_loop.trips) (v562 : BitVec 32) : Prop :=
  (∀ (r : Fin 4), ∀ a, (k0_off349 k0_t3 v562 (BitVec.ofNat 32 (16 * r.val))) a + S1x16.size a ≤ S512x128.size a)
theorem k0_off349_inb : ∀ (k0_t3 : Fin k0_t3_loop.trips) (v562 : BitVec 32) (k0_hw39 : k0_chk39 k0_t3 v562), ∀ (r : Fin 4), ∀ a, (k0_off349 k0_t3 v562 (BitVec.ofNat 32 (16 * r.val))) a + S1x16.size a ≤ S512x128.size a := fun k0_t3 v562 k0_hw39 r => k0_hw39 r

def k0_off350 (k0_t3 : Fin k0_t3_loop.trips) : Fin 3 → Nat :=
  let c0_i32_309 : BitVec 32 := 0#32
  let v571 : Index := Scalar.indexCast c0_i32_309
  let c0_i32_79 : BitVec 32 := 0#32
  let c1_i32_81 : BitVec 32 := 1#32
  let arg12 : BitVec 32 := Scf.iv c0_i32_79 c1_i32_81 k0_t3
  let c16_i32 : BitVec 32 := 16#32
  let v124 : BitVec 32 := Scalar.muli arg12 c16_i32
  let c6_i32_308 : BitVec 32 := 6#32
  let v570 : BitVec 32 := Scalar.addi v124 c6_i32_308
  let v572 : Index := Scalar.indexCast v570
  let c0_310 : Index := 0#32
  ![0, v572.toNat, 0]
def k0_off351 (k0_t3 : Fin k0_t3_loop.trips) : Fin 3 → Nat :=
  let c0_i32_312 : BitVec 32 := 0#32
  let v577 : Index := Scalar.indexCast c0_i32_312
  let c0_i32_79 : BitVec 32 := 0#32
  let c1_i32_81 : BitVec 32 := 1#32
  let arg12 : BitVec 32 := Scf.iv c0_i32_79 c1_i32_81 k0_t3
  let c16_i32 : BitVec 32 := 16#32
  let v124 : BitVec 32 := Scalar.muli arg12 c16_i32
  let c6_i32_311 : BitVec 32 := 6#32
  let v576 : BitVec 32 := Scalar.addi v124 c6_i32_311
  let v578 : Index := Scalar.indexCast v576
  let c64_313 : Index := 64#32
  ![0, v578.toNat, 64]
def k0_off352 (k0_t3 : Fin k0_t3_loop.trips) : Fin 3 → Nat :=
  let c0_i32_316 : BitVec 32 := 0#32
  let v588 : Index := Scalar.indexCast c0_i32_316
  let c0_i32_79 : BitVec 32 := 0#32
  let c1_i32_81 : BitVec 32 := 1#32
  let arg12 : BitVec 32 := Scf.iv c0_i32_79 c1_i32_81 k0_t3
  let c16_i32 : BitVec 32 := 16#32
  let v124 : BitVec 32 := Scalar.muli arg12 c16_i32
  let c6_i32_315 : BitVec 32 := 6#32
  let v587 : BitVec 32 := Scalar.addi v124 c6_i32_315
  let v589 : Index := Scalar.indexCast v587
  let c16_317 : Index := 16#32
  ![0, v589.toNat, 16]
def k0_off353 (k0_t3 : Fin k0_t3_loop.trips) : Fin 3 → Nat :=
  let c0_i32_319 : BitVec 32 := 0#32
  let v594 : Index := Scalar.indexCast c0_i32_319
  let c0_i32_79 : BitVec 32 := 0#32
  let c1_i32_81 : BitVec 32 := 1#32
  let arg12 : BitVec 32 := Scf.iv c0_i32_79 c1_i32_81 k0_t3
  let c16_i32 : BitVec 32 := 16#32
  let v124 : BitVec 32 := Scalar.muli arg12 c16_i32
  let c6_i32_318 : BitVec 32 := 6#32
  let v593 : BitVec 32 := Scalar.addi v124 c6_i32_318
  let v595 : Index := Scalar.indexCast v593
  let c80_320 : Index := 80#32
  ![0, v595.toNat, 80]
def k0_off354 (k0_t3 : Fin k0_t3_loop.trips) : Fin 3 → Nat :=
  let c0_i32_323 : BitVec 32 := 0#32
  let v605 : Index := Scalar.indexCast c0_i32_323
  let c0_i32_79 : BitVec 32 := 0#32
  let c1_i32_81 : BitVec 32 := 1#32
  let arg12 : BitVec 32 := Scf.iv c0_i32_79 c1_i32_81 k0_t3
  let c16_i32 : BitVec 32 := 16#32
  let v124 : BitVec 32 := Scalar.muli arg12 c16_i32
  let c6_i32_322 : BitVec 32 := 6#32
  let v604 : BitVec 32 := Scalar.addi v124 c6_i32_322
  let v606 : Index := Scalar.indexCast v604
  let c32_324 : Index := 32#32
  ![0, v606.toNat, 32]
def k0_off355 (k0_t3 : Fin k0_t3_loop.trips) : Fin 3 → Nat :=
  let c0_i32_326 : BitVec 32 := 0#32
  let v611 : Index := Scalar.indexCast c0_i32_326
  let c0_i32_79 : BitVec 32 := 0#32
  let c1_i32_81 : BitVec 32 := 1#32
  let arg12 : BitVec 32 := Scf.iv c0_i32_79 c1_i32_81 k0_t3
  let c16_i32 : BitVec 32 := 16#32
  let v124 : BitVec 32 := Scalar.muli arg12 c16_i32
  let c6_i32_325 : BitVec 32 := 6#32
  let v610 : BitVec 32 := Scalar.addi v124 c6_i32_325
  let v612 : Index := Scalar.indexCast v610
  let c96_327 : Index := 96#32
  ![0, v612.toNat, 96]
def k0_off356 (k0_t3 : Fin k0_t3_loop.trips) : Fin 3 → Nat :=
  let c0_i32_330 : BitVec 32 := 0#32
  let v622 : Index := Scalar.indexCast c0_i32_330
  let c0_i32_79 : BitVec 32 := 0#32
  let c1_i32_81 : BitVec 32 := 1#32
  let arg12 : BitVec 32 := Scf.iv c0_i32_79 c1_i32_81 k0_t3
  let c16_i32 : BitVec 32 := 16#32
  let v124 : BitVec 32 := Scalar.muli arg12 c16_i32
  let c6_i32_329 : BitVec 32 := 6#32
  let v621 : BitVec 32 := Scalar.addi v124 c6_i32_329
  let v623 : Index := Scalar.indexCast v621
  let c48_331 : Index := 48#32
  ![0, v623.toNat, 48]
def k0_off357 (k0_t3 : Fin k0_t3_loop.trips) : Fin 3 → Nat :=
  let c0_i32_333 : BitVec 32 := 0#32
  let v628 : Index := Scalar.indexCast c0_i32_333
  let c0_i32_79 : BitVec 32 := 0#32
  let c1_i32_81 : BitVec 32 := 1#32
  let arg12 : BitVec 32 := Scf.iv c0_i32_79 c1_i32_81 k0_t3
  let c16_i32 : BitVec 32 := 16#32
  let v124 : BitVec 32 := Scalar.muli arg12 c16_i32
  let c6_i32_332 : BitVec 32 := 6#32
  let v627 : BitVec 32 := Scalar.addi v124 c6_i32_332
  let v629 : Index := Scalar.indexCast v627
  let c112_334 : Index := 112#32
  ![0, v629.toNat, 112]
def k0_off358 (k0_t3 : Fin k0_t3_loop.trips) (v634 : BitVec 32) (c0_i32_336 : BitVec 32) : Fin 2 → Nat :=
  let c256_i32_335 : BitVec 32 := 256#32
  let c0_i32_79 : BitVec 32 := 0#32
  let c1_i32_81 : BitVec 32 := 1#32
  let arg12 : BitVec 32 := Scf.iv c0_i32_79 c1_i32_81 k0_t3
  let c16_i32 : BitVec 32 := 16#32
  let v124 : BitVec 32 := Scalar.muli arg12 c16_i32
  let v635 : BitVec 32 := Scalar.addi c256_i32_335 v124
  let c7_i32 : BitVec 32 := 7#32
  let v636 : BitVec 32 := Scalar.addi v635 c7_i32
  let v638 : Index := Scalar.indexCast v636
  let v637 : BitVec 32 := Scalar.addi v634 c0_i32_336
  let v639 : Index := Scalar.indexCast v637
  ![v638.toNat, v639.toNat]

def k0_chk40 (k0_t3 : Fin k0_t3_loop.trips) (v634 : BitVec 32) : Prop :=
  (∀ (r : Fin 4), ∀ a, (k0_off358 k0_t3 v634 (BitVec.ofNat 32 (16 * r.val))) a + S1x16.size a ≤ S512x128.size a)
theorem k0_off358_inb : ∀ (k0_t3 : Fin k0_t3_loop.trips) (v634 : BitVec 32) (k0_hw40 : k0_chk40 k0_t3 v634), ∀ (r : Fin 4), ∀ a, (k0_off358 k0_t3 v634 (BitVec.ofNat 32 (16 * r.val))) a + S1x16.size a ≤ S512x128.size a := fun k0_t3 v634 k0_hw40 r => k0_hw40 r

def k0_off359 (k0_t3 : Fin k0_t3_loop.trips) : Fin 3 → Nat :=
  let c0_i32_338 : BitVec 32 := 0#32
  let v643 : Index := Scalar.indexCast c0_i32_338
  let c0_i32_79 : BitVec 32 := 0#32
  let c1_i32_81 : BitVec 32 := 1#32
  let arg12 : BitVec 32 := Scf.iv c0_i32_79 c1_i32_81 k0_t3
  let c16_i32 : BitVec 32 := 16#32
  let v124 : BitVec 32 := Scalar.muli arg12 c16_i32
  let c7_i32_337 : BitVec 32 := 7#32
  let v642 : BitVec 32 := Scalar.addi v124 c7_i32_337
  let v644 : Index := Scalar.indexCast v642
  let c0_339 : Index := 0#32
  ![0, v644.toNat, 0]
def k0_off360 (k0_t3 : Fin k0_t3_loop.trips) : Fin 3 → Nat :=
  let c0_i32_341 : BitVec 32 := 0#32
  let v649 : Index := Scalar.indexCast c0_i32_341
  let c0_i32_79 : BitVec 32 := 0#32
  let c1_i32_81 : BitVec 32 := 1#32
  let arg12 : BitVec 32 := Scf.iv c0_i32_79 c1_i32_81 k0_t3
  let c16_i32 : BitVec 32 := 16#32
  let v124 : BitVec 32 := Scalar.muli arg12 c16_i32
  let c7_i32_340 : BitVec 32 := 7#32
  let v648 : BitVec 32 := Scalar.addi v124 c7_i32_340
  let v650 : Index := Scalar.indexCast v648
  let c64_342 : Index := 64#32
  ![0, v650.toNat, 64]
def k0_off361 (k0_t3 : Fin k0_t3_loop.trips) : Fin 3 → Nat :=
  let c0_i32_345 : BitVec 32 := 0#32
  let v660 : Index := Scalar.indexCast c0_i32_345
  let c0_i32_79 : BitVec 32 := 0#32
  let c1_i32_81 : BitVec 32 := 1#32
  let arg12 : BitVec 32 := Scf.iv c0_i32_79 c1_i32_81 k0_t3
  let c16_i32 : BitVec 32 := 16#32
  let v124 : BitVec 32 := Scalar.muli arg12 c16_i32
  let c7_i32_344 : BitVec 32 := 7#32
  let v659 : BitVec 32 := Scalar.addi v124 c7_i32_344
  let v661 : Index := Scalar.indexCast v659
  let c16_346 : Index := 16#32
  ![0, v661.toNat, 16]
def k0_off362 (k0_t3 : Fin k0_t3_loop.trips) : Fin 3 → Nat :=
  let c0_i32_348 : BitVec 32 := 0#32
  let v666 : Index := Scalar.indexCast c0_i32_348
  let c0_i32_79 : BitVec 32 := 0#32
  let c1_i32_81 : BitVec 32 := 1#32
  let arg12 : BitVec 32 := Scf.iv c0_i32_79 c1_i32_81 k0_t3
  let c16_i32 : BitVec 32 := 16#32
  let v124 : BitVec 32 := Scalar.muli arg12 c16_i32
  let c7_i32_347 : BitVec 32 := 7#32
  let v665 : BitVec 32 := Scalar.addi v124 c7_i32_347
  let v667 : Index := Scalar.indexCast v665
  let c80_349 : Index := 80#32
  ![0, v667.toNat, 80]
def k0_off363 (k0_t3 : Fin k0_t3_loop.trips) : Fin 3 → Nat :=
  let c0_i32_352 : BitVec 32 := 0#32
  let v677 : Index := Scalar.indexCast c0_i32_352
  let c0_i32_79 : BitVec 32 := 0#32
  let c1_i32_81 : BitVec 32 := 1#32
  let arg12 : BitVec 32 := Scf.iv c0_i32_79 c1_i32_81 k0_t3
  let c16_i32 : BitVec 32 := 16#32
  let v124 : BitVec 32 := Scalar.muli arg12 c16_i32
  let c7_i32_351 : BitVec 32 := 7#32
  let v676 : BitVec 32 := Scalar.addi v124 c7_i32_351
  let v678 : Index := Scalar.indexCast v676
  let c32_353 : Index := 32#32
  ![0, v678.toNat, 32]
def k0_off364 (k0_t3 : Fin k0_t3_loop.trips) : Fin 3 → Nat :=
  let c0_i32_355 : BitVec 32 := 0#32
  let v683 : Index := Scalar.indexCast c0_i32_355
  let c0_i32_79 : BitVec 32 := 0#32
  let c1_i32_81 : BitVec 32 := 1#32
  let arg12 : BitVec 32 := Scf.iv c0_i32_79 c1_i32_81 k0_t3
  let c16_i32 : BitVec 32 := 16#32
  let v124 : BitVec 32 := Scalar.muli arg12 c16_i32
  let c7_i32_354 : BitVec 32 := 7#32
  let v682 : BitVec 32 := Scalar.addi v124 c7_i32_354
  let v684 : Index := Scalar.indexCast v682
  let c96_356 : Index := 96#32
  ![0, v684.toNat, 96]
def k0_off365 (k0_t3 : Fin k0_t3_loop.trips) : Fin 3 → Nat :=
  let c0_i32_359 : BitVec 32 := 0#32
  let v694 : Index := Scalar.indexCast c0_i32_359
  let c0_i32_79 : BitVec 32 := 0#32
  let c1_i32_81 : BitVec 32 := 1#32
  let arg12 : BitVec 32 := Scf.iv c0_i32_79 c1_i32_81 k0_t3
  let c16_i32 : BitVec 32 := 16#32
  let v124 : BitVec 32 := Scalar.muli arg12 c16_i32
  let c7_i32_358 : BitVec 32 := 7#32
  let v693 : BitVec 32 := Scalar.addi v124 c7_i32_358
  let v695 : Index := Scalar.indexCast v693
  let c48_360 : Index := 48#32
  ![0, v695.toNat, 48]
def k0_off366 (k0_t3 : Fin k0_t3_loop.trips) : Fin 3 → Nat :=
  let c0_i32_362 : BitVec 32 := 0#32
  let v700 : Index := Scalar.indexCast c0_i32_362
  let c0_i32_79 : BitVec 32 := 0#32
  let c1_i32_81 : BitVec 32 := 1#32
  let arg12 : BitVec 32 := Scf.iv c0_i32_79 c1_i32_81 k0_t3
  let c16_i32 : BitVec 32 := 16#32
  let v124 : BitVec 32 := Scalar.muli arg12 c16_i32
  let c7_i32_361 : BitVec 32 := 7#32
  let v699 : BitVec 32 := Scalar.addi v124 c7_i32_361
  let v701 : Index := Scalar.indexCast v699
  let c112_363 : Index := 112#32
  ![0, v701.toNat, 112]
def k0_off367 (k0_t3 : Fin k0_t3_loop.trips) (v706 : BitVec 32) (c0_i32_366 : BitVec 32) : Fin 2 → Nat :=
  let c256_i32_364 : BitVec 32 := 256#32
  let c0_i32_79 : BitVec 32 := 0#32
  let c1_i32_81 : BitVec 32 := 1#32
  let arg12 : BitVec 32 := Scf.iv c0_i32_79 c1_i32_81 k0_t3
  let c16_i32 : BitVec 32 := 16#32
  let v124 : BitVec 32 := Scalar.muli arg12 c16_i32
  let v707 : BitVec 32 := Scalar.addi c256_i32_364 v124
  let c8_i32_365 : BitVec 32 := 8#32
  let v708 : BitVec 32 := Scalar.addi v707 c8_i32_365
  let v710 : Index := Scalar.indexCast v708
  let v709 : BitVec 32 := Scalar.addi v706 c0_i32_366
  let v711 : Index := Scalar.indexCast v709
  ![v710.toNat, v711.toNat]

def k0_chk41 (k0_t3 : Fin k0_t3_loop.trips) (v706 : BitVec 32) : Prop :=
  (∀ (r : Fin 4), ∀ a, (k0_off367 k0_t3 v706 (BitVec.ofNat 32 (16 * r.val))) a + S1x16.size a ≤ S512x128.size a)
theorem k0_off367_inb : ∀ (k0_t3 : Fin k0_t3_loop.trips) (v706 : BitVec 32) (k0_hw41 : k0_chk41 k0_t3 v706), ∀ (r : Fin 4), ∀ a, (k0_off367 k0_t3 v706 (BitVec.ofNat 32 (16 * r.val))) a + S1x16.size a ≤ S512x128.size a := fun k0_t3 v706 k0_hw41 r => k0_hw41 r

def k0_off368 (k0_t3 : Fin k0_t3_loop.trips) : Fin 3 → Nat :=
  let c0_i32_368 : BitVec 32 := 0#32
  let v715 : Index := Scalar.indexCast c0_i32_368
  let c0_i32_79 : BitVec 32 := 0#32
  let c1_i32_81 : BitVec 32 := 1#32
  let arg12 : BitVec 32 := Scf.iv c0_i32_79 c1_i32_81 k0_t3
  let c16_i32 : BitVec 32 := 16#32
  let v124 : BitVec 32 := Scalar.muli arg12 c16_i32
  let c8_i32_367 : BitVec 32 := 8#32
  let v714 : BitVec 32 := Scalar.addi v124 c8_i32_367
  let v716 : Index := Scalar.indexCast v714
  let c0_369 : Index := 0#32
  ![0, v716.toNat, 0]
def k0_off369 (k0_t3 : Fin k0_t3_loop.trips) : Fin 3 → Nat :=
  let c0_i32_371 : BitVec 32 := 0#32
  let v721 : Index := Scalar.indexCast c0_i32_371
  let c0_i32_79 : BitVec 32 := 0#32
  let c1_i32_81 : BitVec 32 := 1#32
  let arg12 : BitVec 32 := Scf.iv c0_i32_79 c1_i32_81 k0_t3
  let c16_i32 : BitVec 32 := 16#32
  let v124 : BitVec 32 := Scalar.muli arg12 c16_i32
  let c8_i32_370 : BitVec 32 := 8#32
  let v720 : BitVec 32 := Scalar.addi v124 c8_i32_370
  let v722 : Index := Scalar.indexCast v720
  let c64_372 : Index := 64#32
  ![0, v722.toNat, 64]
def k0_off370 (k0_t3 : Fin k0_t3_loop.trips) : Fin 3 → Nat :=
  let c0_i32_375 : BitVec 32 := 0#32
  let v732 : Index := Scalar.indexCast c0_i32_375
  let c0_i32_79 : BitVec 32 := 0#32
  let c1_i32_81 : BitVec 32 := 1#32
  let arg12 : BitVec 32 := Scf.iv c0_i32_79 c1_i32_81 k0_t3
  let c16_i32 : BitVec 32 := 16#32
  let v124 : BitVec 32 := Scalar.muli arg12 c16_i32
  let c8_i32_374 : BitVec 32 := 8#32
  let v731 : BitVec 32 := Scalar.addi v124 c8_i32_374
  let v733 : Index := Scalar.indexCast v731
  let c16_376 : Index := 16#32
  ![0, v733.toNat, 16]
def k0_off371 (k0_t3 : Fin k0_t3_loop.trips) : Fin 3 → Nat :=
  let c0_i32_378 : BitVec 32 := 0#32
  let v738 : Index := Scalar.indexCast c0_i32_378
  let c0_i32_79 : BitVec 32 := 0#32
  let c1_i32_81 : BitVec 32 := 1#32
  let arg12 : BitVec 32 := Scf.iv c0_i32_79 c1_i32_81 k0_t3
  let c16_i32 : BitVec 32 := 16#32
  let v124 : BitVec 32 := Scalar.muli arg12 c16_i32
  let c8_i32_377 : BitVec 32 := 8#32
  let v737 : BitVec 32 := Scalar.addi v124 c8_i32_377
  let v739 : Index := Scalar.indexCast v737
  let c80_379 : Index := 80#32
  ![0, v739.toNat, 80]
def k0_off372 (k0_t3 : Fin k0_t3_loop.trips) : Fin 3 → Nat :=
  let c0_i32_382 : BitVec 32 := 0#32
  let v749 : Index := Scalar.indexCast c0_i32_382
  let c0_i32_79 : BitVec 32 := 0#32
  let c1_i32_81 : BitVec 32 := 1#32
  let arg12 : BitVec 32 := Scf.iv c0_i32_79 c1_i32_81 k0_t3
  let c16_i32 : BitVec 32 := 16#32
  let v124 : BitVec 32 := Scalar.muli arg12 c16_i32
  let c8_i32_381 : BitVec 32 := 8#32
  let v748 : BitVec 32 := Scalar.addi v124 c8_i32_381
  let v750 : Index := Scalar.indexCast v748
  let c32_383 : Index := 32#32
  ![0, v750.toNat, 32]
def k0_off373 (k0_t3 : Fin k0_t3_loop.trips) : Fin 3 → Nat :=
  let c0_i32_385 : BitVec 32 := 0#32
  let v755 : Index := Scalar.indexCast c0_i32_385
  let c0_i32_79 : BitVec 32 := 0#32
  let c1_i32_81 : BitVec 32 := 1#32
  let arg12 : BitVec 32 := Scf.iv c0_i32_79 c1_i32_81 k0_t3
  let c16_i32 : BitVec 32 := 16#32
  let v124 : BitVec 32 := Scalar.muli arg12 c16_i32
  let c8_i32_384 : BitVec 32 := 8#32
  let v754 : BitVec 32 := Scalar.addi v124 c8_i32_384
  let v756 : Index := Scalar.indexCast v754
  let c96_386 : Index := 96#32
  ![0, v756.toNat, 96]
def k0_off374 (k0_t3 : Fin k0_t3_loop.trips) : Fin 3 → Nat :=
  let c0_i32_389 : BitVec 32 := 0#32
  let v766 : Index := Scalar.indexCast c0_i32_389
  let c0_i32_79 : BitVec 32 := 0#32
  let c1_i32_81 : BitVec 32 := 1#32
  let arg12 : BitVec 32 := Scf.iv c0_i32_79 c1_i32_81 k0_t3
  let c16_i32 : BitVec 32 := 16#32
  let v124 : BitVec 32 := Scalar.muli arg12 c16_i32
  let c8_i32_388 : BitVec 32 := 8#32
  let v765 : BitVec 32 := Scalar.addi v124 c8_i32_388
  let v767 : Index := Scalar.indexCast v765
  let c48_390 : Index := 48#32
  ![0, v767.toNat, 48]
def k0_off375 (k0_t3 : Fin k0_t3_loop.trips) : Fin 3 → Nat :=
  let c0_i32_392 : BitVec 32 := 0#32
  let v772 : Index := Scalar.indexCast c0_i32_392
  let c0_i32_79 : BitVec 32 := 0#32
  let c1_i32_81 : BitVec 32 := 1#32
  let arg12 : BitVec 32 := Scf.iv c0_i32_79 c1_i32_81 k0_t3
  let c16_i32 : BitVec 32 := 16#32
  let v124 : BitVec 32 := Scalar.muli arg12 c16_i32
  let c8_i32_391 : BitVec 32 := 8#32
  let v771 : BitVec 32 := Scalar.addi v124 c8_i32_391
  let v773 : Index := Scalar.indexCast v771
  let c112_393 : Index := 112#32
  ![0, v773.toNat, 112]
def k0_off376 (k0_t3 : Fin k0_t3_loop.trips) (v778 : BitVec 32) (c0_i32_395 : BitVec 32) : Fin 2 → Nat :=
  let c256_i32_394 : BitVec 32 := 256#32
  let c0_i32_79 : BitVec 32 := 0#32
  let c1_i32_81 : BitVec 32 := 1#32
  let arg12 : BitVec 32 := Scf.iv c0_i32_79 c1_i32_81 k0_t3
  let c16_i32 : BitVec 32 := 16#32
  let v124 : BitVec 32 := Scalar.muli arg12 c16_i32
  let v779 : BitVec 32 := Scalar.addi c256_i32_394 v124
  let c9_i32 : BitVec 32 := 9#32
  let v780 : BitVec 32 := Scalar.addi v779 c9_i32
  let v782 : Index := Scalar.indexCast v780
  let v781 : BitVec 32 := Scalar.addi v778 c0_i32_395
  let v783 : Index := Scalar.indexCast v781
  ![v782.toNat, v783.toNat]

def k0_chk42 (k0_t3 : Fin k0_t3_loop.trips) (v778 : BitVec 32) : Prop :=
  (∀ (r : Fin 4), ∀ a, (k0_off376 k0_t3 v778 (BitVec.ofNat 32 (16 * r.val))) a + S1x16.size a ≤ S512x128.size a)
theorem k0_off376_inb : ∀ (k0_t3 : Fin k0_t3_loop.trips) (v778 : BitVec 32) (k0_hw42 : k0_chk42 k0_t3 v778), ∀ (r : Fin 4), ∀ a, (k0_off376 k0_t3 v778 (BitVec.ofNat 32 (16 * r.val))) a + S1x16.size a ≤ S512x128.size a := fun k0_t3 v778 k0_hw42 r => k0_hw42 r

def k0_off377 (k0_t3 : Fin k0_t3_loop.trips) : Fin 3 → Nat :=
  let c0_i32_397 : BitVec 32 := 0#32
  let v787 : Index := Scalar.indexCast c0_i32_397
  let c0_i32_79 : BitVec 32 := 0#32
  let c1_i32_81 : BitVec 32 := 1#32
  let arg12 : BitVec 32 := Scf.iv c0_i32_79 c1_i32_81 k0_t3
  let c16_i32 : BitVec 32 := 16#32
  let v124 : BitVec 32 := Scalar.muli arg12 c16_i32
  let c9_i32_396 : BitVec 32 := 9#32
  let v786 : BitVec 32 := Scalar.addi v124 c9_i32_396
  let v788 : Index := Scalar.indexCast v786
  let c0_398 : Index := 0#32
  ![0, v788.toNat, 0]
def k0_off378 (k0_t3 : Fin k0_t3_loop.trips) : Fin 3 → Nat :=
  let c0_i32_400 : BitVec 32 := 0#32
  let v793 : Index := Scalar.indexCast c0_i32_400
  let c0_i32_79 : BitVec 32 := 0#32
  let c1_i32_81 : BitVec 32 := 1#32
  let arg12 : BitVec 32 := Scf.iv c0_i32_79 c1_i32_81 k0_t3
  let c16_i32 : BitVec 32 := 16#32
  let v124 : BitVec 32 := Scalar.muli arg12 c16_i32
  let c9_i32_399 : BitVec 32 := 9#32
  let v792 : BitVec 32 := Scalar.addi v124 c9_i32_399
  let v794 : Index := Scalar.indexCast v792
  let c64_401 : Index := 64#32
  ![0, v794.toNat, 64]
def k0_off379 (k0_t3 : Fin k0_t3_loop.trips) : Fin 3 → Nat :=
  let c0_i32_404 : BitVec 32 := 0#32
  let v804 : Index := Scalar.indexCast c0_i32_404
  let c0_i32_79 : BitVec 32 := 0#32
  let c1_i32_81 : BitVec 32 := 1#32
  let arg12 : BitVec 32 := Scf.iv c0_i32_79 c1_i32_81 k0_t3
  let c16_i32 : BitVec 32 := 16#32
  let v124 : BitVec 32 := Scalar.muli arg12 c16_i32
  let c9_i32_403 : BitVec 32 := 9#32
  let v803 : BitVec 32 := Scalar.addi v124 c9_i32_403
  let v805 : Index := Scalar.indexCast v803
  let c16_405 : Index := 16#32
  ![0, v805.toNat, 16]
def k0_off380 (k0_t3 : Fin k0_t3_loop.trips) : Fin 3 → Nat :=
  let c0_i32_407 : BitVec 32 := 0#32
  let v810 : Index := Scalar.indexCast c0_i32_407
  let c0_i32_79 : BitVec 32 := 0#32
  let c1_i32_81 : BitVec 32 := 1#32
  let arg12 : BitVec 32 := Scf.iv c0_i32_79 c1_i32_81 k0_t3
  let c16_i32 : BitVec 32 := 16#32
  let v124 : BitVec 32 := Scalar.muli arg12 c16_i32
  let c9_i32_406 : BitVec 32 := 9#32
  let v809 : BitVec 32 := Scalar.addi v124 c9_i32_406
  let v811 : Index := Scalar.indexCast v809
  let c80_408 : Index := 80#32
  ![0, v811.toNat, 80]
def k0_off381 (k0_t3 : Fin k0_t3_loop.trips) : Fin 3 → Nat :=
  let c0_i32_411 : BitVec 32 := 0#32
  let v821 : Index := Scalar.indexCast c0_i32_411
  let c0_i32_79 : BitVec 32 := 0#32
  let c1_i32_81 : BitVec 32 := 1#32
  let arg12 : BitVec 32 := Scf.iv c0_i32_79 c1_i32_81 k0_t3
  let c16_i32 : BitVec 32 := 16#32
  let v124 : BitVec 32 := Scalar.muli arg12 c16_i32
  let c9_i32_410 : BitVec 32 := 9#32
  let v820 : BitVec 32 := Scalar.addi v124 c9_i32_410
  let v822 : Index := Scalar.indexCast v820
  let c32_412 : Index := 32#32
  ![0, v822.toNat, 32]
def k0_off382 (k0_t3 : Fin k0_t3_loop.trips) : Fin 3 → Nat :=
  let c0_i32_414 : BitVec 32 := 0#32
  let v827 : Index := Scalar.indexCast c0_i32_414
  let c0_i32_79 : BitVec 32 := 0#32
  let c1_i32_81 : BitVec 32 := 1#32
  let arg12 : BitVec 32 := Scf.iv c0_i32_79 c1_i32_81 k0_t3
  let c16_i32 : BitVec 32 := 16#32
  let v124 : BitVec 32 := Scalar.muli arg12 c16_i32
  let c9_i32_413 : BitVec 32 := 9#32
  let v826 : BitVec 32 := Scalar.addi v124 c9_i32_413
  let v828 : Index := Scalar.indexCast v826
  let c96_415 : Index := 96#32
  ![0, v828.toNat, 96]
def k0_off383 (k0_t3 : Fin k0_t3_loop.trips) : Fin 3 → Nat :=
  let c0_i32_418 : BitVec 32 := 0#32
  let v838 : Index := Scalar.indexCast c0_i32_418
  let c0_i32_79 : BitVec 32 := 0#32
  let c1_i32_81 : BitVec 32 := 1#32
  let arg12 : BitVec 32 := Scf.iv c0_i32_79 c1_i32_81 k0_t3
  let c16_i32 : BitVec 32 := 16#32
  let v124 : BitVec 32 := Scalar.muli arg12 c16_i32
  let c9_i32_417 : BitVec 32 := 9#32
  let v837 : BitVec 32 := Scalar.addi v124 c9_i32_417
  let v839 : Index := Scalar.indexCast v837
  let c48_419 : Index := 48#32
  ![0, v839.toNat, 48]
def k0_off384 (k0_t3 : Fin k0_t3_loop.trips) : Fin 3 → Nat :=
  let c0_i32_421 : BitVec 32 := 0#32
  let v844 : Index := Scalar.indexCast c0_i32_421
  let c0_i32_79 : BitVec 32 := 0#32
  let c1_i32_81 : BitVec 32 := 1#32
  let arg12 : BitVec 32 := Scf.iv c0_i32_79 c1_i32_81 k0_t3
  let c16_i32 : BitVec 32 := 16#32
  let v124 : BitVec 32 := Scalar.muli arg12 c16_i32
  let c9_i32_420 : BitVec 32 := 9#32
  let v843 : BitVec 32 := Scalar.addi v124 c9_i32_420
  let v845 : Index := Scalar.indexCast v843
  let c112_422 : Index := 112#32
  ![0, v845.toNat, 112]
def k0_off385 (k0_t3 : Fin k0_t3_loop.trips) (v850 : BitVec 32) (c0_i32_424 : BitVec 32) : Fin 2 → Nat :=
  let c256_i32_423 : BitVec 32 := 256#32
  let c0_i32_79 : BitVec 32 := 0#32
  let c1_i32_81 : BitVec 32 := 1#32
  let arg12 : BitVec 32 := Scf.iv c0_i32_79 c1_i32_81 k0_t3
  let c16_i32 : BitVec 32 := 16#32
  let v124 : BitVec 32 := Scalar.muli arg12 c16_i32
  let v851 : BitVec 32 := Scalar.addi c256_i32_423 v124
  let c10_i32 : BitVec 32 := 10#32
  let v852 : BitVec 32 := Scalar.addi v851 c10_i32
  let v854 : Index := Scalar.indexCast v852
  let v853 : BitVec 32 := Scalar.addi v850 c0_i32_424
  let v855 : Index := Scalar.indexCast v853
  ![v854.toNat, v855.toNat]

def k0_chk43 (k0_t3 : Fin k0_t3_loop.trips) (v850 : BitVec 32) : Prop :=
  (∀ (r : Fin 4), ∀ a, (k0_off385 k0_t3 v850 (BitVec.ofNat 32 (16 * r.val))) a + S1x16.size a ≤ S512x128.size a)
theorem k0_off385_inb : ∀ (k0_t3 : Fin k0_t3_loop.trips) (v850 : BitVec 32) (k0_hw43 : k0_chk43 k0_t3 v850), ∀ (r : Fin 4), ∀ a, (k0_off385 k0_t3 v850 (BitVec.ofNat 32 (16 * r.val))) a + S1x16.size a ≤ S512x128.size a := fun k0_t3 v850 k0_hw43 r => k0_hw43 r

def k0_off386 (k0_t3 : Fin k0_t3_loop.trips) : Fin 3 → Nat :=
  let c0_i32_426 : BitVec 32 := 0#32
  let v859 : Index := Scalar.indexCast c0_i32_426
  let c0_i32_79 : BitVec 32 := 0#32
  let c1_i32_81 : BitVec 32 := 1#32
  let arg12 : BitVec 32 := Scf.iv c0_i32_79 c1_i32_81 k0_t3
  let c16_i32 : BitVec 32 := 16#32
  let v124 : BitVec 32 := Scalar.muli arg12 c16_i32
  let c10_i32_425 : BitVec 32 := 10#32
  let v858 : BitVec 32 := Scalar.addi v124 c10_i32_425
  let v860 : Index := Scalar.indexCast v858
  let c0_427 : Index := 0#32
  ![0, v860.toNat, 0]
def k0_off387 (k0_t3 : Fin k0_t3_loop.trips) : Fin 3 → Nat :=
  let c0_i32_429 : BitVec 32 := 0#32
  let v865 : Index := Scalar.indexCast c0_i32_429
  let c0_i32_79 : BitVec 32 := 0#32
  let c1_i32_81 : BitVec 32 := 1#32
  let arg12 : BitVec 32 := Scf.iv c0_i32_79 c1_i32_81 k0_t3
  let c16_i32 : BitVec 32 := 16#32
  let v124 : BitVec 32 := Scalar.muli arg12 c16_i32
  let c10_i32_428 : BitVec 32 := 10#32
  let v864 : BitVec 32 := Scalar.addi v124 c10_i32_428
  let v866 : Index := Scalar.indexCast v864
  let c64_430 : Index := 64#32
  ![0, v866.toNat, 64]
def k0_off388 (k0_t3 : Fin k0_t3_loop.trips) : Fin 3 → Nat :=
  let c0_i32_433 : BitVec 32 := 0#32
  let v876 : Index := Scalar.indexCast c0_i32_433
  let c0_i32_79 : BitVec 32 := 0#32
  let c1_i32_81 : BitVec 32 := 1#32
  let arg12 : BitVec 32 := Scf.iv c0_i32_79 c1_i32_81 k0_t3
  let c16_i32 : BitVec 32 := 16#32
  let v124 : BitVec 32 := Scalar.muli arg12 c16_i32
  let c10_i32_432 : BitVec 32 := 10#32
  let v875 : BitVec 32 := Scalar.addi v124 c10_i32_432
  let v877 : Index := Scalar.indexCast v875
  let c16_434 : Index := 16#32
  ![0, v877.toNat, 16]
def k0_off389 (k0_t3 : Fin k0_t3_loop.trips) : Fin 3 → Nat :=
  let c0_i32_436 : BitVec 32 := 0#32
  let v882 : Index := Scalar.indexCast c0_i32_436
  let c0_i32_79 : BitVec 32 := 0#32
  let c1_i32_81 : BitVec 32 := 1#32
  let arg12 : BitVec 32 := Scf.iv c0_i32_79 c1_i32_81 k0_t3
  let c16_i32 : BitVec 32 := 16#32
  let v124 : BitVec 32 := Scalar.muli arg12 c16_i32
  let c10_i32_435 : BitVec 32 := 10#32
  let v881 : BitVec 32 := Scalar.addi v124 c10_i32_435
  let v883 : Index := Scalar.indexCast v881
  let c80_437 : Index := 80#32
  ![0, v883.toNat, 80]
def k0_off390 (k0_t3 : Fin k0_t3_loop.trips) : Fin 3 → Nat :=
  let c0_i32_440 : BitVec 32 := 0#32
  let v893 : Index := Scalar.indexCast c0_i32_440
  let c0_i32_79 : BitVec 32 := 0#32
  let c1_i32_81 : BitVec 32 := 1#32
  let arg12 : BitVec 32 := Scf.iv c0_i32_79 c1_i32_81 k0_t3
  let c16_i32 : BitVec 32 := 16#32
  let v124 : BitVec 32 := Scalar.muli arg12 c16_i32
  let c10_i32_439 : BitVec 32 := 10#32
  let v892 : BitVec 32 := Scalar.addi v124 c10_i32_439
  let v894 : Index := Scalar.indexCast v892
  let c32_441 : Index := 32#32
  ![0, v894.toNat, 32]
def k0_off391 (k0_t3 : Fin k0_t3_loop.trips) : Fin 3 → Nat :=
  let c0_i32_443 : BitVec 32 := 0#32
  let v899 : Index := Scalar.indexCast c0_i32_443
  let c0_i32_79 : BitVec 32 := 0#32
  let c1_i32_81 : BitVec 32 := 1#32
  let arg12 : BitVec 32 := Scf.iv c0_i32_79 c1_i32_81 k0_t3
  let c16_i32 : BitVec 32 := 16#32
  let v124 : BitVec 32 := Scalar.muli arg12 c16_i32
  let c10_i32_442 : BitVec 32 := 10#32
  let v898 : BitVec 32 := Scalar.addi v124 c10_i32_442
  let v900 : Index := Scalar.indexCast v898
  let c96_444 : Index := 96#32
  ![0, v900.toNat, 96]
def k0_off392 (k0_t3 : Fin k0_t3_loop.trips) : Fin 3 → Nat :=
  let c0_i32_447 : BitVec 32 := 0#32
  let v910 : Index := Scalar.indexCast c0_i32_447
  let c0_i32_79 : BitVec 32 := 0#32
  let c1_i32_81 : BitVec 32 := 1#32
  let arg12 : BitVec 32 := Scf.iv c0_i32_79 c1_i32_81 k0_t3
  let c16_i32 : BitVec 32 := 16#32
  let v124 : BitVec 32 := Scalar.muli arg12 c16_i32
  let c10_i32_446 : BitVec 32 := 10#32
  let v909 : BitVec 32 := Scalar.addi v124 c10_i32_446
  let v911 : Index := Scalar.indexCast v909
  let c48_448 : Index := 48#32
  ![0, v911.toNat, 48]
def k0_off393 (k0_t3 : Fin k0_t3_loop.trips) : Fin 3 → Nat :=
  let c0_i32_450 : BitVec 32 := 0#32
  let v916 : Index := Scalar.indexCast c0_i32_450
  let c0_i32_79 : BitVec 32 := 0#32
  let c1_i32_81 : BitVec 32 := 1#32
  let arg12 : BitVec 32 := Scf.iv c0_i32_79 c1_i32_81 k0_t3
  let c16_i32 : BitVec 32 := 16#32
  let v124 : BitVec 32 := Scalar.muli arg12 c16_i32
  let c10_i32_449 : BitVec 32 := 10#32
  let v915 : BitVec 32 := Scalar.addi v124 c10_i32_449
  let v917 : Index := Scalar.indexCast v915
  let c112_451 : Index := 112#32
  ![0, v917.toNat, 112]
def k0_off394 (k0_t3 : Fin k0_t3_loop.trips) (v922 : BitVec 32) (c0_i32_453 : BitVec 32) : Fin 2 → Nat :=
  let c256_i32_452 : BitVec 32 := 256#32
  let c0_i32_79 : BitVec 32 := 0#32
  let c1_i32_81 : BitVec 32 := 1#32
  let arg12 : BitVec 32 := Scf.iv c0_i32_79 c1_i32_81 k0_t3
  let c16_i32 : BitVec 32 := 16#32
  let v124 : BitVec 32 := Scalar.muli arg12 c16_i32
  let v923 : BitVec 32 := Scalar.addi c256_i32_452 v124
  let c11_i32 : BitVec 32 := 11#32
  let v924 : BitVec 32 := Scalar.addi v923 c11_i32
  let v926 : Index := Scalar.indexCast v924
  let v925 : BitVec 32 := Scalar.addi v922 c0_i32_453
  let v927 : Index := Scalar.indexCast v925
  ![v926.toNat, v927.toNat]

def k0_chk44 (k0_t3 : Fin k0_t3_loop.trips) (v922 : BitVec 32) : Prop :=
  (∀ (r : Fin 4), ∀ a, (k0_off394 k0_t3 v922 (BitVec.ofNat 32 (16 * r.val))) a + S1x16.size a ≤ S512x128.size a)
theorem k0_off394_inb : ∀ (k0_t3 : Fin k0_t3_loop.trips) (v922 : BitVec 32) (k0_hw44 : k0_chk44 k0_t3 v922), ∀ (r : Fin 4), ∀ a, (k0_off394 k0_t3 v922 (BitVec.ofNat 32 (16 * r.val))) a + S1x16.size a ≤ S512x128.size a := fun k0_t3 v922 k0_hw44 r => k0_hw44 r

def k0_off395 (k0_t3 : Fin k0_t3_loop.trips) : Fin 3 → Nat :=
  let c0_i32_455 : BitVec 32 := 0#32
  let v931 : Index := Scalar.indexCast c0_i32_455
  let c0_i32_79 : BitVec 32 := 0#32
  let c1_i32_81 : BitVec 32 := 1#32
  let arg12 : BitVec 32 := Scf.iv c0_i32_79 c1_i32_81 k0_t3
  let c16_i32 : BitVec 32 := 16#32
  let v124 : BitVec 32 := Scalar.muli arg12 c16_i32
  let c11_i32_454 : BitVec 32 := 11#32
  let v930 : BitVec 32 := Scalar.addi v124 c11_i32_454
  let v932 : Index := Scalar.indexCast v930
  let c0_456 : Index := 0#32
  ![0, v932.toNat, 0]
def k0_off396 (k0_t3 : Fin k0_t3_loop.trips) : Fin 3 → Nat :=
  let c0_i32_458 : BitVec 32 := 0#32
  let v937 : Index := Scalar.indexCast c0_i32_458
  let c0_i32_79 : BitVec 32 := 0#32
  let c1_i32_81 : BitVec 32 := 1#32
  let arg12 : BitVec 32 := Scf.iv c0_i32_79 c1_i32_81 k0_t3
  let c16_i32 : BitVec 32 := 16#32
  let v124 : BitVec 32 := Scalar.muli arg12 c16_i32
  let c11_i32_457 : BitVec 32 := 11#32
  let v936 : BitVec 32 := Scalar.addi v124 c11_i32_457
  let v938 : Index := Scalar.indexCast v936
  let c64_459 : Index := 64#32
  ![0, v938.toNat, 64]
def k0_off397 (k0_t3 : Fin k0_t3_loop.trips) : Fin 3 → Nat :=
  let c0_i32_462 : BitVec 32 := 0#32
  let v948 : Index := Scalar.indexCast c0_i32_462
  let c0_i32_79 : BitVec 32 := 0#32
  let c1_i32_81 : BitVec 32 := 1#32
  let arg12 : BitVec 32 := Scf.iv c0_i32_79 c1_i32_81 k0_t3
  let c16_i32 : BitVec 32 := 16#32
  let v124 : BitVec 32 := Scalar.muli arg12 c16_i32
  let c11_i32_461 : BitVec 32 := 11#32
  let v947 : BitVec 32 := Scalar.addi v124 c11_i32_461
  let v949 : Index := Scalar.indexCast v947
  let c16_463 : Index := 16#32
  ![0, v949.toNat, 16]
def k0_off398 (k0_t3 : Fin k0_t3_loop.trips) : Fin 3 → Nat :=
  let c0_i32_465 : BitVec 32 := 0#32
  let v954 : Index := Scalar.indexCast c0_i32_465
  let c0_i32_79 : BitVec 32 := 0#32
  let c1_i32_81 : BitVec 32 := 1#32
  let arg12 : BitVec 32 := Scf.iv c0_i32_79 c1_i32_81 k0_t3
  let c16_i32 : BitVec 32 := 16#32
  let v124 : BitVec 32 := Scalar.muli arg12 c16_i32
  let c11_i32_464 : BitVec 32 := 11#32
  let v953 : BitVec 32 := Scalar.addi v124 c11_i32_464
  let v955 : Index := Scalar.indexCast v953
  let c80_466 : Index := 80#32
  ![0, v955.toNat, 80]
def k0_off399 (k0_t3 : Fin k0_t3_loop.trips) : Fin 3 → Nat :=
  let c0_i32_469 : BitVec 32 := 0#32
  let v965 : Index := Scalar.indexCast c0_i32_469
  let c0_i32_79 : BitVec 32 := 0#32
  let c1_i32_81 : BitVec 32 := 1#32
  let arg12 : BitVec 32 := Scf.iv c0_i32_79 c1_i32_81 k0_t3
  let c16_i32 : BitVec 32 := 16#32
  let v124 : BitVec 32 := Scalar.muli arg12 c16_i32
  let c11_i32_468 : BitVec 32 := 11#32
  let v964 : BitVec 32 := Scalar.addi v124 c11_i32_468
  let v966 : Index := Scalar.indexCast v964
  let c32_470 : Index := 32#32
  ![0, v966.toNat, 32]
def k0_off400 (k0_t3 : Fin k0_t3_loop.trips) : Fin 3 → Nat :=
  let c0_i32_472 : BitVec 32 := 0#32
  let v971 : Index := Scalar.indexCast c0_i32_472
  let c0_i32_79 : BitVec 32 := 0#32
  let c1_i32_81 : BitVec 32 := 1#32
  let arg12 : BitVec 32 := Scf.iv c0_i32_79 c1_i32_81 k0_t3
  let c16_i32 : BitVec 32 := 16#32
  let v124 : BitVec 32 := Scalar.muli arg12 c16_i32
  let c11_i32_471 : BitVec 32 := 11#32
  let v970 : BitVec 32 := Scalar.addi v124 c11_i32_471
  let v972 : Index := Scalar.indexCast v970
  let c96_473 : Index := 96#32
  ![0, v972.toNat, 96]
def k0_off401 (k0_t3 : Fin k0_t3_loop.trips) : Fin 3 → Nat :=
  let c0_i32_476 : BitVec 32 := 0#32
  let v982 : Index := Scalar.indexCast c0_i32_476
  let c0_i32_79 : BitVec 32 := 0#32
  let c1_i32_81 : BitVec 32 := 1#32
  let arg12 : BitVec 32 := Scf.iv c0_i32_79 c1_i32_81 k0_t3
  let c16_i32 : BitVec 32 := 16#32
  let v124 : BitVec 32 := Scalar.muli arg12 c16_i32
  let c11_i32_475 : BitVec 32 := 11#32
  let v981 : BitVec 32 := Scalar.addi v124 c11_i32_475
  let v983 : Index := Scalar.indexCast v981
  let c48_477 : Index := 48#32
  ![0, v983.toNat, 48]
def k0_off402 (k0_t3 : Fin k0_t3_loop.trips) : Fin 3 → Nat :=
  let c0_i32_479 : BitVec 32 := 0#32
  let v988 : Index := Scalar.indexCast c0_i32_479
  let c0_i32_79 : BitVec 32 := 0#32
  let c1_i32_81 : BitVec 32 := 1#32
  let arg12 : BitVec 32 := Scf.iv c0_i32_79 c1_i32_81 k0_t3
  let c16_i32 : BitVec 32 := 16#32
  let v124 : BitVec 32 := Scalar.muli arg12 c16_i32
  let c11_i32_478 : BitVec 32 := 11#32
  let v987 : BitVec 32 := Scalar.addi v124 c11_i32_478
  let v989 : Index := Scalar.indexCast v987
  let c112_480 : Index := 112#32
  ![0, v989.toNat, 112]
def k0_off403 (k0_t3 : Fin k0_t3_loop.trips) (v994 : BitVec 32) (c0_i32_482 : BitVec 32) : Fin 2 → Nat :=
  let c256_i32_481 : BitVec 32 := 256#32
  let c0_i32_79 : BitVec 32 := 0#32
  let c1_i32_81 : BitVec 32 := 1#32
  let arg12 : BitVec 32 := Scf.iv c0_i32_79 c1_i32_81 k0_t3
  let c16_i32 : BitVec 32 := 16#32
  let v124 : BitVec 32 := Scalar.muli arg12 c16_i32
  let v995 : BitVec 32 := Scalar.addi c256_i32_481 v124
  let c12_i32 : BitVec 32 := 12#32
  let v996 : BitVec 32 := Scalar.addi v995 c12_i32
  let v998 : Index := Scalar.indexCast v996
  let v997 : BitVec 32 := Scalar.addi v994 c0_i32_482
  let v999 : Index := Scalar.indexCast v997
  ![v998.toNat, v999.toNat]

def k0_chk45 (k0_t3 : Fin k0_t3_loop.trips) (v994 : BitVec 32) : Prop :=
  (∀ (r : Fin 4), ∀ a, (k0_off403 k0_t3 v994 (BitVec.ofNat 32 (16 * r.val))) a + S1x16.size a ≤ S512x128.size a)
theorem k0_off403_inb : ∀ (k0_t3 : Fin k0_t3_loop.trips) (v994 : BitVec 32) (k0_hw45 : k0_chk45 k0_t3 v994), ∀ (r : Fin 4), ∀ a, (k0_off403 k0_t3 v994 (BitVec.ofNat 32 (16 * r.val))) a + S1x16.size a ≤ S512x128.size a := fun k0_t3 v994 k0_hw45 r => k0_hw45 r

def k0_off404 (k0_t3 : Fin k0_t3_loop.trips) : Fin 3 → Nat :=
  let c0_i32_484 : BitVec 32 := 0#32
  let v1003 : Index := Scalar.indexCast c0_i32_484
  let c0_i32_79 : BitVec 32 := 0#32
  let c1_i32_81 : BitVec 32 := 1#32
  let arg12 : BitVec 32 := Scf.iv c0_i32_79 c1_i32_81 k0_t3
  let c16_i32 : BitVec 32 := 16#32
  let v124 : BitVec 32 := Scalar.muli arg12 c16_i32
  let c12_i32_483 : BitVec 32 := 12#32
  let v1002 : BitVec 32 := Scalar.addi v124 c12_i32_483
  let v1004 : Index := Scalar.indexCast v1002
  let c0_485 : Index := 0#32
  ![0, v1004.toNat, 0]
def k0_off405 (k0_t3 : Fin k0_t3_loop.trips) : Fin 3 → Nat :=
  let c0_i32_487 : BitVec 32 := 0#32
  let v1009 : Index := Scalar.indexCast c0_i32_487
  let c0_i32_79 : BitVec 32 := 0#32
  let c1_i32_81 : BitVec 32 := 1#32
  let arg12 : BitVec 32 := Scf.iv c0_i32_79 c1_i32_81 k0_t3
  let c16_i32 : BitVec 32 := 16#32
  let v124 : BitVec 32 := Scalar.muli arg12 c16_i32
  let c12_i32_486 : BitVec 32 := 12#32
  let v1008 : BitVec 32 := Scalar.addi v124 c12_i32_486
  let v1010 : Index := Scalar.indexCast v1008
  let c64_488 : Index := 64#32
  ![0, v1010.toNat, 64]
def k0_off406 (k0_t3 : Fin k0_t3_loop.trips) : Fin 3 → Nat :=
  let c0_i32_491 : BitVec 32 := 0#32
  let v1020 : Index := Scalar.indexCast c0_i32_491
  let c0_i32_79 : BitVec 32 := 0#32
  let c1_i32_81 : BitVec 32 := 1#32
  let arg12 : BitVec 32 := Scf.iv c0_i32_79 c1_i32_81 k0_t3
  let c16_i32 : BitVec 32 := 16#32
  let v124 : BitVec 32 := Scalar.muli arg12 c16_i32
  let c12_i32_490 : BitVec 32 := 12#32
  let v1019 : BitVec 32 := Scalar.addi v124 c12_i32_490
  let v1021 : Index := Scalar.indexCast v1019
  let c16_492 : Index := 16#32
  ![0, v1021.toNat, 16]
def k0_off407 (k0_t3 : Fin k0_t3_loop.trips) : Fin 3 → Nat :=
  let c0_i32_494 : BitVec 32 := 0#32
  let v1026 : Index := Scalar.indexCast c0_i32_494
  let c0_i32_79 : BitVec 32 := 0#32
  let c1_i32_81 : BitVec 32 := 1#32
  let arg12 : BitVec 32 := Scf.iv c0_i32_79 c1_i32_81 k0_t3
  let c16_i32 : BitVec 32 := 16#32
  let v124 : BitVec 32 := Scalar.muli arg12 c16_i32
  let c12_i32_493 : BitVec 32 := 12#32
  let v1025 : BitVec 32 := Scalar.addi v124 c12_i32_493
  let v1027 : Index := Scalar.indexCast v1025
  let c80_495 : Index := 80#32
  ![0, v1027.toNat, 80]
def k0_off408 (k0_t3 : Fin k0_t3_loop.trips) : Fin 3 → Nat :=
  let c0_i32_498 : BitVec 32 := 0#32
  let v1037 : Index := Scalar.indexCast c0_i32_498
  let c0_i32_79 : BitVec 32 := 0#32
  let c1_i32_81 : BitVec 32 := 1#32
  let arg12 : BitVec 32 := Scf.iv c0_i32_79 c1_i32_81 k0_t3
  let c16_i32 : BitVec 32 := 16#32
  let v124 : BitVec 32 := Scalar.muli arg12 c16_i32
  let c12_i32_497 : BitVec 32 := 12#32
  let v1036 : BitVec 32 := Scalar.addi v124 c12_i32_497
  let v1038 : Index := Scalar.indexCast v1036
  let c32_499 : Index := 32#32
  ![0, v1038.toNat, 32]
def k0_off409 (k0_t3 : Fin k0_t3_loop.trips) : Fin 3 → Nat :=
  let c0_i32_501 : BitVec 32 := 0#32
  let v1043 : Index := Scalar.indexCast c0_i32_501
  let c0_i32_79 : BitVec 32 := 0#32
  let c1_i32_81 : BitVec 32 := 1#32
  let arg12 : BitVec 32 := Scf.iv c0_i32_79 c1_i32_81 k0_t3
  let c16_i32 : BitVec 32 := 16#32
  let v124 : BitVec 32 := Scalar.muli arg12 c16_i32
  let c12_i32_500 : BitVec 32 := 12#32
  let v1042 : BitVec 32 := Scalar.addi v124 c12_i32_500
  let v1044 : Index := Scalar.indexCast v1042
  let c96_502 : Index := 96#32
  ![0, v1044.toNat, 96]
def k0_off410 (k0_t3 : Fin k0_t3_loop.trips) : Fin 3 → Nat :=
  let c0_i32_505 : BitVec 32 := 0#32
  let v1054 : Index := Scalar.indexCast c0_i32_505
  let c0_i32_79 : BitVec 32 := 0#32
  let c1_i32_81 : BitVec 32 := 1#32
  let arg12 : BitVec 32 := Scf.iv c0_i32_79 c1_i32_81 k0_t3
  let c16_i32 : BitVec 32 := 16#32
  let v124 : BitVec 32 := Scalar.muli arg12 c16_i32
  let c12_i32_504 : BitVec 32 := 12#32
  let v1053 : BitVec 32 := Scalar.addi v124 c12_i32_504
  let v1055 : Index := Scalar.indexCast v1053
  let c48_506 : Index := 48#32
  ![0, v1055.toNat, 48]
def k0_off411 (k0_t3 : Fin k0_t3_loop.trips) : Fin 3 → Nat :=
  let c0_i32_508 : BitVec 32 := 0#32
  let v1060 : Index := Scalar.indexCast c0_i32_508
  let c0_i32_79 : BitVec 32 := 0#32
  let c1_i32_81 : BitVec 32 := 1#32
  let arg12 : BitVec 32 := Scf.iv c0_i32_79 c1_i32_81 k0_t3
  let c16_i32 : BitVec 32 := 16#32
  let v124 : BitVec 32 := Scalar.muli arg12 c16_i32
  let c12_i32_507 : BitVec 32 := 12#32
  let v1059 : BitVec 32 := Scalar.addi v124 c12_i32_507
  let v1061 : Index := Scalar.indexCast v1059
  let c112_509 : Index := 112#32
  ![0, v1061.toNat, 112]
def k0_off412 (k0_t3 : Fin k0_t3_loop.trips) (v1066 : BitVec 32) (c0_i32_511 : BitVec 32) : Fin 2 → Nat :=
  let c256_i32_510 : BitVec 32 := 256#32
  let c0_i32_79 : BitVec 32 := 0#32
  let c1_i32_81 : BitVec 32 := 1#32
  let arg12 : BitVec 32 := Scf.iv c0_i32_79 c1_i32_81 k0_t3
  let c16_i32 : BitVec 32 := 16#32
  let v124 : BitVec 32 := Scalar.muli arg12 c16_i32
  let v1067 : BitVec 32 := Scalar.addi c256_i32_510 v124
  let c13_i32 : BitVec 32 := 13#32
  let v1068 : BitVec 32 := Scalar.addi v1067 c13_i32
  let v1070 : Index := Scalar.indexCast v1068
  let v1069 : BitVec 32 := Scalar.addi v1066 c0_i32_511
  let v1071 : Index := Scalar.indexCast v1069
  ![v1070.toNat, v1071.toNat]

def k0_chk46 (k0_t3 : Fin k0_t3_loop.trips) (v1066 : BitVec 32) : Prop :=
  (∀ (r : Fin 4), ∀ a, (k0_off412 k0_t3 v1066 (BitVec.ofNat 32 (16 * r.val))) a + S1x16.size a ≤ S512x128.size a)
theorem k0_off412_inb : ∀ (k0_t3 : Fin k0_t3_loop.trips) (v1066 : BitVec 32) (k0_hw46 : k0_chk46 k0_t3 v1066), ∀ (r : Fin 4), ∀ a, (k0_off412 k0_t3 v1066 (BitVec.ofNat 32 (16 * r.val))) a + S1x16.size a ≤ S512x128.size a := fun k0_t3 v1066 k0_hw46 r => k0_hw46 r

def k0_off413 (k0_t3 : Fin k0_t3_loop.trips) : Fin 3 → Nat :=
  let c0_i32_513 : BitVec 32 := 0#32
  let v1075 : Index := Scalar.indexCast c0_i32_513
  let c0_i32_79 : BitVec 32 := 0#32
  let c1_i32_81 : BitVec 32 := 1#32
  let arg12 : BitVec 32 := Scf.iv c0_i32_79 c1_i32_81 k0_t3
  let c16_i32 : BitVec 32 := 16#32
  let v124 : BitVec 32 := Scalar.muli arg12 c16_i32
  let c13_i32_512 : BitVec 32 := 13#32
  let v1074 : BitVec 32 := Scalar.addi v124 c13_i32_512
  let v1076 : Index := Scalar.indexCast v1074
  let c0_514 : Index := 0#32
  ![0, v1076.toNat, 0]
def k0_off414 (k0_t3 : Fin k0_t3_loop.trips) : Fin 3 → Nat :=
  let c0_i32_516 : BitVec 32 := 0#32
  let v1081 : Index := Scalar.indexCast c0_i32_516
  let c0_i32_79 : BitVec 32 := 0#32
  let c1_i32_81 : BitVec 32 := 1#32
  let arg12 : BitVec 32 := Scf.iv c0_i32_79 c1_i32_81 k0_t3
  let c16_i32 : BitVec 32 := 16#32
  let v124 : BitVec 32 := Scalar.muli arg12 c16_i32
  let c13_i32_515 : BitVec 32 := 13#32
  let v1080 : BitVec 32 := Scalar.addi v124 c13_i32_515
  let v1082 : Index := Scalar.indexCast v1080
  let c64_517 : Index := 64#32
  ![0, v1082.toNat, 64]
def k0_off415 (k0_t3 : Fin k0_t3_loop.trips) : Fin 3 → Nat :=
  let c0_i32_520 : BitVec 32 := 0#32
  let v1092 : Index := Scalar.indexCast c0_i32_520
  let c0_i32_79 : BitVec 32 := 0#32
  let c1_i32_81 : BitVec 32 := 1#32
  let arg12 : BitVec 32 := Scf.iv c0_i32_79 c1_i32_81 k0_t3
  let c16_i32 : BitVec 32 := 16#32
  let v124 : BitVec 32 := Scalar.muli arg12 c16_i32
  let c13_i32_519 : BitVec 32 := 13#32
  let v1091 : BitVec 32 := Scalar.addi v124 c13_i32_519
  let v1093 : Index := Scalar.indexCast v1091
  let c16_521 : Index := 16#32
  ![0, v1093.toNat, 16]
def k0_off416 (k0_t3 : Fin k0_t3_loop.trips) : Fin 3 → Nat :=
  let c0_i32_523 : BitVec 32 := 0#32
  let v1098 : Index := Scalar.indexCast c0_i32_523
  let c0_i32_79 : BitVec 32 := 0#32
  let c1_i32_81 : BitVec 32 := 1#32
  let arg12 : BitVec 32 := Scf.iv c0_i32_79 c1_i32_81 k0_t3
  let c16_i32 : BitVec 32 := 16#32
  let v124 : BitVec 32 := Scalar.muli arg12 c16_i32
  let c13_i32_522 : BitVec 32 := 13#32
  let v1097 : BitVec 32 := Scalar.addi v124 c13_i32_522
  let v1099 : Index := Scalar.indexCast v1097
  let c80_524 : Index := 80#32
  ![0, v1099.toNat, 80]
def k0_off417 (k0_t3 : Fin k0_t3_loop.trips) : Fin 3 → Nat :=
  let c0_i32_527 : BitVec 32 := 0#32
  let v1109 : Index := Scalar.indexCast c0_i32_527
  let c0_i32_79 : BitVec 32 := 0#32
  let c1_i32_81 : BitVec 32 := 1#32
  let arg12 : BitVec 32 := Scf.iv c0_i32_79 c1_i32_81 k0_t3
  let c16_i32 : BitVec 32 := 16#32
  let v124 : BitVec 32 := Scalar.muli arg12 c16_i32
  let c13_i32_526 : BitVec 32 := 13#32
  let v1108 : BitVec 32 := Scalar.addi v124 c13_i32_526
  let v1110 : Index := Scalar.indexCast v1108
  let c32_528 : Index := 32#32
  ![0, v1110.toNat, 32]
def k0_off418 (k0_t3 : Fin k0_t3_loop.trips) : Fin 3 → Nat :=
  let c0_i32_530 : BitVec 32 := 0#32
  let v1115 : Index := Scalar.indexCast c0_i32_530
  let c0_i32_79 : BitVec 32 := 0#32
  let c1_i32_81 : BitVec 32 := 1#32
  let arg12 : BitVec 32 := Scf.iv c0_i32_79 c1_i32_81 k0_t3
  let c16_i32 : BitVec 32 := 16#32
  let v124 : BitVec 32 := Scalar.muli arg12 c16_i32
  let c13_i32_529 : BitVec 32 := 13#32
  let v1114 : BitVec 32 := Scalar.addi v124 c13_i32_529
  let v1116 : Index := Scalar.indexCast v1114
  let c96_531 : Index := 96#32
  ![0, v1116.toNat, 96]
def k0_off419 (k0_t3 : Fin k0_t3_loop.trips) : Fin 3 → Nat :=
  let c0_i32_534 : BitVec 32 := 0#32
  let v1126 : Index := Scalar.indexCast c0_i32_534
  let c0_i32_79 : BitVec 32 := 0#32
  let c1_i32_81 : BitVec 32 := 1#32
  let arg12 : BitVec 32 := Scf.iv c0_i32_79 c1_i32_81 k0_t3
  let c16_i32 : BitVec 32 := 16#32
  let v124 : BitVec 32 := Scalar.muli arg12 c16_i32
  let c13_i32_533 : BitVec 32 := 13#32
  let v1125 : BitVec 32 := Scalar.addi v124 c13_i32_533
  let v1127 : Index := Scalar.indexCast v1125
  let c48_535 : Index := 48#32
  ![0, v1127.toNat, 48]
def k0_off420 (k0_t3 : Fin k0_t3_loop.trips) : Fin 3 → Nat :=
  let c0_i32_537 : BitVec 32 := 0#32
  let v1132 : Index := Scalar.indexCast c0_i32_537
  let c0_i32_79 : BitVec 32 := 0#32
  let c1_i32_81 : BitVec 32 := 1#32
  let arg12 : BitVec 32 := Scf.iv c0_i32_79 c1_i32_81 k0_t3
  let c16_i32 : BitVec 32 := 16#32
  let v124 : BitVec 32 := Scalar.muli arg12 c16_i32
  let c13_i32_536 : BitVec 32 := 13#32
  let v1131 : BitVec 32 := Scalar.addi v124 c13_i32_536
  let v1133 : Index := Scalar.indexCast v1131
  let c112_538 : Index := 112#32
  ![0, v1133.toNat, 112]
def k0_off421 (k0_t3 : Fin k0_t3_loop.trips) (v1138 : BitVec 32) (c0_i32_540 : BitVec 32) : Fin 2 → Nat :=
  let c256_i32_539 : BitVec 32 := 256#32
  let c0_i32_79 : BitVec 32 := 0#32
  let c1_i32_81 : BitVec 32 := 1#32
  let arg12 : BitVec 32 := Scf.iv c0_i32_79 c1_i32_81 k0_t3
  let c16_i32 : BitVec 32 := 16#32
  let v124 : BitVec 32 := Scalar.muli arg12 c16_i32
  let v1139 : BitVec 32 := Scalar.addi c256_i32_539 v124
  let c14_i32 : BitVec 32 := 14#32
  let v1140 : BitVec 32 := Scalar.addi v1139 c14_i32
  let v1142 : Index := Scalar.indexCast v1140
  let v1141 : BitVec 32 := Scalar.addi v1138 c0_i32_540
  let v1143 : Index := Scalar.indexCast v1141
  ![v1142.toNat, v1143.toNat]

def k0_chk47 (k0_t3 : Fin k0_t3_loop.trips) (v1138 : BitVec 32) : Prop :=
  (∀ (r : Fin 4), ∀ a, (k0_off421 k0_t3 v1138 (BitVec.ofNat 32 (16 * r.val))) a + S1x16.size a ≤ S512x128.size a)
theorem k0_off421_inb : ∀ (k0_t3 : Fin k0_t3_loop.trips) (v1138 : BitVec 32) (k0_hw47 : k0_chk47 k0_t3 v1138), ∀ (r : Fin 4), ∀ a, (k0_off421 k0_t3 v1138 (BitVec.ofNat 32 (16 * r.val))) a + S1x16.size a ≤ S512x128.size a := fun k0_t3 v1138 k0_hw47 r => k0_hw47 r

def k0_off422 (k0_t3 : Fin k0_t3_loop.trips) : Fin 3 → Nat :=
  let c0_i32_542 : BitVec 32 := 0#32
  let v1147 : Index := Scalar.indexCast c0_i32_542
  let c0_i32_79 : BitVec 32 := 0#32
  let c1_i32_81 : BitVec 32 := 1#32
  let arg12 : BitVec 32 := Scf.iv c0_i32_79 c1_i32_81 k0_t3
  let c16_i32 : BitVec 32 := 16#32
  let v124 : BitVec 32 := Scalar.muli arg12 c16_i32
  let c14_i32_541 : BitVec 32 := 14#32
  let v1146 : BitVec 32 := Scalar.addi v124 c14_i32_541
  let v1148 : Index := Scalar.indexCast v1146
  let c0_543 : Index := 0#32
  ![0, v1148.toNat, 0]
def k0_off423 (k0_t3 : Fin k0_t3_loop.trips) : Fin 3 → Nat :=
  let c0_i32_545 : BitVec 32 := 0#32
  let v1153 : Index := Scalar.indexCast c0_i32_545
  let c0_i32_79 : BitVec 32 := 0#32
  let c1_i32_81 : BitVec 32 := 1#32
  let arg12 : BitVec 32 := Scf.iv c0_i32_79 c1_i32_81 k0_t3
  let c16_i32 : BitVec 32 := 16#32
  let v124 : BitVec 32 := Scalar.muli arg12 c16_i32
  let c14_i32_544 : BitVec 32 := 14#32
  let v1152 : BitVec 32 := Scalar.addi v124 c14_i32_544
  let v1154 : Index := Scalar.indexCast v1152
  let c64_546 : Index := 64#32
  ![0, v1154.toNat, 64]
def k0_off424 (k0_t3 : Fin k0_t3_loop.trips) : Fin 3 → Nat :=
  let c0_i32_549 : BitVec 32 := 0#32
  let v1164 : Index := Scalar.indexCast c0_i32_549
  let c0_i32_79 : BitVec 32 := 0#32
  let c1_i32_81 : BitVec 32 := 1#32
  let arg12 : BitVec 32 := Scf.iv c0_i32_79 c1_i32_81 k0_t3
  let c16_i32 : BitVec 32 := 16#32
  let v124 : BitVec 32 := Scalar.muli arg12 c16_i32
  let c14_i32_548 : BitVec 32 := 14#32
  let v1163 : BitVec 32 := Scalar.addi v124 c14_i32_548
  let v1165 : Index := Scalar.indexCast v1163
  let c16_550 : Index := 16#32
  ![0, v1165.toNat, 16]
def k0_off425 (k0_t3 : Fin k0_t3_loop.trips) : Fin 3 → Nat :=
  let c0_i32_552 : BitVec 32 := 0#32
  let v1170 : Index := Scalar.indexCast c0_i32_552
  let c0_i32_79 : BitVec 32 := 0#32
  let c1_i32_81 : BitVec 32 := 1#32
  let arg12 : BitVec 32 := Scf.iv c0_i32_79 c1_i32_81 k0_t3
  let c16_i32 : BitVec 32 := 16#32
  let v124 : BitVec 32 := Scalar.muli arg12 c16_i32
  let c14_i32_551 : BitVec 32 := 14#32
  let v1169 : BitVec 32 := Scalar.addi v124 c14_i32_551
  let v1171 : Index := Scalar.indexCast v1169
  let c80_553 : Index := 80#32
  ![0, v1171.toNat, 80]
def k0_off426 (k0_t3 : Fin k0_t3_loop.trips) : Fin 3 → Nat :=
  let c0_i32_556 : BitVec 32 := 0#32
  let v1181 : Index := Scalar.indexCast c0_i32_556
  let c0_i32_79 : BitVec 32 := 0#32
  let c1_i32_81 : BitVec 32 := 1#32
  let arg12 : BitVec 32 := Scf.iv c0_i32_79 c1_i32_81 k0_t3
  let c16_i32 : BitVec 32 := 16#32
  let v124 : BitVec 32 := Scalar.muli arg12 c16_i32
  let c14_i32_555 : BitVec 32 := 14#32
  let v1180 : BitVec 32 := Scalar.addi v124 c14_i32_555
  let v1182 : Index := Scalar.indexCast v1180
  let c32_557 : Index := 32#32
  ![0, v1182.toNat, 32]
def k0_off427 (k0_t3 : Fin k0_t3_loop.trips) : Fin 3 → Nat :=
  let c0_i32_559 : BitVec 32 := 0#32
  let v1187 : Index := Scalar.indexCast c0_i32_559
  let c0_i32_79 : BitVec 32 := 0#32
  let c1_i32_81 : BitVec 32 := 1#32
  let arg12 : BitVec 32 := Scf.iv c0_i32_79 c1_i32_81 k0_t3
  let c16_i32 : BitVec 32 := 16#32
  let v124 : BitVec 32 := Scalar.muli arg12 c16_i32
  let c14_i32_558 : BitVec 32 := 14#32
  let v1186 : BitVec 32 := Scalar.addi v124 c14_i32_558
  let v1188 : Index := Scalar.indexCast v1186
  let c96_560 : Index := 96#32
  ![0, v1188.toNat, 96]
def k0_off428 (k0_t3 : Fin k0_t3_loop.trips) : Fin 3 → Nat :=
  let c0_i32_563 : BitVec 32 := 0#32
  let v1198 : Index := Scalar.indexCast c0_i32_563
  let c0_i32_79 : BitVec 32 := 0#32
  let c1_i32_81 : BitVec 32 := 1#32
  let arg12 : BitVec 32 := Scf.iv c0_i32_79 c1_i32_81 k0_t3
  let c16_i32 : BitVec 32 := 16#32
  let v124 : BitVec 32 := Scalar.muli arg12 c16_i32
  let c14_i32_562 : BitVec 32 := 14#32
  let v1197 : BitVec 32 := Scalar.addi v124 c14_i32_562
  let v1199 : Index := Scalar.indexCast v1197
  let c48_564 : Index := 48#32
  ![0, v1199.toNat, 48]
def k0_off429 (k0_t3 : Fin k0_t3_loop.trips) : Fin 3 → Nat :=
  let c0_i32_566 : BitVec 32 := 0#32
  let v1204 : Index := Scalar.indexCast c0_i32_566
  let c0_i32_79 : BitVec 32 := 0#32
  let c1_i32_81 : BitVec 32 := 1#32
  let arg12 : BitVec 32 := Scf.iv c0_i32_79 c1_i32_81 k0_t3
  let c16_i32 : BitVec 32 := 16#32
  let v124 : BitVec 32 := Scalar.muli arg12 c16_i32
  let c14_i32_565 : BitVec 32 := 14#32
  let v1203 : BitVec 32 := Scalar.addi v124 c14_i32_565
  let v1205 : Index := Scalar.indexCast v1203
  let c112_567 : Index := 112#32
  ![0, v1205.toNat, 112]
def k0_off430 (k0_t3 : Fin k0_t3_loop.trips) (v1210 : BitVec 32) (c0_i32_569 : BitVec 32) : Fin 2 → Nat :=
  let c256_i32_568 : BitVec 32 := 256#32
  let c0_i32_79 : BitVec 32 := 0#32
  let c1_i32_81 : BitVec 32 := 1#32
  let arg12 : BitVec 32 := Scf.iv c0_i32_79 c1_i32_81 k0_t3
  let c16_i32 : BitVec 32 := 16#32
  let v124 : BitVec 32 := Scalar.muli arg12 c16_i32
  let v1211 : BitVec 32 := Scalar.addi c256_i32_568 v124
  let c15_i32 : BitVec 32 := 15#32
  let v1212 : BitVec 32 := Scalar.addi v1211 c15_i32
  let v1214 : Index := Scalar.indexCast v1212
  let v1213 : BitVec 32 := Scalar.addi v1210 c0_i32_569
  let v1215 : Index := Scalar.indexCast v1213
  ![v1214.toNat, v1215.toNat]

def k0_chk48 (k0_t3 : Fin k0_t3_loop.trips) (v1210 : BitVec 32) : Prop :=
  (∀ (r : Fin 4), ∀ a, (k0_off430 k0_t3 v1210 (BitVec.ofNat 32 (16 * r.val))) a + S1x16.size a ≤ S512x128.size a)
theorem k0_off430_inb : ∀ (k0_t3 : Fin k0_t3_loop.trips) (v1210 : BitVec 32) (k0_hw48 : k0_chk48 k0_t3 v1210), ∀ (r : Fin 4), ∀ a, (k0_off430 k0_t3 v1210 (BitVec.ofNat 32 (16 * r.val))) a + S1x16.size a ≤ S512x128.size a := fun k0_t3 v1210 k0_hw48 r => k0_hw48 r

def k0_off431 (k0_t3 : Fin k0_t3_loop.trips) : Fin 3 → Nat :=
  let c0_i32_571 : BitVec 32 := 0#32
  let v1219 : Index := Scalar.indexCast c0_i32_571
  let c0_i32_79 : BitVec 32 := 0#32
  let c1_i32_81 : BitVec 32 := 1#32
  let arg12 : BitVec 32 := Scf.iv c0_i32_79 c1_i32_81 k0_t3
  let c16_i32 : BitVec 32 := 16#32
  let v124 : BitVec 32 := Scalar.muli arg12 c16_i32
  let c15_i32_570 : BitVec 32 := 15#32
  let v1218 : BitVec 32 := Scalar.addi v124 c15_i32_570
  let v1220 : Index := Scalar.indexCast v1218
  let c0_572 : Index := 0#32
  ![0, v1220.toNat, 0]
def k0_off432 (k0_t3 : Fin k0_t3_loop.trips) : Fin 3 → Nat :=
  let c0_i32_574 : BitVec 32 := 0#32
  let v1225 : Index := Scalar.indexCast c0_i32_574
  let c0_i32_79 : BitVec 32 := 0#32
  let c1_i32_81 : BitVec 32 := 1#32
  let arg12 : BitVec 32 := Scf.iv c0_i32_79 c1_i32_81 k0_t3
  let c16_i32 : BitVec 32 := 16#32
  let v124 : BitVec 32 := Scalar.muli arg12 c16_i32
  let c15_i32_573 : BitVec 32 := 15#32
  let v1224 : BitVec 32 := Scalar.addi v124 c15_i32_573
  let v1226 : Index := Scalar.indexCast v1224
  let c64_575 : Index := 64#32
  ![0, v1226.toNat, 64]
def k0_off433 (k0_t3 : Fin k0_t3_loop.trips) : Fin 3 → Nat :=
  let c0_i32_578 : BitVec 32 := 0#32
  let v1236 : Index := Scalar.indexCast c0_i32_578
  let c0_i32_79 : BitVec 32 := 0#32
  let c1_i32_81 : BitVec 32 := 1#32
  let arg12 : BitVec 32 := Scf.iv c0_i32_79 c1_i32_81 k0_t3
  let c16_i32 : BitVec 32 := 16#32
  let v124 : BitVec 32 := Scalar.muli arg12 c16_i32
  let c15_i32_577 : BitVec 32 := 15#32
  let v1235 : BitVec 32 := Scalar.addi v124 c15_i32_577
  let v1237 : Index := Scalar.indexCast v1235
  let c16_579 : Index := 16#32
  ![0, v1237.toNat, 16]
def k0_off434 (k0_t3 : Fin k0_t3_loop.trips) : Fin 3 → Nat :=
  let c0_i32_581 : BitVec 32 := 0#32
  let v1242 : Index := Scalar.indexCast c0_i32_581
  let c0_i32_79 : BitVec 32 := 0#32
  let c1_i32_81 : BitVec 32 := 1#32
  let arg12 : BitVec 32 := Scf.iv c0_i32_79 c1_i32_81 k0_t3
  let c16_i32 : BitVec 32 := 16#32
  let v124 : BitVec 32 := Scalar.muli arg12 c16_i32
  let c15_i32_580 : BitVec 32 := 15#32
  let v1241 : BitVec 32 := Scalar.addi v124 c15_i32_580
  let v1243 : Index := Scalar.indexCast v1241
  let c80_582 : Index := 80#32
  ![0, v1243.toNat, 80]
def k0_off435 (k0_t3 : Fin k0_t3_loop.trips) : Fin 3 → Nat :=
  let c0_i32_585 : BitVec 32 := 0#32
  let v1253 : Index := Scalar.indexCast c0_i32_585
  let c0_i32_79 : BitVec 32 := 0#32
  let c1_i32_81 : BitVec 32 := 1#32
  let arg12 : BitVec 32 := Scf.iv c0_i32_79 c1_i32_81 k0_t3
  let c16_i32 : BitVec 32 := 16#32
  let v124 : BitVec 32 := Scalar.muli arg12 c16_i32
  let c15_i32_584 : BitVec 32 := 15#32
  let v1252 : BitVec 32 := Scalar.addi v124 c15_i32_584
  let v1254 : Index := Scalar.indexCast v1252
  let c32_586 : Index := 32#32
  ![0, v1254.toNat, 32]
def k0_off436 (k0_t3 : Fin k0_t3_loop.trips) : Fin 3 → Nat :=
  let c0_i32_588 : BitVec 32 := 0#32
  let v1259 : Index := Scalar.indexCast c0_i32_588
  let c0_i32_79 : BitVec 32 := 0#32
  let c1_i32_81 : BitVec 32 := 1#32
  let arg12 : BitVec 32 := Scf.iv c0_i32_79 c1_i32_81 k0_t3
  let c16_i32 : BitVec 32 := 16#32
  let v124 : BitVec 32 := Scalar.muli arg12 c16_i32
  let c15_i32_587 : BitVec 32 := 15#32
  let v1258 : BitVec 32 := Scalar.addi v124 c15_i32_587
  let v1260 : Index := Scalar.indexCast v1258
  let c96_589 : Index := 96#32
  ![0, v1260.toNat, 96]
def k0_off437 (k0_t3 : Fin k0_t3_loop.trips) : Fin 3 → Nat :=
  let c0_i32_592 : BitVec 32 := 0#32
  let v1270 : Index := Scalar.indexCast c0_i32_592
  let c0_i32_79 : BitVec 32 := 0#32
  let c1_i32_81 : BitVec 32 := 1#32
  let arg12 : BitVec 32 := Scf.iv c0_i32_79 c1_i32_81 k0_t3
  let c16_i32 : BitVec 32 := 16#32
  let v124 : BitVec 32 := Scalar.muli arg12 c16_i32
  let c15_i32_591 : BitVec 32 := 15#32
  let v1269 : BitVec 32 := Scalar.addi v124 c15_i32_591
  let v1271 : Index := Scalar.indexCast v1269
  let c48_593 : Index := 48#32
  ![0, v1271.toNat, 48]
def k0_off438 (k0_t3 : Fin k0_t3_loop.trips) : Fin 3 → Nat :=
  let c0_i32_595 : BitVec 32 := 0#32
  let v1276 : Index := Scalar.indexCast c0_i32_595
  let c0_i32_79 : BitVec 32 := 0#32
  let c1_i32_81 : BitVec 32 := 1#32
  let arg12 : BitVec 32 := Scf.iv c0_i32_79 c1_i32_81 k0_t3
  let c16_i32 : BitVec 32 := 16#32
  let v124 : BitVec 32 := Scalar.muli arg12 c16_i32
  let c15_i32_594 : BitVec 32 := 15#32
  let v1275 : BitVec 32 := Scalar.addi v124 c15_i32_594
  let v1277 : Index := Scalar.indexCast v1275
  let c112_596 : Index := 112#32
  ![0, v1277.toNat, 112]
@[reducible] def k0_t4_loop : Scf.Loop 32 :=
  let c0_i32_108 : BitVec 32 := 0#32
  let c8_i32_109 : BitVec 32 := 8#32
  let v98 : BitVec 32 := Scalar.addi c0_i32_108 c8_i32_109
  let c1_i32_110 : BitVec 32 := 1#32
  ⟨c0_i32_108, v98, c1_i32_110⟩
def k0_off439 (k0_t4 : Fin k0_t4_loop.trips) : Fin 1 → Nat :=
  let c384_i32_137 : BitVec 32 := 384#32
  let c0_i32_108 : BitVec 32 := 0#32
  let c1_i32_110 : BitVec 32 := 1#32
  let arg12 : BitVec 32 := Scf.iv c0_i32_108 c1_i32_110 k0_t4
  let c16_i32 : BitVec 32 := 16#32
  let v124 : BitVec 32 := Scalar.muli arg12 c16_i32
  let v125 : BitVec 32 := Scalar.addi c384_i32_137 v124
  let v126 : Index := Scalar.indexCast v125
  ![v126.toNat]
def k0_off440 (k0_t4 : Fin k0_t4_loop.trips) (v130 : BitVec 32) (c0_i32_140 : BitVec 32) : Fin 2 → Nat :=
  let c384_i32_138 : BitVec 32 := 384#32
  let c0_i32_108 : BitVec 32 := 0#32
  let c1_i32_110 : BitVec 32 := 1#32
  let arg12 : BitVec 32 := Scf.iv c0_i32_108 c1_i32_110 k0_t4
  let c16_i32 : BitVec 32 := 16#32
  let v124 : BitVec 32 := Scalar.muli arg12 c16_i32
  let v131 : BitVec 32 := Scalar.addi c384_i32_138 v124
  let c0_i32_139 : BitVec 32 := 0#32
  let v132 : BitVec 32 := Scalar.addi v131 c0_i32_139
  let v134 : Index := Scalar.indexCast v132
  let v133 : BitVec 32 := Scalar.addi v130 c0_i32_140
  let v135 : Index := Scalar.indexCast v133
  ![v134.toNat, v135.toNat]

def k0_chk49 (k0_t4 : Fin k0_t4_loop.trips) (v130 : BitVec 32) : Prop :=
  (∀ (r : Fin 4), ∀ a, (k0_off440 k0_t4 v130 (BitVec.ofNat 32 (16 * r.val))) a + S1x16.size a ≤ S512x128.size a)
theorem k0_off440_inb : ∀ (k0_t4 : Fin k0_t4_loop.trips) (v130 : BitVec 32) (k0_hw49 : k0_chk49 k0_t4 v130), ∀ (r : Fin 4), ∀ a, (k0_off440 k0_t4 v130 (BitVec.ofNat 32 (16 * r.val))) a + S1x16.size a ≤ S512x128.size a := fun k0_t4 v130 k0_hw49 r => k0_hw49 r

def k0_off441 (k0_t4 : Fin k0_t4_loop.trips) : Fin 3 → Nat :=
  let c1_i32_142 : BitVec 32 := 1#32
  let v139 : Index := Scalar.indexCast c1_i32_142
  let c0_i32_108 : BitVec 32 := 0#32
  let c1_i32_110 : BitVec 32 := 1#32
  let arg12 : BitVec 32 := Scf.iv c0_i32_108 c1_i32_110 k0_t4
  let c16_i32 : BitVec 32 := 16#32
  let v124 : BitVec 32 := Scalar.muli arg12 c16_i32
  let c0_i32_141 : BitVec 32 := 0#32
  let v138 : BitVec 32 := Scalar.addi v124 c0_i32_141
  let v140 : Index := Scalar.indexCast v138
  let c0 : Index := 0#32
  ![1, v140.toNat, 0]
def k0_off442 (k0_t4 : Fin k0_t4_loop.trips) : Fin 3 → Nat :=
  let c1_i32_144 : BitVec 32 := 1#32
  let v145 : Index := Scalar.indexCast c1_i32_144
  let c0_i32_108 : BitVec 32 := 0#32
  let c1_i32_110 : BitVec 32 := 1#32
  let arg12 : BitVec 32 := Scf.iv c0_i32_108 c1_i32_110 k0_t4
  let c16_i32 : BitVec 32 := 16#32
  let v124 : BitVec 32 := Scalar.muli arg12 c16_i32
  let c0_i32_143 : BitVec 32 := 0#32
  let v144 : BitVec 32 := Scalar.addi v124 c0_i32_143
  let v146 : Index := Scalar.indexCast v144
  let c64 : Index := 64#32
  ![1, v146.toNat, 64]
def k0_off443 (k0_t4 : Fin k0_t4_loop.trips) : Fin 3 → Nat :=
  let c1_i32_147 : BitVec 32 := 1#32
  let v156 : Index := Scalar.indexCast c1_i32_147
  let c0_i32_108 : BitVec 32 := 0#32
  let c1_i32_110 : BitVec 32 := 1#32
  let arg12 : BitVec 32 := Scf.iv c0_i32_108 c1_i32_110 k0_t4
  let c16_i32 : BitVec 32 := 16#32
  let v124 : BitVec 32 := Scalar.muli arg12 c16_i32
  let c0_i32_146 : BitVec 32 := 0#32
  let v155 : BitVec 32 := Scalar.addi v124 c0_i32_146
  let v157 : Index := Scalar.indexCast v155
  let c16 : Index := 16#32
  ![1, v157.toNat, 16]
def k0_off444 (k0_t4 : Fin k0_t4_loop.trips) : Fin 3 → Nat :=
  let c1_i32_149 : BitVec 32 := 1#32
  let v162 : Index := Scalar.indexCast c1_i32_149
  let c0_i32_108 : BitVec 32 := 0#32
  let c1_i32_110 : BitVec 32 := 1#32
  let arg12 : BitVec 32 := Scf.iv c0_i32_108 c1_i32_110 k0_t4
  let c16_i32 : BitVec 32 := 16#32
  let v124 : BitVec 32 := Scalar.muli arg12 c16_i32
  let c0_i32_148 : BitVec 32 := 0#32
  let v161 : BitVec 32 := Scalar.addi v124 c0_i32_148
  let v163 : Index := Scalar.indexCast v161
  let c80 : Index := 80#32
  ![1, v163.toNat, 80]
def k0_off445 (k0_t4 : Fin k0_t4_loop.trips) : Fin 3 → Nat :=
  let c1_i32_151 : BitVec 32 := 1#32
  let v173 : Index := Scalar.indexCast c1_i32_151
  let c0_i32_108 : BitVec 32 := 0#32
  let c1_i32_110 : BitVec 32 := 1#32
  let arg12 : BitVec 32 := Scf.iv c0_i32_108 c1_i32_110 k0_t4
  let c16_i32 : BitVec 32 := 16#32
  let v124 : BitVec 32 := Scalar.muli arg12 c16_i32
  let c0_i32_150 : BitVec 32 := 0#32
  let v172 : BitVec 32 := Scalar.addi v124 c0_i32_150
  let v174 : Index := Scalar.indexCast v172
  let c32 : Index := 32#32
  ![1, v174.toNat, 32]
def k0_off446 (k0_t4 : Fin k0_t4_loop.trips) : Fin 3 → Nat :=
  let c1_i32_153 : BitVec 32 := 1#32
  let v179 : Index := Scalar.indexCast c1_i32_153
  let c0_i32_108 : BitVec 32 := 0#32
  let c1_i32_110 : BitVec 32 := 1#32
  let arg12 : BitVec 32 := Scf.iv c0_i32_108 c1_i32_110 k0_t4
  let c16_i32 : BitVec 32 := 16#32
  let v124 : BitVec 32 := Scalar.muli arg12 c16_i32
  let c0_i32_152 : BitVec 32 := 0#32
  let v178 : BitVec 32 := Scalar.addi v124 c0_i32_152
  let v180 : Index := Scalar.indexCast v178
  let c96 : Index := 96#32
  ![1, v180.toNat, 96]
def k0_off447 (k0_t4 : Fin k0_t4_loop.trips) : Fin 3 → Nat :=
  let c1_i32_155 : BitVec 32 := 1#32
  let v190 : Index := Scalar.indexCast c1_i32_155
  let c0_i32_108 : BitVec 32 := 0#32
  let c1_i32_110 : BitVec 32 := 1#32
  let arg12 : BitVec 32 := Scf.iv c0_i32_108 c1_i32_110 k0_t4
  let c16_i32 : BitVec 32 := 16#32
  let v124 : BitVec 32 := Scalar.muli arg12 c16_i32
  let c0_i32_154 : BitVec 32 := 0#32
  let v189 : BitVec 32 := Scalar.addi v124 c0_i32_154
  let v191 : Index := Scalar.indexCast v189
  let c48 : Index := 48#32
  ![1, v191.toNat, 48]
def k0_off448 (k0_t4 : Fin k0_t4_loop.trips) : Fin 3 → Nat :=
  let c1_i32_157 : BitVec 32 := 1#32
  let v196 : Index := Scalar.indexCast c1_i32_157
  let c0_i32_108 : BitVec 32 := 0#32
  let c1_i32_110 : BitVec 32 := 1#32
  let arg12 : BitVec 32 := Scf.iv c0_i32_108 c1_i32_110 k0_t4
  let c16_i32 : BitVec 32 := 16#32
  let v124 : BitVec 32 := Scalar.muli arg12 c16_i32
  let c0_i32_156 : BitVec 32 := 0#32
  let v195 : BitVec 32 := Scalar.addi v124 c0_i32_156
  let v197 : Index := Scalar.indexCast v195
  let c112 : Index := 112#32
  ![1, v197.toNat, 112]
def k0_off449 (k0_t4 : Fin k0_t4_loop.trips) (v202 : BitVec 32) (c0_i32_160 : BitVec 32) : Fin 2 → Nat :=
  let c384_i32_158 : BitVec 32 := 384#32
  let c0_i32_108 : BitVec 32 := 0#32
  let c1_i32_110 : BitVec 32 := 1#32
  let arg12 : BitVec 32 := Scf.iv c0_i32_108 c1_i32_110 k0_t4
  let c16_i32 : BitVec 32 := 16#32
  let v124 : BitVec 32 := Scalar.muli arg12 c16_i32
  let v203 : BitVec 32 := Scalar.addi c384_i32_158 v124
  let c1_i32_159 : BitVec 32 := 1#32
  let v204 : BitVec 32 := Scalar.addi v203 c1_i32_159
  let v206 : Index := Scalar.indexCast v204
  let v205 : BitVec 32 := Scalar.addi v202 c0_i32_160
  let v207 : Index := Scalar.indexCast v205
  ![v206.toNat, v207.toNat]

def k0_chk50 (k0_t4 : Fin k0_t4_loop.trips) (v202 : BitVec 32) : Prop :=
  (∀ (r : Fin 4), ∀ a, (k0_off449 k0_t4 v202 (BitVec.ofNat 32 (16 * r.val))) a + S1x16.size a ≤ S512x128.size a)
theorem k0_off449_inb : ∀ (k0_t4 : Fin k0_t4_loop.trips) (v202 : BitVec 32) (k0_hw50 : k0_chk50 k0_t4 v202), ∀ (r : Fin 4), ∀ a, (k0_off449 k0_t4 v202 (BitVec.ofNat 32 (16 * r.val))) a + S1x16.size a ≤ S512x128.size a := fun k0_t4 v202 k0_hw50 r => k0_hw50 r

def k0_off450 (k0_t4 : Fin k0_t4_loop.trips) : Fin 3 → Nat :=
  let c1_i32_162 : BitVec 32 := 1#32
  let v211 : Index := Scalar.indexCast c1_i32_162
  let c0_i32_108 : BitVec 32 := 0#32
  let c1_i32_110 : BitVec 32 := 1#32
  let arg12 : BitVec 32 := Scf.iv c0_i32_108 c1_i32_110 k0_t4
  let c16_i32 : BitVec 32 := 16#32
  let v124 : BitVec 32 := Scalar.muli arg12 c16_i32
  let c1_i32_161 : BitVec 32 := 1#32
  let v210 : BitVec 32 := Scalar.addi v124 c1_i32_161
  let v212 : Index := Scalar.indexCast v210
  let c0_163 : Index := 0#32
  ![1, v212.toNat, 0]
def k0_off451 (k0_t4 : Fin k0_t4_loop.trips) : Fin 3 → Nat :=
  let c1_i32_165 : BitVec 32 := 1#32
  let v217 : Index := Scalar.indexCast c1_i32_165
  let c0_i32_108 : BitVec 32 := 0#32
  let c1_i32_110 : BitVec 32 := 1#32
  let arg12 : BitVec 32 := Scf.iv c0_i32_108 c1_i32_110 k0_t4
  let c16_i32 : BitVec 32 := 16#32
  let v124 : BitVec 32 := Scalar.muli arg12 c16_i32
  let c1_i32_164 : BitVec 32 := 1#32
  let v216 : BitVec 32 := Scalar.addi v124 c1_i32_164
  let v218 : Index := Scalar.indexCast v216
  let c64_166 : Index := 64#32
  ![1, v218.toNat, 64]
def k0_off452 (k0_t4 : Fin k0_t4_loop.trips) : Fin 3 → Nat :=
  let c1_i32_169 : BitVec 32 := 1#32
  let v228 : Index := Scalar.indexCast c1_i32_169
  let c0_i32_108 : BitVec 32 := 0#32
  let c1_i32_110 : BitVec 32 := 1#32
  let arg12 : BitVec 32 := Scf.iv c0_i32_108 c1_i32_110 k0_t4
  let c16_i32 : BitVec 32 := 16#32
  let v124 : BitVec 32 := Scalar.muli arg12 c16_i32
  let c1_i32_168 : BitVec 32 := 1#32
  let v227 : BitVec 32 := Scalar.addi v124 c1_i32_168
  let v229 : Index := Scalar.indexCast v227
  let c16_170 : Index := 16#32
  ![1, v229.toNat, 16]
def k0_off453 (k0_t4 : Fin k0_t4_loop.trips) : Fin 3 → Nat :=
  let c1_i32_172 : BitVec 32 := 1#32
  let v234 : Index := Scalar.indexCast c1_i32_172
  let c0_i32_108 : BitVec 32 := 0#32
  let c1_i32_110 : BitVec 32 := 1#32
  let arg12 : BitVec 32 := Scf.iv c0_i32_108 c1_i32_110 k0_t4
  let c16_i32 : BitVec 32 := 16#32
  let v124 : BitVec 32 := Scalar.muli arg12 c16_i32
  let c1_i32_171 : BitVec 32 := 1#32
  let v233 : BitVec 32 := Scalar.addi v124 c1_i32_171
  let v235 : Index := Scalar.indexCast v233
  let c80_173 : Index := 80#32
  ![1, v235.toNat, 80]
def k0_off454 (k0_t4 : Fin k0_t4_loop.trips) : Fin 3 → Nat :=
  let c1_i32_176 : BitVec 32 := 1#32
  let v245 : Index := Scalar.indexCast c1_i32_176
  let c0_i32_108 : BitVec 32 := 0#32
  let c1_i32_110 : BitVec 32 := 1#32
  let arg12 : BitVec 32 := Scf.iv c0_i32_108 c1_i32_110 k0_t4
  let c16_i32 : BitVec 32 := 16#32
  let v124 : BitVec 32 := Scalar.muli arg12 c16_i32
  let c1_i32_175 : BitVec 32 := 1#32
  let v244 : BitVec 32 := Scalar.addi v124 c1_i32_175
  let v246 : Index := Scalar.indexCast v244
  let c32_177 : Index := 32#32
  ![1, v246.toNat, 32]
def k0_off455 (k0_t4 : Fin k0_t4_loop.trips) : Fin 3 → Nat :=
  let c1_i32_179 : BitVec 32 := 1#32
  let v251 : Index := Scalar.indexCast c1_i32_179
  let c0_i32_108 : BitVec 32 := 0#32
  let c1_i32_110 : BitVec 32 := 1#32
  let arg12 : BitVec 32 := Scf.iv c0_i32_108 c1_i32_110 k0_t4
  let c16_i32 : BitVec 32 := 16#32
  let v124 : BitVec 32 := Scalar.muli arg12 c16_i32
  let c1_i32_178 : BitVec 32 := 1#32
  let v250 : BitVec 32 := Scalar.addi v124 c1_i32_178
  let v252 : Index := Scalar.indexCast v250
  let c96_180 : Index := 96#32
  ![1, v252.toNat, 96]
def k0_off456 (k0_t4 : Fin k0_t4_loop.trips) : Fin 3 → Nat :=
  let c1_i32_183 : BitVec 32 := 1#32
  let v262 : Index := Scalar.indexCast c1_i32_183
  let c0_i32_108 : BitVec 32 := 0#32
  let c1_i32_110 : BitVec 32 := 1#32
  let arg12 : BitVec 32 := Scf.iv c0_i32_108 c1_i32_110 k0_t4
  let c16_i32 : BitVec 32 := 16#32
  let v124 : BitVec 32 := Scalar.muli arg12 c16_i32
  let c1_i32_182 : BitVec 32 := 1#32
  let v261 : BitVec 32 := Scalar.addi v124 c1_i32_182
  let v263 : Index := Scalar.indexCast v261
  let c48_184 : Index := 48#32
  ![1, v263.toNat, 48]
def k0_off457 (k0_t4 : Fin k0_t4_loop.trips) : Fin 3 → Nat :=
  let c1_i32_186 : BitVec 32 := 1#32
  let v268 : Index := Scalar.indexCast c1_i32_186
  let c0_i32_108 : BitVec 32 := 0#32
  let c1_i32_110 : BitVec 32 := 1#32
  let arg12 : BitVec 32 := Scf.iv c0_i32_108 c1_i32_110 k0_t4
  let c16_i32 : BitVec 32 := 16#32
  let v124 : BitVec 32 := Scalar.muli arg12 c16_i32
  let c1_i32_185 : BitVec 32 := 1#32
  let v267 : BitVec 32 := Scalar.addi v124 c1_i32_185
  let v269 : Index := Scalar.indexCast v267
  let c112_187 : Index := 112#32
  ![1, v269.toNat, 112]
def k0_off458 (k0_t4 : Fin k0_t4_loop.trips) (v274 : BitVec 32) (c0_i32_190 : BitVec 32) : Fin 2 → Nat :=
  let c384_i32_188 : BitVec 32 := 384#32
  let c0_i32_108 : BitVec 32 := 0#32
  let c1_i32_110 : BitVec 32 := 1#32
  let arg12 : BitVec 32 := Scf.iv c0_i32_108 c1_i32_110 k0_t4
  let c16_i32 : BitVec 32 := 16#32
  let v124 : BitVec 32 := Scalar.muli arg12 c16_i32
  let v275 : BitVec 32 := Scalar.addi c384_i32_188 v124
  let c2_i32_189 : BitVec 32 := 2#32
  let v276 : BitVec 32 := Scalar.addi v275 c2_i32_189
  let v278 : Index := Scalar.indexCast v276
  let v277 : BitVec 32 := Scalar.addi v274 c0_i32_190
  let v279 : Index := Scalar.indexCast v277
  ![v278.toNat, v279.toNat]

def k0_chk51 (k0_t4 : Fin k0_t4_loop.trips) (v274 : BitVec 32) : Prop :=
  (∀ (r : Fin 4), ∀ a, (k0_off458 k0_t4 v274 (BitVec.ofNat 32 (16 * r.val))) a + S1x16.size a ≤ S512x128.size a)
theorem k0_off458_inb : ∀ (k0_t4 : Fin k0_t4_loop.trips) (v274 : BitVec 32) (k0_hw51 : k0_chk51 k0_t4 v274), ∀ (r : Fin 4), ∀ a, (k0_off458 k0_t4 v274 (BitVec.ofNat 32 (16 * r.val))) a + S1x16.size a ≤ S512x128.size a := fun k0_t4 v274 k0_hw51 r => k0_hw51 r

def k0_off459 (k0_t4 : Fin k0_t4_loop.trips) : Fin 3 → Nat :=
  let c1_i32_192 : BitVec 32 := 1#32
  let v283 : Index := Scalar.indexCast c1_i32_192
  let c0_i32_108 : BitVec 32 := 0#32
  let c1_i32_110 : BitVec 32 := 1#32
  let arg12 : BitVec 32 := Scf.iv c0_i32_108 c1_i32_110 k0_t4
  let c16_i32 : BitVec 32 := 16#32
  let v124 : BitVec 32 := Scalar.muli arg12 c16_i32
  let c2_i32_191 : BitVec 32 := 2#32
  let v282 : BitVec 32 := Scalar.addi v124 c2_i32_191
  let v284 : Index := Scalar.indexCast v282
  let c0_193 : Index := 0#32
  ![1, v284.toNat, 0]
def k0_off460 (k0_t4 : Fin k0_t4_loop.trips) : Fin 3 → Nat :=
  let c1_i32_195 : BitVec 32 := 1#32
  let v289 : Index := Scalar.indexCast c1_i32_195
  let c0_i32_108 : BitVec 32 := 0#32
  let c1_i32_110 : BitVec 32 := 1#32
  let arg12 : BitVec 32 := Scf.iv c0_i32_108 c1_i32_110 k0_t4
  let c16_i32 : BitVec 32 := 16#32
  let v124 : BitVec 32 := Scalar.muli arg12 c16_i32
  let c2_i32_194 : BitVec 32 := 2#32
  let v288 : BitVec 32 := Scalar.addi v124 c2_i32_194
  let v290 : Index := Scalar.indexCast v288
  let c64_196 : Index := 64#32
  ![1, v290.toNat, 64]
def k0_off461 (k0_t4 : Fin k0_t4_loop.trips) : Fin 3 → Nat :=
  let c1_i32_199 : BitVec 32 := 1#32
  let v300 : Index := Scalar.indexCast c1_i32_199
  let c0_i32_108 : BitVec 32 := 0#32
  let c1_i32_110 : BitVec 32 := 1#32
  let arg12 : BitVec 32 := Scf.iv c0_i32_108 c1_i32_110 k0_t4
  let c16_i32 : BitVec 32 := 16#32
  let v124 : BitVec 32 := Scalar.muli arg12 c16_i32
  let c2_i32_198 : BitVec 32 := 2#32
  let v299 : BitVec 32 := Scalar.addi v124 c2_i32_198
  let v301 : Index := Scalar.indexCast v299
  let c16_200 : Index := 16#32
  ![1, v301.toNat, 16]
def k0_off462 (k0_t4 : Fin k0_t4_loop.trips) : Fin 3 → Nat :=
  let c1_i32_202 : BitVec 32 := 1#32
  let v306 : Index := Scalar.indexCast c1_i32_202
  let c0_i32_108 : BitVec 32 := 0#32
  let c1_i32_110 : BitVec 32 := 1#32
  let arg12 : BitVec 32 := Scf.iv c0_i32_108 c1_i32_110 k0_t4
  let c16_i32 : BitVec 32 := 16#32
  let v124 : BitVec 32 := Scalar.muli arg12 c16_i32
  let c2_i32_201 : BitVec 32 := 2#32
  let v305 : BitVec 32 := Scalar.addi v124 c2_i32_201
  let v307 : Index := Scalar.indexCast v305
  let c80_203 : Index := 80#32
  ![1, v307.toNat, 80]
def k0_off463 (k0_t4 : Fin k0_t4_loop.trips) : Fin 3 → Nat :=
  let c1_i32_206 : BitVec 32 := 1#32
  let v317 : Index := Scalar.indexCast c1_i32_206
  let c0_i32_108 : BitVec 32 := 0#32
  let c1_i32_110 : BitVec 32 := 1#32
  let arg12 : BitVec 32 := Scf.iv c0_i32_108 c1_i32_110 k0_t4
  let c16_i32 : BitVec 32 := 16#32
  let v124 : BitVec 32 := Scalar.muli arg12 c16_i32
  let c2_i32_205 : BitVec 32 := 2#32
  let v316 : BitVec 32 := Scalar.addi v124 c2_i32_205
  let v318 : Index := Scalar.indexCast v316
  let c32_207 : Index := 32#32
  ![1, v318.toNat, 32]
def k0_off464 (k0_t4 : Fin k0_t4_loop.trips) : Fin 3 → Nat :=
  let c1_i32_209 : BitVec 32 := 1#32
  let v323 : Index := Scalar.indexCast c1_i32_209
  let c0_i32_108 : BitVec 32 := 0#32
  let c1_i32_110 : BitVec 32 := 1#32
  let arg12 : BitVec 32 := Scf.iv c0_i32_108 c1_i32_110 k0_t4
  let c16_i32 : BitVec 32 := 16#32
  let v124 : BitVec 32 := Scalar.muli arg12 c16_i32
  let c2_i32_208 : BitVec 32 := 2#32
  let v322 : BitVec 32 := Scalar.addi v124 c2_i32_208
  let v324 : Index := Scalar.indexCast v322
  let c96_210 : Index := 96#32
  ![1, v324.toNat, 96]
def k0_off465 (k0_t4 : Fin k0_t4_loop.trips) : Fin 3 → Nat :=
  let c1_i32_213 : BitVec 32 := 1#32
  let v334 : Index := Scalar.indexCast c1_i32_213
  let c0_i32_108 : BitVec 32 := 0#32
  let c1_i32_110 : BitVec 32 := 1#32
  let arg12 : BitVec 32 := Scf.iv c0_i32_108 c1_i32_110 k0_t4
  let c16_i32 : BitVec 32 := 16#32
  let v124 : BitVec 32 := Scalar.muli arg12 c16_i32
  let c2_i32_212 : BitVec 32 := 2#32
  let v333 : BitVec 32 := Scalar.addi v124 c2_i32_212
  let v335 : Index := Scalar.indexCast v333
  let c48_214 : Index := 48#32
  ![1, v335.toNat, 48]
def k0_off466 (k0_t4 : Fin k0_t4_loop.trips) : Fin 3 → Nat :=
  let c1_i32_216 : BitVec 32 := 1#32
  let v340 : Index := Scalar.indexCast c1_i32_216
  let c0_i32_108 : BitVec 32 := 0#32
  let c1_i32_110 : BitVec 32 := 1#32
  let arg12 : BitVec 32 := Scf.iv c0_i32_108 c1_i32_110 k0_t4
  let c16_i32 : BitVec 32 := 16#32
  let v124 : BitVec 32 := Scalar.muli arg12 c16_i32
  let c2_i32_215 : BitVec 32 := 2#32
  let v339 : BitVec 32 := Scalar.addi v124 c2_i32_215
  let v341 : Index := Scalar.indexCast v339
  let c112_217 : Index := 112#32
  ![1, v341.toNat, 112]
def k0_off467 (k0_t4 : Fin k0_t4_loop.trips) (v346 : BitVec 32) (c0_i32_220 : BitVec 32) : Fin 2 → Nat :=
  let c384_i32_218 : BitVec 32 := 384#32
  let c0_i32_108 : BitVec 32 := 0#32
  let c1_i32_110 : BitVec 32 := 1#32
  let arg12 : BitVec 32 := Scf.iv c0_i32_108 c1_i32_110 k0_t4
  let c16_i32 : BitVec 32 := 16#32
  let v124 : BitVec 32 := Scalar.muli arg12 c16_i32
  let v347 : BitVec 32 := Scalar.addi c384_i32_218 v124
  let c3_i32_219 : BitVec 32 := 3#32
  let v348 : BitVec 32 := Scalar.addi v347 c3_i32_219
  let v350 : Index := Scalar.indexCast v348
  let v349 : BitVec 32 := Scalar.addi v346 c0_i32_220
  let v351 : Index := Scalar.indexCast v349
  ![v350.toNat, v351.toNat]

def k0_chk52 (k0_t4 : Fin k0_t4_loop.trips) (v346 : BitVec 32) : Prop :=
  (∀ (r : Fin 4), ∀ a, (k0_off467 k0_t4 v346 (BitVec.ofNat 32 (16 * r.val))) a + S1x16.size a ≤ S512x128.size a)
theorem k0_off467_inb : ∀ (k0_t4 : Fin k0_t4_loop.trips) (v346 : BitVec 32) (k0_hw52 : k0_chk52 k0_t4 v346), ∀ (r : Fin 4), ∀ a, (k0_off467 k0_t4 v346 (BitVec.ofNat 32 (16 * r.val))) a + S1x16.size a ≤ S512x128.size a := fun k0_t4 v346 k0_hw52 r => k0_hw52 r

def k0_off468 (k0_t4 : Fin k0_t4_loop.trips) : Fin 3 → Nat :=
  let c1_i32_222 : BitVec 32 := 1#32
  let v355 : Index := Scalar.indexCast c1_i32_222
  let c0_i32_108 : BitVec 32 := 0#32
  let c1_i32_110 : BitVec 32 := 1#32
  let arg12 : BitVec 32 := Scf.iv c0_i32_108 c1_i32_110 k0_t4
  let c16_i32 : BitVec 32 := 16#32
  let v124 : BitVec 32 := Scalar.muli arg12 c16_i32
  let c3_i32_221 : BitVec 32 := 3#32
  let v354 : BitVec 32 := Scalar.addi v124 c3_i32_221
  let v356 : Index := Scalar.indexCast v354
  let c0_223 : Index := 0#32
  ![1, v356.toNat, 0]
def k0_off469 (k0_t4 : Fin k0_t4_loop.trips) : Fin 3 → Nat :=
  let c1_i32_225 : BitVec 32 := 1#32
  let v361 : Index := Scalar.indexCast c1_i32_225
  let c0_i32_108 : BitVec 32 := 0#32
  let c1_i32_110 : BitVec 32 := 1#32
  let arg12 : BitVec 32 := Scf.iv c0_i32_108 c1_i32_110 k0_t4
  let c16_i32 : BitVec 32 := 16#32
  let v124 : BitVec 32 := Scalar.muli arg12 c16_i32
  let c3_i32_224 : BitVec 32 := 3#32
  let v360 : BitVec 32 := Scalar.addi v124 c3_i32_224
  let v362 : Index := Scalar.indexCast v360
  let c64_226 : Index := 64#32
  ![1, v362.toNat, 64]
def k0_off470 (k0_t4 : Fin k0_t4_loop.trips) : Fin 3 → Nat :=
  let c1_i32_229 : BitVec 32 := 1#32
  let v372 : Index := Scalar.indexCast c1_i32_229
  let c0_i32_108 : BitVec 32 := 0#32
  let c1_i32_110 : BitVec 32 := 1#32
  let arg12 : BitVec 32 := Scf.iv c0_i32_108 c1_i32_110 k0_t4
  let c16_i32 : BitVec 32 := 16#32
  let v124 : BitVec 32 := Scalar.muli arg12 c16_i32
  let c3_i32_228 : BitVec 32 := 3#32
  let v371 : BitVec 32 := Scalar.addi v124 c3_i32_228
  let v373 : Index := Scalar.indexCast v371
  let c16_230 : Index := 16#32
  ![1, v373.toNat, 16]
def k0_off471 (k0_t4 : Fin k0_t4_loop.trips) : Fin 3 → Nat :=
  let c1_i32_232 : BitVec 32 := 1#32
  let v378 : Index := Scalar.indexCast c1_i32_232
  let c0_i32_108 : BitVec 32 := 0#32
  let c1_i32_110 : BitVec 32 := 1#32
  let arg12 : BitVec 32 := Scf.iv c0_i32_108 c1_i32_110 k0_t4
  let c16_i32 : BitVec 32 := 16#32
  let v124 : BitVec 32 := Scalar.muli arg12 c16_i32
  let c3_i32_231 : BitVec 32 := 3#32
  let v377 : BitVec 32 := Scalar.addi v124 c3_i32_231
  let v379 : Index := Scalar.indexCast v377
  let c80_233 : Index := 80#32
  ![1, v379.toNat, 80]
def k0_off472 (k0_t4 : Fin k0_t4_loop.trips) : Fin 3 → Nat :=
  let c1_i32_236 : BitVec 32 := 1#32
  let v389 : Index := Scalar.indexCast c1_i32_236
  let c0_i32_108 : BitVec 32 := 0#32
  let c1_i32_110 : BitVec 32 := 1#32
  let arg12 : BitVec 32 := Scf.iv c0_i32_108 c1_i32_110 k0_t4
  let c16_i32 : BitVec 32 := 16#32
  let v124 : BitVec 32 := Scalar.muli arg12 c16_i32
  let c3_i32_235 : BitVec 32 := 3#32
  let v388 : BitVec 32 := Scalar.addi v124 c3_i32_235
  let v390 : Index := Scalar.indexCast v388
  let c32_237 : Index := 32#32
  ![1, v390.toNat, 32]
def k0_off473 (k0_t4 : Fin k0_t4_loop.trips) : Fin 3 → Nat :=
  let c1_i32_239 : BitVec 32 := 1#32
  let v395 : Index := Scalar.indexCast c1_i32_239
  let c0_i32_108 : BitVec 32 := 0#32
  let c1_i32_110 : BitVec 32 := 1#32
  let arg12 : BitVec 32 := Scf.iv c0_i32_108 c1_i32_110 k0_t4
  let c16_i32 : BitVec 32 := 16#32
  let v124 : BitVec 32 := Scalar.muli arg12 c16_i32
  let c3_i32_238 : BitVec 32 := 3#32
  let v394 : BitVec 32 := Scalar.addi v124 c3_i32_238
  let v396 : Index := Scalar.indexCast v394
  let c96_240 : Index := 96#32
  ![1, v396.toNat, 96]
def k0_off474 (k0_t4 : Fin k0_t4_loop.trips) : Fin 3 → Nat :=
  let c1_i32_243 : BitVec 32 := 1#32
  let v406 : Index := Scalar.indexCast c1_i32_243
  let c0_i32_108 : BitVec 32 := 0#32
  let c1_i32_110 : BitVec 32 := 1#32
  let arg12 : BitVec 32 := Scf.iv c0_i32_108 c1_i32_110 k0_t4
  let c16_i32 : BitVec 32 := 16#32
  let v124 : BitVec 32 := Scalar.muli arg12 c16_i32
  let c3_i32_242 : BitVec 32 := 3#32
  let v405 : BitVec 32 := Scalar.addi v124 c3_i32_242
  let v407 : Index := Scalar.indexCast v405
  let c48_244 : Index := 48#32
  ![1, v407.toNat, 48]
def k0_off475 (k0_t4 : Fin k0_t4_loop.trips) : Fin 3 → Nat :=
  let c1_i32_246 : BitVec 32 := 1#32
  let v412 : Index := Scalar.indexCast c1_i32_246
  let c0_i32_108 : BitVec 32 := 0#32
  let c1_i32_110 : BitVec 32 := 1#32
  let arg12 : BitVec 32 := Scf.iv c0_i32_108 c1_i32_110 k0_t4
  let c16_i32 : BitVec 32 := 16#32
  let v124 : BitVec 32 := Scalar.muli arg12 c16_i32
  let c3_i32_245 : BitVec 32 := 3#32
  let v411 : BitVec 32 := Scalar.addi v124 c3_i32_245
  let v413 : Index := Scalar.indexCast v411
  let c112_247 : Index := 112#32
  ![1, v413.toNat, 112]
def k0_off476 (k0_t4 : Fin k0_t4_loop.trips) (v418 : BitVec 32) (c0_i32_249 : BitVec 32) : Fin 2 → Nat :=
  let c384_i32_248 : BitVec 32 := 384#32
  let c0_i32_108 : BitVec 32 := 0#32
  let c1_i32_110 : BitVec 32 := 1#32
  let arg12 : BitVec 32 := Scf.iv c0_i32_108 c1_i32_110 k0_t4
  let c16_i32 : BitVec 32 := 16#32
  let v124 : BitVec 32 := Scalar.muli arg12 c16_i32
  let v419 : BitVec 32 := Scalar.addi c384_i32_248 v124
  let c4_i32 : BitVec 32 := 4#32
  let v420 : BitVec 32 := Scalar.addi v419 c4_i32
  let v422 : Index := Scalar.indexCast v420
  let v421 : BitVec 32 := Scalar.addi v418 c0_i32_249
  let v423 : Index := Scalar.indexCast v421
  ![v422.toNat, v423.toNat]

def k0_chk53 (k0_t4 : Fin k0_t4_loop.trips) (v418 : BitVec 32) : Prop :=
  (∀ (r : Fin 4), ∀ a, (k0_off476 k0_t4 v418 (BitVec.ofNat 32 (16 * r.val))) a + S1x16.size a ≤ S512x128.size a)
theorem k0_off476_inb : ∀ (k0_t4 : Fin k0_t4_loop.trips) (v418 : BitVec 32) (k0_hw53 : k0_chk53 k0_t4 v418), ∀ (r : Fin 4), ∀ a, (k0_off476 k0_t4 v418 (BitVec.ofNat 32 (16 * r.val))) a + S1x16.size a ≤ S512x128.size a := fun k0_t4 v418 k0_hw53 r => k0_hw53 r

def k0_off477 (k0_t4 : Fin k0_t4_loop.trips) : Fin 3 → Nat :=
  let c1_i32_251 : BitVec 32 := 1#32
  let v427 : Index := Scalar.indexCast c1_i32_251
  let c0_i32_108 : BitVec 32 := 0#32
  let c1_i32_110 : BitVec 32 := 1#32
  let arg12 : BitVec 32 := Scf.iv c0_i32_108 c1_i32_110 k0_t4
  let c16_i32 : BitVec 32 := 16#32
  let v124 : BitVec 32 := Scalar.muli arg12 c16_i32
  let c4_i32_250 : BitVec 32 := 4#32
  let v426 : BitVec 32 := Scalar.addi v124 c4_i32_250
  let v428 : Index := Scalar.indexCast v426
  let c0_252 : Index := 0#32
  ![1, v428.toNat, 0]
def k0_off478 (k0_t4 : Fin k0_t4_loop.trips) : Fin 3 → Nat :=
  let c1_i32_254 : BitVec 32 := 1#32
  let v433 : Index := Scalar.indexCast c1_i32_254
  let c0_i32_108 : BitVec 32 := 0#32
  let c1_i32_110 : BitVec 32 := 1#32
  let arg12 : BitVec 32 := Scf.iv c0_i32_108 c1_i32_110 k0_t4
  let c16_i32 : BitVec 32 := 16#32
  let v124 : BitVec 32 := Scalar.muli arg12 c16_i32
  let c4_i32_253 : BitVec 32 := 4#32
  let v432 : BitVec 32 := Scalar.addi v124 c4_i32_253
  let v434 : Index := Scalar.indexCast v432
  let c64_255 : Index := 64#32
  ![1, v434.toNat, 64]
def k0_off479 (k0_t4 : Fin k0_t4_loop.trips) : Fin 3 → Nat :=
  let c1_i32_258 : BitVec 32 := 1#32
  let v444 : Index := Scalar.indexCast c1_i32_258
  let c0_i32_108 : BitVec 32 := 0#32
  let c1_i32_110 : BitVec 32 := 1#32
  let arg12 : BitVec 32 := Scf.iv c0_i32_108 c1_i32_110 k0_t4
  let c16_i32 : BitVec 32 := 16#32
  let v124 : BitVec 32 := Scalar.muli arg12 c16_i32
  let c4_i32_257 : BitVec 32 := 4#32
  let v443 : BitVec 32 := Scalar.addi v124 c4_i32_257
  let v445 : Index := Scalar.indexCast v443
  let c16_259 : Index := 16#32
  ![1, v445.toNat, 16]
def k0_off480 (k0_t4 : Fin k0_t4_loop.trips) : Fin 3 → Nat :=
  let c1_i32_261 : BitVec 32 := 1#32
  let v450 : Index := Scalar.indexCast c1_i32_261
  let c0_i32_108 : BitVec 32 := 0#32
  let c1_i32_110 : BitVec 32 := 1#32
  let arg12 : BitVec 32 := Scf.iv c0_i32_108 c1_i32_110 k0_t4
  let c16_i32 : BitVec 32 := 16#32
  let v124 : BitVec 32 := Scalar.muli arg12 c16_i32
  let c4_i32_260 : BitVec 32 := 4#32
  let v449 : BitVec 32 := Scalar.addi v124 c4_i32_260
  let v451 : Index := Scalar.indexCast v449
  let c80_262 : Index := 80#32
  ![1, v451.toNat, 80]
def k0_off481 (k0_t4 : Fin k0_t4_loop.trips) : Fin 3 → Nat :=
  let c1_i32_265 : BitVec 32 := 1#32
  let v461 : Index := Scalar.indexCast c1_i32_265
  let c0_i32_108 : BitVec 32 := 0#32
  let c1_i32_110 : BitVec 32 := 1#32
  let arg12 : BitVec 32 := Scf.iv c0_i32_108 c1_i32_110 k0_t4
  let c16_i32 : BitVec 32 := 16#32
  let v124 : BitVec 32 := Scalar.muli arg12 c16_i32
  let c4_i32_264 : BitVec 32 := 4#32
  let v460 : BitVec 32 := Scalar.addi v124 c4_i32_264
  let v462 : Index := Scalar.indexCast v460
  let c32_266 : Index := 32#32
  ![1, v462.toNat, 32]
def k0_off482 (k0_t4 : Fin k0_t4_loop.trips) : Fin 3 → Nat :=
  let c1_i32_268 : BitVec 32 := 1#32
  let v467 : Index := Scalar.indexCast c1_i32_268
  let c0_i32_108 : BitVec 32 := 0#32
  let c1_i32_110 : BitVec 32 := 1#32
  let arg12 : BitVec 32 := Scf.iv c0_i32_108 c1_i32_110 k0_t4
  let c16_i32 : BitVec 32 := 16#32
  let v124 : BitVec 32 := Scalar.muli arg12 c16_i32
  let c4_i32_267 : BitVec 32 := 4#32
  let v466 : BitVec 32 := Scalar.addi v124 c4_i32_267
  let v468 : Index := Scalar.indexCast v466
  let c96_269 : Index := 96#32
  ![1, v468.toNat, 96]
def k0_off483 (k0_t4 : Fin k0_t4_loop.trips) : Fin 3 → Nat :=
  let c1_i32_272 : BitVec 32 := 1#32
  let v478 : Index := Scalar.indexCast c1_i32_272
  let c0_i32_108 : BitVec 32 := 0#32
  let c1_i32_110 : BitVec 32 := 1#32
  let arg12 : BitVec 32 := Scf.iv c0_i32_108 c1_i32_110 k0_t4
  let c16_i32 : BitVec 32 := 16#32
  let v124 : BitVec 32 := Scalar.muli arg12 c16_i32
  let c4_i32_271 : BitVec 32 := 4#32
  let v477 : BitVec 32 := Scalar.addi v124 c4_i32_271
  let v479 : Index := Scalar.indexCast v477
  let c48_273 : Index := 48#32
  ![1, v479.toNat, 48]
def k0_off484 (k0_t4 : Fin k0_t4_loop.trips) : Fin 3 → Nat :=
  let c1_i32_275 : BitVec 32 := 1#32
  let v484 : Index := Scalar.indexCast c1_i32_275
  let c0_i32_108 : BitVec 32 := 0#32
  let c1_i32_110 : BitVec 32 := 1#32
  let arg12 : BitVec 32 := Scf.iv c0_i32_108 c1_i32_110 k0_t4
  let c16_i32 : BitVec 32 := 16#32
  let v124 : BitVec 32 := Scalar.muli arg12 c16_i32
  let c4_i32_274 : BitVec 32 := 4#32
  let v483 : BitVec 32 := Scalar.addi v124 c4_i32_274
  let v485 : Index := Scalar.indexCast v483
  let c112_276 : Index := 112#32
  ![1, v485.toNat, 112]
def k0_off485 (k0_t4 : Fin k0_t4_loop.trips) (v490 : BitVec 32) (c0_i32_278 : BitVec 32) : Fin 2 → Nat :=
  let c384_i32_277 : BitVec 32 := 384#32
  let c0_i32_108 : BitVec 32 := 0#32
  let c1_i32_110 : BitVec 32 := 1#32
  let arg12 : BitVec 32 := Scf.iv c0_i32_108 c1_i32_110 k0_t4
  let c16_i32 : BitVec 32 := 16#32
  let v124 : BitVec 32 := Scalar.muli arg12 c16_i32
  let v491 : BitVec 32 := Scalar.addi c384_i32_277 v124
  let c5_i32 : BitVec 32 := 5#32
  let v492 : BitVec 32 := Scalar.addi v491 c5_i32
  let v494 : Index := Scalar.indexCast v492
  let v493 : BitVec 32 := Scalar.addi v490 c0_i32_278
  let v495 : Index := Scalar.indexCast v493
  ![v494.toNat, v495.toNat]

def k0_chk54 (k0_t4 : Fin k0_t4_loop.trips) (v490 : BitVec 32) : Prop :=
  (∀ (r : Fin 4), ∀ a, (k0_off485 k0_t4 v490 (BitVec.ofNat 32 (16 * r.val))) a + S1x16.size a ≤ S512x128.size a)
theorem k0_off485_inb : ∀ (k0_t4 : Fin k0_t4_loop.trips) (v490 : BitVec 32) (k0_hw54 : k0_chk54 k0_t4 v490), ∀ (r : Fin 4), ∀ a, (k0_off485 k0_t4 v490 (BitVec.ofNat 32 (16 * r.val))) a + S1x16.size a ≤ S512x128.size a := fun k0_t4 v490 k0_hw54 r => k0_hw54 r

def k0_off486 (k0_t4 : Fin k0_t4_loop.trips) : Fin 3 → Nat :=
  let c1_i32_280 : BitVec 32 := 1#32
  let v499 : Index := Scalar.indexCast c1_i32_280
  let c0_i32_108 : BitVec 32 := 0#32
  let c1_i32_110 : BitVec 32 := 1#32
  let arg12 : BitVec 32 := Scf.iv c0_i32_108 c1_i32_110 k0_t4
  let c16_i32 : BitVec 32 := 16#32
  let v124 : BitVec 32 := Scalar.muli arg12 c16_i32
  let c5_i32_279 : BitVec 32 := 5#32
  let v498 : BitVec 32 := Scalar.addi v124 c5_i32_279
  let v500 : Index := Scalar.indexCast v498
  let c0_281 : Index := 0#32
  ![1, v500.toNat, 0]
def k0_off487 (k0_t4 : Fin k0_t4_loop.trips) : Fin 3 → Nat :=
  let c1_i32_283 : BitVec 32 := 1#32
  let v505 : Index := Scalar.indexCast c1_i32_283
  let c0_i32_108 : BitVec 32 := 0#32
  let c1_i32_110 : BitVec 32 := 1#32
  let arg12 : BitVec 32 := Scf.iv c0_i32_108 c1_i32_110 k0_t4
  let c16_i32 : BitVec 32 := 16#32
  let v124 : BitVec 32 := Scalar.muli arg12 c16_i32
  let c5_i32_282 : BitVec 32 := 5#32
  let v504 : BitVec 32 := Scalar.addi v124 c5_i32_282
  let v506 : Index := Scalar.indexCast v504
  let c64_284 : Index := 64#32
  ![1, v506.toNat, 64]
def k0_off488 (k0_t4 : Fin k0_t4_loop.trips) : Fin 3 → Nat :=
  let c1_i32_287 : BitVec 32 := 1#32
  let v516 : Index := Scalar.indexCast c1_i32_287
  let c0_i32_108 : BitVec 32 := 0#32
  let c1_i32_110 : BitVec 32 := 1#32
  let arg12 : BitVec 32 := Scf.iv c0_i32_108 c1_i32_110 k0_t4
  let c16_i32 : BitVec 32 := 16#32
  let v124 : BitVec 32 := Scalar.muli arg12 c16_i32
  let c5_i32_286 : BitVec 32 := 5#32
  let v515 : BitVec 32 := Scalar.addi v124 c5_i32_286
  let v517 : Index := Scalar.indexCast v515
  let c16_288 : Index := 16#32
  ![1, v517.toNat, 16]
def k0_off489 (k0_t4 : Fin k0_t4_loop.trips) : Fin 3 → Nat :=
  let c1_i32_290 : BitVec 32 := 1#32
  let v522 : Index := Scalar.indexCast c1_i32_290
  let c0_i32_108 : BitVec 32 := 0#32
  let c1_i32_110 : BitVec 32 := 1#32
  let arg12 : BitVec 32 := Scf.iv c0_i32_108 c1_i32_110 k0_t4
  let c16_i32 : BitVec 32 := 16#32
  let v124 : BitVec 32 := Scalar.muli arg12 c16_i32
  let c5_i32_289 : BitVec 32 := 5#32
  let v521 : BitVec 32 := Scalar.addi v124 c5_i32_289
  let v523 : Index := Scalar.indexCast v521
  let c80_291 : Index := 80#32
  ![1, v523.toNat, 80]
def k0_off490 (k0_t4 : Fin k0_t4_loop.trips) : Fin 3 → Nat :=
  let c1_i32_294 : BitVec 32 := 1#32
  let v533 : Index := Scalar.indexCast c1_i32_294
  let c0_i32_108 : BitVec 32 := 0#32
  let c1_i32_110 : BitVec 32 := 1#32
  let arg12 : BitVec 32 := Scf.iv c0_i32_108 c1_i32_110 k0_t4
  let c16_i32 : BitVec 32 := 16#32
  let v124 : BitVec 32 := Scalar.muli arg12 c16_i32
  let c5_i32_293 : BitVec 32 := 5#32
  let v532 : BitVec 32 := Scalar.addi v124 c5_i32_293
  let v534 : Index := Scalar.indexCast v532
  let c32_295 : Index := 32#32
  ![1, v534.toNat, 32]
def k0_off491 (k0_t4 : Fin k0_t4_loop.trips) : Fin 3 → Nat :=
  let c1_i32_297 : BitVec 32 := 1#32
  let v539 : Index := Scalar.indexCast c1_i32_297
  let c0_i32_108 : BitVec 32 := 0#32
  let c1_i32_110 : BitVec 32 := 1#32
  let arg12 : BitVec 32 := Scf.iv c0_i32_108 c1_i32_110 k0_t4
  let c16_i32 : BitVec 32 := 16#32
  let v124 : BitVec 32 := Scalar.muli arg12 c16_i32
  let c5_i32_296 : BitVec 32 := 5#32
  let v538 : BitVec 32 := Scalar.addi v124 c5_i32_296
  let v540 : Index := Scalar.indexCast v538
  let c96_298 : Index := 96#32
  ![1, v540.toNat, 96]
def k0_off492 (k0_t4 : Fin k0_t4_loop.trips) : Fin 3 → Nat :=
  let c1_i32_301 : BitVec 32 := 1#32
  let v550 : Index := Scalar.indexCast c1_i32_301
  let c0_i32_108 : BitVec 32 := 0#32
  let c1_i32_110 : BitVec 32 := 1#32
  let arg12 : BitVec 32 := Scf.iv c0_i32_108 c1_i32_110 k0_t4
  let c16_i32 : BitVec 32 := 16#32
  let v124 : BitVec 32 := Scalar.muli arg12 c16_i32
  let c5_i32_300 : BitVec 32 := 5#32
  let v549 : BitVec 32 := Scalar.addi v124 c5_i32_300
  let v551 : Index := Scalar.indexCast v549
  let c48_302 : Index := 48#32
  ![1, v551.toNat, 48]
def k0_off493 (k0_t4 : Fin k0_t4_loop.trips) : Fin 3 → Nat :=
  let c1_i32_304 : BitVec 32 := 1#32
  let v556 : Index := Scalar.indexCast c1_i32_304
  let c0_i32_108 : BitVec 32 := 0#32
  let c1_i32_110 : BitVec 32 := 1#32
  let arg12 : BitVec 32 := Scf.iv c0_i32_108 c1_i32_110 k0_t4
  let c16_i32 : BitVec 32 := 16#32
  let v124 : BitVec 32 := Scalar.muli arg12 c16_i32
  let c5_i32_303 : BitVec 32 := 5#32
  let v555 : BitVec 32 := Scalar.addi v124 c5_i32_303
  let v557 : Index := Scalar.indexCast v555
  let c112_305 : Index := 112#32
  ![1, v557.toNat, 112]
def k0_off494 (k0_t4 : Fin k0_t4_loop.trips) (v562 : BitVec 32) (c0_i32_307 : BitVec 32) : Fin 2 → Nat :=
  let c384_i32_306 : BitVec 32 := 384#32
  let c0_i32_108 : BitVec 32 := 0#32
  let c1_i32_110 : BitVec 32 := 1#32
  let arg12 : BitVec 32 := Scf.iv c0_i32_108 c1_i32_110 k0_t4
  let c16_i32 : BitVec 32 := 16#32
  let v124 : BitVec 32 := Scalar.muli arg12 c16_i32
  let v563 : BitVec 32 := Scalar.addi c384_i32_306 v124
  let c6_i32 : BitVec 32 := 6#32
  let v564 : BitVec 32 := Scalar.addi v563 c6_i32
  let v566 : Index := Scalar.indexCast v564
  let v565 : BitVec 32 := Scalar.addi v562 c0_i32_307
  let v567 : Index := Scalar.indexCast v565
  ![v566.toNat, v567.toNat]

def k0_chk55 (k0_t4 : Fin k0_t4_loop.trips) (v562 : BitVec 32) : Prop :=
  (∀ (r : Fin 4), ∀ a, (k0_off494 k0_t4 v562 (BitVec.ofNat 32 (16 * r.val))) a + S1x16.size a ≤ S512x128.size a)
theorem k0_off494_inb : ∀ (k0_t4 : Fin k0_t4_loop.trips) (v562 : BitVec 32) (k0_hw55 : k0_chk55 k0_t4 v562), ∀ (r : Fin 4), ∀ a, (k0_off494 k0_t4 v562 (BitVec.ofNat 32 (16 * r.val))) a + S1x16.size a ≤ S512x128.size a := fun k0_t4 v562 k0_hw55 r => k0_hw55 r

def k0_off495 (k0_t4 : Fin k0_t4_loop.trips) : Fin 3 → Nat :=
  let c1_i32_309 : BitVec 32 := 1#32
  let v571 : Index := Scalar.indexCast c1_i32_309
  let c0_i32_108 : BitVec 32 := 0#32
  let c1_i32_110 : BitVec 32 := 1#32
  let arg12 : BitVec 32 := Scf.iv c0_i32_108 c1_i32_110 k0_t4
  let c16_i32 : BitVec 32 := 16#32
  let v124 : BitVec 32 := Scalar.muli arg12 c16_i32
  let c6_i32_308 : BitVec 32 := 6#32
  let v570 : BitVec 32 := Scalar.addi v124 c6_i32_308
  let v572 : Index := Scalar.indexCast v570
  let c0_310 : Index := 0#32
  ![1, v572.toNat, 0]
def k0_off496 (k0_t4 : Fin k0_t4_loop.trips) : Fin 3 → Nat :=
  let c1_i32_312 : BitVec 32 := 1#32
  let v577 : Index := Scalar.indexCast c1_i32_312
  let c0_i32_108 : BitVec 32 := 0#32
  let c1_i32_110 : BitVec 32 := 1#32
  let arg12 : BitVec 32 := Scf.iv c0_i32_108 c1_i32_110 k0_t4
  let c16_i32 : BitVec 32 := 16#32
  let v124 : BitVec 32 := Scalar.muli arg12 c16_i32
  let c6_i32_311 : BitVec 32 := 6#32
  let v576 : BitVec 32 := Scalar.addi v124 c6_i32_311
  let v578 : Index := Scalar.indexCast v576
  let c64_313 : Index := 64#32
  ![1, v578.toNat, 64]
def k0_off497 (k0_t4 : Fin k0_t4_loop.trips) : Fin 3 → Nat :=
  let c1_i32_316 : BitVec 32 := 1#32
  let v588 : Index := Scalar.indexCast c1_i32_316
  let c0_i32_108 : BitVec 32 := 0#32
  let c1_i32_110 : BitVec 32 := 1#32
  let arg12 : BitVec 32 := Scf.iv c0_i32_108 c1_i32_110 k0_t4
  let c16_i32 : BitVec 32 := 16#32
  let v124 : BitVec 32 := Scalar.muli arg12 c16_i32
  let c6_i32_315 : BitVec 32 := 6#32
  let v587 : BitVec 32 := Scalar.addi v124 c6_i32_315
  let v589 : Index := Scalar.indexCast v587
  let c16_317 : Index := 16#32
  ![1, v589.toNat, 16]
def k0_off498 (k0_t4 : Fin k0_t4_loop.trips) : Fin 3 → Nat :=
  let c1_i32_319 : BitVec 32 := 1#32
  let v594 : Index := Scalar.indexCast c1_i32_319
  let c0_i32_108 : BitVec 32 := 0#32
  let c1_i32_110 : BitVec 32 := 1#32
  let arg12 : BitVec 32 := Scf.iv c0_i32_108 c1_i32_110 k0_t4
  let c16_i32 : BitVec 32 := 16#32
  let v124 : BitVec 32 := Scalar.muli arg12 c16_i32
  let c6_i32_318 : BitVec 32 := 6#32
  let v593 : BitVec 32 := Scalar.addi v124 c6_i32_318
  let v595 : Index := Scalar.indexCast v593
  let c80_320 : Index := 80#32
  ![1, v595.toNat, 80]
def k0_off499 (k0_t4 : Fin k0_t4_loop.trips) : Fin 3 → Nat :=
  let c1_i32_323 : BitVec 32 := 1#32
  let v605 : Index := Scalar.indexCast c1_i32_323
  let c0_i32_108 : BitVec 32 := 0#32
  let c1_i32_110 : BitVec 32 := 1#32
  let arg12 : BitVec 32 := Scf.iv c0_i32_108 c1_i32_110 k0_t4
  let c16_i32 : BitVec 32 := 16#32
  let v124 : BitVec 32 := Scalar.muli arg12 c16_i32
  let c6_i32_322 : BitVec 32 := 6#32
  let v604 : BitVec 32 := Scalar.addi v124 c6_i32_322
  let v606 : Index := Scalar.indexCast v604
  let c32_324 : Index := 32#32
  ![1, v606.toNat, 32]
def k0_off500 (k0_t4 : Fin k0_t4_loop.trips) : Fin 3 → Nat :=
  let c1_i32_326 : BitVec 32 := 1#32
  let v611 : Index := Scalar.indexCast c1_i32_326
  let c0_i32_108 : BitVec 32 := 0#32
  let c1_i32_110 : BitVec 32 := 1#32
  let arg12 : BitVec 32 := Scf.iv c0_i32_108 c1_i32_110 k0_t4
  let c16_i32 : BitVec 32 := 16#32
  let v124 : BitVec 32 := Scalar.muli arg12 c16_i32
  let c6_i32_325 : BitVec 32 := 6#32
  let v610 : BitVec 32 := Scalar.addi v124 c6_i32_325
  let v612 : Index := Scalar.indexCast v610
  let c96_327 : Index := 96#32
  ![1, v612.toNat, 96]
def k0_off501 (k0_t4 : Fin k0_t4_loop.trips) : Fin 3 → Nat :=
  let c1_i32_330 : BitVec 32 := 1#32
  let v622 : Index := Scalar.indexCast c1_i32_330
  let c0_i32_108 : BitVec 32 := 0#32
  let c1_i32_110 : BitVec 32 := 1#32
  let arg12 : BitVec 32 := Scf.iv c0_i32_108 c1_i32_110 k0_t4
  let c16_i32 : BitVec 32 := 16#32
  let v124 : BitVec 32 := Scalar.muli arg12 c16_i32
  let c6_i32_329 : BitVec 32 := 6#32
  let v621 : BitVec 32 := Scalar.addi v124 c6_i32_329
  let v623 : Index := Scalar.indexCast v621
  let c48_331 : Index := 48#32
  ![1, v623.toNat, 48]
def k0_off502 (k0_t4 : Fin k0_t4_loop.trips) : Fin 3 → Nat :=
  let c1_i32_333 : BitVec 32 := 1#32
  let v628 : Index := Scalar.indexCast c1_i32_333
  let c0_i32_108 : BitVec 32 := 0#32
  let c1_i32_110 : BitVec 32 := 1#32
  let arg12 : BitVec 32 := Scf.iv c0_i32_108 c1_i32_110 k0_t4
  let c16_i32 : BitVec 32 := 16#32
  let v124 : BitVec 32 := Scalar.muli arg12 c16_i32
  let c6_i32_332 : BitVec 32 := 6#32
  let v627 : BitVec 32 := Scalar.addi v124 c6_i32_332
  let v629 : Index := Scalar.indexCast v627
  let c112_334 : Index := 112#32
  ![1, v629.toNat, 112]
def k0_off503 (k0_t4 : Fin k0_t4_loop.trips) (v634 : BitVec 32) (c0_i32_336 : BitVec 32) : Fin 2 → Nat :=
  let c384_i32_335 : BitVec 32 := 384#32
  let c0_i32_108 : BitVec 32 := 0#32
  let c1_i32_110 : BitVec 32 := 1#32
  let arg12 : BitVec 32 := Scf.iv c0_i32_108 c1_i32_110 k0_t4
  let c16_i32 : BitVec 32 := 16#32
  let v124 : BitVec 32 := Scalar.muli arg12 c16_i32
  let v635 : BitVec 32 := Scalar.addi c384_i32_335 v124
  let c7_i32 : BitVec 32 := 7#32
  let v636 : BitVec 32 := Scalar.addi v635 c7_i32
  let v638 : Index := Scalar.indexCast v636
  let v637 : BitVec 32 := Scalar.addi v634 c0_i32_336
  let v639 : Index := Scalar.indexCast v637
  ![v638.toNat, v639.toNat]

def k0_chk56 (k0_t4 : Fin k0_t4_loop.trips) (v634 : BitVec 32) : Prop :=
  (∀ (r : Fin 4), ∀ a, (k0_off503 k0_t4 v634 (BitVec.ofNat 32 (16 * r.val))) a + S1x16.size a ≤ S512x128.size a)
theorem k0_off503_inb : ∀ (k0_t4 : Fin k0_t4_loop.trips) (v634 : BitVec 32) (k0_hw56 : k0_chk56 k0_t4 v634), ∀ (r : Fin 4), ∀ a, (k0_off503 k0_t4 v634 (BitVec.ofNat 32 (16 * r.val))) a + S1x16.size a ≤ S512x128.size a := fun k0_t4 v634 k0_hw56 r => k0_hw56 r

def k0_off504 (k0_t4 : Fin k0_t4_loop.trips) : Fin 3 → Nat :=
  let c1_i32_338 : BitVec 32 := 1#32
  let v643 : Index := Scalar.indexCast c1_i32_338
  let c0_i32_108 : BitVec 32 := 0#32
  let c1_i32_110 : BitVec 32 := 1#32
  let arg12 : BitVec 32 := Scf.iv c0_i32_108 c1_i32_110 k0_t4
  let c16_i32 : BitVec 32 := 16#32
  let v124 : BitVec 32 := Scalar.muli arg12 c16_i32
  let c7_i32_337 : BitVec 32 := 7#32
  let v642 : BitVec 32 := Scalar.addi v124 c7_i32_337
  let v644 : Index := Scalar.indexCast v642
  let c0_339 : Index := 0#32
  ![1, v644.toNat, 0]
def k0_off505 (k0_t4 : Fin k0_t4_loop.trips) : Fin 3 → Nat :=
  let c1_i32_341 : BitVec 32 := 1#32
  let v649 : Index := Scalar.indexCast c1_i32_341
  let c0_i32_108 : BitVec 32 := 0#32
  let c1_i32_110 : BitVec 32 := 1#32
  let arg12 : BitVec 32 := Scf.iv c0_i32_108 c1_i32_110 k0_t4
  let c16_i32 : BitVec 32 := 16#32
  let v124 : BitVec 32 := Scalar.muli arg12 c16_i32
  let c7_i32_340 : BitVec 32 := 7#32
  let v648 : BitVec 32 := Scalar.addi v124 c7_i32_340
  let v650 : Index := Scalar.indexCast v648
  let c64_342 : Index := 64#32
  ![1, v650.toNat, 64]
def k0_off506 (k0_t4 : Fin k0_t4_loop.trips) : Fin 3 → Nat :=
  let c1_i32_345 : BitVec 32 := 1#32
  let v660 : Index := Scalar.indexCast c1_i32_345
  let c0_i32_108 : BitVec 32 := 0#32
  let c1_i32_110 : BitVec 32 := 1#32
  let arg12 : BitVec 32 := Scf.iv c0_i32_108 c1_i32_110 k0_t4
  let c16_i32 : BitVec 32 := 16#32
  let v124 : BitVec 32 := Scalar.muli arg12 c16_i32
  let c7_i32_344 : BitVec 32 := 7#32
  let v659 : BitVec 32 := Scalar.addi v124 c7_i32_344
  let v661 : Index := Scalar.indexCast v659
  let c16_346 : Index := 16#32
  ![1, v661.toNat, 16]
def k0_off507 (k0_t4 : Fin k0_t4_loop.trips) : Fin 3 → Nat :=
  let c1_i32_348 : BitVec 32 := 1#32
  let v666 : Index := Scalar.indexCast c1_i32_348
  let c0_i32_108 : BitVec 32 := 0#32
  let c1_i32_110 : BitVec 32 := 1#32
  let arg12 : BitVec 32 := Scf.iv c0_i32_108 c1_i32_110 k0_t4
  let c16_i32 : BitVec 32 := 16#32
  let v124 : BitVec 32 := Scalar.muli arg12 c16_i32
  let c7_i32_347 : BitVec 32 := 7#32
  let v665 : BitVec 32 := Scalar.addi v124 c7_i32_347
  let v667 : Index := Scalar.indexCast v665
  let c80_349 : Index := 80#32
  ![1, v667.toNat, 80]
def k0_off508 (k0_t4 : Fin k0_t4_loop.trips) : Fin 3 → Nat :=
  let c1_i32_352 : BitVec 32 := 1#32
  let v677 : Index := Scalar.indexCast c1_i32_352
  let c0_i32_108 : BitVec 32 := 0#32
  let c1_i32_110 : BitVec 32 := 1#32
  let arg12 : BitVec 32 := Scf.iv c0_i32_108 c1_i32_110 k0_t4
  let c16_i32 : BitVec 32 := 16#32
  let v124 : BitVec 32 := Scalar.muli arg12 c16_i32
  let c7_i32_351 : BitVec 32 := 7#32
  let v676 : BitVec 32 := Scalar.addi v124 c7_i32_351
  let v678 : Index := Scalar.indexCast v676
  let c32_353 : Index := 32#32
  ![1, v678.toNat, 32]
def k0_off509 (k0_t4 : Fin k0_t4_loop.trips) : Fin 3 → Nat :=
  let c1_i32_355 : BitVec 32 := 1#32
  let v683 : Index := Scalar.indexCast c1_i32_355
  let c0_i32_108 : BitVec 32 := 0#32
  let c1_i32_110 : BitVec 32 := 1#32
  let arg12 : BitVec 32 := Scf.iv c0_i32_108 c1_i32_110 k0_t4
  let c16_i32 : BitVec 32 := 16#32
  let v124 : BitVec 32 := Scalar.muli arg12 c16_i32
  let c7_i32_354 : BitVec 32 := 7#32
  let v682 : BitVec 32 := Scalar.addi v124 c7_i32_354
  let v684 : Index := Scalar.indexCast v682
  let c96_356 : Index := 96#32
  ![1, v684.toNat, 96]
def k0_off510 (k0_t4 : Fin k0_t4_loop.trips) : Fin 3 → Nat :=
  let c1_i32_359 : BitVec 32 := 1#32
  let v694 : Index := Scalar.indexCast c1_i32_359
  let c0_i32_108 : BitVec 32 := 0#32
  let c1_i32_110 : BitVec 32 := 1#32
  let arg12 : BitVec 32 := Scf.iv c0_i32_108 c1_i32_110 k0_t4
  let c16_i32 : BitVec 32 := 16#32
  let v124 : BitVec 32 := Scalar.muli arg12 c16_i32
  let c7_i32_358 : BitVec 32 := 7#32
  let v693 : BitVec 32 := Scalar.addi v124 c7_i32_358
  let v695 : Index := Scalar.indexCast v693
  let c48_360 : Index := 48#32
  ![1, v695.toNat, 48]
def k0_off511 (k0_t4 : Fin k0_t4_loop.trips) : Fin 3 → Nat :=
  let c1_i32_362 : BitVec 32 := 1#32
  let v700 : Index := Scalar.indexCast c1_i32_362
  let c0_i32_108 : BitVec 32 := 0#32
  let c1_i32_110 : BitVec 32 := 1#32
  let arg12 : BitVec 32 := Scf.iv c0_i32_108 c1_i32_110 k0_t4
  let c16_i32 : BitVec 32 := 16#32
  let v124 : BitVec 32 := Scalar.muli arg12 c16_i32
  let c7_i32_361 : BitVec 32 := 7#32
  let v699 : BitVec 32 := Scalar.addi v124 c7_i32_361
  let v701 : Index := Scalar.indexCast v699
  let c112_363 : Index := 112#32
  ![1, v701.toNat, 112]
def k0_off512 (k0_t4 : Fin k0_t4_loop.trips) (v706 : BitVec 32) (c0_i32_366 : BitVec 32) : Fin 2 → Nat :=
  let c384_i32_364 : BitVec 32 := 384#32
  let c0_i32_108 : BitVec 32 := 0#32
  let c1_i32_110 : BitVec 32 := 1#32
  let arg12 : BitVec 32 := Scf.iv c0_i32_108 c1_i32_110 k0_t4
  let c16_i32 : BitVec 32 := 16#32
  let v124 : BitVec 32 := Scalar.muli arg12 c16_i32
  let v707 : BitVec 32 := Scalar.addi c384_i32_364 v124
  let c8_i32_365 : BitVec 32 := 8#32
  let v708 : BitVec 32 := Scalar.addi v707 c8_i32_365
  let v710 : Index := Scalar.indexCast v708
  let v709 : BitVec 32 := Scalar.addi v706 c0_i32_366
  let v711 : Index := Scalar.indexCast v709
  ![v710.toNat, v711.toNat]

def k0_chk57 (k0_t4 : Fin k0_t4_loop.trips) (v706 : BitVec 32) : Prop :=
  (∀ (r : Fin 4), ∀ a, (k0_off512 k0_t4 v706 (BitVec.ofNat 32 (16 * r.val))) a + S1x16.size a ≤ S512x128.size a)
theorem k0_off512_inb : ∀ (k0_t4 : Fin k0_t4_loop.trips) (v706 : BitVec 32) (k0_hw57 : k0_chk57 k0_t4 v706), ∀ (r : Fin 4), ∀ a, (k0_off512 k0_t4 v706 (BitVec.ofNat 32 (16 * r.val))) a + S1x16.size a ≤ S512x128.size a := fun k0_t4 v706 k0_hw57 r => k0_hw57 r

def k0_off513 (k0_t4 : Fin k0_t4_loop.trips) : Fin 3 → Nat :=
  let c1_i32_368 : BitVec 32 := 1#32
  let v715 : Index := Scalar.indexCast c1_i32_368
  let c0_i32_108 : BitVec 32 := 0#32
  let c1_i32_110 : BitVec 32 := 1#32
  let arg12 : BitVec 32 := Scf.iv c0_i32_108 c1_i32_110 k0_t4
  let c16_i32 : BitVec 32 := 16#32
  let v124 : BitVec 32 := Scalar.muli arg12 c16_i32
  let c8_i32_367 : BitVec 32 := 8#32
  let v714 : BitVec 32 := Scalar.addi v124 c8_i32_367
  let v716 : Index := Scalar.indexCast v714
  let c0_369 : Index := 0#32
  ![1, v716.toNat, 0]
def k0_off514 (k0_t4 : Fin k0_t4_loop.trips) : Fin 3 → Nat :=
  let c1_i32_371 : BitVec 32 := 1#32
  let v721 : Index := Scalar.indexCast c1_i32_371
  let c0_i32_108 : BitVec 32 := 0#32
  let c1_i32_110 : BitVec 32 := 1#32
  let arg12 : BitVec 32 := Scf.iv c0_i32_108 c1_i32_110 k0_t4
  let c16_i32 : BitVec 32 := 16#32
  let v124 : BitVec 32 := Scalar.muli arg12 c16_i32
  let c8_i32_370 : BitVec 32 := 8#32
  let v720 : BitVec 32 := Scalar.addi v124 c8_i32_370
  let v722 : Index := Scalar.indexCast v720
  let c64_372 : Index := 64#32
  ![1, v722.toNat, 64]
def k0_off515 (k0_t4 : Fin k0_t4_loop.trips) : Fin 3 → Nat :=
  let c1_i32_375 : BitVec 32 := 1#32
  let v732 : Index := Scalar.indexCast c1_i32_375
  let c0_i32_108 : BitVec 32 := 0#32
  let c1_i32_110 : BitVec 32 := 1#32
  let arg12 : BitVec 32 := Scf.iv c0_i32_108 c1_i32_110 k0_t4
  let c16_i32 : BitVec 32 := 16#32
  let v124 : BitVec 32 := Scalar.muli arg12 c16_i32
  let c8_i32_374 : BitVec 32 := 8#32
  let v731 : BitVec 32 := Scalar.addi v124 c8_i32_374
  let v733 : Index := Scalar.indexCast v731
  let c16_376 : Index := 16#32
  ![1, v733.toNat, 16]
def k0_off516 (k0_t4 : Fin k0_t4_loop.trips) : Fin 3 → Nat :=
  let c1_i32_378 : BitVec 32 := 1#32
  let v738 : Index := Scalar.indexCast c1_i32_378
  let c0_i32_108 : BitVec 32 := 0#32
  let c1_i32_110 : BitVec 32 := 1#32
  let arg12 : BitVec 32 := Scf.iv c0_i32_108 c1_i32_110 k0_t4
  let c16_i32 : BitVec 32 := 16#32
  let v124 : BitVec 32 := Scalar.muli arg12 c16_i32
  let c8_i32_377 : BitVec 32 := 8#32
  let v737 : BitVec 32 := Scalar.addi v124 c8_i32_377
  let v739 : Index := Scalar.indexCast v737
  let c80_379 : Index := 80#32
  ![1, v739.toNat, 80]
def k0_off517 (k0_t4 : Fin k0_t4_loop.trips) : Fin 3 → Nat :=
  let c1_i32_382 : BitVec 32 := 1#32
  let v749 : Index := Scalar.indexCast c1_i32_382
  let c0_i32_108 : BitVec 32 := 0#32
  let c1_i32_110 : BitVec 32 := 1#32
  let arg12 : BitVec 32 := Scf.iv c0_i32_108 c1_i32_110 k0_t4
  let c16_i32 : BitVec 32 := 16#32
  let v124 : BitVec 32 := Scalar.muli arg12 c16_i32
  let c8_i32_381 : BitVec 32 := 8#32
  let v748 : BitVec 32 := Scalar.addi v124 c8_i32_381
  let v750 : Index := Scalar.indexCast v748
  let c32_383 : Index := 32#32
  ![1, v750.toNat, 32]
def k0_off518 (k0_t4 : Fin k0_t4_loop.trips) : Fin 3 → Nat :=
  let c1_i32_385 : BitVec 32 := 1#32
  let v755 : Index := Scalar.indexCast c1_i32_385
  let c0_i32_108 : BitVec 32 := 0#32
  let c1_i32_110 : BitVec 32 := 1#32
  let arg12 : BitVec 32 := Scf.iv c0_i32_108 c1_i32_110 k0_t4
  let c16_i32 : BitVec 32 := 16#32
  let v124 : BitVec 32 := Scalar.muli arg12 c16_i32
  let c8_i32_384 : BitVec 32 := 8#32
  let v754 : BitVec 32 := Scalar.addi v124 c8_i32_384
  let v756 : Index := Scalar.indexCast v754
  let c96_386 : Index := 96#32
  ![1, v756.toNat, 96]
def k0_off519 (k0_t4 : Fin k0_t4_loop.trips) : Fin 3 → Nat :=
  let c1_i32_389 : BitVec 32 := 1#32
  let v766 : Index := Scalar.indexCast c1_i32_389
  let c0_i32_108 : BitVec 32 := 0#32
  let c1_i32_110 : BitVec 32 := 1#32
  let arg12 : BitVec 32 := Scf.iv c0_i32_108 c1_i32_110 k0_t4
  let c16_i32 : BitVec 32 := 16#32
  let v124 : BitVec 32 := Scalar.muli arg12 c16_i32
  let c8_i32_388 : BitVec 32 := 8#32
  let v765 : BitVec 32 := Scalar.addi v124 c8_i32_388
  let v767 : Index := Scalar.indexCast v765
  let c48_390 : Index := 48#32
  ![1, v767.toNat, 48]
def k0_off520 (k0_t4 : Fin k0_t4_loop.trips) : Fin 3 → Nat :=
  let c1_i32_392 : BitVec 32 := 1#32
  let v772 : Index := Scalar.indexCast c1_i32_392
  let c0_i32_108 : BitVec 32 := 0#32
  let c1_i32_110 : BitVec 32 := 1#32
  let arg12 : BitVec 32 := Scf.iv c0_i32_108 c1_i32_110 k0_t4
  let c16_i32 : BitVec 32 := 16#32
  let v124 : BitVec 32 := Scalar.muli arg12 c16_i32
  let c8_i32_391 : BitVec 32 := 8#32
  let v771 : BitVec 32 := Scalar.addi v124 c8_i32_391
  let v773 : Index := Scalar.indexCast v771
  let c112_393 : Index := 112#32
  ![1, v773.toNat, 112]
def k0_off521 (k0_t4 : Fin k0_t4_loop.trips) (v778 : BitVec 32) (c0_i32_395 : BitVec 32) : Fin 2 → Nat :=
  let c384_i32_394 : BitVec 32 := 384#32
  let c0_i32_108 : BitVec 32 := 0#32
  let c1_i32_110 : BitVec 32 := 1#32
  let arg12 : BitVec 32 := Scf.iv c0_i32_108 c1_i32_110 k0_t4
  let c16_i32 : BitVec 32 := 16#32
  let v124 : BitVec 32 := Scalar.muli arg12 c16_i32
  let v779 : BitVec 32 := Scalar.addi c384_i32_394 v124
  let c9_i32 : BitVec 32 := 9#32
  let v780 : BitVec 32 := Scalar.addi v779 c9_i32
  let v782 : Index := Scalar.indexCast v780
  let v781 : BitVec 32 := Scalar.addi v778 c0_i32_395
  let v783 : Index := Scalar.indexCast v781
  ![v782.toNat, v783.toNat]

def k0_chk58 (k0_t4 : Fin k0_t4_loop.trips) (v778 : BitVec 32) : Prop :=
  (∀ (r : Fin 4), ∀ a, (k0_off521 k0_t4 v778 (BitVec.ofNat 32 (16 * r.val))) a + S1x16.size a ≤ S512x128.size a)
theorem k0_off521_inb : ∀ (k0_t4 : Fin k0_t4_loop.trips) (v778 : BitVec 32) (k0_hw58 : k0_chk58 k0_t4 v778), ∀ (r : Fin 4), ∀ a, (k0_off521 k0_t4 v778 (BitVec.ofNat 32 (16 * r.val))) a + S1x16.size a ≤ S512x128.size a := fun k0_t4 v778 k0_hw58 r => k0_hw58 r

def k0_off522 (k0_t4 : Fin k0_t4_loop.trips) : Fin 3 → Nat :=
  let c1_i32_397 : BitVec 32 := 1#32
  let v787 : Index := Scalar.indexCast c1_i32_397
  let c0_i32_108 : BitVec 32 := 0#32
  let c1_i32_110 : BitVec 32 := 1#32
  let arg12 : BitVec 32 := Scf.iv c0_i32_108 c1_i32_110 k0_t4
  let c16_i32 : BitVec 32 := 16#32
  let v124 : BitVec 32 := Scalar.muli arg12 c16_i32
  let c9_i32_396 : BitVec 32 := 9#32
  let v786 : BitVec 32 := Scalar.addi v124 c9_i32_396
  let v788 : Index := Scalar.indexCast v786
  let c0_398 : Index := 0#32
  ![1, v788.toNat, 0]
def k0_off523 (k0_t4 : Fin k0_t4_loop.trips) : Fin 3 → Nat :=
  let c1_i32_400 : BitVec 32 := 1#32
  let v793 : Index := Scalar.indexCast c1_i32_400
  let c0_i32_108 : BitVec 32 := 0#32
  let c1_i32_110 : BitVec 32 := 1#32
  let arg12 : BitVec 32 := Scf.iv c0_i32_108 c1_i32_110 k0_t4
  let c16_i32 : BitVec 32 := 16#32
  let v124 : BitVec 32 := Scalar.muli arg12 c16_i32
  let c9_i32_399 : BitVec 32 := 9#32
  let v792 : BitVec 32 := Scalar.addi v124 c9_i32_399
  let v794 : Index := Scalar.indexCast v792
  let c64_401 : Index := 64#32
  ![1, v794.toNat, 64]
def k0_off524 (k0_t4 : Fin k0_t4_loop.trips) : Fin 3 → Nat :=
  let c1_i32_404 : BitVec 32 := 1#32
  let v804 : Index := Scalar.indexCast c1_i32_404
  let c0_i32_108 : BitVec 32 := 0#32
  let c1_i32_110 : BitVec 32 := 1#32
  let arg12 : BitVec 32 := Scf.iv c0_i32_108 c1_i32_110 k0_t4
  let c16_i32 : BitVec 32 := 16#32
  let v124 : BitVec 32 := Scalar.muli arg12 c16_i32
  let c9_i32_403 : BitVec 32 := 9#32
  let v803 : BitVec 32 := Scalar.addi v124 c9_i32_403
  let v805 : Index := Scalar.indexCast v803
  let c16_405 : Index := 16#32
  ![1, v805.toNat, 16]
def k0_off525 (k0_t4 : Fin k0_t4_loop.trips) : Fin 3 → Nat :=
  let c1_i32_407 : BitVec 32 := 1#32
  let v810 : Index := Scalar.indexCast c1_i32_407
  let c0_i32_108 : BitVec 32 := 0#32
  let c1_i32_110 : BitVec 32 := 1#32
  let arg12 : BitVec 32 := Scf.iv c0_i32_108 c1_i32_110 k0_t4
  let c16_i32 : BitVec 32 := 16#32
  let v124 : BitVec 32 := Scalar.muli arg12 c16_i32
  let c9_i32_406 : BitVec 32 := 9#32
  let v809 : BitVec 32 := Scalar.addi v124 c9_i32_406
  let v811 : Index := Scalar.indexCast v809
  let c80_408 : Index := 80#32
  ![1, v811.toNat, 80]
def k0_off526 (k0_t4 : Fin k0_t4_loop.trips) : Fin 3 → Nat :=
  let c1_i32_411 : BitVec 32 := 1#32
  let v821 : Index := Scalar.indexCast c1_i32_411
  let c0_i32_108 : BitVec 32 := 0#32
  let c1_i32_110 : BitVec 32 := 1#32
  let arg12 : BitVec 32 := Scf.iv c0_i32_108 c1_i32_110 k0_t4
  let c16_i32 : BitVec 32 := 16#32
  let v124 : BitVec 32 := Scalar.muli arg12 c16_i32
  let c9_i32_410 : BitVec 32 := 9#32
  let v820 : BitVec 32 := Scalar.addi v124 c9_i32_410
  let v822 : Index := Scalar.indexCast v820
  let c32_412 : Index := 32#32
  ![1, v822.toNat, 32]
def k0_off527 (k0_t4 : Fin k0_t4_loop.trips) : Fin 3 → Nat :=
  let c1_i32_414 : BitVec 32 := 1#32
  let v827 : Index := Scalar.indexCast c1_i32_414
  let c0_i32_108 : BitVec 32 := 0#32
  let c1_i32_110 : BitVec 32 := 1#32
  let arg12 : BitVec 32 := Scf.iv c0_i32_108 c1_i32_110 k0_t4
  let c16_i32 : BitVec 32 := 16#32
  let v124 : BitVec 32 := Scalar.muli arg12 c16_i32
  let c9_i32_413 : BitVec 32 := 9#32
  let v826 : BitVec 32 := Scalar.addi v124 c9_i32_413
  let v828 : Index := Scalar.indexCast v826
  let c96_415 : Index := 96#32
  ![1, v828.toNat, 96]
def k0_off528 (k0_t4 : Fin k0_t4_loop.trips) : Fin 3 → Nat :=
  let c1_i32_418 : BitVec 32 := 1#32
  let v838 : Index := Scalar.indexCast c1_i32_418
  let c0_i32_108 : BitVec 32 := 0#32
  let c1_i32_110 : BitVec 32 := 1#32
  let arg12 : BitVec 32 := Scf.iv c0_i32_108 c1_i32_110 k0_t4
  let c16_i32 : BitVec 32 := 16#32
  let v124 : BitVec 32 := Scalar.muli arg12 c16_i32
  let c9_i32_417 : BitVec 32 := 9#32
  let v837 : BitVec 32 := Scalar.addi v124 c9_i32_417
  let v839 : Index := Scalar.indexCast v837
  let c48_419 : Index := 48#32
  ![1, v839.toNat, 48]
def k0_off529 (k0_t4 : Fin k0_t4_loop.trips) : Fin 3 → Nat :=
  let c1_i32_421 : BitVec 32 := 1#32
  let v844 : Index := Scalar.indexCast c1_i32_421
  let c0_i32_108 : BitVec 32 := 0#32
  let c1_i32_110 : BitVec 32 := 1#32
  let arg12 : BitVec 32 := Scf.iv c0_i32_108 c1_i32_110 k0_t4
  let c16_i32 : BitVec 32 := 16#32
  let v124 : BitVec 32 := Scalar.muli arg12 c16_i32
  let c9_i32_420 : BitVec 32 := 9#32
  let v843 : BitVec 32 := Scalar.addi v124 c9_i32_420
  let v845 : Index := Scalar.indexCast v843
  let c112_422 : Index := 112#32
  ![1, v845.toNat, 112]
def k0_off530 (k0_t4 : Fin k0_t4_loop.trips) (v850 : BitVec 32) (c0_i32_424 : BitVec 32) : Fin 2 → Nat :=
  let c384_i32_423 : BitVec 32 := 384#32
  let c0_i32_108 : BitVec 32 := 0#32
  let c1_i32_110 : BitVec 32 := 1#32
  let arg12 : BitVec 32 := Scf.iv c0_i32_108 c1_i32_110 k0_t4
  let c16_i32 : BitVec 32 := 16#32
  let v124 : BitVec 32 := Scalar.muli arg12 c16_i32
  let v851 : BitVec 32 := Scalar.addi c384_i32_423 v124
  let c10_i32 : BitVec 32 := 10#32
  let v852 : BitVec 32 := Scalar.addi v851 c10_i32
  let v854 : Index := Scalar.indexCast v852
  let v853 : BitVec 32 := Scalar.addi v850 c0_i32_424
  let v855 : Index := Scalar.indexCast v853
  ![v854.toNat, v855.toNat]

def k0_chk59 (k0_t4 : Fin k0_t4_loop.trips) (v850 : BitVec 32) : Prop :=
  (∀ (r : Fin 4), ∀ a, (k0_off530 k0_t4 v850 (BitVec.ofNat 32 (16 * r.val))) a + S1x16.size a ≤ S512x128.size a)
theorem k0_off530_inb : ∀ (k0_t4 : Fin k0_t4_loop.trips) (v850 : BitVec 32) (k0_hw59 : k0_chk59 k0_t4 v850), ∀ (r : Fin 4), ∀ a, (k0_off530 k0_t4 v850 (BitVec.ofNat 32 (16 * r.val))) a + S1x16.size a ≤ S512x128.size a := fun k0_t4 v850 k0_hw59 r => k0_hw59 r

def k0_off531 (k0_t4 : Fin k0_t4_loop.trips) : Fin 3 → Nat :=
  let c1_i32_426 : BitVec 32 := 1#32
  let v859 : Index := Scalar.indexCast c1_i32_426
  let c0_i32_108 : BitVec 32 := 0#32
  let c1_i32_110 : BitVec 32 := 1#32
  let arg12 : BitVec 32 := Scf.iv c0_i32_108 c1_i32_110 k0_t4
  let c16_i32 : BitVec 32 := 16#32
  let v124 : BitVec 32 := Scalar.muli arg12 c16_i32
  let c10_i32_425 : BitVec 32 := 10#32
  let v858 : BitVec 32 := Scalar.addi v124 c10_i32_425
  let v860 : Index := Scalar.indexCast v858
  let c0_427 : Index := 0#32
  ![1, v860.toNat, 0]
def k0_off532 (k0_t4 : Fin k0_t4_loop.trips) : Fin 3 → Nat :=
  let c1_i32_429 : BitVec 32 := 1#32
  let v865 : Index := Scalar.indexCast c1_i32_429
  let c0_i32_108 : BitVec 32 := 0#32
  let c1_i32_110 : BitVec 32 := 1#32
  let arg12 : BitVec 32 := Scf.iv c0_i32_108 c1_i32_110 k0_t4
  let c16_i32 : BitVec 32 := 16#32
  let v124 : BitVec 32 := Scalar.muli arg12 c16_i32
  let c10_i32_428 : BitVec 32 := 10#32
  let v864 : BitVec 32 := Scalar.addi v124 c10_i32_428
  let v866 : Index := Scalar.indexCast v864
  let c64_430 : Index := 64#32
  ![1, v866.toNat, 64]
def k0_off533 (k0_t4 : Fin k0_t4_loop.trips) : Fin 3 → Nat :=
  let c1_i32_433 : BitVec 32 := 1#32
  let v876 : Index := Scalar.indexCast c1_i32_433
  let c0_i32_108 : BitVec 32 := 0#32
  let c1_i32_110 : BitVec 32 := 1#32
  let arg12 : BitVec 32 := Scf.iv c0_i32_108 c1_i32_110 k0_t4
  let c16_i32 : BitVec 32 := 16#32
  let v124 : BitVec 32 := Scalar.muli arg12 c16_i32
  let c10_i32_432 : BitVec 32 := 10#32
  let v875 : BitVec 32 := Scalar.addi v124 c10_i32_432
  let v877 : Index := Scalar.indexCast v875
  let c16_434 : Index := 16#32
  ![1, v877.toNat, 16]
def k0_off534 (k0_t4 : Fin k0_t4_loop.trips) : Fin 3 → Nat :=
  let c1_i32_436 : BitVec 32 := 1#32
  let v882 : Index := Scalar.indexCast c1_i32_436
  let c0_i32_108 : BitVec 32 := 0#32
  let c1_i32_110 : BitVec 32 := 1#32
  let arg12 : BitVec 32 := Scf.iv c0_i32_108 c1_i32_110 k0_t4
  let c16_i32 : BitVec 32 := 16#32
  let v124 : BitVec 32 := Scalar.muli arg12 c16_i32
  let c10_i32_435 : BitVec 32 := 10#32
  let v881 : BitVec 32 := Scalar.addi v124 c10_i32_435
  let v883 : Index := Scalar.indexCast v881
  let c80_437 : Index := 80#32
  ![1, v883.toNat, 80]
def k0_off535 (k0_t4 : Fin k0_t4_loop.trips) : Fin 3 → Nat :=
  let c1_i32_440 : BitVec 32 := 1#32
  let v893 : Index := Scalar.indexCast c1_i32_440
  let c0_i32_108 : BitVec 32 := 0#32
  let c1_i32_110 : BitVec 32 := 1#32
  let arg12 : BitVec 32 := Scf.iv c0_i32_108 c1_i32_110 k0_t4
  let c16_i32 : BitVec 32 := 16#32
  let v124 : BitVec 32 := Scalar.muli arg12 c16_i32
  let c10_i32_439 : BitVec 32 := 10#32
  let v892 : BitVec 32 := Scalar.addi v124 c10_i32_439
  let v894 : Index := Scalar.indexCast v892
  let c32_441 : Index := 32#32
  ![1, v894.toNat, 32]
def k0_off536 (k0_t4 : Fin k0_t4_loop.trips) : Fin 3 → Nat :=
  let c1_i32_443 : BitVec 32 := 1#32
  let v899 : Index := Scalar.indexCast c1_i32_443
  let c0_i32_108 : BitVec 32 := 0#32
  let c1_i32_110 : BitVec 32 := 1#32
  let arg12 : BitVec 32 := Scf.iv c0_i32_108 c1_i32_110 k0_t4
  let c16_i32 : BitVec 32 := 16#32
  let v124 : BitVec 32 := Scalar.muli arg12 c16_i32
  let c10_i32_442 : BitVec 32 := 10#32
  let v898 : BitVec 32 := Scalar.addi v124 c10_i32_442
  let v900 : Index := Scalar.indexCast v898
  let c96_444 : Index := 96#32
  ![1, v900.toNat, 96]
def k0_off537 (k0_t4 : Fin k0_t4_loop.trips) : Fin 3 → Nat :=
  let c1_i32_447 : BitVec 32 := 1#32
  let v910 : Index := Scalar.indexCast c1_i32_447
  let c0_i32_108 : BitVec 32 := 0#32
  let c1_i32_110 : BitVec 32 := 1#32
  let arg12 : BitVec 32 := Scf.iv c0_i32_108 c1_i32_110 k0_t4
  let c16_i32 : BitVec 32 := 16#32
  let v124 : BitVec 32 := Scalar.muli arg12 c16_i32
  let c10_i32_446 : BitVec 32 := 10#32
  let v909 : BitVec 32 := Scalar.addi v124 c10_i32_446
  let v911 : Index := Scalar.indexCast v909
  let c48_448 : Index := 48#32
  ![1, v911.toNat, 48]
def k0_off538 (k0_t4 : Fin k0_t4_loop.trips) : Fin 3 → Nat :=
  let c1_i32_450 : BitVec 32 := 1#32
  let v916 : Index := Scalar.indexCast c1_i32_450
  let c0_i32_108 : BitVec 32 := 0#32
  let c1_i32_110 : BitVec 32 := 1#32
  let arg12 : BitVec 32 := Scf.iv c0_i32_108 c1_i32_110 k0_t4
  let c16_i32 : BitVec 32 := 16#32
  let v124 : BitVec 32 := Scalar.muli arg12 c16_i32
  let c10_i32_449 : BitVec 32 := 10#32
  let v915 : BitVec 32 := Scalar.addi v124 c10_i32_449
  let v917 : Index := Scalar.indexCast v915
  let c112_451 : Index := 112#32
  ![1, v917.toNat, 112]
def k0_off539 (k0_t4 : Fin k0_t4_loop.trips) (v922 : BitVec 32) (c0_i32_453 : BitVec 32) : Fin 2 → Nat :=
  let c384_i32_452 : BitVec 32 := 384#32
  let c0_i32_108 : BitVec 32 := 0#32
  let c1_i32_110 : BitVec 32 := 1#32
  let arg12 : BitVec 32 := Scf.iv c0_i32_108 c1_i32_110 k0_t4
  let c16_i32 : BitVec 32 := 16#32
  let v124 : BitVec 32 := Scalar.muli arg12 c16_i32
  let v923 : BitVec 32 := Scalar.addi c384_i32_452 v124
  let c11_i32 : BitVec 32 := 11#32
  let v924 : BitVec 32 := Scalar.addi v923 c11_i32
  let v926 : Index := Scalar.indexCast v924
  let v925 : BitVec 32 := Scalar.addi v922 c0_i32_453
  let v927 : Index := Scalar.indexCast v925
  ![v926.toNat, v927.toNat]

def k0_chk60 (k0_t4 : Fin k0_t4_loop.trips) (v922 : BitVec 32) : Prop :=
  (∀ (r : Fin 4), ∀ a, (k0_off539 k0_t4 v922 (BitVec.ofNat 32 (16 * r.val))) a + S1x16.size a ≤ S512x128.size a)
theorem k0_off539_inb : ∀ (k0_t4 : Fin k0_t4_loop.trips) (v922 : BitVec 32) (k0_hw60 : k0_chk60 k0_t4 v922), ∀ (r : Fin 4), ∀ a, (k0_off539 k0_t4 v922 (BitVec.ofNat 32 (16 * r.val))) a + S1x16.size a ≤ S512x128.size a := fun k0_t4 v922 k0_hw60 r => k0_hw60 r

def k0_off540 (k0_t4 : Fin k0_t4_loop.trips) : Fin 3 → Nat :=
  let c1_i32_455 : BitVec 32 := 1#32
  let v931 : Index := Scalar.indexCast c1_i32_455
  let c0_i32_108 : BitVec 32 := 0#32
  let c1_i32_110 : BitVec 32 := 1#32
  let arg12 : BitVec 32 := Scf.iv c0_i32_108 c1_i32_110 k0_t4
  let c16_i32 : BitVec 32 := 16#32
  let v124 : BitVec 32 := Scalar.muli arg12 c16_i32
  let c11_i32_454 : BitVec 32 := 11#32
  let v930 : BitVec 32 := Scalar.addi v124 c11_i32_454
  let v932 : Index := Scalar.indexCast v930
  let c0_456 : Index := 0#32
  ![1, v932.toNat, 0]
def k0_off541 (k0_t4 : Fin k0_t4_loop.trips) : Fin 3 → Nat :=
  let c1_i32_458 : BitVec 32 := 1#32
  let v937 : Index := Scalar.indexCast c1_i32_458
  let c0_i32_108 : BitVec 32 := 0#32
  let c1_i32_110 : BitVec 32 := 1#32
  let arg12 : BitVec 32 := Scf.iv c0_i32_108 c1_i32_110 k0_t4
  let c16_i32 : BitVec 32 := 16#32
  let v124 : BitVec 32 := Scalar.muli arg12 c16_i32
  let c11_i32_457 : BitVec 32 := 11#32
  let v936 : BitVec 32 := Scalar.addi v124 c11_i32_457
  let v938 : Index := Scalar.indexCast v936
  let c64_459 : Index := 64#32
  ![1, v938.toNat, 64]
def k0_off542 (k0_t4 : Fin k0_t4_loop.trips) : Fin 3 → Nat :=
  let c1_i32_462 : BitVec 32 := 1#32
  let v948 : Index := Scalar.indexCast c1_i32_462
  let c0_i32_108 : BitVec 32 := 0#32
  let c1_i32_110 : BitVec 32 := 1#32
  let arg12 : BitVec 32 := Scf.iv c0_i32_108 c1_i32_110 k0_t4
  let c16_i32 : BitVec 32 := 16#32
  let v124 : BitVec 32 := Scalar.muli arg12 c16_i32
  let c11_i32_461 : BitVec 32 := 11#32
  let v947 : BitVec 32 := Scalar.addi v124 c11_i32_461
  let v949 : Index := Scalar.indexCast v947
  let c16_463 : Index := 16#32
  ![1, v949.toNat, 16]
def k0_off543 (k0_t4 : Fin k0_t4_loop.trips) : Fin 3 → Nat :=
  let c1_i32_465 : BitVec 32 := 1#32
  let v954 : Index := Scalar.indexCast c1_i32_465
  let c0_i32_108 : BitVec 32 := 0#32
  let c1_i32_110 : BitVec 32 := 1#32
  let arg12 : BitVec 32 := Scf.iv c0_i32_108 c1_i32_110 k0_t4
  let c16_i32 : BitVec 32 := 16#32
  let v124 : BitVec 32 := Scalar.muli arg12 c16_i32
  let c11_i32_464 : BitVec 32 := 11#32
  let v953 : BitVec 32 := Scalar.addi v124 c11_i32_464
  let v955 : Index := Scalar.indexCast v953
  let c80_466 : Index := 80#32
  ![1, v955.toNat, 80]
def k0_off544 (k0_t4 : Fin k0_t4_loop.trips) : Fin 3 → Nat :=
  let c1_i32_469 : BitVec 32 := 1#32
  let v965 : Index := Scalar.indexCast c1_i32_469
  let c0_i32_108 : BitVec 32 := 0#32
  let c1_i32_110 : BitVec 32 := 1#32
  let arg12 : BitVec 32 := Scf.iv c0_i32_108 c1_i32_110 k0_t4
  let c16_i32 : BitVec 32 := 16#32
  let v124 : BitVec 32 := Scalar.muli arg12 c16_i32
  let c11_i32_468 : BitVec 32 := 11#32
  let v964 : BitVec 32 := Scalar.addi v124 c11_i32_468
  let v966 : Index := Scalar.indexCast v964
  let c32_470 : Index := 32#32
  ![1, v966.toNat, 32]
def k0_off545 (k0_t4 : Fin k0_t4_loop.trips) : Fin 3 → Nat :=
  let c1_i32_472 : BitVec 32 := 1#32
  let v971 : Index := Scalar.indexCast c1_i32_472
  let c0_i32_108 : BitVec 32 := 0#32
  let c1_i32_110 : BitVec 32 := 1#32
  let arg12 : BitVec 32 := Scf.iv c0_i32_108 c1_i32_110 k0_t4
  let c16_i32 : BitVec 32 := 16#32
  let v124 : BitVec 32 := Scalar.muli arg12 c16_i32
  let c11_i32_471 : BitVec 32 := 11#32
  let v970 : BitVec 32 := Scalar.addi v124 c11_i32_471
  let v972 : Index := Scalar.indexCast v970
  let c96_473 : Index := 96#32
  ![1, v972.toNat, 96]
def k0_off546 (k0_t4 : Fin k0_t4_loop.trips) : Fin 3 → Nat :=
  let c1_i32_476 : BitVec 32 := 1#32
  let v982 : Index := Scalar.indexCast c1_i32_476
  let c0_i32_108 : BitVec 32 := 0#32
  let c1_i32_110 : BitVec 32 := 1#32
  let arg12 : BitVec 32 := Scf.iv c0_i32_108 c1_i32_110 k0_t4
  let c16_i32 : BitVec 32 := 16#32
  let v124 : BitVec 32 := Scalar.muli arg12 c16_i32
  let c11_i32_475 : BitVec 32 := 11#32
  let v981 : BitVec 32 := Scalar.addi v124 c11_i32_475
  let v983 : Index := Scalar.indexCast v981
  let c48_477 : Index := 48#32
  ![1, v983.toNat, 48]
def k0_off547 (k0_t4 : Fin k0_t4_loop.trips) : Fin 3 → Nat :=
  let c1_i32_479 : BitVec 32 := 1#32
  let v988 : Index := Scalar.indexCast c1_i32_479
  let c0_i32_108 : BitVec 32 := 0#32
  let c1_i32_110 : BitVec 32 := 1#32
  let arg12 : BitVec 32 := Scf.iv c0_i32_108 c1_i32_110 k0_t4
  let c16_i32 : BitVec 32 := 16#32
  let v124 : BitVec 32 := Scalar.muli arg12 c16_i32
  let c11_i32_478 : BitVec 32 := 11#32
  let v987 : BitVec 32 := Scalar.addi v124 c11_i32_478
  let v989 : Index := Scalar.indexCast v987
  let c112_480 : Index := 112#32
  ![1, v989.toNat, 112]
def k0_off548 (k0_t4 : Fin k0_t4_loop.trips) (v994 : BitVec 32) (c0_i32_482 : BitVec 32) : Fin 2 → Nat :=
  let c384_i32_481 : BitVec 32 := 384#32
  let c0_i32_108 : BitVec 32 := 0#32
  let c1_i32_110 : BitVec 32 := 1#32
  let arg12 : BitVec 32 := Scf.iv c0_i32_108 c1_i32_110 k0_t4
  let c16_i32 : BitVec 32 := 16#32
  let v124 : BitVec 32 := Scalar.muli arg12 c16_i32
  let v995 : BitVec 32 := Scalar.addi c384_i32_481 v124
  let c12_i32 : BitVec 32 := 12#32
  let v996 : BitVec 32 := Scalar.addi v995 c12_i32
  let v998 : Index := Scalar.indexCast v996
  let v997 : BitVec 32 := Scalar.addi v994 c0_i32_482
  let v999 : Index := Scalar.indexCast v997
  ![v998.toNat, v999.toNat]

def k0_chk61 (k0_t4 : Fin k0_t4_loop.trips) (v994 : BitVec 32) : Prop :=
  (∀ (r : Fin 4), ∀ a, (k0_off548 k0_t4 v994 (BitVec.ofNat 32 (16 * r.val))) a + S1x16.size a ≤ S512x128.size a)
theorem k0_off548_inb : ∀ (k0_t4 : Fin k0_t4_loop.trips) (v994 : BitVec 32) (k0_hw61 : k0_chk61 k0_t4 v994), ∀ (r : Fin 4), ∀ a, (k0_off548 k0_t4 v994 (BitVec.ofNat 32 (16 * r.val))) a + S1x16.size a ≤ S512x128.size a := fun k0_t4 v994 k0_hw61 r => k0_hw61 r

def k0_off549 (k0_t4 : Fin k0_t4_loop.trips) : Fin 3 → Nat :=
  let c1_i32_484 : BitVec 32 := 1#32
  let v1003 : Index := Scalar.indexCast c1_i32_484
  let c0_i32_108 : BitVec 32 := 0#32
  let c1_i32_110 : BitVec 32 := 1#32
  let arg12 : BitVec 32 := Scf.iv c0_i32_108 c1_i32_110 k0_t4
  let c16_i32 : BitVec 32 := 16#32
  let v124 : BitVec 32 := Scalar.muli arg12 c16_i32
  let c12_i32_483 : BitVec 32 := 12#32
  let v1002 : BitVec 32 := Scalar.addi v124 c12_i32_483
  let v1004 : Index := Scalar.indexCast v1002
  let c0_485 : Index := 0#32
  ![1, v1004.toNat, 0]
def k0_off550 (k0_t4 : Fin k0_t4_loop.trips) : Fin 3 → Nat :=
  let c1_i32_487 : BitVec 32 := 1#32
  let v1009 : Index := Scalar.indexCast c1_i32_487
  let c0_i32_108 : BitVec 32 := 0#32
  let c1_i32_110 : BitVec 32 := 1#32
  let arg12 : BitVec 32 := Scf.iv c0_i32_108 c1_i32_110 k0_t4
  let c16_i32 : BitVec 32 := 16#32
  let v124 : BitVec 32 := Scalar.muli arg12 c16_i32
  let c12_i32_486 : BitVec 32 := 12#32
  let v1008 : BitVec 32 := Scalar.addi v124 c12_i32_486
  let v1010 : Index := Scalar.indexCast v1008
  let c64_488 : Index := 64#32
  ![1, v1010.toNat, 64]
def k0_off551 (k0_t4 : Fin k0_t4_loop.trips) : Fin 3 → Nat :=
  let c1_i32_491 : BitVec 32 := 1#32
  let v1020 : Index := Scalar.indexCast c1_i32_491
  let c0_i32_108 : BitVec 32 := 0#32
  let c1_i32_110 : BitVec 32 := 1#32
  let arg12 : BitVec 32 := Scf.iv c0_i32_108 c1_i32_110 k0_t4
  let c16_i32 : BitVec 32 := 16#32
  let v124 : BitVec 32 := Scalar.muli arg12 c16_i32
  let c12_i32_490 : BitVec 32 := 12#32
  let v1019 : BitVec 32 := Scalar.addi v124 c12_i32_490
  let v1021 : Index := Scalar.indexCast v1019
  let c16_492 : Index := 16#32
  ![1, v1021.toNat, 16]
def k0_off552 (k0_t4 : Fin k0_t4_loop.trips) : Fin 3 → Nat :=
  let c1_i32_494 : BitVec 32 := 1#32
  let v1026 : Index := Scalar.indexCast c1_i32_494
  let c0_i32_108 : BitVec 32 := 0#32
  let c1_i32_110 : BitVec 32 := 1#32
  let arg12 : BitVec 32 := Scf.iv c0_i32_108 c1_i32_110 k0_t4
  let c16_i32 : BitVec 32 := 16#32
  let v124 : BitVec 32 := Scalar.muli arg12 c16_i32
  let c12_i32_493 : BitVec 32 := 12#32
  let v1025 : BitVec 32 := Scalar.addi v124 c12_i32_493
  let v1027 : Index := Scalar.indexCast v1025
  let c80_495 : Index := 80#32
  ![1, v1027.toNat, 80]
def k0_off553 (k0_t4 : Fin k0_t4_loop.trips) : Fin 3 → Nat :=
  let c1_i32_498 : BitVec 32 := 1#32
  let v1037 : Index := Scalar.indexCast c1_i32_498
  let c0_i32_108 : BitVec 32 := 0#32
  let c1_i32_110 : BitVec 32 := 1#32
  let arg12 : BitVec 32 := Scf.iv c0_i32_108 c1_i32_110 k0_t4
  let c16_i32 : BitVec 32 := 16#32
  let v124 : BitVec 32 := Scalar.muli arg12 c16_i32
  let c12_i32_497 : BitVec 32 := 12#32
  let v1036 : BitVec 32 := Scalar.addi v124 c12_i32_497
  let v1038 : Index := Scalar.indexCast v1036
  let c32_499 : Index := 32#32
  ![1, v1038.toNat, 32]
def k0_off554 (k0_t4 : Fin k0_t4_loop.trips) : Fin 3 → Nat :=
  let c1_i32_501 : BitVec 32 := 1#32
  let v1043 : Index := Scalar.indexCast c1_i32_501
  let c0_i32_108 : BitVec 32 := 0#32
  let c1_i32_110 : BitVec 32 := 1#32
  let arg12 : BitVec 32 := Scf.iv c0_i32_108 c1_i32_110 k0_t4
  let c16_i32 : BitVec 32 := 16#32
  let v124 : BitVec 32 := Scalar.muli arg12 c16_i32
  let c12_i32_500 : BitVec 32 := 12#32
  let v1042 : BitVec 32 := Scalar.addi v124 c12_i32_500
  let v1044 : Index := Scalar.indexCast v1042
  let c96_502 : Index := 96#32
  ![1, v1044.toNat, 96]
def k0_off555 (k0_t4 : Fin k0_t4_loop.trips) : Fin 3 → Nat :=
  let c1_i32_505 : BitVec 32 := 1#32
  let v1054 : Index := Scalar.indexCast c1_i32_505
  let c0_i32_108 : BitVec 32 := 0#32
  let c1_i32_110 : BitVec 32 := 1#32
  let arg12 : BitVec 32 := Scf.iv c0_i32_108 c1_i32_110 k0_t4
  let c16_i32 : BitVec 32 := 16#32
  let v124 : BitVec 32 := Scalar.muli arg12 c16_i32
  let c12_i32_504 : BitVec 32 := 12#32
  let v1053 : BitVec 32 := Scalar.addi v124 c12_i32_504
  let v1055 : Index := Scalar.indexCast v1053
  let c48_506 : Index := 48#32
  ![1, v1055.toNat, 48]
def k0_off556 (k0_t4 : Fin k0_t4_loop.trips) : Fin 3 → Nat :=
  let c1_i32_508 : BitVec 32 := 1#32
  let v1060 : Index := Scalar.indexCast c1_i32_508
  let c0_i32_108 : BitVec 32 := 0#32
  let c1_i32_110 : BitVec 32 := 1#32
  let arg12 : BitVec 32 := Scf.iv c0_i32_108 c1_i32_110 k0_t4
  let c16_i32 : BitVec 32 := 16#32
  let v124 : BitVec 32 := Scalar.muli arg12 c16_i32
  let c12_i32_507 : BitVec 32 := 12#32
  let v1059 : BitVec 32 := Scalar.addi v124 c12_i32_507
  let v1061 : Index := Scalar.indexCast v1059
  let c112_509 : Index := 112#32
  ![1, v1061.toNat, 112]
def k0_off557 (k0_t4 : Fin k0_t4_loop.trips) (v1066 : BitVec 32) (c0_i32_511 : BitVec 32) : Fin 2 → Nat :=
  let c384_i32_510 : BitVec 32 := 384#32
  let c0_i32_108 : BitVec 32 := 0#32
  let c1_i32_110 : BitVec 32 := 1#32
  let arg12 : BitVec 32 := Scf.iv c0_i32_108 c1_i32_110 k0_t4
  let c16_i32 : BitVec 32 := 16#32
  let v124 : BitVec 32 := Scalar.muli arg12 c16_i32
  let v1067 : BitVec 32 := Scalar.addi c384_i32_510 v124
  let c13_i32 : BitVec 32 := 13#32
  let v1068 : BitVec 32 := Scalar.addi v1067 c13_i32
  let v1070 : Index := Scalar.indexCast v1068
  let v1069 : BitVec 32 := Scalar.addi v1066 c0_i32_511
  let v1071 : Index := Scalar.indexCast v1069
  ![v1070.toNat, v1071.toNat]

def k0_chk62 (k0_t4 : Fin k0_t4_loop.trips) (v1066 : BitVec 32) : Prop :=
  (∀ (r : Fin 4), ∀ a, (k0_off557 k0_t4 v1066 (BitVec.ofNat 32 (16 * r.val))) a + S1x16.size a ≤ S512x128.size a)
theorem k0_off557_inb : ∀ (k0_t4 : Fin k0_t4_loop.trips) (v1066 : BitVec 32) (k0_hw62 : k0_chk62 k0_t4 v1066), ∀ (r : Fin 4), ∀ a, (k0_off557 k0_t4 v1066 (BitVec.ofNat 32 (16 * r.val))) a + S1x16.size a ≤ S512x128.size a := fun k0_t4 v1066 k0_hw62 r => k0_hw62 r

def k0_off558 (k0_t4 : Fin k0_t4_loop.trips) : Fin 3 → Nat :=
  let c1_i32_513 : BitVec 32 := 1#32
  let v1075 : Index := Scalar.indexCast c1_i32_513
  let c0_i32_108 : BitVec 32 := 0#32
  let c1_i32_110 : BitVec 32 := 1#32
  let arg12 : BitVec 32 := Scf.iv c0_i32_108 c1_i32_110 k0_t4
  let c16_i32 : BitVec 32 := 16#32
  let v124 : BitVec 32 := Scalar.muli arg12 c16_i32
  let c13_i32_512 : BitVec 32 := 13#32
  let v1074 : BitVec 32 := Scalar.addi v124 c13_i32_512
  let v1076 : Index := Scalar.indexCast v1074
  let c0_514 : Index := 0#32
  ![1, v1076.toNat, 0]
def k0_off559 (k0_t4 : Fin k0_t4_loop.trips) : Fin 3 → Nat :=
  let c1_i32_516 : BitVec 32 := 1#32
  let v1081 : Index := Scalar.indexCast c1_i32_516
  let c0_i32_108 : BitVec 32 := 0#32
  let c1_i32_110 : BitVec 32 := 1#32
  let arg12 : BitVec 32 := Scf.iv c0_i32_108 c1_i32_110 k0_t4
  let c16_i32 : BitVec 32 := 16#32
  let v124 : BitVec 32 := Scalar.muli arg12 c16_i32
  let c13_i32_515 : BitVec 32 := 13#32
  let v1080 : BitVec 32 := Scalar.addi v124 c13_i32_515
  let v1082 : Index := Scalar.indexCast v1080
  let c64_517 : Index := 64#32
  ![1, v1082.toNat, 64]
def k0_off560 (k0_t4 : Fin k0_t4_loop.trips) : Fin 3 → Nat :=
  let c1_i32_520 : BitVec 32 := 1#32
  let v1092 : Index := Scalar.indexCast c1_i32_520
  let c0_i32_108 : BitVec 32 := 0#32
  let c1_i32_110 : BitVec 32 := 1#32
  let arg12 : BitVec 32 := Scf.iv c0_i32_108 c1_i32_110 k0_t4
  let c16_i32 : BitVec 32 := 16#32
  let v124 : BitVec 32 := Scalar.muli arg12 c16_i32
  let c13_i32_519 : BitVec 32 := 13#32
  let v1091 : BitVec 32 := Scalar.addi v124 c13_i32_519
  let v1093 : Index := Scalar.indexCast v1091
  let c16_521 : Index := 16#32
  ![1, v1093.toNat, 16]
def k0_off561 (k0_t4 : Fin k0_t4_loop.trips) : Fin 3 → Nat :=
  let c1_i32_523 : BitVec 32 := 1#32
  let v1098 : Index := Scalar.indexCast c1_i32_523
  let c0_i32_108 : BitVec 32 := 0#32
  let c1_i32_110 : BitVec 32 := 1#32
  let arg12 : BitVec 32 := Scf.iv c0_i32_108 c1_i32_110 k0_t4
  let c16_i32 : BitVec 32 := 16#32
  let v124 : BitVec 32 := Scalar.muli arg12 c16_i32
  let c13_i32_522 : BitVec 32 := 13#32
  let v1097 : BitVec 32 := Scalar.addi v124 c13_i32_522
  let v1099 : Index := Scalar.indexCast v1097
  let c80_524 : Index := 80#32
  ![1, v1099.toNat, 80]
def k0_off562 (k0_t4 : Fin k0_t4_loop.trips) : Fin 3 → Nat :=
  let c1_i32_527 : BitVec 32 := 1#32
  let v1109 : Index := Scalar.indexCast c1_i32_527
  let c0_i32_108 : BitVec 32 := 0#32
  let c1_i32_110 : BitVec 32 := 1#32
  let arg12 : BitVec 32 := Scf.iv c0_i32_108 c1_i32_110 k0_t4
  let c16_i32 : BitVec 32 := 16#32
  let v124 : BitVec 32 := Scalar.muli arg12 c16_i32
  let c13_i32_526 : BitVec 32 := 13#32
  let v1108 : BitVec 32 := Scalar.addi v124 c13_i32_526
  let v1110 : Index := Scalar.indexCast v1108
  let c32_528 : Index := 32#32
  ![1, v1110.toNat, 32]
def k0_off563 (k0_t4 : Fin k0_t4_loop.trips) : Fin 3 → Nat :=
  let c1_i32_530 : BitVec 32 := 1#32
  let v1115 : Index := Scalar.indexCast c1_i32_530
  let c0_i32_108 : BitVec 32 := 0#32
  let c1_i32_110 : BitVec 32 := 1#32
  let arg12 : BitVec 32 := Scf.iv c0_i32_108 c1_i32_110 k0_t4
  let c16_i32 : BitVec 32 := 16#32
  let v124 : BitVec 32 := Scalar.muli arg12 c16_i32
  let c13_i32_529 : BitVec 32 := 13#32
  let v1114 : BitVec 32 := Scalar.addi v124 c13_i32_529
  let v1116 : Index := Scalar.indexCast v1114
  let c96_531 : Index := 96#32
  ![1, v1116.toNat, 96]
def k0_off564 (k0_t4 : Fin k0_t4_loop.trips) : Fin 3 → Nat :=
  let c1_i32_534 : BitVec 32 := 1#32
  let v1126 : Index := Scalar.indexCast c1_i32_534
  let c0_i32_108 : BitVec 32 := 0#32
  let c1_i32_110 : BitVec 32 := 1#32
  let arg12 : BitVec 32 := Scf.iv c0_i32_108 c1_i32_110 k0_t4
  let c16_i32 : BitVec 32 := 16#32
  let v124 : BitVec 32 := Scalar.muli arg12 c16_i32
  let c13_i32_533 : BitVec 32 := 13#32
  let v1125 : BitVec 32 := Scalar.addi v124 c13_i32_533
  let v1127 : Index := Scalar.indexCast v1125
  let c48_535 : Index := 48#32
  ![1, v1127.toNat, 48]
def k0_off565 (k0_t4 : Fin k0_t4_loop.trips) : Fin 3 → Nat :=
  let c1_i32_537 : BitVec 32 := 1#32
  let v1132 : Index := Scalar.indexCast c1_i32_537
  let c0_i32_108 : BitVec 32 := 0#32
  let c1_i32_110 : BitVec 32 := 1#32
  let arg12 : BitVec 32 := Scf.iv c0_i32_108 c1_i32_110 k0_t4
  let c16_i32 : BitVec 32 := 16#32
  let v124 : BitVec 32 := Scalar.muli arg12 c16_i32
  let c13_i32_536 : BitVec 32 := 13#32
  let v1131 : BitVec 32 := Scalar.addi v124 c13_i32_536
  let v1133 : Index := Scalar.indexCast v1131
  let c112_538 : Index := 112#32
  ![1, v1133.toNat, 112]
def k0_off566 (k0_t4 : Fin k0_t4_loop.trips) (v1138 : BitVec 32) (c0_i32_540 : BitVec 32) : Fin 2 → Nat :=
  let c384_i32_539 : BitVec 32 := 384#32
  let c0_i32_108 : BitVec 32 := 0#32
  let c1_i32_110 : BitVec 32 := 1#32
  let arg12 : BitVec 32 := Scf.iv c0_i32_108 c1_i32_110 k0_t4
  let c16_i32 : BitVec 32 := 16#32
  let v124 : BitVec 32 := Scalar.muli arg12 c16_i32
  let v1139 : BitVec 32 := Scalar.addi c384_i32_539 v124
  let c14_i32 : BitVec 32 := 14#32
  let v1140 : BitVec 32 := Scalar.addi v1139 c14_i32
  let v1142 : Index := Scalar.indexCast v1140
  let v1141 : BitVec 32 := Scalar.addi v1138 c0_i32_540
  let v1143 : Index := Scalar.indexCast v1141
  ![v1142.toNat, v1143.toNat]

def k0_chk63 (k0_t4 : Fin k0_t4_loop.trips) (v1138 : BitVec 32) : Prop :=
  (∀ (r : Fin 4), ∀ a, (k0_off566 k0_t4 v1138 (BitVec.ofNat 32 (16 * r.val))) a + S1x16.size a ≤ S512x128.size a)
theorem k0_off566_inb : ∀ (k0_t4 : Fin k0_t4_loop.trips) (v1138 : BitVec 32) (k0_hw63 : k0_chk63 k0_t4 v1138), ∀ (r : Fin 4), ∀ a, (k0_off566 k0_t4 v1138 (BitVec.ofNat 32 (16 * r.val))) a + S1x16.size a ≤ S512x128.size a := fun k0_t4 v1138 k0_hw63 r => k0_hw63 r

def k0_off567 (k0_t4 : Fin k0_t4_loop.trips) : Fin 3 → Nat :=
  let c1_i32_542 : BitVec 32 := 1#32
  let v1147 : Index := Scalar.indexCast c1_i32_542
  let c0_i32_108 : BitVec 32 := 0#32
  let c1_i32_110 : BitVec 32 := 1#32
  let arg12 : BitVec 32 := Scf.iv c0_i32_108 c1_i32_110 k0_t4
  let c16_i32 : BitVec 32 := 16#32
  let v124 : BitVec 32 := Scalar.muli arg12 c16_i32
  let c14_i32_541 : BitVec 32 := 14#32
  let v1146 : BitVec 32 := Scalar.addi v124 c14_i32_541
  let v1148 : Index := Scalar.indexCast v1146
  let c0_543 : Index := 0#32
  ![1, v1148.toNat, 0]
def k0_off568 (k0_t4 : Fin k0_t4_loop.trips) : Fin 3 → Nat :=
  let c1_i32_545 : BitVec 32 := 1#32
  let v1153 : Index := Scalar.indexCast c1_i32_545
  let c0_i32_108 : BitVec 32 := 0#32
  let c1_i32_110 : BitVec 32 := 1#32
  let arg12 : BitVec 32 := Scf.iv c0_i32_108 c1_i32_110 k0_t4
  let c16_i32 : BitVec 32 := 16#32
  let v124 : BitVec 32 := Scalar.muli arg12 c16_i32
  let c14_i32_544 : BitVec 32 := 14#32
  let v1152 : BitVec 32 := Scalar.addi v124 c14_i32_544
  let v1154 : Index := Scalar.indexCast v1152
  let c64_546 : Index := 64#32
  ![1, v1154.toNat, 64]
def k0_off569 (k0_t4 : Fin k0_t4_loop.trips) : Fin 3 → Nat :=
  let c1_i32_549 : BitVec 32 := 1#32
  let v1164 : Index := Scalar.indexCast c1_i32_549
  let c0_i32_108 : BitVec 32 := 0#32
  let c1_i32_110 : BitVec 32 := 1#32
  let arg12 : BitVec 32 := Scf.iv c0_i32_108 c1_i32_110 k0_t4
  let c16_i32 : BitVec 32 := 16#32
  let v124 : BitVec 32 := Scalar.muli arg12 c16_i32
  let c14_i32_548 : BitVec 32 := 14#32
  let v1163 : BitVec 32 := Scalar.addi v124 c14_i32_548
  let v1165 : Index := Scalar.indexCast v1163
  let c16_550 : Index := 16#32
  ![1, v1165.toNat, 16]
def k0_off570 (k0_t4 : Fin k0_t4_loop.trips) : Fin 3 → Nat :=
  let c1_i32_552 : BitVec 32 := 1#32
  let v1170 : Index := Scalar.indexCast c1_i32_552
  let c0_i32_108 : BitVec 32 := 0#32
  let c1_i32_110 : BitVec 32 := 1#32
  let arg12 : BitVec 32 := Scf.iv c0_i32_108 c1_i32_110 k0_t4
  let c16_i32 : BitVec 32 := 16#32
  let v124 : BitVec 32 := Scalar.muli arg12 c16_i32
  let c14_i32_551 : BitVec 32 := 14#32
  let v1169 : BitVec 32 := Scalar.addi v124 c14_i32_551
  let v1171 : Index := Scalar.indexCast v1169
  let c80_553 : Index := 80#32
  ![1, v1171.toNat, 80]
def k0_off571 (k0_t4 : Fin k0_t4_loop.trips) : Fin 3 → Nat :=
  let c1_i32_556 : BitVec 32 := 1#32
  let v1181 : Index := Scalar.indexCast c1_i32_556
  let c0_i32_108 : BitVec 32 := 0#32
  let c1_i32_110 : BitVec 32 := 1#32
  let arg12 : BitVec 32 := Scf.iv c0_i32_108 c1_i32_110 k0_t4
  let c16_i32 : BitVec 32 := 16#32
  let v124 : BitVec 32 := Scalar.muli arg12 c16_i32
  let c14_i32_555 : BitVec 32 := 14#32
  let v1180 : BitVec 32 := Scalar.addi v124 c14_i32_555
  let v1182 : Index := Scalar.indexCast v1180
  let c32_557 : Index := 32#32
  ![1, v1182.toNat, 32]
def k0_off572 (k0_t4 : Fin k0_t4_loop.trips) : Fin 3 → Nat :=
  let c1_i32_559 : BitVec 32 := 1#32
  let v1187 : Index := Scalar.indexCast c1_i32_559
  let c0_i32_108 : BitVec 32 := 0#32
  let c1_i32_110 : BitVec 32 := 1#32
  let arg12 : BitVec 32 := Scf.iv c0_i32_108 c1_i32_110 k0_t4
  let c16_i32 : BitVec 32 := 16#32
  let v124 : BitVec 32 := Scalar.muli arg12 c16_i32
  let c14_i32_558 : BitVec 32 := 14#32
  let v1186 : BitVec 32 := Scalar.addi v124 c14_i32_558
  let v1188 : Index := Scalar.indexCast v1186
  let c96_560 : Index := 96#32
  ![1, v1188.toNat, 96]
def k0_off573 (k0_t4 : Fin k0_t4_loop.trips) : Fin 3 → Nat :=
  let c1_i32_563 : BitVec 32 := 1#32
  let v1198 : Index := Scalar.indexCast c1_i32_563
  let c0_i32_108 : BitVec 32 := 0#32
  let c1_i32_110 : BitVec 32 := 1#32
  let arg12 : BitVec 32 := Scf.iv c0_i32_108 c1_i32_110 k0_t4
  let c16_i32 : BitVec 32 := 16#32
  let v124 : BitVec 32 := Scalar.muli arg12 c16_i32
  let c14_i32_562 : BitVec 32 := 14#32
  let v1197 : BitVec 32 := Scalar.addi v124 c14_i32_562
  let v1199 : Index := Scalar.indexCast v1197
  let c48_564 : Index := 48#32
  ![1, v1199.toNat, 48]
def k0_off574 (k0_t4 : Fin k0_t4_loop.trips) : Fin 3 → Nat :=
  let c1_i32_566 : BitVec 32 := 1#32
  let v1204 : Index := Scalar.indexCast c1_i32_566
  let c0_i32_108 : BitVec 32 := 0#32
  let c1_i32_110 : BitVec 32 := 1#32
  let arg12 : BitVec 32 := Scf.iv c0_i32_108 c1_i32_110 k0_t4
  let c16_i32 : BitVec 32 := 16#32
  let v124 : BitVec 32 := Scalar.muli arg12 c16_i32
  let c14_i32_565 : BitVec 32 := 14#32
  let v1203 : BitVec 32 := Scalar.addi v124 c14_i32_565
  let v1205 : Index := Scalar.indexCast v1203
  let c112_567 : Index := 112#32
  ![1, v1205.toNat, 112]
def k0_off575 (k0_t4 : Fin k0_t4_loop.trips) (v1210 : BitVec 32) (c0_i32_569 : BitVec 32) : Fin 2 → Nat :=
  let c384_i32_568 : BitVec 32 := 384#32
  let c0_i32_108 : BitVec 32 := 0#32
  let c1_i32_110 : BitVec 32 := 1#32
  let arg12 : BitVec 32 := Scf.iv c0_i32_108 c1_i32_110 k0_t4
  let c16_i32 : BitVec 32 := 16#32
  let v124 : BitVec 32 := Scalar.muli arg12 c16_i32
  let v1211 : BitVec 32 := Scalar.addi c384_i32_568 v124
  let c15_i32 : BitVec 32 := 15#32
  let v1212 : BitVec 32 := Scalar.addi v1211 c15_i32
  let v1214 : Index := Scalar.indexCast v1212
  let v1213 : BitVec 32 := Scalar.addi v1210 c0_i32_569
  let v1215 : Index := Scalar.indexCast v1213
  ![v1214.toNat, v1215.toNat]

def k0_chk64 (k0_t4 : Fin k0_t4_loop.trips) (v1210 : BitVec 32) : Prop :=
  (∀ (r : Fin 4), ∀ a, (k0_off575 k0_t4 v1210 (BitVec.ofNat 32 (16 * r.val))) a + S1x16.size a ≤ S512x128.size a)
theorem k0_off575_inb : ∀ (k0_t4 : Fin k0_t4_loop.trips) (v1210 : BitVec 32) (k0_hw64 : k0_chk64 k0_t4 v1210), ∀ (r : Fin 4), ∀ a, (k0_off575 k0_t4 v1210 (BitVec.ofNat 32 (16 * r.val))) a + S1x16.size a ≤ S512x128.size a := fun k0_t4 v1210 k0_hw64 r => k0_hw64 r

def k0_off576 (k0_t4 : Fin k0_t4_loop.trips) : Fin 3 → Nat :=
  let c1_i32_571 : BitVec 32 := 1#32
  let v1219 : Index := Scalar.indexCast c1_i32_571
  let c0_i32_108 : BitVec 32 := 0#32
  let c1_i32_110 : BitVec 32 := 1#32
  let arg12 : BitVec 32 := Scf.iv c0_i32_108 c1_i32_110 k0_t4
  let c16_i32 : BitVec 32 := 16#32
  let v124 : BitVec 32 := Scalar.muli arg12 c16_i32
  let c15_i32_570 : BitVec 32 := 15#32
  let v1218 : BitVec 32 := Scalar.addi v124 c15_i32_570
  let v1220 : Index := Scalar.indexCast v1218
  let c0_572 : Index := 0#32
  ![1, v1220.toNat, 0]
def k0_off577 (k0_t4 : Fin k0_t4_loop.trips) : Fin 3 → Nat :=
  let c1_i32_574 : BitVec 32 := 1#32
  let v1225 : Index := Scalar.indexCast c1_i32_574
  let c0_i32_108 : BitVec 32 := 0#32
  let c1_i32_110 : BitVec 32 := 1#32
  let arg12 : BitVec 32 := Scf.iv c0_i32_108 c1_i32_110 k0_t4
  let c16_i32 : BitVec 32 := 16#32
  let v124 : BitVec 32 := Scalar.muli arg12 c16_i32
  let c15_i32_573 : BitVec 32 := 15#32
  let v1224 : BitVec 32 := Scalar.addi v124 c15_i32_573
  let v1226 : Index := Scalar.indexCast v1224
  let c64_575 : Index := 64#32
  ![1, v1226.toNat, 64]
def k0_off578 (k0_t4 : Fin k0_t4_loop.trips) : Fin 3 → Nat :=
  let c1_i32_578 : BitVec 32 := 1#32
  let v1236 : Index := Scalar.indexCast c1_i32_578
  let c0_i32_108 : BitVec 32 := 0#32
  let c1_i32_110 : BitVec 32 := 1#32
  let arg12 : BitVec 32 := Scf.iv c0_i32_108 c1_i32_110 k0_t4
  let c16_i32 : BitVec 32 := 16#32
  let v124 : BitVec 32 := Scalar.muli arg12 c16_i32
  let c15_i32_577 : BitVec 32 := 15#32
  let v1235 : BitVec 32 := Scalar.addi v124 c15_i32_577
  let v1237 : Index := Scalar.indexCast v1235
  let c16_579 : Index := 16#32
  ![1, v1237.toNat, 16]
def k0_off579 (k0_t4 : Fin k0_t4_loop.trips) : Fin 3 → Nat :=
  let c1_i32_581 : BitVec 32 := 1#32
  let v1242 : Index := Scalar.indexCast c1_i32_581
  let c0_i32_108 : BitVec 32 := 0#32
  let c1_i32_110 : BitVec 32 := 1#32
  let arg12 : BitVec 32 := Scf.iv c0_i32_108 c1_i32_110 k0_t4
  let c16_i32 : BitVec 32 := 16#32
  let v124 : BitVec 32 := Scalar.muli arg12 c16_i32
  let c15_i32_580 : BitVec 32 := 15#32
  let v1241 : BitVec 32 := Scalar.addi v124 c15_i32_580
  let v1243 : Index := Scalar.indexCast v1241
  let c80_582 : Index := 80#32
  ![1, v1243.toNat, 80]
def k0_off580 (k0_t4 : Fin k0_t4_loop.trips) : Fin 3 → Nat :=
  let c1_i32_585 : BitVec 32 := 1#32
  let v1253 : Index := Scalar.indexCast c1_i32_585
  let c0_i32_108 : BitVec 32 := 0#32
  let c1_i32_110 : BitVec 32 := 1#32
  let arg12 : BitVec 32 := Scf.iv c0_i32_108 c1_i32_110 k0_t4
  let c16_i32 : BitVec 32 := 16#32
  let v124 : BitVec 32 := Scalar.muli arg12 c16_i32
  let c15_i32_584 : BitVec 32 := 15#32
  let v1252 : BitVec 32 := Scalar.addi v124 c15_i32_584
  let v1254 : Index := Scalar.indexCast v1252
  let c32_586 : Index := 32#32
  ![1, v1254.toNat, 32]
def k0_off581 (k0_t4 : Fin k0_t4_loop.trips) : Fin 3 → Nat :=
  let c1_i32_588 : BitVec 32 := 1#32
  let v1259 : Index := Scalar.indexCast c1_i32_588
  let c0_i32_108 : BitVec 32 := 0#32
  let c1_i32_110 : BitVec 32 := 1#32
  let arg12 : BitVec 32 := Scf.iv c0_i32_108 c1_i32_110 k0_t4
  let c16_i32 : BitVec 32 := 16#32
  let v124 : BitVec 32 := Scalar.muli arg12 c16_i32
  let c15_i32_587 : BitVec 32 := 15#32
  let v1258 : BitVec 32 := Scalar.addi v124 c15_i32_587
  let v1260 : Index := Scalar.indexCast v1258
  let c96_589 : Index := 96#32
  ![1, v1260.toNat, 96]
def k0_off582 (k0_t4 : Fin k0_t4_loop.trips) : Fin 3 → Nat :=
  let c1_i32_592 : BitVec 32 := 1#32
  let v1270 : Index := Scalar.indexCast c1_i32_592
  let c0_i32_108 : BitVec 32 := 0#32
  let c1_i32_110 : BitVec 32 := 1#32
  let arg12 : BitVec 32 := Scf.iv c0_i32_108 c1_i32_110 k0_t4
  let c16_i32 : BitVec 32 := 16#32
  let v124 : BitVec 32 := Scalar.muli arg12 c16_i32
  let c15_i32_591 : BitVec 32 := 15#32
  let v1269 : BitVec 32 := Scalar.addi v124 c15_i32_591
  let v1271 : Index := Scalar.indexCast v1269
  let c48_593 : Index := 48#32
  ![1, v1271.toNat, 48]
def k0_off583 (k0_t4 : Fin k0_t4_loop.trips) : Fin 3 → Nat :=
  let c1_i32_595 : BitVec 32 := 1#32
  let v1276 : Index := Scalar.indexCast c1_i32_595
  let c0_i32_108 : BitVec 32 := 0#32
  let c1_i32_110 : BitVec 32 := 1#32
  let arg12 : BitVec 32 := Scf.iv c0_i32_108 c1_i32_110 k0_t4
  let c16_i32 : BitVec 32 := 16#32
  let v124 : BitVec 32 := Scalar.muli arg12 c16_i32
  let c15_i32_594 : BitVec 32 := 15#32
  let v1275 : BitVec 32 := Scalar.addi v124 c15_i32_594
  let v1277 : Index := Scalar.indexCast v1275
  let c112_596 : Index := 112#32
  ![1, v1277.toNat, 112]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16384 : Shape := ⟨1, ![16384]⟩
abbrev S1000000x64 : Shape := ⟨2, ![1000000, 64]⟩
abbrev S_ : Shape := ⟨0, ![]⟩
abbrev S16384x1 : Shape := ⟨2, ![16384, 1]⟩
abbrev S1 : Shape := ⟨1, ![1]⟩
abbrev S1x1 : Shape := ⟨2, ![1, 1]⟩
abbrev S16384x64 : Shape := ⟨2, ![16384, 64]⟩
abbrev S16384x128 : Shape := ⟨2, ![16384, 128]⟩

abbrev nBuf : Space → Nat
  | .hbm => 28
  | .vmem => 0
  | .smem => 0
  | _ => 0

abbrev bufTy : (tb : Table) → Fin (tcTables nBuf tb) → BufTy
  | .hbm, ⟨0, _⟩ => ⟨S16384, .i32⟩
  | .hbm, ⟨1, _⟩ => ⟨S1000000x64, .f32⟩
  | .hbm, ⟨2, _⟩ => ⟨S_, .i32⟩
  | .hbm, ⟨3, _⟩ => ⟨S16384, .i32⟩
  | .hbm, ⟨4, _⟩ => ⟨S16384, .i1⟩
  | .hbm, ⟨5, _⟩ => ⟨S_, .i32⟩
  | .hbm, ⟨6, _⟩ => ⟨S16384, .i32⟩
  | .hbm, ⟨7, _⟩ => ⟨S16384, .i32⟩
  | .hbm, ⟨8, _⟩ => ⟨S16384, .i32⟩
  | .hbm, ⟨9, _⟩ => ⟨S16384x1, .i32⟩
  | .hbm, ⟨10, _⟩ => ⟨S1, .i32⟩
  | .hbm, ⟨11, _⟩ => ⟨S_, .i32⟩
  | .hbm, ⟨12, _⟩ => ⟨S16384x1, .i32⟩
  | .hbm, ⟨13, _⟩ => ⟨S16384x1, .i1⟩
  | .hbm, ⟨14, _⟩ => ⟨S1x1, .i32⟩
  | .hbm, ⟨15, _⟩ => ⟨S16384x1, .i32⟩
  | .hbm, ⟨16, _⟩ => ⟨S16384x1, .i1⟩
  | .hbm, ⟨17, _⟩ => ⟨S16384x1, .i1⟩
  | .hbm, ⟨18, _⟩ => ⟨S_, .i1⟩
  | .hbm, ⟨19, _⟩ => ⟨S16384, .i1⟩
  | .hbm, ⟨20, _⟩ => ⟨S16384x64, .f32⟩
  | .hbm, ⟨21, _⟩ => ⟨S16384x64, .i1⟩
  | .hbm, ⟨22, _⟩ => ⟨S_, .f32⟩
  | .hbm, ⟨23, _⟩ => ⟨S16384x64, .f32⟩
  | .hbm, ⟨24, _⟩ => ⟨S16384x64, .f32⟩
  | .hbm, ⟨25, _⟩ => ⟨S_, .f32⟩
  | .hbm, ⟨26, _⟩ => ⟨S16384x64, .f32⟩
  | .hbm, ⟨27, _⟩ => ⟨S16384x128, .f32⟩
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩
abbrev main_cst : Ref sig .tc := ⟨.hbm, 25, rfl⟩
abbrev main_v1 : Ref sig .tc := ⟨.hbm, 26, rfl⟩
abbrev main_v2 : Ref sig .tc := ⟨.hbm, 27, rfl⟩

abbrev nD : Nat := 1
abbrev τ : Topo := Topo.v7x

variable {F : FTy → Type} [FloatOps F]
-- ==== Proof.Rows.lean ====
/-
  ONE TRIP OF A COPY LOOP, AS A SHORT PROGRAM. Each of the kernel's four loops moves the wanted half of 128 gathered
  rows, sixteen rows a trip, from the row scratch into one slot of the staging scratch. The printed trip is one long
  text; here it is a chain of sixteen calls of one row's program (`rowProg`), each four calls of one sixteen-lane
  piece's (`piece`). The equations `t1_eq` … `t4_eq` say that the printed trips are these chains.
-/
module

public import proofs.«01_k».proof.Defs
public import proofs.«01_k».proof.Proof.Gen.KernelIdeal.Skeleton

@[expose] public section

noncomputable section

namespace Cert.Proof.Lookup

open Cert.KernelIdeal Cert.KernelIdeal.Gen
open Idealize.ShloMosaic Idealize.SL.Sem

variable {F : FTy → Type} [FloatOps F]

/-- Trip `t`'s first row within its chunk, as the kernel computes it. -/
abbrev trow (t : ℕ) : BitVec 32 := Scalar.muli (Scf.iv 0#32 1#32 t) 16#32

/-- Where trip `t` reads its sixteen half offsets. -/
abbrev off7 (jb : BitVec 32) (t : ℕ) : Fin 1 → ℕ := ![(Scalar.indexCast (Scalar.addi jb (trow t)) : Index).toNat]
/-- Where row `r` of trip `t` is read in the row scratch: its row, and lane `v + c`. -/
abbrev off8 (jb : BitVec 32) (t r : ℕ) (v c : BitVec 32) : Fin 2 → ℕ :=
  ![(Scalar.indexCast (Scalar.addi (Scalar.addi jb (trow t)) (BitVec.ofNat 32 r)) : Index).toNat, (Scalar.indexCast (Scalar.addi v c) : Index).toNat]
/-- Where row `r` of trip `t` is written in slot `s` of the staging scratch, at lane `c`. -/
abbrev off9 (s t r c : ℕ) : Fin 3 → ℕ := ![s, (Scalar.indexCast (Scalar.addi (trow t) (BitVec.ofNat 32 r)) : Index).toNat, c]

/-- A row's check: its four pieces lie within the row scratch. -/
abbrev rowChk (jb : BitVec 32) (t r : ℕ) (v : BitVec 32) : Prop :=
  ∀ q : Fin 4, ∀ a, off8 jb t r v (BitVec.ofNat 32 (16 * q.val)) a + S1x16.size a ≤ S512x128.size a

theorem off7_inb : ∀ (j : Fin 4) (t : Fin 8), ∀ a, off7 (BitVec.ofNat 32 (128 * j.val)) t.val a + S16.size a ≤ S512.size a := by decide +kernel
theorem off9_inb : ∀ (s : Fin 2) (t : Fin 8) (r : Fin 16) (c : Fin 8), ∀ a, off9 s.val t.val r.val (16 * c.val) a + S1x1x16.size a ≤ S2x128x128.size a := by
  decide +kernel

section Progs

variable (i : grid0.Coords)

/-- Sixteen lanes read at `o8` and written at `oL`, and zeros written at `oR` (each store after a load whose value is dropped). -/
def piece (a8 : Memref sig .scVector .vmem S512x128 .f32) (a9 : Memref sig .scVector .vmem S2x128x128 .f32)
    (o8 : Fin 2 → ℕ) (h8 : ∀ a, o8 a + S1x16.size a ≤ S512x128.size a)
    (oL : Fin 3 → ℕ) (hL : ∀ a, oL a + S1x1x16.size a ≤ S2x128x128.size a)
    (oR : Fin 3 → ℕ) (hR : ∀ a, oR a + S1x1x16.size a ≤ S2x128x128.size a) (z : FVec F S16 .f32) :
    Prog (TpuEff nD τ sig (Elt F) Λ₀ (.scVector ((i 0).castLE hcore0) ((i 1).castLE hsub0))) Unit := do
  let x : Vec F S1x16 .f32 ← Prog.lift (.load a8 (Rect.unit (s := S512x128) o8 S1x16.size h8).toLoadRect (View.loadsAt_vmem h_S1x16))
  let _ : Vec F S1x1x16 .f32 ← Prog.lift (.load a9 (Rect.unit (s := S2x128x128) oL S1x1x16.size hL).toLoadRect (View.loadsAt_vmem h_S1x1x16))
  Prog.lift (.store a9 (Rect.unit (s := S2x128x128) oL S1x1x16.size hL)
    (shapeCast S1x1x16 (shapeCast S16 x shapeCasts_S1x16_S16) shapeCasts_S16_S1x1x16) Finset.univ (View.stores_vmem_bits_univ h_S1x1x16 rfl) (.inl rfl))
  let _ : Vec F S1x1x16 .f32 ← Prog.lift (.load a9 (Rect.unit (s := S2x128x128) oR S1x1x16.size hR).toLoadRect (View.loadsAt_vmem h_S1x1x16))
  Prog.lift (.store a9 (Rect.unit (s := S2x128x128) oR S1x1x16.size hR)
    (shapeCast S1x1x16 z shapeCasts_S16_S1x1x16) Finset.univ (View.stores_vmem_bits_univ h_S1x1x16 rfl) (.inl rfl))

/-- Row `r` of trip `t`: the check, and its four pieces. -/
def rowProg (a8 : Memref sig .scVector .vmem S512x128 .f32) (a9 : Memref sig .scVector .vmem S2x128x128 .f32)
    (jb : BitVec 32) (s : Fin 2) (t : Fin 8) (r : Fin 16) (w : Vec F S16 .i32) (hsl : S16.Slices ![r.val] S1)
    (dec : ∀ v, Decidable (rowChk jb t.val r.val v)) (z : FVec F S16 .f32) :
    Prog (TpuEff nD τ sig (Elt F) Λ₀ (.scVector ((i 0).castLE hcore0) ((i 1).castLE hsub0))) Unit := do
  let v : BitVec 32 := extractAt ![0] (extractStridedSlice S1 ![r.val] (shapeCast S16 w shapeCasts_S16_S16) hsl) inpos_S1_p0
  let h ← Prog.lift (TpuEff.assume (rowChk jb t.val r.val v) (dec v))
  piece i a8 a9 _ (h.down 0) _ (off9_inb s t r 0) _ (off9_inb s t r 4) z
  piece i a8 a9 _ (h.down 1) _ (off9_inb s t r 1) _ (off9_inb s t r 5) z
  piece i a8 a9 _ (h.down 2) _ (off9_inb s t r 2) _ (off9_inb s t r 6) z
  piece i a8 a9 _ (h.down 3) _ (off9_inb s t r 3) _ (off9_inb s t r 7) z

/-- The sixteen rows of one trip, of the sixteen half offsets `w`. -/
def rowsProg (a8 : Memref sig .scVector .vmem S512x128 .f32) (a9 : Memref sig .scVector .vmem S2x128x128 .f32)
    (jb : BitVec 32) (s : Fin 2) (t : Fin 8) (w : Vec F S16 .i32)
    (dec : ∀ (r : Fin 16) v, Decidable (rowChk jb t.val r.val v)) (z : FVec F S16 .f32) :
    Prog (TpuEff nD τ sig (Elt F) Λ₀ (.scVector ((i 0).castLE hcore0) ((i 1).castLE hsub0))) Unit := do
  rowProg i a8 a9 jb s t 0 w slices_S16_o0_S1 (dec 0) z
  rowProg i a8 a9 jb s t 1 w slices_S16_o1_S1 (dec 1) z
  rowProg i a8 a9 jb s t 2 w slices_S16_o2_S1 (dec 2) z
  rowProg i a8 a9 jb s t 3 w slices_S16_o3_S1 (dec 3) z
  rowProg i a8 a9 jb s t 4 w slices_S16_o4_S1 (dec 4) z
  rowProg i a8 a9 jb s t 5 w slices_S16_o5_S1 (dec 5) z
  rowProg i a8 a9 jb s t 6 w slices_S16_o6_S1 (dec 6) z
  rowProg i a8 a9 jb s t 7 w slices_S16_o7_S1 (dec 7) z
  rowProg i a8 a9 jb s t 8 w slices_S16_o8_S1 (dec 8) z
  rowProg i a8 a9 jb s t 9 w slices_S16_o9_S1 (dec 9) z
  rowProg i a8 a9 jb s t 10 w slices_S16_o10_S1 (dec 10) z
  rowProg i a8 a9 jb s t 11 w slices_S16_o11_S1 (dec 11) z
  rowProg i a8 a9 jb s t 12 w slices_S16_o12_S1 (dec 12) z
  rowProg i a8 a9 jb s t 13 w slices_S16_o13_S1 (dec 13) z
  rowProg i a8 a9 jb s t 14 w slices_S16_o14_S1 (dec 14) z
  rowProg i a8 a9 jb s t 15 w slices_S16_o15_S1 (dec 15) z

/-- A trip: the sixteen half offsets read, and the sixteen rows. -/
def trip (a7 : Memref sig .scVector .vmem S512 .i32) (a8 : Memref sig .scVector .vmem S512x128 .f32) (a9 : Memref sig .scVector .vmem S2x128x128 .f32)
    (jb : BitVec 32) (h7 : ∀ t : Fin 8, ∀ a, off7 jb t.val a + S16.size a ≤ S512.size a) (s : Fin 2) (t : Fin 8)
    (dec : ∀ (r : Fin 16) v, Decidable (rowChk jb t.val r.val v)) (z : FVec F S16 .f32) :
    Prog (TpuEff nD τ sig (Elt F) Λ₀ (.scVector ((i 0).castLE hcore0) ((i 1).castLE hsub0))) Unit := do
  let w : Vec F S16 .i32 ← Prog.lift (.load a7 (Rect.unit (s := S512) (off7 jb t.val) S16.size (h7 t)).toLoadRect (View.loadsAt_vmem h_S16))
  rowsProg i a8 a9 jb s t w dec z

end Progs

/-- The first loop's checks, as the printed trip decides them. -/
def dec1 (t : Fin 8) : ∀ (r : Fin 16) v, Decidable (rowChk 0#32 t.val r.val v)
  | ⟨0, _⟩, v => k0_chk1.dec t v
  | ⟨1, _⟩, v => k0_chk2.dec t v
  | ⟨2, _⟩, v => k0_chk3.dec t v
  | ⟨3, _⟩, v => k0_chk4.dec t v
  | ⟨4, _⟩, v => k0_chk5.dec t v
  | ⟨5, _⟩, v => k0_chk6.dec t v
  | ⟨6, _⟩, v => k0_chk7.dec t v
  | ⟨7, _⟩, v => k0_chk8.dec t v
  | ⟨8, _⟩, v => k0_chk9.dec t v
  | ⟨9, _⟩, v => k0_chk10.dec t v
  | ⟨10, _⟩, v => k0_chk11.dec t v
  | ⟨11, _⟩, v => k0_chk12.dec t v
  | ⟨12, _⟩, v => k0_chk13.dec t v
  | ⟨13, _⟩, v => k0_chk14.dec t v
  | ⟨14, _⟩, v => k0_chk15.dec t v
  | ⟨15, _⟩, v => k0_chk16.dec t v
  | ⟨_ + 16, h⟩, _ => absurd h (Nat.not_lt.2 (Nat.le_add_left _ _))

/-- The second loop's checks, as the printed trip decides them. -/
def dec2 (t : Fin 8) : ∀ (r : Fin 16) v, Decidable (rowChk 128#32 t.val r.val v)
  | ⟨0, _⟩, v => k0_chk17.dec t v
  | ⟨1, _⟩, v => k0_chk18.dec t v
  | ⟨2, _⟩, v => k0_chk19.dec t v
  | ⟨3, _⟩, v => k0_chk20.dec t v
  | ⟨4, _⟩, v => k0_chk21.dec t v
  | ⟨5, _⟩, v => k0_chk22.dec t v
  | ⟨6, _⟩, v => k0_chk23.dec t v
  | ⟨7, _⟩, v => k0_chk24.dec t v
  | ⟨8, _⟩, v => k0_chk25.dec t v
  | ⟨9, _⟩, v => k0_chk26.dec t v
  | ⟨10, _⟩, v => k0_chk27.dec t v
  | ⟨11, _⟩, v => k0_chk28.dec t v
  | ⟨12, _⟩, v => k0_chk29.dec t v
  | ⟨13, _⟩, v => k0_chk30.dec t v
  | ⟨14, _⟩, v => k0_chk31.dec t v
  | ⟨15, _⟩, v => k0_chk32.dec t v
  | ⟨_ + 16, h⟩, _ => absurd h (Nat.not_lt.2 (Nat.le_add_left _ _))

/-- The third loop's checks, as the printed trip decides them. -/
def dec3 (t : Fin 8) : ∀ (r : Fin 16) v, Decidable (rowChk 256#32 t.val r.val v)
  | ⟨0, _⟩, v => k0_chk33.dec t v
  | ⟨1, _⟩, v => k0_chk34.dec t v
  | ⟨2, _⟩, v => k0_chk35.dec t v
  | ⟨3, _⟩, v => k0_chk36.dec t v
  | ⟨4, _⟩, v => k0_chk37.dec t v
  | ⟨5, _⟩, v => k0_chk38.dec t v
  | ⟨6, _⟩, v => k0_chk39.dec t v
  | ⟨7, _⟩, v => k0_chk40.dec t v
  | ⟨8, _⟩, v => k0_chk41.dec t v
  | ⟨9, _⟩, v => k0_chk42.dec t v
  | ⟨10, _⟩, v => k0_chk43.dec t v
  | ⟨11, _⟩, v => k0_chk44.dec t v
  | ⟨12, _⟩, v => k0_chk45.dec t v
  | ⟨13, _⟩, v => k0_chk46.dec t v
  | ⟨14, _⟩, v => k0_chk47.dec t v
  | ⟨15, _⟩, v => k0_chk48.dec t v
  | ⟨_ + 16, h⟩, _ => absurd h (Nat.not_lt.2 (Nat.le_add_left _ _))

/-- The fourth loop's checks, as the printed trip decides them. -/
def dec4 (t : Fin 8) : ∀ (r : Fin 16) v, Decidable (rowChk 384#32 t.val r.val v)
  | ⟨0, _⟩, v => k0_chk49.dec t v
  | ⟨1, _⟩, v => k0_chk50.dec t v
  | ⟨2, _⟩, v => k0_chk51.dec t v
  | ⟨3, _⟩, v => k0_chk52.dec t v
  | ⟨4, _⟩, v => k0_chk53.dec t v
  | ⟨5, _⟩, v => k0_chk54.dec t v
  | ⟨6, _⟩, v => k0_chk55.dec t v
  | ⟨7, _⟩, v => k0_chk56.dec t v
  | ⟨8, _⟩, v => k0_chk57.dec t v
  | ⟨9, _⟩, v => k0_chk58.dec t v
  | ⟨10, _⟩, v => k0_chk59.dec t v
  | ⟨11, _⟩, v => k0_chk60.dec t v
  | ⟨12, _⟩, v => k0_chk61.dec t v
  | ⟨13, _⟩, v => k0_chk62.dec t v
  | ⟨14, _⟩, v => k0_chk63.dec t v
  | ⟨15, _⟩, v => k0_chk64.dec t v
  | ⟨_ + 16, h⟩, _ => absurd h (Nat.not_lt.2 (Nat.le_add_left _ _))

set_option maxRecDepth 65536 in
set_option maxHeartbeats 40000000 in
/-- The first loop's printed trip is the chain of its rows. -/
theorem t1_eq (i : grid0.Coords) (arg2 : Memref sig .scVector .hbm S32x4x128 .i32) (harg2 : arg2.IsWhole) (arg3 : Memref sig .scVector .hbm S32x512 .i32) (harg3 : arg3.IsWhole) (arg4 : Memref sig .scVector .hbm S500000x128 .f32) (harg4 : arg4.IsWhole) (arg5 : Memref sig .scVector .hbm S16384x128 .f32) (harg5 : arg5.IsWhole) (arg6 : Memref sig .scVector .vmem S4x128 .i32) (harg6 : arg6.IsWhole) (arg7 : Memref sig .scVector .vmem S512 .i32) (harg7 : arg7.IsWhole) (arg8 : Memref sig .scVector .vmem S512x128 .f32) (harg8 : arg8.IsWhole) (arg9 : Memref sig .scVector .vmem S2x128x128 .f32) (harg9 : arg9.IsWhole) (arg10 : DmaSems sig S4) (arg11 : DmaSems sig S2) (v124_r0 : DmaSems sig S_) (v124_r1 : DmaSems sig S_) (v2 : BitVec 32) :
    k0_t1_body (F := F) i arg2 harg2 arg3 harg3 arg4 harg4 arg5 harg5 arg6 harg6 arg7 harg7 arg8 harg8 arg9 harg9 arg10 arg11 v124_r0 v124_r1 v2
      = fun t _ => trip i arg7 arg8 arg9 0#32 (off7_inb 0) 0 t (dec1 t) k0_pay613 := rfl

set_option maxRecDepth 65536 in
set_option maxHeartbeats 40000000 in
/-- The second loop's printed trip is the chain of its rows. -/
theorem t2_eq (i : grid0.Coords) (arg2 : Memref sig .scVector .hbm S32x4x128 .i32) (harg2 : arg2.IsWhole) (arg3 : Memref sig .scVector .hbm S32x512 .i32) (harg3 : arg3.IsWhole) (arg4 : Memref sig .scVector .hbm S500000x128 .f32) (harg4 : arg4.IsWhole) (arg5 : Memref sig .scVector .hbm S16384x128 .f32) (harg5 : arg5.IsWhole) (arg6 : Memref sig .scVector .vmem S4x128 .i32) (harg6 : arg6.IsWhole) (arg7 : Memref sig .scVector .vmem S512 .i32) (harg7 : arg7.IsWhole) (arg8 : Memref sig .scVector .vmem S512x128 .f32) (harg8 : arg8.IsWhole) (arg9 : Memref sig .scVector .vmem S2x128x128 .f32) (harg9 : arg9.IsWhole) (arg10 : DmaSems sig S4) (arg11 : DmaSems sig S2) (v124_r0 : DmaSems sig S_) (v124_r1 : DmaSems sig S_) (v2 : BitVec 32) (v27 : FVec F S16 .f32) :
    k0_t2_body (F := F) i arg2 harg2 arg3 harg3 arg4 harg4 arg5 harg5 arg6 harg6 arg7 harg7 arg8 harg8 arg9 harg9 arg10 arg11 v124_r0 v124_r1 v2 v27
      = fun t _ => trip i arg7 arg8 arg9 128#32 (off7_inb 1) 1 t (dec2 t) v27 := rfl

set_option maxRecDepth 65536 in
set_option maxHeartbeats 40000000 in
/-- The third loop's printed trip is the chain of its rows. -/
theorem t3_eq (i : grid0.Coords) (arg2 : Memref sig .scVector .hbm S32x4x128 .i32) (harg2 : arg2.IsWhole) (arg3 : Memref sig .scVector .hbm S32x512 .i32) (harg3 : arg3.IsWhole) (arg4 : Memref sig .scVector .hbm S500000x128 .f32) (harg4 : arg4.IsWhole) (arg5 : Memref sig .scVector .hbm S16384x128 .f32) (harg5 : arg5.IsWhole) (arg6 : Memref sig .scVector .vmem S4x128 .i32) (harg6 : arg6.IsWhole) (arg7 : Memref sig .scVector .vmem S512 .i32) (harg7 : arg7.IsWhole) (arg8 : Memref sig .scVector .vmem S512x128 .f32) (harg8 : arg8.IsWhole) (arg9 : Memref sig .scVector .vmem S2x128x128 .f32) (harg9 : arg9.IsWhole) (arg10 : DmaSems sig S4) (arg11 : DmaSems sig S2) (v124_r0 : DmaSems sig S_) (v124_r1 : DmaSems sig S_) (v2 : BitVec 32) (v27 : FVec F S16 .f32) :
    k0_t3_body (F := F) i arg2 harg2 arg3 harg3 arg4 harg4 arg5 harg5 arg6 harg6 arg7 harg7 arg8 harg8 arg9 harg9 arg10 arg11 v124_r0 v124_r1 v2 v27
      = fun t _ => trip i arg7 arg8 arg9 256#32 (off7_inb 2) 0 t (dec3 t) v27 := rfl

set_option maxRecDepth 65536 in
set_option maxHeartbeats 40000000 in
/-- The fourth loop's printed trip is the chain of its rows. -/
theorem t4_eq (i : grid0.Coords) (arg2 : Memref sig .scVector .hbm S32x4x128 .i32) (harg2 : arg2.IsWhole) (arg3 : Memref sig .scVector .hbm S32x512 .i32) (harg3 : arg3.IsWhole) (arg4 : Memref sig .scVector .hbm S500000x128 .f32) (harg4 : arg4.IsWhole) (arg5 : Memref sig .scVector .hbm S16384x128 .f32) (harg5 : arg5.IsWhole) (arg6 : Memref sig .scVector .vmem S4x128 .i32) (harg6 : arg6.IsWhole) (arg7 : Memref sig .scVector .vmem S512 .i32) (harg7 : arg7.IsWhole) (arg8 : Memref sig .scVector .vmem S512x128 .f32) (harg8 : arg8.IsWhole) (arg9 : Memref sig .scVector .vmem S2x128x128 .f32) (harg9 : arg9.IsWhole) (arg10 : DmaSems sig S4) (arg11 : DmaSems sig S2) (v124_r0 : DmaSems sig S_) (v124_r1 : DmaSems sig S_) (v2 : BitVec 32) (v27 : FVec F S16 .f32) :
    k0_t4_body (F := F) i arg2 harg2 arg3 harg3 arg4 harg4 arg5 harg5 arg6 harg6 arg7 harg7 arg8 harg8 arg9 harg9 arg10 arg11 v124_r0 v124_r1 v2 v27
      = fun t _ => trip i arg7 arg8 arg9 384#32 (off7_inb 3) 1 t (dec4 t) v27 := rfl

end Cert.Proof.Lookup
-- ==== Proof.Setup.lean ====
/-
  What every module of this certificate's proof speaks of: the launch's configuration, the resource algebra, the
  kernel's buffers under short names, and the two sequencing rules the loops are proved by.
-/
module

public import proofs.«01_k».proof.Proof.Rows
public import Idealize.ShloMosaic.Lib.SparseCore.Quiescent
public import Idealize.ShloMosaic.Lib.SparseCore.Stream
public import Idealize.ShloMosaic.Lib.SparseCore.Ops
public import Idealize.ShloMosaic.Lib.StableHlo.Run
public import Idealize.ShloMosaic.Lib.Pipeline.Kit
public import Idealize.ShloMosaic.Lib.Tactic
public import Idealize.ShloMosaic.Lib.Pipeline.Value
public import Idealize.ShloMosaic.Lib.ValueIdx

@[expose] public section

noncomputable section

namespace Cert.Proof.Lookup

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nSC_eq : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The subcore at grid coordinates `L`, and its buffers -/

abbrev cV (L : grid0.Coords) : Fin τ.nSC := (L 0).castLE hcore0
abbrev jV (L : grid0.Coords) : Fin τ.nSub := (L 1).castLE hsub0
/-- The vector subcore at grid coordinates `L` of device `d`. -/
abbrev tile (d : Dev nD) (L : grid0.Coords) : Thread nD τ := V d (cV L) (jV L)

/-- The row numbers, the half offsets, the table as 128-lane rows, and the result, as a subcore names them. -/
abbrev pV : Memref sig .scVector .hbm S32x4x128 .i32 := Memref.whole main_v2_scv
abbrev hV : Memref sig .scVector .hbm S32x512 .i32 := Memref.whole main_v7_scv
abbrev tV : Memref sig .scVector .hbm S500000x128 .f32 := Memref.whole main_v8_scv
abbrev uV : Memref sig .scVector .hbm S16384x128 .f32 := Memref.whole main_v9_scv
/-- The subcore's scratch: its row numbers, its half offsets, the gathered rows, the staging slots. -/
abbrev sP : Memref sig .scVector .vmem S4x128 .i32 := Memref.whole cc0_scratch0
abbrev sH : Memref sig .scVector .vmem S512 .i32 := Memref.whole cc0_scratch1
abbrev sR : Memref sig .scVector .vmem S512x128 .f32 := Memref.whole cc0_scratch2
abbrev sB : Memref sig .scVector .vmem S2x128x128 .f32 := Memref.whole cc0_scratch3

abbrev spLoc (d : Dev nD) (L : grid0.Coords) : Loc nD τ sig := (tile d L).loc cc0_scratch0
abbrev shLoc (d : Dev nD) (L : grid0.Coords) : Loc nD τ sig := (tile d L).loc cc0_scratch1
abbrev srLoc (d : Dev nD) (L : grid0.Coords) : Loc nD τ sig := (tile d L).loc cc0_scratch2
abbrev sbLoc (d : Dev nD) (L : grid0.Coords) : Loc nD τ sig := (tile d L).loc cc0_scratch3

variable [FloatOps F]

/-- One program after another: what the first leaves is what the second starts from. -/
theorem wp_then {thr : Thread nD τ} {α : Type} {A B : sProp 𝕄} {Q : α → sProp 𝕄}
    {p : Prog (TpuEff nD τ sig (Elt F) Λ₀ thr.2) Unit} {k : Unit → Prog (TpuEff nD τ sig (Elt F) Λ₀ thr.2) α}
    (h : A ⊢ wp frame (wpE (defs₀ (F := F)) 𝒱₀ thr none) Set.univ p fun _ => B)
    (h' : B ⊢ wp frame (wpE (defs₀ (F := F)) 𝒱₀ thr none) Set.univ (k ()) Q) :
    A ⊢ wp frame (wpE (defs₀ (F := F)) 𝒱₀ thr none) Set.univ (p >>= k) Q := by
  rw [wp_bind]
  exact h.trans (wp_mono _ _ _ fun _ => h')

end Cert.Proof.Lookup
-- ==== Proof.Loops.lean ====
/-
  THE COPY LOOPS. A trip moves the wanted halves of sixteen gathered rows into a slot of the staging scratch. The state
  carried along is how far the slot holds what it should (`Done`): piece by piece within a row, row by row within a
  trip, trip by trip within a loop.
-/
module

public import proofs.«01_k».proof.Proof.Setup

@[expose] public section

noncomputable section

namespace Cert.Proof.Lookup

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.ValueIdx

variable {F : FTy → Type} [FloatOps F]

local notation "𝕄" => MT nD τ sig (HIx 1) (Elt F) ℕ UU ℕ

/-- Slot `s` holds `g` on its rows below `n`, and on row `n` on the lanes that are below `c` within their half. -/
def Done (g : Fin 128 → Fin 128 → Elt F .f32) (s : Fin 2) (n c : ℕ) (f : S2x128x128.Idx → Elt F .f32) : Prop :=
  ∀ r l : Fin 128, (r.val < n ∨ (r.val = n ∧ l.val % 64 < c)) → f (ix3 s r l) = g r l

theorem Done.next {g : Fin 128 → Fin 128 → Elt F .f32} {s : Fin 2} {n : ℕ} {f : S2x128x128.Idx → Elt F .f32} (h : Done g s n 64 f) : Done g s (n + 1) 0 f :=
  fun r l hr => h r l (by omega)

omit [FloatOps F] in
/-- Sixteen lanes read as a row, cast to a vector and to a slot's piece, at a lane. -/
theorem pay_apply (x : Vec F S1x16 .f32) (y : S1x1x16.Idx) :
    shapeCast S1x1x16 (shapeCast S16 x shapeCasts_S1x16_S16) shapeCasts_S16_S1x1x16 y = x (ix2 0 (y 2)) := by
  have h0 : (y 0).val < 1 := (y 0).isLt
  have h1 : (y 1).val < 1 := (y 1).isLt
  rw [shapeCast_apply _ _ y (ix1 (y 2) : S16.Idx), shapeCast_apply _ _ (ix1 (y 2) : S16.Idx) (ix2 0 (y 2) : S1x16.Idx)]
  · simp [Shape.rowMajor_val_one, Shape.rowMajor_val_two]
  · rw [Shape.rowMajor_val_one, Shape.rowMajor_val_three]
    simp; omega

omit [FloatOps F] in
/-- A vector cast to a slot's piece, at a lane. -/
theorem zpay_apply (z : FVec F S16 .f32) (y : S1x1x16.Idx) : shapeCast S1x1x16 z shapeCasts_S16_S1x1x16 y = z (ix1 (y 2)) := by
  have h0 : (y 0).val < 1 := (y 0).isLt
  have h1 : (y 1).val < 1 := (y 1).isLt
  rw [shapeCast_apply _ _ y (ix1 (y 2) : S16.Idx)]
  rw [Shape.rowMajor_val_one, Shape.rowMajor_val_three]
  simp; omega

/-- The staging scratch after a store of sixteen lanes at slot `s`, row `n`, lane `c`, at an index. -/
theorem write_apply (f : S2x128x128.Idx → Elt F .f32) {o : Fin 3 → ℕ} (h : ∀ a, o a + S1x1x16.size a ≤ S2x128x128.size a)
    (w : S1x1x16.Idx → Elt F .f32) (s n c : ℕ) (ho : o = ![s, n, c]) (s' : Fin 2) (r l : Fin 128) :
    ((sB).access (Rect.unit (s := S2x128x128) o S1x1x16.size h)).write (Elt F) f w Finset.univ (ix3 s' r l)
      = if hl : s'.val = s ∧ r.val = n ∧ c ≤ l.val ∧ l.val < c + 16 then w (ix3 0 0 ⟨l.val - c, by omega⟩) else f (ix3 s' r l) := by
  subst ho
  have e := congrFun (View.write_whole_slice_unit (Val := Elt F) cc0_scratch3 ![s, n, c] S1x1x16.size h f w) (ix3 s' r l)
  refine e.trans ?_
  unfold updateSlice
  split_ifs with h1 h2 h2
  · refine congrArg w (funext fun a => Fin.ext ?_)
    match a with
    | ⟨0, _⟩ => show s'.val - s = 0; omega
    | ⟨1, _⟩ => show r.val - n = 0; omega
    | ⟨2, _⟩ => rfl
  · exfalso; apply h2
    have a0 : s ≤ s'.val ∧ s'.val < s + 1 := h1 0
    have a1 : n ≤ r.val ∧ r.val < n + 1 := h1 1
    have a2 : c ≤ l.val ∧ l.val < c + 16 := h1 2
    omega
  · exfalso; apply h1
    intro a
    match a with
    | ⟨0, _⟩ => show s ≤ s'.val ∧ s'.val < s + 1; omega
    | ⟨1, _⟩ => show n ≤ r.val ∧ r.val < n + 1; omega
    | ⟨2, _⟩ => show c ≤ l.val ∧ l.val < c + 16; omega
  · rfl

/-- The two stores of one piece carry `Done` sixteen lanes on. -/
theorem Done.piece {g : Fin 128 → Fin 128 → Elt F .f32} {s : Fin 2} {n c : ℕ} (hc : c % 16 = 0) (hc' : c < 64) {f : S2x128x128.Idx → Elt F .f32}
    (h : Done g s n c f) {oL oR : Fin 3 → ℕ} (hL : ∀ a, oL a + S1x1x16.size a ≤ S2x128x128.size a) (hR : ∀ a, oR a + S1x1x16.size a ≤ S2x128x128.size a)
    (eL : oL = ![s.val, n, c]) (eR : oR = ![s.val, n, 64 + c]) (w w' : S1x1x16.Idx → Elt F .f32)
    (hw : ∀ (r l : Fin 128) (k : Fin 16), r.val = n → l.val = c + k.val → w (ix3 0 0 k) = g r l)
    (hw' : ∀ (r l : Fin 128) (k : Fin 16), r.val = n → l.val = 64 + c + k.val → w' (ix3 0 0 k) = g r l) :
    Done g s n (c + 16) (((sB).access (Rect.unit (s := S2x128x128) oR S1x1x16.size hR)).write (Elt F)
      (((sB).access (Rect.unit (s := S2x128x128) oL S1x1x16.size hL)).write (Elt F) f w Finset.univ) w' Finset.univ) := by
  intro r l hrl
  rw [write_apply _ hR w' s.val n (64 + c) eR, write_apply _ hL w s.val n c eL]
  have hl := l.isLt
  split_ifs with h1 h2
  · exact hw' r l _ h1.2.1 (by show l.val = 64 + c + (l.val - (64 + c)); omega)
  · exact hw r l _ h2.2.1 (by show l.val = c + (l.val - c); omega)
  · refine h r l ?_
    rcases hrl with hr | ⟨hr, hl2⟩
    · exact .inl hr
    · refine .inr ⟨hr, ?_⟩
      by_contra hcon
      apply h1
      refine ⟨rfl, hr, ?_, ?_⟩ <;>
      · by_contra hcon2
        apply h2
        refine ⟨rfl, hr, ?_, ?_⟩ <;> omega

/-! ## The words a trip computes -/

theorem row7_eq : ∀ (j : Fin 4) (t : Fin 8), (Scalar.indexCast (Scalar.addi (BitVec.ofNat 32 (128 * j.val)) (trow t.val)) : Index).toNat = 128 * j.val + 16 * t.val := by
  decide +kernel
theorem row8_eq : ∀ (j : Fin 4) (t : Fin 8) (r : Fin 16),
    (Scalar.indexCast (Scalar.addi (Scalar.addi (BitVec.ofNat 32 (128 * j.val)) (trow t.val)) (BitVec.ofNat 32 r.val)) : Index).toNat
      = 128 * j.val + 16 * t.val + r.val := by
  decide +kernel
theorem row9_eq : ∀ (t : Fin 8) (r : Fin 16), (Scalar.indexCast (Scalar.addi (trow t.val) (BitVec.ofNat 32 r.val)) : Index).toNat = 16 * t.val + r.val := by
  decide +kernel

/-- A lane word: a half offset of at most 64 and a piece's start. -/
theorem lane_eq {v : BitVec 32} (hv : v.toNat ≤ 64) (q : Fin 4) :
    (Scalar.indexCast (Scalar.addi v (BitVec.ofNat 32 (16 * q.val))) : Index).toNat = v.toNat + 16 * q.val := by
  have hq := q.isLt
  show (v + BitVec.ofNat 32 (16 * q.val)).toNat = _
  rw [BitVec.toNat_add, BitVec.toNat_ofNat]
  omega

/-- Row `r` of chunk `j` as the staging slot is to hold it: the gathered row's 64 lanes from its half offset on, then zeros. -/
def gat (f8 : S512x128.Idx → Elt F .f32) (fo : S512.Idx → BitVec 32) (j : Fin 4) (r l : Fin 128) : Elt F .f32 :=
  if l.val < 64 then
    f8 (ix2 (⟨128 * j.val + r.val, by omega⟩ : Fin 512) (⟨((fo (ix1 ⟨128 * j.val + r.val, by omega⟩)).toNat + l.val) % 128, Nat.mod_lt _ (by omega)⟩ : Fin 128))
  else Scalar.ofBits .f32 0x00000000#32

omit [FloatOps F] in
/-- The word a row's check is of: entry `r` of the sixteen read. -/
theorem word_eq (w : Vec F S16 .i32) (r : Fin 16) (hsl : S16.Slices ![r.val] S1) :
    extractAt ![0] (extractStridedSlice S1 ![r.val] (shapeCast S16 w shapeCasts_S16_S16) hsl) inpos_S1_p0 = w (ix1 r) := by
  rw [shapeCast_self]
  unfold extractAt extractStridedSlice
  refine congrArg w (funext fun a => Fin.ext ?_)
  match a with
  | ⟨0, _⟩ => show r.val + 0 = r.val; omega

section Body

variable (d : Dev nD) (L : grid0.Coords)
variable (S8 : Finset S512x128.Idx) (S9 : Finset S2x128x128.Idx)

/-- What a loop's rows hold: the chunk's gathered rows, and its slot, done so far. -/
abbrev St (f8 : S512x128.Idx → Elt F .f32) (g : Fin 128 → Fin 128 → Elt F .f32) (s : Fin 2) (n c : ℕ) : sProp 𝕄 :=
  iprop((srLoc d L ↦[S8]{fullShare} f8) ∗ ∃ f : S2x128x128.Idx → Elt F .f32, ⌜Done g s n c f⌝ ∗ (sbLoc d L ↦[S9]{fullShare} f))

set_option maxHeartbeats 1000000 in
/-- One piece: sixteen lanes of the row, and sixteen zeros. -/
theorem wp_piece {f8 : S512x128.Idx → Elt F .f32} {g : Fin 128 → Fin 128 → Elt F .f32} {s : Fin 2} {n c : ℕ} (hc : c % 16 = 0) (hc' : c < 64)
    {o8 : Fin 2 → ℕ} (h8 : ∀ a, o8 a + S1x16.size a ≤ S512x128.size a) {oL oR : Fin 3 → ℕ} (hL : ∀ a, oL a + S1x1x16.size a ≤ S2x128x128.size a)
    (hR : ∀ a, oR a + S1x1x16.size a ≤ S2x128x128.size a) (eL : oL = ![s.val, n, c]) (eR : oR = ![s.val, n, 64 + c]) {z : FVec F S16 .f32}
    (hS8 : (Rect.unit (s := S512x128) o8 S1x16.size h8).set ⊆ S8) (hS9 : ∀ x : S2x128x128.Idx, x 0 = s → x ∈ S9)
    (hx : ∀ (r l : Fin 128) (k : Fin 16), r.val = n → l.val = c + k.val → f8 ((Rect.unit (s := S512x128) o8 S1x16.size h8).emb (ix2 0 k)) = g r l)
    (hz : ∀ (r l : Fin 128) (k : Fin 16), r.val = n → l.val = 64 + c + k.val → z (ix1 k) = g r l) :
    (St d L S8 S9 f8 g s n c : sProp 𝕄)
      ⊢ wp frame (wpE (defs₀ (F := F)) 𝒱₀ (tile d L) none) Set.univ (piece L sR sB o8 h8 oL hL oR hR z) fun _ => St d L S8 S9 f8 g s n (c + 16) := by
  have hsub : ∀ {o : Fin 3 → ℕ} (h : ∀ a, o a + S1x1x16.size a ≤ S2x128x128.size a) (m : ℕ), o = ![s.val, n, m] →
      ((sB).access (Rect.unit (s := S2x128x128) o S1x1x16.size h)).set ⊆ S9 := by
    intro o h m ho y hy
    refine hS9 y (Fin.ext ?_)
    have hy' : y ∈ (Rect.unit (s := S2x128x128) o S1x1x16.size h).set := by
      rw [← View.set_slice_whole cc0_scratch3]; exact hy
    have h0 := Rect.mem_set_unit.mp hy' 0
    subst ho
    have a0 : s.val ≤ (y 0).val ∧ (y 0).val < s.val + 1 := h0
    omega
  have hsub8 : ((sR).access (Rect.unit (s := S512x128) o8 S1x16.size h8)).set ⊆ S8 := by
    intro y hy
    refine hS8 ?_
    rw [← View.set_slice_whole cc0_scratch2]; exact hy
  unfold piece St
  iintro ⟨H8, %f, %hf, H9⟩
  iapply (wp_load_rect 𝒱₀ (tile d L) none Set.univ hsub8) $$ H8
  iintro H8
  iapply (wp_load_rect 𝒱₀ (tile d L) none Set.univ (hsub hL _ eL)) $$ H9
  iintro H9
  iapply (wp_store 𝒱₀ (tile d L) none Set.univ (hsub hL _ eL)) $$ H9
  iintro H9
  iapply (wp_load_rect 𝒱₀ (tile d L) none Set.univ (hsub hR _ eR)) $$ H9
  iintro H9
  iapply (wp_store 𝒱₀ (tile d L) none Set.univ (hsub hR _ eR)) $$ H9
  iintro H9
  sl_step
  isplitl [H8]
  · iexact H8
  iexists _
  isplitr
  swap
  · iexact H9
  ipureintro
  refine Done.piece hc hc' hf hL hR eL eR _ _ ?_ ?_
  · intro r l k hr hl
    rw [pay_apply]
    exact hx r l k hr hl
  · intro r l k hr hl
    rw [zpay_apply]
    exact hz r l k hr hl

/-- A row's check holds of a half offset of at most 64. -/
theorem rowChk_of (j : Fin 4) (t : Fin 8) (r : Fin 16) {v : BitVec 32} (hv : v.toNat ≤ 64) : rowChk (BitVec.ofNat 32 (128 * j.val)) t.val r.val v := by
  intro q a
  have hq := q.isLt
  have e0 := row8_eq j t r
  have e1 := lane_eq hv q
  match a with
  | ⟨0, _⟩ =>
    show (Scalar.indexCast (Scalar.addi (Scalar.addi (BitVec.ofNat 32 (128 * j.val)) (trow t.val)) (BitVec.ofNat 32 r.val)) : Index).toNat + 1 ≤ 512
    omega
  | ⟨1, _⟩ =>
    show (Scalar.indexCast (Scalar.addi v (BitVec.ofNat 32 (16 * q.val))) : Index).toNat + 16 ≤ 128
    omega

variable (j : Fin 4) (s : Fin 2) (f8 : S512x128.Idx → Elt F .f32) (fo : S512.Idx → BitVec 32)
  (hS8 : ∀ x : S512x128.Idx, 128 * j.val ≤ (x 0).val → (x 0).val < 128 * j.val + 128 → x ∈ S8)
  (hS9 : ∀ x : S2x128x128.Idx, x 0 = s → x ∈ S9)
  (hfo : ∀ x, (fo x).toNat ≤ 64)
  (z : FVec F S16 .f32) (hz : ∀ k, z k = Scalar.ofBits .f32 0x00000000#32)

include hS8 hS9 hfo hz in
set_option maxHeartbeats 1000000 in
/-- One row: its slot row then holds the wanted half of the gathered row, and zeros. -/
theorem wp_row (t : Fin 8) (r : Fin 16) (w : Vec F S16 .i32) (hsl : S16.Slices ![r.val] S1)
    (hw : ∀ k : Fin 16, w (ix1 k) = fo (ix1 ⟨128 * j.val + 16 * t.val + k.val, by omega⟩))
    (dec : ∀ v, Decidable (rowChk (BitVec.ofNat 32 (128 * j.val)) t.val r.val v)) :
    (St d L S8 S9 f8 (gat f8 fo j) s (16 * t.val + r.val) 0 : sProp 𝕄)
      ⊢ wp frame (wpE (defs₀ (F := F)) 𝒱₀ (tile d L) none) Set.univ (rowProg L sR sB (BitVec.ofNat 32 (128 * j.val)) s t r w hsl dec z)
          fun _ => St d L S8 S9 f8 (gat f8 fo j) s (16 * t.val + (r.val + 1)) 0 := by
  have hnext : ∀ n, (St d L S8 S9 f8 (gat f8 fo j) s n 64 : sProp 𝕄) ⊢ St d L S8 S9 f8 (gat f8 fo j) s (n + 1) 0 := by
    intro n
    unfold St
    iintro ⟨H8, %f, %hf, H9⟩
    isplitl [H8]; · iexact H8
    iexists f
    isplitr
    · ipureintro; exact hf.next
    · iexact H9
  have hpiece : ∀ (v : BitVec 32) (hv : v = fo (ix1 ⟨128 * j.val + 16 * t.val + r.val, by omega⟩)) (hv' : v.toNat ≤ 64) (q : Fin 4)
      (h8 : ∀ a, off8 (BitVec.ofNat 32 (128 * j.val)) t.val r.val v (BitVec.ofNat 32 (16 * q.val)) a + S1x16.size a ≤ S512x128.size a)
      (cL cR : Fin 8) (_ : cL.val = q.val) (_ : cR.val = 4 + q.val),
      (St d L S8 S9 f8 (gat f8 fo j) s (16 * t.val + r.val) (16 * q.val) : sProp 𝕄)
        ⊢ wp frame (wpE (defs₀ (F := F)) 𝒱₀ (tile d L) none) Set.univ
            (piece L sR sB _ h8 _ (off9_inb s t r cL) _ (off9_inb s t r cR) z)
            fun _ => St d L S8 S9 f8 (gat f8 fo j) s (16 * t.val + r.val) (16 * q.val + 16) := by
    intro v hv hv' q h8 cL cR ecL ecR
    have hq := q.isLt
    have e0 := row8_eq j t r
    have e1 := lane_eq hv' q
    have e9 := row9_eq t r
    refine wp_piece d L S8 S9 (by omega) (by omega) h8 _ _ ?_ ?_ ?_ hS9 ?_ ?_
    · unfold off9; rw [e9, ecL]
    · unfold off9; rw [e9, ecR]; congr 1; congr 1; congr 1; omega
    · intro x hx
      have hx0 : (Scalar.indexCast (Scalar.addi (Scalar.addi (BitVec.ofNat 32 (128 * j.val)) (trow t.val)) (BitVec.ofNat 32 r.val)) : Index).toNat ≤ (x 0).val
          ∧ (x 0).val < (Scalar.indexCast (Scalar.addi (Scalar.addi (BitVec.ofNat 32 (128 * j.val)) (trow t.val)) (BitVec.ofNat 32 r.val)) : Index).toNat + 1 :=
        Rect.mem_set_unit.mp hx 0
      rw [e0] at hx0
      exact hS8 x (by omega) (by omega)
    · intro r' l k hr hl
      unfold gat
      rw [if_pos (by omega)]
      refine congrArg f8 (funext fun a => Fin.ext ?_)
      match a with
      | ⟨0, _⟩ =>
        show (Scalar.indexCast (Scalar.addi (Scalar.addi (BitVec.ofNat 32 (128 * j.val)) (trow t.val)) (BitVec.ofNat 32 r.val)) : Index).toNat + 1 * 0 = 128 * j.val + r'.val
        omega
      | ⟨1, _⟩ =>
        show (Scalar.indexCast (Scalar.addi v (BitVec.ofNat 32 (16 * q.val))) : Index).toNat + 1 * k.val
          = ((fo (ix1 ⟨128 * j.val + r'.val, _⟩)).toNat + l.val) % 128
        have er : (⟨128 * j.val + r'.val, by omega⟩ : Fin 512) = ⟨128 * j.val + 16 * t.val + r.val, by omega⟩ := Fin.ext (by show 128 * j.val + r'.val = 128 * j.val + 16 * t.val + r.val; omega)
        rw [er, ← hv]
        omega
    · intro r' l k hr hl
      unfold gat
      rw [if_neg (by omega), hz]
  unfold rowProg
  have hv := (word_eq w r hsl).trans (hw r)
  have hv' : (extractAt ![0] (extractStridedSlice S1 ![r.val] (shapeCast S16 w shapeCasts_S16_S16) hsl) inpos_S1_p0).toNat ≤ 64 := by
    rw [hv]; exact hfo _
  refine BIBase.Entails.trans ?_ (wp_assume 𝒱₀ (tile d L) none Set.univ (rowChk_of j t r hv'))
  refine wp_then (hpiece _ hv hv' 0 _ 0 4 rfl rfl) ?_
  refine wp_then (hpiece _ hv hv' 1 _ 1 5 rfl rfl) ?_
  refine wp_then (hpiece _ hv hv' 2 _ 2 6 rfl rfl) ?_
  exact (hpiece _ hv hv' 3 _ 3 7 rfl rfl).trans (wp_mono _ _ _ fun _ => hnext _)

include hS8 hS9 hfo hz in
set_option maxHeartbeats 1000000 in
/-- One trip: sixteen more rows of the slot hold what they should. -/
theorem wp_trip (t : Fin 8) (h7 : ∀ t : Fin 8, ∀ a, off7 (BitVec.ofNat 32 (128 * j.val)) t.val a + S16.size a ≤ S512.size a)
    (dec : ∀ (r : Fin 16) v, Decidable (rowChk (BitVec.ofNat 32 (128 * j.val)) t.val r.val v)) :
    (iprop(St d L S8 S9 f8 (gat f8 fo j) s (16 * t.val) 0 ∗ (shLoc d L ↦{fullShare} fo)) : sProp 𝕄)
      ⊢ wp frame (wpE (defs₀ (F := F)) 𝒱₀ (tile d L) none) Set.univ (trip L sH sR sB (BitVec.ofNat 32 (128 * j.val)) h7 s t dec z)
          fun _ => iprop(St d L S8 S9 f8 (gat f8 fo j) s (16 * (t.val + 1)) 0 ∗ (shLoc d L ↦{fullShare} fo)) := by
  unfold trip
  rw [wp_bind]
  have hsub : ((sH).access (Rect.unit (s := S512) (off7 (BitVec.ofNat 32 (128 * j.val)) t.val) S16.size (h7 t))).set ⊆ Finset.univ := Finset.subset_univ _
  iintro ⟨HS, Ho⟩
  iapply (wp_load_rect 𝒱₀ (tile d L) none Set.univ hsub) $$ Ho
  iintro Ho
  rw [wp_ret]
  imodintro
  have hw : ∀ k : Fin 16, ((sH).access (Rect.unit (s := S512) (off7 (BitVec.ofNat 32 (128 * j.val)) t.val) S16.size (h7 t))).read (Elt F) fo (ix1 k)
      = fo (ix1 ⟨128 * j.val + 16 * t.val + k.val, by omega⟩) := by
    intro k
    have e := row7_eq j t
    refine congrArg fo (funext fun a => Fin.ext ?_)
    match a with
    | ⟨0, _⟩ =>
      show (Scalar.indexCast (Scalar.addi (BitVec.ofNat 32 (128 * j.val)) (trow t.val)) : Index).toNat + 1 * k.val = 128 * j.val + 16 * t.val + k.val
      omega
  generalize ((sH).access (Rect.unit (s := S512) (off7 (BitVec.ofNat 32 (128 * j.val)) t.val) S16.size (h7 t))).read (Elt F) fo = w at hw
  have hr : ∀ (r : Fin 16) (hsl : S16.Slices ![r.val] S1) (dec : ∀ v, Decidable (rowChk (BitVec.ofNat 32 (128 * j.val)) t.val r.val v)),
      (iprop(St d L S8 S9 f8 (gat f8 fo j) s (16 * t.val + r.val) 0 ∗ (shLoc d L ↦{fullShare} fo)) : sProp 𝕄)
        ⊢ wp frame (wpE (defs₀ (F := F)) 𝒱₀ (tile d L) none) Set.univ (rowProg L sR sB (BitVec.ofNat 32 (128 * j.val)) s t r w hsl dec z)
            fun _ => iprop(St d L S8 S9 f8 (gat f8 fo j) s (16 * t.val + (r.val + 1)) 0 ∗ (shLoc d L ↦{fullShare} fo)) :=
    fun r hsl dec => (sep_mono_left (wp_row d L S8 S9 j s f8 fo hS8 hS9 hfo z hz t r w hsl hw dec)).trans (wp_frame_r _ _ _)
  have hall : (iprop(St d L S8 S9 f8 (gat f8 fo j) s (16 * t.val) 0 ∗ (shLoc d L ↦{fullShare} fo)) : sProp 𝕄)
      ⊢ wp frame (wpE (defs₀ (F := F)) 𝒱₀ (tile d L) none) Set.univ (rowsProg L sR sB (BitVec.ofNat 32 (128 * j.val)) s t w dec z)
        fun _ => iprop(St d L S8 S9 f8 (gat f8 fo j) s (16 * (t.val + 1)) 0 ∗ (shLoc d L ↦{fullShare} fo)) :=
    by
    unfold rowsProg
    exact wp_then (hr 0 _ _) <| wp_then (hr 1 _ _) <| wp_then (hr 2 _ _) <| wp_then (hr 3 _ _) <| wp_then (hr 4 _ _) <| wp_then (hr 5 _ _)
      <| wp_then (hr 6 _ _) <| wp_then (hr 7 _ _) <| wp_then (hr 8 _ _) <| wp_then (hr 9 _ _) <| wp_then (hr 10 _ _) <| wp_then (hr 11 _ _)
      <| wp_then (hr 12 _ _) <| wp_then (hr 13 _ _) <| wp_then (hr 14 _ _) <| hr 15 _ _
  iapply hall
  isplitl [HS] <;> iassumption

include hS8 hS9 hfo hz in
/-- A whole loop: all 128 rows of the slot then hold what they should. -/
theorem wp_loop (dec : ∀ (t : Fin 8) (r : Fin 16) v, Decidable (rowChk (BitVec.ofNat 32 (128 * j.val)) t.val r.val v))
    (l : Scf.Loop 32) (hl : l.OK) (ht : l.trips = 8)
    (body : Fin l.trips → Unit → Prog (TpuEff nD τ sig (Elt F) Λ₀ (.scVector ((L 0).castLE hcore0) ((L 1).castLE hsub0))) Unit)
    (hbody : ∀ t acc, body t acc = trip L sH sR sB (BitVec.ofNat 32 (128 * j.val)) (off7_inb j) s (t.cast ht) (dec (t.cast ht)) z)
    (f9 : S2x128x128.Idx → Elt F .f32) :
    (iprop((srLoc d L ↦[S8]{fullShare} f8) ∗ (sbLoc d L ↦[S9]{fullShare} f9) ∗ (shLoc d L ↦{fullShare} fo)) : sProp 𝕄)
      ⊢ wp frame (wpE (defs₀ (F := F)) 𝒱₀ (tile d L) none) Set.univ (Scf.Loop.for l hl () body)
          fun _ => iprop((srLoc d L ↦[S8]{fullShare} f8)
            ∗ (∃ f : S2x128x128.Idx → Elt F .f32, ⌜∀ r l : Fin 128, f (ix3 s r l) = gat f8 fo j r l⌝ ∗ (sbLoc d L ↦[S9]{fullShare} f))
            ∗ (shLoc d L ↦{fullShare} fo)) := by
  have hstep : ∀ (t : Fin l.trips) (acc : Unit),
      (iprop(St d L S8 S9 f8 (gat f8 fo j) s (16 * t.val) 0 ∗ (shLoc d L ↦{fullShare} fo)) : sProp 𝕄)
        ⊢ wp frame (wpE (defs₀ (F := F)) 𝒱₀ (tile d L) none) Set.univ (body t acc)
            fun _ => iprop(St d L S8 S9 f8 (gat f8 fo j) s (16 * (t.val + 1)) 0 ∗ (shLoc d L ↦{fullShare} fo)) := by
    intro t acc
    rw [hbody]
    have e : t.val = (t.cast ht).val := rfl
    rw [e]
    generalize t.cast ht = t'
    exact wp_trip d L S8 S9 j s f8 fo hS8 hS9 hfo z hz t' (off7_inb j) (dec t')
  have ht' : Scf.trips l.lb l.ub l.st = 8 := ht
  have hfor := Scf.wp_for frame (wpE (defs₀ (F := F)) 𝒱₀ (tile d L) none) Set.univ l.lb l.ub l.st hl () body
    (fun n _ => iprop(St d L S8 S9 f8 (gat f8 fo j) s (16 * n) 0 ∗ (shLoc d L ↦{fullShare} fo))) hstep
    (Q := fun _ => iprop((srLoc d L ↦[S8]{fullShare} f8)
            ∗ (∃ f : S2x128x128.Idx → Elt F .f32, ⌜∀ r l : Fin 128, f (ix3 s r l) = gat f8 fo j r l⌝ ∗ (sbLoc d L ↦[S9]{fullShare} f))
            ∗ (shLoc d L ↦{fullShare} fo)))
  rw [ht'] at hfor
  refine BIBase.Entails.trans ?_ hfor
  iintro ⟨H8, H9, Ho⟩
  isplitl
  · isplitl [H8 H9]
    · isplitl [H8]; · iexact H8
      iexists f9
      isplitr
      · ipureintro; intro r l hr; exact absurd hr (by omega)
      · iexact H9
    · iexact Ho
  · iintro %_ ⟨⟨H8, %f, %hf, H9⟩, Ho⟩
    isplitl [H8]; · iexact H8
    isplitl [H9]
    · iexists f
      isplitr
      · ipureintro; intro r l; exact hf r l (.inl (by have := r.isLt; omega))
      · iexact H9
    · iexact Ho

end Body

end Cert.Proof.Lookup
-- ==== Proof.Body.lean ====
/-
  THE SUBCORE'S PROGRAM, NAMED. A subcore fetches its row numbers and half offsets, issues four gathers of 128 table rows,
  and for each gather in turn waits, moves the wanted halves into a staging slot (`Rows.lean`) and copies the slot onto its
  block of the result. Each operation here is a definition; `body_eq` says the printed program is their sequence.
-/
module

public import proofs.«01_k».proof.Proof.Loops

@[expose] public section

noncomputable section

namespace Cert.Proof.Lookup

open Cert.KernelIdeal Cert.KernelIdeal.Gen
open Idealize.ShloMosaic
open Idealize.SL.Sem

variable {F : FTy → Type} [FloatOps F]

/-! ## The pieces of the buffers -/

theorem lst_inb : ∀ (j : Fin 4) a, (![j.val, 0] : Fin 2 → ℕ) a + S1x128.size a ≤ S4x128.size a := by decide
theorem dst_inb : ∀ (j : Fin 4) a, (![128 * j.val, 0] : Fin 2 → ℕ) a + S128x128.size a ≤ S512x128.size a := by decide
theorem slot_inb : ∀ (s : Fin 2) a, (![s.val, 0, 0] : Fin 3 → ℕ) a + S1x128x128.size a ≤ S2x128x128.size a := by decide
theorem gsem_inb : ∀ (j : Fin 4) a, (![j.val] : Fin 1 → ℕ) a + S1.size a ≤ S4.size a := by decide
theorem osem_inb : ∀ (s : Fin 2) a, (![s.val] : Fin 1 → ℕ) a + S1.size a ≤ S2.size a := by decide

/-- The subcore's block of the row numbers; of the half offsets. -/
abbrev pBlk (L : grid0.Coords) : Memref sig .scVector .hbm S4x128 .i32 :=
  (pV.slice (Rect.unit (s := S32x4x128) (k0_off1 L) S1x4x128.size (k0_off1_inb L)) (fun _ => rfl)).squeeze S4x128 squeezes_S1x4x128_S4x128
abbrev hBlk (L : grid0.Coords) : Memref sig .scVector .hbm S512 .i32 :=
  (hV.slice (Rect.unit (s := S32x512) (k0_off2 L) S1x512.size (k0_off2_inb L)) (fun _ => rfl)).squeeze S512 squeezes_S1x512_S512
/-- Gather `j`'s list of row numbers, the rows it fills, its semaphore. -/
abbrev lst (j : Fin 4) : Memref sig .scVector .vmem S128 .i32 :=
  (sP.slice (Rect.unit (s := S4x128) ![j.val, 0] S1x128.size (lst_inb j)) (fun _ => rfl)).squeeze S128 squeezes_S1x128_S128
abbrev dst (j : Fin 4) : Memref sig .scVector .vmem S128x128 .f32 :=
  sR.slice (Rect.unit (s := S512x128) ![128 * j.val, 0] S128x128.size (dst_inb j)) (fun _ => rfl)
abbrev gsem (j : Fin 4) : DmaSems sig S_ :=
  ((cc0_scratch4 : DmaSems sig S4).slice (Rect.unit (s := S4) ![j.val] S1.size (gsem_inb j))).squeeze S_ squeezes_S1_S_
/-- The table, as the gathers name it. -/
abbrev src : Memref sig .scVector .hbm S500000x128 .f32 :=
  tV.slice (Rect.unit (s := S500000x128) ![0, 0] S500000x128.size inb_S500000x128_S500000x128_0_0) (fun _ => rfl)
/-- Staging slot `s` and the semaphore of the copies out of it; block `j` of the subcore's rows of the result. -/
abbrev slot (s : Fin 2) : Memref sig .scVector .vmem S128x128 .f32 :=
  (sB.slice (Rect.unit (s := S2x128x128) ![s.val, 0, 0] S1x128x128.size (slot_inb s)) (fun _ => rfl)).squeeze S128x128 squeezes_S1x128x128_S128x128
abbrev osem (s : Fin 2) : DmaSems sig S_ :=
  ((cc0_scratch5 : DmaSems sig S2).slice (Rect.unit (s := S2) ![s.val] S1.size (osem_inb s))).squeeze S_ squeezes_S1_S_
abbrev blk (L : grid0.Coords) (j : Fin 4) : Memref sig .scVector .hbm S128x128 .f32 :=
  uV.slice (Rect.unit (s := S16384x128) (k0_off148 L (BitVec.ofNat 32 (128 * j.val))) S128x128.size (k0_off148_inb L j)) (fun _ => rfl)

/-! ## The operations -/

section Ops
variable (F) (L : grid0.Coords)

abbrev SubProg : Type 1 := Prog (TpuEff nD τ sig (Elt F) Λ₀ (.scVector ((L 0).castLE hcore0) ((L 1).castLE hsub0))) Unit

/-- Fetch the row numbers, and wait. -/
def fetchP : SubProg F L := do
  Prog.lift (.enqueueDma (pBlk L) (.here sP) (.dma (cc0_scoped0 : DmaSems sig S_).sem) ((View.wordExact_bits rfl).reshape _ _) (Memref.isWhole_whole cc0_scratch0).wordExact ⟨Or.inl rfl, trivial⟩)
  Prog.lift (.waitDma2 (cc0_scoped0 : DmaSems sig S_).sem (pBlk L) sP ((View.wordExact_bits rfl).reshape _ _) (Memref.isWhole_whole cc0_scratch0).wordExact)

/-- Fetch the half offsets, and wait. -/
def fetchH : SubProg F L := do
  Prog.lift (.enqueueDma (hBlk L) (.here sH) (.dma (cc0_scoped1 : DmaSems sig S_).sem) ((View.wordExact_bits rfl).reshape _ _) (Memref.isWhole_whole cc0_scratch1).wordExact ⟨Or.inl rfl, trivial⟩)
  Prog.lift (.waitDma2 (cc0_scoped1 : DmaSems sig S_).sem (hBlk L) sH ((View.wordExact_bits rfl).reshape _ _) (Memref.isWhole_whole cc0_scratch1).wordExact)

/-- Issue gather `j`. -/
def issue (j : Fin 4) : SubProg F L :=
  SparseCore.enqueueIndirectGather rfl src (dst j) gathers_S500000x128_S128x128 (lst j) rfl (gsem j).sem (View.wordExact_bits rfl) rfl (Or.inl rfl)

/-- Wait for gather `j`. -/
def await (j : Fin 4) : SubProg F L :=
  SparseCore.waitIndirectGather (gsem j).sem src (dst j) (View.wordExact_bits rfl) (View.wordExact_bits rfl)

/-- The four loops. -/
def loop1 : SubProg F L := Scf.Loop.for k0_t1_loop k0_t1_ok () fun t _ => trip L sH sR sB 0#32 (off7_inb 0) 0 t (dec1 t) (k0_pay613 (F := F))
def loop2 : SubProg F L := Scf.Loop.for k0_t2_loop k0_t2_ok () fun t _ => trip L sH sR sB 128#32 (off7_inb 1) 1 t (dec2 t) (k0_pay613 (F := F))
def loop3 : SubProg F L := Scf.Loop.for k0_t3_loop k0_t3_ok () fun t _ => trip L sH sR sB 256#32 (off7_inb 2) 0 t (dec3 t) (k0_pay613 (F := F))
def loop4 : SubProg F L := Scf.Loop.for k0_t4_loop k0_t4_ok () fun t _ => trip L sH sR sB 384#32 (off7_inb 3) 1 t (dec4 t) (k0_pay613 (F := F))

/-- Start copying slot `s` onto block `j` of the result; wait for that copy. -/
def put (s : Fin 2) (j : Fin 4) : SubProg F L :=
  Prog.lift (.enqueueDma (slot s) (.here (blk L j)) (.dma (osem s).sem) ((View.wordExact_bits rfl).reshape _ _) (View.wordExact_bits rfl) ⟨Or.inl rfl, trivial⟩)
def awaitPut (s : Fin 2) (j : Fin 4) : SubProg F L :=
  Prog.lift (.waitDma2 (osem s).sem (slot s) (blk L j) ((View.wordExact_bits rfl).reshape _ _) (View.wordExact_bits rfl))

end Ops

set_option maxRecDepth 65536 in
set_option maxHeartbeats 40000000 in
/-- The subcore's printed program is the sequence of the named operations. -/
theorem body_eq (L : grid0.Coords) :
    cc0__lookup (F := F) L pV (Memref.isWhole_whole _) hV (Memref.isWhole_whole _) tV (Memref.isWhole_whole _) uV (Memref.isWhole_whole _)
        sP (Memref.isWhole_whole _) sH (Memref.isWhole_whole _) sR (Memref.isWhole_whole _) sB (Memref.isWhole_whole _) cc0_scratch4 cc0_scratch5 cc0_scoped0 cc0_scoped1
      = (do
          fetchP F L; fetchH F L; issue F L 0; issue F L 1; issue F L 2; issue F L 3
          await F L 0; loop1 F L; put F L 0 0
          await F L 1; loop2 F L; put F L 1 1
          await F L 2; awaitPut F L 0 0; loop3 F L; put F L 0 2
          await F L 3; awaitPut F L 1 1; loop4 F L; put F L 1 3
          awaitPut F L 0 2; awaitPut F L 1 3; pure ()) := by
  simp only [cc0__lookup_eq_skeleton]
  unfold cc0__lookup_skel
  simp only [k0_part121_eq_skeleton, k0_part122_eq_skeleton, k0_part123_eq_skeleton, k0_part124_eq_skeleton, k0_part125_eq_skeleton]
  unfold k0_part121_skel k0_part122_skel k0_part123_skel k0_part124_skel k0_part125_skel
  simp only [t1_eq, t2_eq, t3_eq, t4_eq, bind_assoc, pure_bind]
  rfl

end Cert.Proof.Lookup
-- ==== Proof.Places.lean ====
/-
  WHERE THE COPIES LAND. Each piece of a buffer that an operation of `Body.lean` names is a view; here is the index of the
  buffer under each index of the piece (`emb_…`), which indices a piece covers (`mem_…`), and, in closed form, what the
  buffers hold once an operation is done.
-/
module

public import proofs.«01_k».proof.Proof.Body

@[expose] public section

noncomputable section

namespace Cert.Proof.Lookup

open Cert.KernelIdeal Cert.KernelIdeal.Gen
open Idealize.ShloMosaic
open Idealize.ShloMosaic.SparseCore (gatherPayload rows)
open Idealize.ShloMosaic.ValueIdx

variable {F : FTy → Type} [FloatOps F]

/-- The subcore's number among the 32: its core is the low bit. -/
def wid (L : grid0.Coords) : Fin 32 := ⟨2 * (L 1).val + (L 0).val, by
  have h0 : (L 0).val < 2 := (L 0).isLt
  have h1 : (L 1).val < 16 := (L 1).isLt
  omega⟩

/-! ## Squeezed indices -/

theorem sq_4x128 (h : S4x128.numel = S1x4x128.numel) (x : S4x128.Idx) : Shape.reshapeEquiv h x = (ix3 0 (x 0) (x 1) : S1x4x128.Idx) :=
  Shape.reshapeEquiv_eq_of_rowMajor h (by rw [Shape.rowMajor_val_three, Shape.rowMajor_val_two]; simp)
theorem sq_512 (h : S512.numel = S1x512.numel) (x : S512.Idx) : Shape.reshapeEquiv h x = (ix2 0 (x 0) : S1x512.Idx) :=
  Shape.reshapeEquiv_eq_of_rowMajor h (by rw [Shape.rowMajor_val_two, Shape.rowMajor_val_one]; simp)
theorem sq_128 (h : S128.numel = S1x128.numel) (x : S128.Idx) : Shape.reshapeEquiv h x = (ix2 0 (x 0) : S1x128.Idx) :=
  Shape.reshapeEquiv_eq_of_rowMajor h (by rw [Shape.rowMajor_val_two, Shape.rowMajor_val_one]; simp)
theorem sq_128x128 (h : S128x128.numel = S1x128x128.numel) (x : S128x128.Idx) : Shape.reshapeEquiv h x = (ix3 0 (x 0) (x 1) : S1x128x128.Idx) :=
  Shape.reshapeEquiv_eq_of_rowMajor h (by rw [Shape.rowMajor_val_three, Shape.rowMajor_val_two]; simp)

/-! ## The index under each index of a piece -/

theorem emb_pBlk (L : grid0.Coords) (x : S4x128.Idx) : (pBlk L).view.emb x = (ix3 (wid L) (x 0) (x 1) : S32x4x128.Idx) := by
  show (Rect.unit (s := S32x4x128) (k0_off1 L) S1x4x128.size (k0_off1_inb L)).emb (Shape.reshapeEquiv squeezes_S1x4x128_S4x128.numel_eq x) = _
  rw [sq_4x128]
  funext a; refine Fin.ext ?_
  rw [Rect.emb_apply]
  refine (congrArg (· + 1 * (_ : ℕ)) (congrFun (k0_off1_eq L) a)).trans ?_
  match a with
  | ⟨0, _⟩ => simp [wid]
  | ⟨1, _⟩ => simp
  | ⟨2, _⟩ => simp

theorem emb_hBlk (L : grid0.Coords) (x : S512.Idx) : (hBlk L).view.emb x = (ix2 (wid L) (x 0) : S32x512.Idx) := by
  show (Rect.unit (s := S32x512) (k0_off2 L) S1x512.size (k0_off2_inb L)).emb (Shape.reshapeEquiv squeezes_S1x512_S512.numel_eq x) = _
  rw [sq_512]
  funext a; refine Fin.ext ?_
  rw [Rect.emb_apply]
  refine (congrArg (· + 1 * (_ : ℕ)) (congrFun (k0_off2_eq L) a)).trans ?_
  match a with
  | ⟨0, _⟩ => simp [wid]
  | ⟨1, _⟩ => simp

theorem emb_lst (j : Fin 4) (x : S128.Idx) : (lst j).view.emb x = (ix2 j (x 0) : S4x128.Idx) := by
  show (Rect.unit (s := S4x128) ![j.val, 0] S1x128.size (lst_inb j)).emb (Shape.reshapeEquiv squeezes_S1x128_S128.numel_eq x) = _
  rw [sq_128]
  funext a; refine Fin.ext ?_
  rw [Rect.emb_apply]
  match a with
  | ⟨0, _⟩ => simp
  | ⟨1, _⟩ => simp

theorem emb_dst (j : Fin 4) (x : S128x128.Idx) :
    (dst j).view.emb x = (ix2 ⟨128 * j.val + (x 0).val, by have h : (x 0).val < 128 := (x 0).isLt; omega⟩ (x 1) : S512x128.Idx) := by
  show (Rect.unit (s := S512x128) ![128 * j.val, 0] S128x128.size (dst_inb j)).emb x = _
  funext a; refine Fin.ext ?_
  rw [Rect.emb_apply]
  match a with
  | ⟨0, _⟩ => simp
  | ⟨1, _⟩ => simp

theorem emb_src (x : S500000x128.Idx) : src.view.emb x = x := by
  show (Rect.unit (s := S500000x128) ![0, 0] S500000x128.size inb_S500000x128_S500000x128_0_0).emb x = _
  funext a; refine Fin.ext ?_
  rw [Rect.emb_apply]
  match a with
  | ⟨0, _⟩ => simp
  | ⟨1, _⟩ => simp

theorem emb_slot (s : Fin 2) (x : S128x128.Idx) : (slot s).view.emb x = (ix3 s (x 0) (x 1) : S2x128x128.Idx) := by
  show (Rect.unit (s := S2x128x128) ![s.val, 0, 0] S1x128x128.size (slot_inb s)).emb (Shape.reshapeEquiv squeezes_S1x128x128_S128x128.numel_eq x) = _
  rw [sq_128x128]
  funext a; refine Fin.ext ?_
  rw [Rect.emb_apply]
  match a with
  | ⟨0, _⟩ => simp
  | ⟨1, _⟩ => simp
  | ⟨2, _⟩ => simp

theorem emb_blk (L : grid0.Coords) (j : Fin 4) (x : S128x128.Idx) :
    (blk L j).view.emb x = (ix2 ⟨512 * (wid L).val + 128 * j.val + (x 0).val, by
      have h : (x 0).val < 128 := (x 0).isLt; have h' := (wid L).isLt; omega⟩ (x 1) : S16384x128.Idx) := by
  show (Rect.unit (s := S16384x128) (k0_off148 L (BitVec.ofNat 32 (128 * j.val))) S128x128.size (k0_off148_inb L j)).emb x = _
  funext a; refine Fin.ext ?_
  rw [Rect.emb_apply]
  refine (congrArg (· + 1 * (_ : ℕ)) (congrFun (k0_off148_eq L j) a)).trans ?_
  match a with
  | ⟨0, _⟩ => simp [wid]; omega
  | ⟨1, _⟩ => simp

/-! ## Which indices a piece covers -/

theorem mem_set_of {sg : RefSig} {κ : Kind} {sp : Space} {s : Shape} {e : EltTy} {v : View sg κ sp s e} {i : v.ty.Idx} :
    i ∈ v.set ↔ ∃ x, v.emb x = i := by
  simp [View.set]

theorem mem_lst (j : Fin 4) (i : S4x128.Idx) : i ∈ (lst j).view.set ↔ i 0 = j := by
  refine mem_set_of.trans ⟨fun ⟨x, hx⟩ => ?_, fun h => ⟨ix1 (i 1), ?_⟩⟩
  · rw [emb_lst] at hx; rw [← hx]
  · rw [emb_lst, ← h]
    funext a
    match a with
    | ⟨0, _⟩ => rfl
    | ⟨1, _⟩ => rfl

theorem mem_dst (j : Fin 4) (i : S512x128.Idx) : i ∈ (dst j).view.set ↔ (i 0).val / 128 = j.val := by
  refine mem_set_of.trans ⟨fun ⟨x, hx⟩ => ?_, fun h => ⟨ix2 ⟨(i 0).val % 128, Nat.mod_lt _ (by omega)⟩ (i 1), ?_⟩⟩
  · rw [emb_dst] at hx; rw [← hx]
    have h : (x 0).val < 128 := (x 0).isLt
    show (128 * j.val + (x 0).val) / 128 = j.val
    omega
  · rw [emb_dst]
    funext a; refine Fin.ext ?_
    match a with
    | ⟨0, _⟩ => show 128 * j.val + (i 0).val % 128 = (i 0).val; omega
    | ⟨1, _⟩ => rfl

theorem mem_slot (s : Fin 2) (i : S2x128x128.Idx) : i ∈ (slot s).view.set ↔ i 0 = s := by
  refine mem_set_of.trans ⟨fun ⟨x, hx⟩ => ?_, fun h => ⟨ix2 (i 1) (i 2), ?_⟩⟩
  · rw [emb_slot] at hx; rw [← hx]
  · rw [emb_slot, ← h]
    funext a
    match a with
    | ⟨0, _⟩ => rfl
    | ⟨1, _⟩ => rfl
    | ⟨2, _⟩ => rfl

theorem mem_pBlk (L : grid0.Coords) (i : S32x4x128.Idx) : i ∈ (pBlk L).view.set ↔ i 0 = wid L := by
  refine mem_set_of.trans ⟨fun ⟨x, hx⟩ => ?_, fun h => ⟨ix2 (i 1) (i 2), ?_⟩⟩
  · rw [emb_pBlk] at hx; rw [← hx]
  · rw [emb_pBlk, ← h]
    funext a
    match a with
    | ⟨0, _⟩ => rfl
    | ⟨1, _⟩ => rfl
    | ⟨2, _⟩ => rfl

theorem mem_hBlk (L : grid0.Coords) (i : S32x512.Idx) : i ∈ (hBlk L).view.set ↔ i 0 = wid L := by
  refine mem_set_of.trans ⟨fun ⟨x, hx⟩ => ?_, fun h => ⟨ix1 (i 1), ?_⟩⟩
  · rw [emb_hBlk] at hx; rw [← hx]
  · rw [emb_hBlk, ← h]
    funext a
    match a with
    | ⟨0, _⟩ => rfl
    | ⟨1, _⟩ => rfl

theorem mem_blk (L : grid0.Coords) (j : Fin 4) (i : S16384x128.Idx) :
    i ∈ (blk L j).view.set ↔ (i 0).val / 128 = 4 * (wid L).val + j.val := by
  refine mem_set_of.trans ⟨fun ⟨x, hx⟩ => ?_, fun h => ⟨ix2 ⟨(i 0).val % 128, Nat.mod_lt _ (by omega)⟩ (i 1), ?_⟩⟩
  · rw [emb_blk] at hx; rw [← hx]
    have h : (x 0).val < 128 := (x 0).isLt
    show (512 * (wid L).val + 128 * j.val + (x 0).val) / 128 = 4 * (wid L).val + j.val
    omega
  · rw [emb_blk]
    funext a; refine Fin.ext ?_
    match a with
    | ⟨0, _⟩ => show 512 * (wid L).val + 128 * j.val + (i 0).val % 128 = (i 0).val; omega
    | ⟨1, _⟩ => rfl

theorem set_src : src.view.set = Finset.univ :=
  Finset.eq_univ_of_forall fun i => mem_set_of.mpr ⟨i, emb_src i⟩

/-! ## What the buffers hold, in closed form -/

section Contents
variable (Pn : S32x4x128.Idx → BitVec 32) (Hn : S32x512.Idx → BitVec 32) (Tb : S500000x128.Idx → Elt F .f32)

/-- Subcore `w`'s row numbers and half offsets. -/
def fP (w : Fin 32) : S4x128.Idx → BitVec 32 := fun x => Pn (ix3 w (x 0) (x 1))
def fH (w : Fin 32) : S512.Idx → BitVec 32 := fun x => Hn (ix2 w (x 0))

/-- The table rows subcore `w` gathers: row `n` is the row its list names at `n`. -/
def fR (w : Fin 32) : S512x128.Idx → Elt F .f32 := fun x =>
  Tb (ix2 ⟨(Pn (ix3 w ⟨(x 0).val / 128, by have h : (x 0).val < 512 := (x 0).isLt; omega⟩
    ⟨(x 0).val % 128, Nat.mod_lt _ (by omega)⟩)).toNat % 500000, Nat.mod_lt _ (by omega)⟩ (x 1))

/-- A staging slot once chunk `j` has been moved into it. -/
def fB (w : Fin 32) (j : Fin 4) : S2x128x128.Idx → Elt F .f32 := fun x => gat (fR Pn Tb w) (fH Hn w) j (x 1) (x 2)

/-- The result: row `n` is row `n % 128` of chunk `n % 512 / 128` of subcore `n / 512`. -/
def res : S16384x128.Idx → Elt F .f32 := fun x =>
  gat (fR Pn Tb ⟨(x 0).val / 512, by have h : (x 0).val < 16384 := (x 0).isLt; omega⟩)
    (fH Hn ⟨(x 0).val / 512, by have h : (x 0).val < 16384 := (x 0).isLt; omega⟩)
    ⟨(x 0).val % 512 / 128, by omega⟩ ⟨(x 0).val % 128, Nat.mod_lt _ (by omega)⟩ (x 1)

omit [FloatOps F] in
/-- Fetching the row numbers leaves the subcore's own; so for the half offsets. -/
theorem fetchedP (L : grid0.Coords) (f : S4x128.Idx → Elt F .i32) :
    (sP).view.write (Elt F) f (((pBlk L).view.read (Elt F) Pn)) Finset.univ = fP Pn (wid L) := by
  refine (View.write_whole_univ cc0_scratch0 f ((pBlk L).view.read (Elt F) Pn)).trans (funext fun x => ?_)
  show Pn ((pBlk L).view.emb x) = _
  rw [emb_pBlk]; rfl
omit [FloatOps F] in
theorem fetchedH (L : grid0.Coords) (f : S512.Idx → Elt F .i32) :
    (sH).view.write (Elt F) f (((hBlk L).view.read (Elt F) Hn)) Finset.univ = fH Hn (wid L) := by
  refine (View.write_whole_univ cc0_scratch1 f ((hBlk L).view.read (Elt F) Hn)).trans (funext fun x => ?_)
  show Hn ((hBlk L).view.emb x) = _
  rw [emb_hBlk]; rfl

omit [FloatOps F] in
/-- The words a gather's list names are rows of the table. -/
theorem listed (hP : ∀ x, (Pn x).toNat < 500000) (w : Fin 32) (j : Fin 4) (x : S128.Idx) :
    ((lst j).view.read (Elt F) (fP Pn w) x).toNat < S500000x128.size gathers_S500000x128_S128x128.axis := by
  show (fP Pn w ((lst j).view.emb x)).toNat < 500000
  exact hP _

omit [FloatOps F] in
/-- Gather `j` leaves its rows of the gathered rows. -/
theorem gathered (hP : ∀ x, (Pn x).toNat < 500000) (w : Fin 32) (j : Fin 4) (f : S512x128.Idx → Elt F .f32)
    (i : S512x128.Idx) (hi : i ∈ (dst j).view.set) :
    (dst j).view.write (Elt F) f (gatherPayload gathers_S500000x128_S128x128 (src.view.read (Elt F) Tb)
      (rows ((lst j).view.read (Elt F) (fP Pn w)) rfl (listed (F := F) Pn hP w j))) Finset.univ i = fR Pn Tb w i := by
  obtain ⟨x, rfl⟩ := mem_set_of.mp hi
  rw [View.write_emb_of_mem _ _ (Finset.mem_univ x), emb_dst]
  have hx : (x 0).val < 128 := (x 0).isLt
  show Tb (src.view.emb (gathers_S500000x128_S128x128.idx _ x)) = _
  rw [emb_src]
  unfold fR
  refine congrArg Tb (funext fun a => Fin.ext ?_)
  match a with
  | ⟨0, _⟩ =>
    refine (congrArg Fin.val (Shape.Gathers.idx_axis gathers_S500000x128_S128x128 _ x)).trans ?_
    show (fP Pn w ((lst j).view.emb (S128.rowMajor.symm _))).toNat = _
    rw [emb_lst]
    have e1 : ∀ k : Fin S128.numel, ((S128.rowMajor.symm k) 0).val = k.val := fun k => by
      rw [← Shape.rowMajor_val_one, Equiv.apply_symm_apply]
    have e2 : (⟨(128 * j.val + (x 0).val) / 128, by omega⟩ : Fin 4) = j := Fin.ext (by show (128 * j.val + (x 0).val) / 128 = j.val; omega)
    have e3 : (128 * j.val + (x 0).val) % 128 = (x 0).val := by omega
    show (Pn (ix3 w j _)).toNat = (Pn (ix3 w ⟨(128 * j.val + (x 0).val) / 128, _⟩ ⟨(128 * j.val + (x 0).val) % 128, _⟩)).toNat % 500000
    rw [Nat.mod_eq_of_lt (hP _)]
    refine congrArg (fun y => (Pn y).toNat) (funext fun b => ?_)
    match b with
    | ⟨0, _⟩ => rfl
    | ⟨1, _⟩ => exact e2.symm
    | ⟨2, _⟩ => exact Fin.ext ((e1 _).trans e3.symm)
  | ⟨1, _⟩ => exact Shape.Gathers.idx_of_ne gathers_S500000x128_S128x128 _ x 1 (by decide)

/-- A slot that holds the moved chunk row by row holds it. -/
theorem staged (w : Fin 32) (s : Fin 2) (j : Fin 4) (f : S2x128x128.Idx → Elt F .f32)
    (hf : ∀ r l : Fin 128, f (ix3 s r l) = gat (fR Pn Tb w) (fH Hn w) j r l) (i : S2x128x128.Idx) (hi : i ∈ (slot s).view.set) :
    f i = fB Pn Hn Tb w j i := by
  obtain ⟨x, rfl⟩ := mem_set_of.mp hi
  rw [emb_slot]
  exact hf (x 0) (x 1)

/-- Copying the slot out leaves the block of the result. -/
theorem copied (L : grid0.Coords) (s : Fin 2) (j : Fin 4) (f : S16384x128.Idx → Elt F .f32) (i : S16384x128.Idx) (hi : i ∈ (blk L j).view.set) :
    (blk L j).view.write (Elt F) f ((slot s).view.read (Elt F) (fB Pn Hn Tb (wid L) j)) Finset.univ i = res Pn Hn Tb i := by
  obtain ⟨x, rfl⟩ := mem_set_of.mp hi
  rw [View.write_emb_of_mem _ _ (Finset.mem_univ x)]
  show fB Pn Hn Tb (wid L) j ((slot s).view.emb x) = _
  rw [emb_slot, emb_blk]
  have hx : (x 0).val < 128 := (x 0).isLt
  have e1 : (⟨(512 * (wid L).val + 128 * j.val + (x 0).val) / 512, by have := (wid L).isLt; omega⟩ : Fin 32) = wid L :=
    Fin.ext (by show (512 * (wid L).val + 128 * j.val + (x 0).val) / 512 = (wid L).val; omega)
  have e2 : (⟨(512 * (wid L).val + 128 * j.val + (x 0).val) % 512 / 128, by omega⟩ : Fin 4) = j :=
    Fin.ext (by show (512 * (wid L).val + 128 * j.val + (x 0).val) % 512 / 128 = j.val; omega)
  have e3 : (⟨(512 * (wid L).val + 128 * j.val + (x 0).val) % 128, Nat.mod_lt _ (by omega)⟩ : Fin 128) = x 0 :=
    Fin.ext (by show (512 * (wid L).val + 128 * j.val + (x 0).val) % 128 = (x 0).val; omega)
  show gat (fR Pn Tb (wid L)) (fH Hn (wid L)) j (x 0) (x 1)
    = gat (fR Pn Tb ⟨(512 * (wid L).val + 128 * j.val + (x 0).val) / 512, _⟩) (fH Hn ⟨(512 * (wid L).val + 128 * j.val + (x 0).val) / 512, _⟩)
        ⟨(512 * (wid L).val + 128 * j.val + (x 0).val) % 512 / 128, _⟩ ⟨(512 * (wid L).val + 128 * j.val + (x 0).val) % 128, _⟩ (x 1)
  rw [e1, e2, e3]

end Contents

end Cert.Proof.Lookup
-- ==== Proof.Steps.lean ====
/-
  THE OPERATIONS' STEPS. What each operation of `Body.lean` takes of the subcore's buffers and semaphores and what it
  leaves: a fetch's two halves at once; a gather's or a copy's issue, which leaves the transfer in flight; the wait for it,
  which hands back what it delivers; a loop, which leaves its staging slot at the moved chunk.
-/
module

public import proofs.«01_k».proof.Proof.Places

@[expose] public section

noncomputable section

namespace Cert.Proof.Lookup

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.ValueIdx

variable {F : FTy → Type} [FloatOps F]

local notation "𝕄" => MT nD τ sig (HIx 1) (Elt F) ℕ UU ℕ

/-- The HBM arrays the subcores share, as device `d` locates them. -/
abbrev pLoc (d : Dev nD) : Loc nD τ sig := (SparseCore.T d).loc main_v2
abbrev hLoc (d : Dev nD) : Loc nD τ sig := (SparseCore.T d).loc main_v7
abbrev tLoc (d : Dev nD) : Loc nD τ sig := (SparseCore.T d).loc main_v8
abbrev uLoc (d : Dev nD) : Loc nD τ sig := (SparseCore.T d).loc main_v9

section
variable (d : Dev nD) (L : grid0.Coords) (O : CellTallies nD τ sig (HIx 1)) (W : Waits sig (HIx 1))
variable (Pn : S32x4x128.Idx → BitVec 32) (Hn : S32x512.Idx → BitVec 32) (Tb : S500000x128.Idx → Elt F .f32)

/-- What the subcore still owes, and that it has waited on nothing but its own transfers. -/
abbrev Ow : sProp 𝕄 := iprop(∃ W', ⌜∀ p ∈ W', p ∈ W ∨ p.2 = none⌝ ∗ owes (tile d L) O W')
/-- The subcore may wait for its own transfers. -/
abbrev Mw : sProp 𝕄 := Transfers.MayWaits (tile d L) (default : HIx 1) O
/-- A semaphore of the subcore, at rest. -/
abbrev rest (sm : DmaSem sig) : sProp 𝕄 := semVal ((tile d L, SemLoc.dma sm) : GSem nD τ sig) 0
abbrev flight (sm : DmaSem sig) (N : ℕ) (R : sProp 𝕄) : sProp 𝕄 :=
  Transfers.Flight countersEmb (tile d L) (SemLoc.dma sm) (default : HIx 1) N R

/-- What gather `j` delivers: its rows of the gathered rows, and its shares of the table and of the list back. -/
abbrev gotten (q : PosShare TreeShare) (j : Fin 4) : sProp 𝕄 :=
  iprop((srLoc d L ↦[(dst j).view.set]{fullShare} fR Pn Tb (wid L)) ∗ (tLoc d ↦{q} Tb) ∗ (spLoc d L ↦[(lst j).view.set]{fullShare} fP Pn (wid L)))
/-- What the copy of chunk `j` out of slot `s` delivers: its block of the result, and the slot back. -/
abbrev landed (s : Fin 2) (j : Fin 4) : sProp 𝕄 :=
  iprop((uLoc d ↦[(blk L j).view.set]{fullShare} res Pn Hn Tb) ∗ (sbLoc d L ↦[(slot s).view.set]{fullShare} fB Pn Hn Tb (wid L) j))

variable {Φ : Unit → sProp (MT nD τ sig (HIx 1) (Elt F) ℕ UU ℕ)} {k : Unit → SubProg F L}

theorem ow_insert {W' : Waits sig (HIx 1)} (hW : ∀ p ∈ W', p ∈ W ∨ p.2 = none) (sm : SemLoc sig) :
    ∀ p ∈ insert (sm, (default : HIx 1)) W', p ∈ W ∨ p.2 = none := by
  intro p hp
  rcases Finset.mem_insert.mp hp with rfl | hp
  · exact Or.inr rfl
  · exact hW p hp

/-- The wait for a transfer in flight. -/
theorem step_wait {sm : DmaSem sig} {N : ℕ} {R : sProp 𝕄} {s' s : Shape} {e' e : EltTy} {sp' sp : Space} {κ' : Kind}
    {srcw : Memref sig (tile d L).2.kind sp' s' e'} {dstw : Memref sig κ' sp s e} {hsrc : srcw.view.WordExact} {hdst : dstw.view.WordExact}
    (hN : dstw.view.dmaCredit = N) :
    (iprop(flight d L sm N R ∗ Mw d L O ∗ Ow d L O W) : sProp 𝕄)
      ⊢ iprop((iprop(R ∗ rest d L sm ∗ Ow d L O W) -∗ wp frame (wpE (defs₀ (F := F)) 𝒱₀ (tile d L) none) Set.univ (k ()) Φ)
        -∗ wp frame (wpE (defs₀ (F := F)) 𝒱₀ (tile d L) none) Set.univ (.op (.waitDma2 sm srcw dstw hsrc hdst) k) Φ) := by
  iintro ⟨HF, Hmw, %W', %hW, HO⟩ Hk
  ihave Hm := Transfers.MayWaits.elim (SemLoc.dma sm) $$ Hmw
  iapply (Transfers.wp_waitLocalO countersEmb 𝒱₀ (tile d L) none (default : HIx 1) hN) $$ [HF HO Hm]
  · isplitl [HF]; · iexact HF
    isplitl [HO]; · iexact HO
    iexact Hm
  iintro ⟨HR, Hs, HO⟩
  iapply Hk
  isplitl [HR]; · iexact HR
  isplitl [Hs]; · iexact Hs
  iexists (insert (SemLoc.dma sm, (default : HIx 1)) W')
  isplitr
  · ipureintro; exact ow_insert W hW _
  · iexact HO

/-- Fetching the row numbers. -/
theorem step_fetchP (f : S4x128.Idx → Elt F .i32) :
    (iprop((pLoc d ↦[(pBlk L).view.set]{fullShare} Pn) ∗ (spLoc d L ↦{fullShare} f) ∗ rest d L (cc0_scoped0 : DmaSems sig S_).sem ∗ Mw d L O ∗ Ow d L O W) : sProp 𝕄)
      ⊢ iprop((iprop((pLoc d ↦[(pBlk L).view.set]{fullShare} Pn) ∗ (spLoc d L ↦{fullShare} fP Pn (wid L)) ∗ rest d L (cc0_scoped0 : DmaSems sig S_).sem ∗ Ow d L O W)
          -∗ wp frame (wpE (defs₀ (F := F)) 𝒱₀ (tile d L) none) Set.univ (k ()) Φ)
        -∗ wp frame (wpE (defs₀ (F := F)) 𝒱₀ (tile d L) none) Set.univ (fetchP F L >>= k) Φ) := by
  have hset : (sP).view.set ⊆ (Finset.univ : Finset S4x128.Idx) := Finset.subset_univ _
  iintro ⟨Hp, Hs, Hv, Hmw, HO⟩ Hk
  iapply (Transfers.wp_dmaLocal countersEmb 𝒱₀ (tile d L) none (src := pBlk L) (dst := sP) (sm := SemLoc.dma (cc0_scoped0 : DmaSems sig S_).sem)
    (fs := (Pn : Buf (Elt F) ((pBlk L).view.loc (tile d L)))) (fd := (f : Buf (Elt F) ((sP).view.loc (tile d L)))) (q := fullShare)
    (default : HIx 1) (sP).view.dmaCredit rfl (by decide) hset) $$ [Hp Hs Hv]
  · isplitl [Hp]; · iexact Hp
    isplitl [Hs]; · iexact Hs
    iexact Hv
  iintro HF
  iapply (step_wait d L O W rfl) $$ [HF Hmw HO]
  · isplitl [HF]; · iexact HF
    isplitl [Hmw]; · iexact Hmw
    iexact HO
  iintro ⟨⟨Hs, Hp⟩, Hv, HO⟩
  iapply Hk
  isplitl [Hp]; · iexact Hp
  isplitl [Hs]
  · iapply (Entails.of_eq (congrArg (fun g => (spLoc d L ↦{fullShare} g : sProp 𝕄)) (fetchedP Pn L f)))
    iexact Hs
  isplitl [Hv]; · iexact Hv
  iexact HO

/-- Fetching the half offsets. -/
theorem step_fetchH (f : S512.Idx → Elt F .i32) :
    (iprop((hLoc d ↦[(hBlk L).view.set]{fullShare} Hn) ∗ (shLoc d L ↦{fullShare} f) ∗ rest d L (cc0_scoped1 : DmaSems sig S_).sem ∗ Mw d L O ∗ Ow d L O W) : sProp 𝕄)
      ⊢ iprop((iprop((hLoc d ↦[(hBlk L).view.set]{fullShare} Hn) ∗ (shLoc d L ↦{fullShare} fH Hn (wid L)) ∗ rest d L (cc0_scoped1 : DmaSems sig S_).sem ∗ Ow d L O W)
          -∗ wp frame (wpE (defs₀ (F := F)) 𝒱₀ (tile d L) none) Set.univ (k ()) Φ)
        -∗ wp frame (wpE (defs₀ (F := F)) 𝒱₀ (tile d L) none) Set.univ (fetchH F L >>= k) Φ) := by
  have hset : (sH).view.set ⊆ (Finset.univ : Finset S512.Idx) := Finset.subset_univ _
  iintro ⟨Hp, Hs, Hv, Hmw, HO⟩ Hk
  iapply (Transfers.wp_dmaLocal countersEmb 𝒱₀ (tile d L) none (src := hBlk L) (dst := sH) (sm := SemLoc.dma (cc0_scoped1 : DmaSems sig S_).sem)
    (fs := (Hn : Buf (Elt F) ((hBlk L).view.loc (tile d L)))) (fd := (f : Buf (Elt F) ((sH).view.loc (tile d L)))) (q := fullShare)
    (default : HIx 1) (sH).view.dmaCredit rfl (by decide) hset) $$ [Hp Hs Hv]
  · isplitl [Hp]; · iexact Hp
    isplitl [Hs]; · iexact Hs
    iexact Hv
  iintro HF
  iapply (step_wait d L O W rfl) $$ [HF Hmw HO]
  · isplitl [HF]; · iexact HF
    isplitl [Hmw]; · iexact Hmw
    iexact HO
  iintro ⟨⟨Hs, Hp⟩, Hv, HO⟩
  iapply Hk
  isplitl [Hp]; · iexact Hp
  isplitl [Hs]
  · iapply (Entails.of_eq (congrArg (fun g => (shLoc d L ↦{fullShare} g : sProp 𝕄)) (fetchedH Hn L f)))
    iexact Hs
  isplitl [Hv]; · iexact Hv
  iexact HO

theorem dst_sum (j : Fin 4) : ∀ h : S500000x128.Gathers 0 S128x128,
    ∑ r, ((dst j).slice (S128x128.rowRect h.axis' r) (S128x128.stride_rowRect h.axis' r)).view.dmaCredit = (dst j).view.dmaCredit :=
  fun h => SparseCore.sum_rowCredit_eq_dmaCredit (dst j) h.axis' (hcr := fun _ => rfl)

/-- Issuing gather `j`. -/
theorem step_issue (hP : ∀ x, (Pn x).toNat < 500000) (q : PosShare TreeShare) (j : Fin 4) (f : S512x128.Idx → Elt F .f32) :
    (iprop((tLoc d ↦{q} Tb) ∗ (srLoc d L ↦[(dst j).view.set]{fullShare} f) ∗ (spLoc d L ↦[(lst j).view.set]{fullShare} fP Pn (wid L))
        ∗ rest d L (gsem j).sem) : sProp 𝕄)
      ⊢ iprop((flight d L (gsem j).sem (dst j).view.dmaCredit (gotten d L Pn Tb q j)
          -∗ wp frame (wpE (defs₀ (F := F)) 𝒱₀ (tile d L) none) Set.univ (k ()) Φ)
        -∗ wp frame (wpE (defs₀ (F := F)) 𝒱₀ (tile d L) none) Set.univ (issue F L j >>= k) Φ) := by
  have hsrc : (tLoc d ↦{q} Tb : sProp 𝕄) = (tLoc d ↦[src.view.set]{q} Tb) := by rw [set_src]
  iintro ⟨Ht, Hr, Hl, Hv⟩ Hk
  ihave Ht := (Entails.of_eq hsrc) $$ Ht
  iapply (SparseCore.wp_indirectGatherLocal countersEmb 𝒱₀ (tile d L) none (src := src) (dst := dst j) (offs := lst j) (hg := gathers_S500000x128_S128x128)
    (fs := (Tb : Buf (Elt F) (src.view.loc (tile d L)))) (fd := (f : Buf (Elt F) ((dst j).view.loc (tile d L))))
    (fo := (fP Pn (wid L) : Buf (Elt F) ((lst j).view.loc (tile d L)))) (q := q) (qo := fullShare)
    (default : HIx 1) (dst j).view.dmaCredit (dst_sum j _) (by decide) (listed (F := F) Pn hP (wid L) j)) $$ [Ht Hr Hl Hv]
  · isplitl [Ht]; · iexact Ht
    isplitl [Hr]; · iexact Hr
    isplitl [Hl]; · iexact Hl
    iexact Hv
  iintro HF
  iapply Hk
  iapply (Transfers.Flight_mono countersEmb (tile d L) ?_) $$ HF
  iintro ⟨Hr, Ht, Hl⟩
  isplitl [Hr]
  · iapply (Entails.of_eq (pointsTo_congr (ℓ := srLoc d L) (q := fullShare) (gathered Pn Tb hP (wid L) j f)))
    iexact Hr
  isplitl [Ht]
  · iapply (Entails.of_eq hsrc.symm); iexact Ht
  iexact Hl

/-- Waiting for gather `j`. -/
theorem step_await (j : Fin 4) {R : sProp 𝕄} :
    (iprop(flight d L (gsem j).sem (dst j).view.dmaCredit R ∗ Mw d L O ∗ Ow d L O W) : sProp 𝕄)
      ⊢ iprop((iprop(R ∗ rest d L (gsem j).sem ∗ Ow d L O W) -∗ wp frame (wpE (defs₀ (F := F)) 𝒱₀ (tile d L) none) Set.univ (k ()) Φ)
        -∗ wp frame (wpE (defs₀ (F := F)) 𝒱₀ (tile d L) none) Set.univ (await F L j >>= k) Φ) :=
  step_wait d L O W (srcw := src) (dstw := dst j) rfl

/-- Starting the copy of chunk `j` out of slot `s`. -/
theorem step_put (s : Fin 2) (j : Fin 4) (f : S16384x128.Idx → Elt F .f32) :
    (iprop((uLoc d ↦[(blk L j).view.set]{fullShare} f) ∗ (sbLoc d L ↦[(slot s).view.set]{fullShare} fB Pn Hn Tb (wid L) j) ∗ rest d L (osem s).sem) : sProp 𝕄)
      ⊢ iprop((flight d L (osem s).sem (blk L j).view.dmaCredit (landed d L Pn Hn Tb s j)
          -∗ wp frame (wpE (defs₀ (F := F)) 𝒱₀ (tile d L) none) Set.univ (k ()) Φ)
        -∗ wp frame (wpE (defs₀ (F := F)) 𝒱₀ (tile d L) none) Set.univ (put F L s j >>= k) Φ) := by
  iintro ⟨Hu, Hb, Hv⟩ Hk
  iapply (Transfers.wp_dmaLocal countersEmb 𝒱₀ (tile d L) none (src := slot s) (dst := blk L j) (sm := SemLoc.dma (osem s).sem)
    (fs := (fB Pn Hn Tb (wid L) j : Buf (Elt F) ((slot s).view.loc (tile d L)))) (fd := (f : Buf (Elt F) ((blk L j).view.loc (tile d L)))) (q := fullShare)
    (default : HIx 1) (blk L j).view.dmaCredit rfl (View.dmaCredit_pos _ (by decide)) (Finset.Subset.refl _)) $$ [Hu Hb Hv]
  · isplitl [Hb]; · iexact Hb
    isplitl [Hu]; · iexact Hu
    iexact Hv
  iintro HF
  iapply Hk
  iapply (Transfers.Flight_mono countersEmb (tile d L) ?_) $$ HF
  iintro ⟨Hu, Hb⟩
  isplitl [Hu]
  · iapply (Entails.of_eq (pointsTo_congr (ℓ := uLoc d) (q := fullShare) (copied Pn Hn Tb L s j f)))
    iexact Hu
  iexact Hb

/-- Waiting for that copy. -/
theorem step_awaitPut (s : Fin 2) (j : Fin 4) {R : sProp 𝕄} :
    (iprop(flight d L (osem s).sem (blk L j).view.dmaCredit R ∗ Mw d L O ∗ Ow d L O W) : sProp 𝕄)
      ⊢ iprop((iprop(R ∗ rest d L (osem s).sem ∗ Ow d L O W) -∗ wp frame (wpE (defs₀ (F := F)) 𝒱₀ (tile d L) none) Set.univ (k ()) Φ)
        -∗ wp frame (wpE (defs₀ (F := F)) 𝒱₀ (tile d L) none) Set.univ (awaitPut F L s j >>= k) Φ) :=
  step_wait d L O W (srcw := slot s) (dstw := blk L j) rfl

/-- A loop, from the chunk's gathered rows and the subcore's half offsets: the slot then holds the moved chunk. -/
theorem step_loop (hH : ∀ x, (Hn x).toNat ≤ 64) (j : Fin 4) (s : Fin 2) {p : SubProg F L} (f : S2x128x128.Idx → Elt F .f32)
    (hp : ∃ (l : Scf.Loop 32) (hl : l.OK) (ht : l.trips = 8) (dec : ∀ (t : Fin 8) (r : Fin 16) v, Decidable (rowChk (BitVec.ofNat 32 (128 * j.val)) t.val r.val v)),
      p = Scf.Loop.for l hl () fun t _ => trip L sH sR sB (BitVec.ofNat 32 (128 * j.val)) (off7_inb j) s (t.cast ht) (dec (t.cast ht)) (k0_pay613 (F := F))) :
    (iprop((srLoc d L ↦[(dst j).view.set]{fullShare} fR Pn Tb (wid L)) ∗ (sbLoc d L ↦[(slot s).view.set]{fullShare} f) ∗ (shLoc d L ↦{fullShare} fH Hn (wid L))) : sProp 𝕄)
      ⊢ iprop((iprop((srLoc d L ↦[(dst j).view.set]{fullShare} fR Pn Tb (wid L)) ∗ (sbLoc d L ↦[(slot s).view.set]{fullShare} fB Pn Hn Tb (wid L) j)
            ∗ (shLoc d L ↦{fullShare} fH Hn (wid L)))
          -∗ wp frame (wpE (defs₀ (F := F)) 𝒱₀ (tile d L) none) Set.univ (k ()) Φ)
        -∗ wp frame (wpE (defs₀ (F := F)) 𝒱₀ (tile d L) none) Set.univ (p >>= k) Φ) := by
  obtain ⟨l, hl, ht, dec, rfl⟩ := hp
  have h := wp_loop d L (dst j).view.set (slot s).view.set j s (fR Pn Tb (wid L)) (fH Hn (wid L))
    (fun x h0 h1 => (mem_dst j x).mpr (by omega)) (fun x h0 => (mem_slot s x).mpr h0) (fun x => hH _) (k0_pay613 (F := F)) (fun _ => rfl)
    dec l hl ht _ (fun _ _ => rfl) f
  rw [wp_bind]
  refine BIClass.wand_intro ((sep_mono_left h).trans ((wp_frame_r _ _ _).trans (wp_mono _ _ _ fun u => ?_)))
  iintro ⟨⟨Hr, ⟨%g, %hg, Hb⟩, Hh⟩, Hk⟩
  iapply Hk
  isplitl [Hr]; · iexact Hr
  isplitl [Hb]
  · iapply (Entails.of_eq (pointsTo_congr (ℓ := sbLoc d L) (q := fullShare) (staged Pn Hn Tb (wid L) s j g hg)))
    iexact Hb
  iexact Hh

theorem loop1_is : ∃ (l : Scf.Loop 32) (hl : l.OK) (ht : l.trips = 8) (dec : ∀ (t : Fin 8) (r : Fin 16) v, Decidable (rowChk (BitVec.ofNat 32 (128 * (0 : Fin 4).val)) t.val r.val v)),
    loop1 F L = Scf.Loop.for l hl () fun t _ => trip L sH sR sB (BitVec.ofNat 32 (128 * (0 : Fin 4).val)) (off7_inb 0) 0 (t.cast ht) (dec (t.cast ht)) (k0_pay613 (F := F)) :=
  ⟨k0_t1_loop, k0_t1_ok, rfl, dec1, rfl⟩
theorem loop2_is : ∃ (l : Scf.Loop 32) (hl : l.OK) (ht : l.trips = 8) (dec : ∀ (t : Fin 8) (r : Fin 16) v, Decidable (rowChk (BitVec.ofNat 32 (128 * (1 : Fin 4).val)) t.val r.val v)),
    loop2 F L = Scf.Loop.for l hl () fun t _ => trip L sH sR sB (BitVec.ofNat 32 (128 * (1 : Fin 4).val)) (off7_inb 1) 1 (t.cast ht) (dec (t.cast ht)) (k0_pay613 (F := F)) :=
  ⟨k0_t2_loop, k0_t2_ok, rfl, dec2, rfl⟩
theorem loop3_is : ∃ (l : Scf.Loop 32) (hl : l.OK) (ht : l.trips = 8) (dec : ∀ (t : Fin 8) (r : Fin 16) v, Decidable (rowChk (BitVec.ofNat 32 (128 * (2 : Fin 4).val)) t.val r.val v)),
    loop3 F L = Scf.Loop.for l hl () fun t _ => trip L sH sR sB (BitVec.ofNat 32 (128 * (2 : Fin 4).val)) (off7_inb 2) 0 (t.cast ht) (dec (t.cast ht)) (k0_pay613 (F := F)) :=
  ⟨k0_t3_loop, k0_t3_ok, rfl, dec3, rfl⟩
theorem loop4_is : ∃ (l : Scf.Loop 32) (hl : l.OK) (ht : l.trips = 8) (dec : ∀ (t : Fin 8) (r : Fin 16) v, Decidable (rowChk (BitVec.ofNat 32 (128 * (3 : Fin 4).val)) t.val r.val v)),
    loop4 F L = Scf.Loop.for l hl () fun t _ => trip L sH sR sB (BitVec.ofNat 32 (128 * (3 : Fin 4).val)) (off7_inb 3) 1 (t.cast ht) (dec (t.cast ht)) (k0_pay613 (F := F)) :=
  ⟨k0_t4_loop, k0_t4_ok, rfl, dec4, rfl⟩

end

end Cert.Proof.Lookup
-- ==== Proof.Tile.lean ====
/-
  THE SUBCORE'S TASK. The buffers split as the operations use them — the list in four, the gathered rows in four, the
  staging buffer in its two slots, the subcore's rows of the result in four blocks, its share of the table in four — and
  the task's triple: from its row of the row numbers and of the half offsets, its share of the table and its rows of the
  result, the task leaves those rows at the lookup's values and hands the rest back as it was.
-/
module

public import proofs.«01_k».proof.Proof.Steps
public import Idealize.ShloMosaic.Lib.ShareLeaves

@[expose] public section

noncomputable section

namespace Cert.Proof.Lookup

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.ValueIdx
open Idealize.ShloMosaic.ShareLeaves (leaf pointsTo_leaves)

variable {F : FTy → Type} [FloatOps F]

local notation "𝕄" => MT nD τ sig (HIx 1) (Elt F) ℕ UU ℕ

/-! ## Conjunctions over small index sets -/

/-- A conjunction over four indices, written out; over two. -/
theorem bigSep_four (Φ : Fin 4 → sProp 𝕄) : bigSep Finset.univ Φ = iprop(Φ 0 ∗ Φ 1 ∗ Φ 2 ∗ Φ 3) := by
  rw [show (Finset.univ : Finset (Fin 4)) = {0, 1, 2, 3} from by decide, SparseCore.bigSep_insert' (by decide),
    SparseCore.bigSep_insert' (by decide), SparseCore.bigSep_insert' (by decide), bigSep_singleton]
theorem bigSep_two (Φ : Fin 2 → sProp 𝕄) : bigSep Finset.univ Φ = iprop(Φ 0 ∗ Φ 1) := by
  rw [show (Finset.univ : Finset (Fin 2)) = {0, 1} from by decide, SparseCore.bigSep_insert' (by decide), bigSep_singleton]

/-- Distinct members taken out of a conjunction one after another: what is left is a conjunction still. -/
theorem take_out {I : Type} [DecidableEq I] (Φ : I → sProp 𝕄) : ∀ (l : List I) (s : Finset I), l.Nodup → (∀ i ∈ l, i ∈ s) →
    ∃ s' : Finset I, bigSep s Φ = l.foldr (fun i R => iprop(Φ i ∗ R)) (bigSep s' Φ)
  | [], s, _, _ => ⟨s, rfl⟩
  | i :: l, s, hn, hm => by
    obtain ⟨hi, hn⟩ := List.nodup_cons.mp hn
    obtain ⟨s', h⟩ := take_out Φ l (s.erase i) hn fun x hx =>
      Finset.mem_erase.mpr ⟨fun e => hi (e ▸ hx), hm x (List.mem_cons_of_mem _ hx)⟩
    exact ⟨s', by rw [SparseCore.bigSep_erase' (hm i List.mem_cons_self), h]; rfl⟩

section
variable (d : Dev nD) (L : grid0.Coords)

/-- The subcore's eight semaphores, and the rest of its own. -/
theorem ownSems_split : ∃ R : sProp 𝕄, (ownSems0 (tile d L) : sProp 𝕄)
    = iprop(rest d L (cc0_scoped0 : DmaSems sig S_).sem ∗ rest d L (cc0_scoped1 : DmaSems sig S_).sem
        ∗ rest d L (gsem 0).sem ∗ rest d L (gsem 1).sem ∗ rest d L (gsem 2).sem ∗ rest d L (gsem 3).sem
        ∗ rest d L (osem 0).sem ∗ rest d L (osem 1).sem ∗ R) := by
  have hn : ([(cc0_scoped0 : DmaSems sig S_).sem, (cc0_scoped1 : DmaSems sig S_).sem, (gsem 0).sem, (gsem 1).sem, (gsem 2).sem, (gsem 3).sem,
      (osem 0).sem, (osem 1).sem] : List (DmaSem sig)).Nodup := by decide
  have hs : ∀ s : DmaSem sig, (SemLoc.dma s : SemLoc sig).isScoped .scVector = true := by decide
  obtain ⟨s', h⟩ := take_out (F := F) (fun g : GSem nD τ sig => semVal g 0)
    (([(cc0_scoped0 : DmaSems sig S_).sem, (cc0_scoped1 : DmaSems sig S_).sem, (gsem 0).sem, (gsem 1).sem, (gsem 2).sem, (gsem 3).sem,
      (osem 0).sem, (osem 1).sem] : List (DmaSem sig)).map fun s => ((tile d L, SemLoc.dma s) : GSem nD τ sig)) (ownCells (tile d L))
    (hn.map fun a b e => SemLoc.dma.inj (Prod.mk.inj e).2) (fun g hg => by
      obtain ⟨s, -, rfl⟩ := List.mem_map.mp hg
      exact mem_ownCells.mpr ⟨rfl, hs s⟩)
  exact ⟨_, h⟩

/-- The subcore's four scratch buffers at some contents, and the rest of its own. -/
theorem ownBufs_split : ∃ R : sProp 𝕄, (ownBufs (tile d L) : sProp 𝕄)
    = iprop((∃ f, spLoc d L ↦{fullShare} f) ∗ (∃ f, shLoc d L ↦{fullShare} f) ∗ (∃ f, srLoc d L ↦{fullShare} f)
        ∗ (∃ f, sbLoc d L ↦{fullShare} f) ∗ R) := by
  have hn : ([cc0_scratch0, cc0_scratch1, cc0_scratch2, cc0_scratch3] : List (Ref sig .scVector)).Nodup := by decide
  have ho : ∀ b ∈ ([cc0_scratch0, cc0_scratch1, cc0_scratch2, cc0_scratch3] : List (Ref sig .scVector)),
      ((Proc.scVector (cV L) (jV L)).devRef b : DevRef τ sig) ∈ ownRefs (τ := τ) (sig := sig) (.scVector (cV L) (jV L)) := by
    intro b hb
    simp only [List.mem_cons, List.not_mem_nil, or_false] at hb
    rcases hb with rfl | rfl | rfl | rfl <;> exact SparseCore.Cfg.mem_ownRefs_of_owner rfl
  obtain ⟨s', h⟩ := take_out (F := F) (fun b : DevRef τ sig => iprop(∃ f, ((d, b) : Loc nD τ sig) ↦{fullShare} f))
    (([cc0_scratch0, cc0_scratch1, cc0_scratch2, cc0_scratch3] : List (Ref sig .scVector)).map (Proc.scVector (cV L) (jV L)).devRef)
    (ownRefs (.scVector (cV L) (jV L))) (hn.map (Proc.devRef_injective _)) (fun g hg => by
      obtain ⟨b, hb, rfl⟩ := List.mem_map.mp hg
      exact ho b hb)
  exact ⟨_, h⟩

/-! ## The buffers' splits -/

/-- A buffer split over disjoint sets that cover it. -/
theorem pts_cover {ℓ : Loc nD τ sig} {I : Type} [Fintype I] [DecidableEq I] (A : Finset (Idx ℓ)) (S : I → Finset (Idx ℓ))
    (hd : ∀ x i j, x ∈ S i → x ∈ S j → i = j) (hc : ∀ x, x ∈ A ↔ ∃ i, x ∈ S i) (f : Buf (Elt F) ℓ) :
    (ℓ ↦[A]{fullShare} f : sProp 𝕄) = bigSep Finset.univ fun i => ℓ ↦[S i]{fullShare} f := by
  have h : A = Finset.univ.biUnion S := by
    ext x; simp only [Finset.mem_biUnion, Finset.mem_univ, true_and]; exact hc x
  rw [h]
  exact pointsTo_biUnion Finset.univ (ℓ := ℓ) S fun i _ j _ hij => Finset.disjoint_left.mpr fun x hi hj => hij (hd x i j hi hj)

/-- The list in its four parts. -/
theorem split_list (f : S4x128.Idx → Elt F .i32) : (spLoc d L ↦{fullShare} f : sProp 𝕄)
    = iprop((spLoc d L ↦[(lst 0).view.set]{fullShare} f) ∗ (spLoc d L ↦[(lst 1).view.set]{fullShare} f)
        ∗ (spLoc d L ↦[(lst 2).view.set]{fullShare} f) ∗ (spLoc d L ↦[(lst 3).view.set]{fullShare} f)) :=
  (pts_cover (ℓ := spLoc d L) Finset.univ (fun j : Fin 4 => (lst j).view.set)
    (fun x i j hi hj => ((mem_lst i x).mp hi).symm.trans ((mem_lst j x).mp hj))
    (fun x => ⟨fun _ => ⟨x 0, (mem_lst _ x).mpr rfl⟩, fun _ => Finset.mem_univ _⟩) f).trans (bigSep_four _)

theorem dst_disj (x : S512x128.Idx) (i j : Fin 4) (hi : x ∈ (dst i).view.set) (hj : x ∈ (dst j).view.set) : i = j :=
  Fin.ext (((mem_dst i x).mp hi).symm.trans ((mem_dst j x).mp hj))
theorem dst_cover (x : S512x128.Idx) : ∃ j : Fin 4, x ∈ (dst j).view.set := by
  have hx : (x 0).val < 512 := (x 0).isLt
  have hq : (x 0).val / 128 < 4 := by omega
  exact ⟨⟨(x 0).val / 128, hq⟩, (mem_dst _ x).mpr rfl⟩

/-- The gathered rows in their four chunks. -/
theorem split_rows (f : S512x128.Idx → Elt F .f32) : (srLoc d L ↦{fullShare} f : sProp 𝕄)
    = iprop((srLoc d L ↦[(dst 0).view.set]{fullShare} f) ∗ (srLoc d L ↦[(dst 1).view.set]{fullShare} f)
        ∗ (srLoc d L ↦[(dst 2).view.set]{fullShare} f) ∗ (srLoc d L ↦[(dst 3).view.set]{fullShare} f)) :=
  (pts_cover (ℓ := srLoc d L) Finset.univ (fun j : Fin 4 => (dst j).view.set)
    dst_disj (fun x => ⟨fun _ => dst_cover x, fun _ => Finset.mem_univ _⟩) f).trans (bigSep_four _)

/-- The staging buffer in its two slots. -/
theorem split_slots (f : S2x128x128.Idx → Elt F .f32) : (sbLoc d L ↦{fullShare} f : sProp 𝕄)
    = iprop((sbLoc d L ↦[(slot 0).view.set]{fullShare} f) ∗ (sbLoc d L ↦[(slot 1).view.set]{fullShare} f)) :=
  (pts_cover (ℓ := sbLoc d L) Finset.univ (fun s : Fin 2 => (slot s).view.set)
    (fun x i j hi hj => ((mem_slot i x).mp hi).symm.trans ((mem_slot j x).mp hj))
    (fun x => ⟨fun _ => ⟨x 0, (mem_slot _ x).mpr rfl⟩, fun _ => Finset.mem_univ _⟩) f).trans (bigSep_two _)

/-- The subcore's rows of the result. -/
def uSet (w : Fin 32) : Finset S16384x128.Idx := Finset.univ.filter fun i => (i 0).val / 512 = w.val
theorem mem_uSet (w : Fin 32) (i : S16384x128.Idx) : i ∈ uSet w ↔ (i 0).val / 512 = w.val := by simp [uSet]

theorem blk_disj (x : S16384x128.Idx) (i j : Fin 4) (hi : x ∈ (blk L i).view.set) (hj : x ∈ (blk L j).view.set) : i = j := by
  have h1 := (mem_blk L i x).mp hi
  have h2 := (mem_blk L j x).mp hj
  exact Fin.ext (by omega)
theorem blk_cover (x : S16384x128.Idx) : x ∈ uSet (wid L) ↔ ∃ j : Fin 4, x ∈ (blk L j).view.set := by
  rw [mem_uSet]
  constructor
  · intro h
    have hq : (x 0).val / 128 % 4 < 4 := by omega
    have hj : (x 0).val / 128 = 4 * (wid L).val + (x 0).val / 128 % 4 := by omega
    exact ⟨⟨(x 0).val / 128 % 4, hq⟩, (mem_blk L _ x).mpr hj⟩
  · rintro ⟨j, h⟩
    have h1 := (mem_blk L j x).mp h
    have h2 := j.isLt
    omega

/-- They are its four blocks. -/
theorem split_out (f : S16384x128.Idx → Elt F .f32) : (uLoc d ↦[uSet (wid L)]{fullShare} f : sProp 𝕄)
    = iprop((uLoc d ↦[(blk L 0).view.set]{fullShare} f) ∗ (uLoc d ↦[(blk L 1).view.set]{fullShare} f)
        ∗ (uLoc d ↦[(blk L 2).view.set]{fullShare} f) ∗ (uLoc d ↦[(blk L 3).view.set]{fullShare} f)) :=
  (pts_cover (ℓ := uLoc d) (uSet (wid L)) (fun j : Fin 4 => (blk L j).view.set) (blk_disj L) (blk_cover L) f).trans (bigSep_four _)

/-- A share of the table in four. -/
theorem split_table (q : PosShare TreeShare) (f : S500000x128.Idx → Elt F .f32) : (tLoc d ↦{q} f : sProp 𝕄)
    = iprop((tLoc d ↦{leaf 2 q 0} f) ∗ (tLoc d ↦{leaf 2 q 1} f) ∗ (tLoc d ↦{leaf 2 q 2} f) ∗ (tLoc d ↦{leaf 2 q 3} f)) :=
  (pointsTo_leaves (ℓ := tLoc d) Finset.univ f 2 q).trans (bigSep_four fun j => (tLoc d ↦{leaf 2 q j} f : sProp 𝕄))

/-- The two slots, each at its own contents, are the staging buffer at some. -/
theorem join_slots (f g : S2x128x128.Idx → Elt F .f32) :
    (iprop((sbLoc d L ↦[(slot 0).view.set]{fullShare} f) ∗ (sbLoc d L ↦[(slot 1).view.set]{fullShare} g)) : sProp 𝕄)
      ⊢ iprop(∃ h, sbLoc d L ↦{fullShare} h) := by
  have h0 : (sbLoc d L ↦[(slot 0).view.set]{fullShare} f : sProp 𝕄)
      = sbLoc d L ↦[(slot 0).view.set]{fullShare} fun x : S2x128x128.Idx => if (x 0).val = 0 then f x else g x :=
    pointsTo_congr fun (x : S2x128x128.Idx) hx => (if_pos (congrArg Fin.val ((mem_slot 0 x).mp hx))).symm
  have h1 : (sbLoc d L ↦[(slot 1).view.set]{fullShare} g : sProp 𝕄)
      = sbLoc d L ↦[(slot 1).view.set]{fullShare} fun x : S2x128x128.Idx => if (x 0).val = 0 then f x else g x :=
    pointsTo_congr fun (x : S2x128x128.Idx) hx => (if_neg (fun e => absurd (e.symm.trans (congrArg Fin.val ((mem_slot 1 x).mp hx))) (show (0 : ℕ) ≠ 1 by decide))).symm
  rw [h0, h1, ← split_slots]
  exact exists_intro _

end

/-! ## The task -/

section
variable (d : Dev nD) (L : grid0.Coords)
variable (Pn : S32x4x128.Idx → BitVec 32) (Hn : S32x512.Idx → BitVec 32) (Tb : S500000x128.Idx → Elt F .f32)

/-- Row `w` of the row numbers; of the half offsets. -/
def pSet (w : Fin 32) : Finset S32x4x128.Idx := Finset.univ.filter fun i => (i 0).val = w.val
def hSet (w : Fin 32) : Finset S32x512.Idx := Finset.univ.filter fun i => (i 0).val = w.val
theorem mem_pSet (w : Fin 32) (i : S32x4x128.Idx) : i ∈ pSet w ↔ (i 0).val = w.val := by simp [pSet]
theorem mem_hSet (w : Fin 32) (i : S32x512.Idx) : i ∈ hSet w ↔ (i 0).val = w.val := by simp [hSet]

/-- What the subcore of number `w` is handed, its rows of the result at `f`. -/
abbrev part (w : Fin 32) (f : S16384x128.Idx → Elt F .f32) : sProp 𝕄 :=
  iprop((pLoc d ↦[pSet w]{fullShare} Pn)
    ∗ (hLoc d ↦[hSet w]{fullShare} Hn)
    ∗ (tLoc d ↦{leaf 5 fullShare w} Tb) ∗ (uLoc d ↦[uSet w]{fullShare} f))

theorem pBlk_set : (pBlk L).view.set = pSet (wid L) :=
  Finset.ext fun i => (mem_pBlk L i).trans (Fin.ext_iff.trans (mem_pSet (wid L) i).symm)
theorem hBlk_set : (hBlk L).view.set = hSet (wid L) :=
  Finset.ext fun i => (mem_hBlk L i).trans (Fin.ext_iff.trans (mem_hSet (wid L) i).symm)

set_option maxHeartbeats 4000000 in
/-- The task of the subcore at `L`: its rows of the result end at the lookup's values, all else as it was. -/
theorem tile_body (hF : (K (F := F)).Facts) (hP : ∀ x, (Pn x).toNat < 500000) (hH : ∀ x, (Hn x).toNat ≤ 64)
    (f : S16384x128.Idx → Elt F .f32) (O : CellTallies nD τ sig (HIx 1)) (W : Waits sig (HIx 1)) (hO : ∀ g, O g none = 0) :
    iprop(levAts (K (F := F)).L (K (F := F)).lev ∗ emp ∗ part d Pn Hn Tb (wid L) f
        ∗ scopedBufs (tile d L) ∗ scopedSems0 (tile d L) ∗ owes (tile d L) O W)
      ⊢ wp frame (wpE (defs₀ (F := F)) 𝒱₀ (tile d L) none) Set.univ
          (cc0__lookup (F := F) L pV (Memref.isWhole_whole _) hV (Memref.isWhole_whole _) tV (Memref.isWhole_whole _) uV (Memref.isWhole_whole _)
            sP (Memref.isWhole_whole _) sH (Memref.isWhole_whole _) sR (Memref.isWhole_whole _) sB (Memref.isWhole_whole _)
            cc0_scratch4 cc0_scratch5 cc0_scoped0 cc0_scoped1)
          fun _ => iprop(part d Pn Hn Tb (wid L) (res Pn Hn Tb) ∗ scopedBufs (tile d L) ∗ scopedSems0 (tile d L)
            ∗ ∃ W', ⌜∀ p ∈ W', p ∈ W ∨ p.2 = none⌝ ∗ owes (tile d L) O W') := by
  obtain ⟨RS, hRS⟩ := ownSems_split (F := F) d L
  obtain ⟨RB, hRB⟩ := ownBufs_split (F := F) d L
  rw [body_eq, (K (F := F)).scopedBufs_V hF d (cV L) (jV L), SparseCore.Cfg.scopedSems0_V (Val := Elt F) d (cV L) (jV L), hRS, hRB]
  unfold part
  rw [← pBlk_set, ← hBlk_set, split_out, split_out, split_table]
  iintro ⟨#Hlv, -, ⟨Hp, Hh, ⟨Ht0, Ht1, Ht2, Ht3⟩, Hu0, Hu1, Hu2, Hu3⟩, ⟨⟨%f0, Hsp⟩, ⟨%f1, Hsh⟩, ⟨%f2, Hsr⟩, ⟨%f3, Hsb⟩, Hbufs⟩,
    ⟨Hca, Hcb, Hg0, Hg1, Hg2, Hg3, Ho0, Ho1, Hsems⟩, HO⟩
  ihave #Hmw := (show levAts (K (F := F)).L (K (F := F)).lev ⊢ Mw d L O from (K (F := F)).mayWaits_none (thr := tile d L) hO) $$ Hlv
  ihave HO : Ow d L O W $$ [HO]
  · iexists W; isplitr
    · ipureintro; exact fun p hp => Or.inl hp
    · iexact HO
  -- the two fetches
  iapply (step_fetchP d L O W Pn f0) $$ [Hp Hsp Hca HO]
  · isplitl [Hp]; · iexact Hp
    isplitl [Hsp]; · iexact Hsp
    isplitl [Hca]; · iexact Hca
    isplitr; · iexact Hmw
    iexact HO
  iintro ⟨Hp, Hsp, Hca, HO⟩
  iapply (step_fetchH d L O W Hn f1) $$ [Hh Hsh Hcb HO]
  · isplitl [Hh]; · iexact Hh
    isplitl [Hsh]; · iexact Hsh
    isplitl [Hcb]; · iexact Hcb
    isplitr; · iexact Hmw
    iexact HO
  iintro ⟨Hh, Hsh, Hcb, HO⟩
  -- the four gathers
  ihave Hsp' := (Entails.of_eq (split_list d L (fP Pn (wid L)))) $$ Hsp
  icases Hsp' with ⟨Hl0, Hl1, Hl2, Hl3⟩
  ihave Hsr' := (Entails.of_eq (split_rows d L f2)) $$ Hsr
  icases Hsr' with ⟨Hr0, Hr1, Hr2, Hr3⟩
  ihave Hsb' := (Entails.of_eq (split_slots d L f3)) $$ Hsb
  icases Hsb' with ⟨Hb0, Hb1⟩
  iapply (step_issue d L Pn Tb hP (leaf 2 (leaf 5 fullShare (wid L)) 0) 0 f2) $$ [Ht0 Hr0 Hl0 Hg0]
  · isplitl [Ht0]; · iexact Ht0
    isplitl [Hr0]; · iexact Hr0
    isplitl [Hl0]; · iexact Hl0
    iexact Hg0
  iintro HF0
  iapply (step_issue d L Pn Tb hP (leaf 2 (leaf 5 fullShare (wid L)) 1) 1 f2) $$ [Ht1 Hr1 Hl1 Hg1]
  · isplitl [Ht1]; · iexact Ht1
    isplitl [Hr1]; · iexact Hr1
    isplitl [Hl1]; · iexact Hl1
    iexact Hg1
  iintro HF1
  iapply (step_issue d L Pn Tb hP (leaf 2 (leaf 5 fullShare (wid L)) 2) 2 f2) $$ [Ht2 Hr2 Hl2 Hg2]
  · isplitl [Ht2]; · iexact Ht2
    isplitl [Hr2]; · iexact Hr2
    isplitl [Hl2]; · iexact Hl2
    iexact Hg2
  iintro HF2
  iapply (step_issue d L Pn Tb hP (leaf 2 (leaf 5 fullShare (wid L)) 3) 3 f2) $$ [Ht3 Hr3 Hl3 Hg3]
  · isplitl [Ht3]; · iexact Ht3
    isplitl [Hr3]; · iexact Hr3
    isplitl [Hl3]; · iexact Hl3
    iexact Hg3
  iintro HF3
  -- chunk 0
  iapply (step_await d L O W 0) $$ [HF0 HO]
  · isplitl [HF0]; · iexact HF0
    isplitr; · iexact Hmw
    iexact HO
  iintro ⟨⟨Hr0, Ht0, Hl0⟩, Hg0, HO⟩
  iapply (step_loop d L Pn Hn Tb hH 0 0 f3 (loop1_is L)) $$ [Hr0 Hb0 Hsh]
  · isplitl [Hr0]; · iexact Hr0
    isplitl [Hb0]; · iexact Hb0
    iexact Hsh
  iintro ⟨Hr0, Hb0, Hsh⟩
  iapply (step_put d L Pn Hn Tb 0 0 f) $$ [Hu0 Hb0 Ho0]
  · isplitl [Hu0]; · iexact Hu0
    isplitl [Hb0]; · iexact Hb0
    iexact Ho0
  iintro HC0
  -- chunk 1
  iapply (step_await d L O W 1) $$ [HF1 HO]
  · isplitl [HF1]; · iexact HF1
    isplitr; · iexact Hmw
    iexact HO
  iintro ⟨⟨Hr1, Ht1, Hl1⟩, Hg1, HO⟩
  iapply (step_loop d L Pn Hn Tb hH 1 1 f3 (loop2_is L)) $$ [Hr1 Hb1 Hsh]
  · isplitl [Hr1]; · iexact Hr1
    isplitl [Hb1]; · iexact Hb1
    iexact Hsh
  iintro ⟨Hr1, Hb1, Hsh⟩
  iapply (step_put d L Pn Hn Tb 1 1 f) $$ [Hu1 Hb1 Ho1]
  · isplitl [Hu1]; · iexact Hu1
    isplitl [Hb1]; · iexact Hb1
    iexact Ho1
  iintro HC1
  -- chunk 2
  iapply (step_await d L O W 2) $$ [HF2 HO]
  · isplitl [HF2]; · iexact HF2
    isplitr; · iexact Hmw
    iexact HO
  iintro ⟨⟨Hr2, Ht2, Hl2⟩, Hg2, HO⟩
  iapply (step_awaitPut d L O W 0 0) $$ [HC0 HO]
  · isplitl [HC0]; · iexact HC0
    isplitr; · iexact Hmw
    iexact HO
  iintro ⟨⟨Hu0, Hb0⟩, Ho0, HO⟩
  iapply (step_loop d L Pn Hn Tb hH 2 0 _ (loop3_is L)) $$ [Hr2 Hb0 Hsh]
  · isplitl [Hr2]; · iexact Hr2
    isplitl [Hb0]; · iexact Hb0
    iexact Hsh
  iintro ⟨Hr2, Hb0, Hsh⟩
  iapply (step_put d L Pn Hn Tb 0 2 f) $$ [Hu2 Hb0 Ho0]
  · isplitl [Hu2]; · iexact Hu2
    isplitl [Hb0]; · iexact Hb0
    iexact Ho0
  iintro HC0
  -- chunk 3
  iapply (step_await d L O W 3) $$ [HF3 HO]
  · isplitl [HF3]; · iexact HF3
    isplitr; · iexact Hmw
    iexact HO
  iintro ⟨⟨Hr3, Ht3, Hl3⟩, Hg3, HO⟩
  iapply (step_awaitPut d L O W 1 1) $$ [HC1 HO]
  · isplitl [HC1]; · iexact HC1
    isplitr; · iexact Hmw
    iexact HO
  iintro ⟨⟨Hu1, Hb1⟩, Ho1, HO⟩
  iapply (step_loop d L Pn Hn Tb hH 3 1 _ (loop4_is L)) $$ [Hr3 Hb1 Hsh]
  · isplitl [Hr3]; · iexact Hr3
    isplitl [Hb1]; · iexact Hb1
    iexact Hsh
  iintro ⟨Hr3, Hb1, Hsh⟩
  iapply (step_put d L Pn Hn Tb 1 3 f) $$ [Hu3 Hb1 Ho1]
  · isplitl [Hu3]; · iexact Hu3
    isplitl [Hb1]; · iexact Hb1
    iexact Ho1
  iintro HC1
  -- the last two copies
  iapply (step_awaitPut d L O W 0 2) $$ [HC0 HO]
  · isplitl [HC0]; · iexact HC0
    isplitr; · iexact Hmw
    iexact HO
  iintro ⟨⟨Hu2, Hb0⟩, Ho0, HO⟩
  iapply (step_awaitPut d L O W 1 3) $$ [HC1 HO]
  · isplitl [HC1]; · iexact HC1
    isplitr; · iexact Hmw
    iexact HO
  iintro ⟨⟨Hu3, Hb1⟩, Ho1, HO⟩
  sl_step
  -- what is handed back
  isplitl [Hp Hh Ht0 Ht1 Ht2 Ht3 Hu0 Hu1 Hu2 Hu3]
  · isplitl [Hp]; · iexact Hp
    isplitl [Hh]; · iexact Hh
    isplitl [Ht0 Ht1 Ht2 Ht3]
    · isplitl [Ht0]; · iexact Ht0
      isplitl [Ht1]; · iexact Ht1
      isplitl [Ht2]; · iexact Ht2
      iexact Ht3
    isplitl [Hu0]; · iexact Hu0
    isplitl [Hu1]; · iexact Hu1
    isplitl [Hu2]; · iexact Hu2
    iexact Hu3
  isplitl [Hl0 Hl1 Hl2 Hl3 Hsh Hr0 Hr1 Hr2 Hr3 Hb0 Hb1 Hbufs]
  · isplitl [Hl0 Hl1 Hl2 Hl3]
    · iexists (fP Pn (wid L))
      iapply (Entails.of_eq (split_list d L (fP Pn (wid L))).symm)
      isplitl [Hl0]; · iexact Hl0
      isplitl [Hl1]; · iexact Hl1
      isplitl [Hl2]; · iexact Hl2
      iexact Hl3
    isplitl [Hsh]; · iexists _; iexact Hsh
    isplitl [Hr0 Hr1 Hr2 Hr3]
    · iexists (fR Pn Tb (wid L))
      iapply (Entails.of_eq (split_rows d L (fR Pn Tb (wid L))).symm)
      isplitl [Hr0]; · iexact Hr0
      isplitl [Hr1]; · iexact Hr1
      isplitl [Hr2]; · iexact Hr2
      iexact Hr3
    isplitl [Hb0 Hb1]
    · iapply (join_slots d L _ _)
      isplitl [Hb0]; · iexact Hb0
      iexact Hb1
    iexact Hbufs
  isplitl [Hca Hcb Hg0 Hg1 Hg2 Hg3 Ho0 Ho1 Hsems]
  · isplitl [Hca]; · iexact Hca
    isplitl [Hcb]; · iexact Hcb
    isplitl [Hg0]; · iexact Hg0
    isplitl [Hg1]; · iexact Hg1
    isplitl [Hg2]; · iexact Hg2
    isplitl [Hg3]; · iexact Hg3
    isplitl [Ho0]; · iexact Ho0
    isplitl [Ho1]; · iexact Ho1
    iexact Hsems
  iexact HO

end

end Cert.Proof.Lookup
-- ==== Proof.Launch.lean ====
/-
  THE LAUNCH. The host operations before the call, as one line over @main's arrays; the call's payloads — every subcore
  its rows of the row numbers, of the half offsets and of the result, and its share of the table; the split of the arrays
  over the 32 subcores; and the program's run: it ends with the result at the lookup's values of the three operands the
  host operations made, the arguments as they were and every semaphore at zero.
-/
module

public import proofs.«01_k».proof.Proof.Tile
public import Idealize.ShloMosaic.Lib.Pipeline.Frame

@[expose] public section

noncomputable section

namespace Cert.Proof.Lookup

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx
open Idealize.ShloMosaic.ShareLeaves (leaf pointsTo_leaves)

variable {F : FTy → Type} [FloatOps F]

local notation "𝕄" => MT nD τ sig (HIx 1) (Elt F) ℕ UU ℕ

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The host operations -/

variable (m : (ℓ : Loc nD τ sig) → Buf (Elt F) ℓ) (ρ : Dev nD → PrngReg)

/-- The host operations before the call, in order. -/
abbrev hostOps : List (HloOp τ sig (Elt F)) :=
  [StableHlo.nullary main_c (constantI S_ 32 1#32),
   StableHlo.unary main_c main_v0 (broadcastInDim S16384 ![] bcast_S_S16384 : (⟨S_, .i32⟩ : BufTy).Contents (Elt F) → (⟨S16384, .i32⟩ : BufTy).Contents (Elt F)),
   StableHlo.binary main_arg0 main_v0 main_v1 (Host.shrsi : (⟨S16384, .i32⟩ : BufTy).Contents (Elt F) → (⟨S16384, .i32⟩ : BufTy).Contents (Elt F) → (⟨S16384, .i32⟩ : BufTy).Contents (Elt F)),
   StableHlo.reshape main_v1 main_v2 (rfl : (.i32 : EltTy) = .i32) shapeCasts_S16384_S32x4x128,
   StableHlo.nullary main_c_0 (constantI S_ 32 1#32),
   StableHlo.unary main_c_0 main_v3 (broadcastInDim S16384 ![] bcast_S_S16384 : (⟨S_, .i32⟩ : BufTy).Contents (Elt F) → (⟨S16384, .i32⟩ : BufTy).Contents (Elt F)),
   StableHlo.binary main_arg0 main_v3 main_v4 (andi : (⟨S16384, .i32⟩ : BufTy).Contents (Elt F) → (⟨S16384, .i32⟩ : BufTy).Contents (Elt F) → (⟨S16384, .i32⟩ : BufTy).Contents (Elt F)),
   StableHlo.nullary main_c_1 (constantI S_ 32 64#32),
   StableHlo.unary main_c_1 main_v5 (broadcastInDim S16384 ![] bcast_S_S16384 : (⟨S_, .i32⟩ : BufTy).Contents (Elt F) → (⟨S16384, .i32⟩ : BufTy).Contents (Elt F)),
   StableHlo.binary main_v4 main_v5 main_v6 (muli : (⟨S16384, .i32⟩ : BufTy).Contents (Elt F) → (⟨S16384, .i32⟩ : BufTy).Contents (Elt F) → (⟨S16384, .i32⟩ : BufTy).Contents (Elt F)),
   StableHlo.reshape main_v6 main_v7 (rfl : (.i32 : EltTy) = .i32) shapeCasts_S16384_S32x512,
   StableHlo.reshape main_arg1 main_v8 (rfl : (.f32 : EltTy) = .f32) shapeCasts_S1000000x64_S500000x128]

theorem hostOps_sub : ∀ op ∈ hostOps (F := F), op.bufs ⊆ Pipeline.ucRefs τ sig := by
  intro op h
  refine Pipeline.sub_ucRefs op ?_
  simp only [hostOps, List.mem_cons, List.not_mem_nil, or_false] at h
  rcases h with rfl | rfl | rfl | rfl | rfl | rfl | rfl | rfl | rfl | rfl | rfl | rfl
  · exact StableHlo.nullary_bufs_sub _ _ _
  · exact StableHlo.unary_bufs_sub _ _ _ _ _
  · exact StableHlo.binary_bufs_sub _ _ _ _ _ _ _
  · exact StableHlo.reshape_bufs_sub _ _ _ _ _ _
  · exact StableHlo.nullary_bufs_sub _ _ _
  · exact StableHlo.unary_bufs_sub _ _ _ _ _
  · exact StableHlo.binary_bufs_sub _ _ _ _ _ _ _
  · exact StableHlo.nullary_bufs_sub _ _ _
  · exact StableHlo.unary_bufs_sub _ _ _ _ _
  · exact StableHlo.binary_bufs_sub _ _ _ _ _ _ _
  · exact StableHlo.reshape_bufs_sub _ _ _ _ _ _
  · exact StableHlo.reshape_bufs_sub _ _ _ _ _ _
theorem hostOps_fresh : ∀ op ∈ hostOps (F := F), op.fresh = ∅ := by
  intro op h
  simp only [hostOps, List.mem_cons, List.not_mem_nil, or_false] at h
  rcases h with rfl | rfl | rfl | rfl | rfl | rfl | rfl | rfl | rfl | rfl | rfl | rfl <;> rfl

/-- The arrays before the host operations and after them. -/
def V0 (d : Dev nD) : Valuation τ sig (Elt F) := fun b => m (d, b)
def V1 (d : Dev nD) : Valuation τ sig (Elt F) := StableHlo.after hostOps (V0 m d)

abbrev iLoc (d : Dev nD) : Loc nD τ sig := (SparseCore.T d).loc main_arg0
abbrev xLoc (d : Dev nD) : Loc nD τ sig := (SparseCore.T d).loc main_arg1

/-- The call's three operands: the row numbers, the half offsets, the table as 128-lane rows. -/
abbrev Pv (d : Dev nD) : S32x4x128.Idx → BitVec 32 := V1 m d (Proc.devRef .tc (main_v2 : Ref sig .tc))
abbrev Hv (d : Dev nD) : S32x512.Idx → BitVec 32 := V1 m d (Proc.devRef .tc (main_v7 : Ref sig .tc))
abbrev Tv (d : Dev nD) : S500000x128.Idx → Elt F .f32 := V1 m d (Proc.devRef .tc (main_v8 : Ref sig .tc))
/-- What the result array holds before the call, and after it. -/
abbrev Uv (d : Dev nD) : S16384x128.Idx → Elt F .f32 := V1 m d (Proc.devRef .tc (main_v9 : Ref sig .tc))
abbrev Rv (d : Dev nD) : S16384x128.Idx → Elt F .f32 := res (Pv m d) (Hv m d) (Tv m d)

theorem V1_arg0 (d : Dev nD) : V1 m d (Proc.devRef .tc (main_arg0 : Ref sig .tc)) = m (iLoc d) := by
  unfold V1; after_results; rfl
theorem V1_arg1 (d : Dev nD) : V1 m d (Proc.devRef .tc (main_arg1 : Ref sig .tc)) = m (xLoc d) := by
  unfold V1; after_results; rfl

/-- What the proof asks of the operands: every row number names a row of the table, every half offset is at most 64. -/
def OperandsOK : Prop := ∀ d : Dev nD, (∀ x, (Pv m d x).toNat < 500000) ∧ ∀ x, (Hv m d x).toNat ≤ 64

/-! ## What the handshakes carry -/

/-- The number of subcore `i` of core `c`. -/
def num (c : Fin ((K (F := F)).nCore 0)) (i : Fin ((K (F := F)).nSub 0)) : Fin 32 :=
  ⟨2 * i.val + c.val, by have h1 : c.val < 2 := c.isLt; have h2 : i.val < 16 := i.isLt; omega⟩

abbrev tkIn (d : Dev nD) (w : Fin 32) : sProp 𝕄 := part d (Pv m d) (Hv m d) (Tv m d) w (Uv m d)
abbrev tkOut (d : Dev nD) (w : Fin 32) : sProp 𝕄 := part d (Pv m d) (Hv m d) (Tv m d) w (Rv m d)

/-- Each core takes what its subcores take, and brings back what they bring back. -/
def P : (K (F := F)).Pay (nD := nD) (Val := Elt F) (Name := ℕ) (U := UU) where
  st := fun q d c => match q with | 0 => bigSep Finset.univ fun i : Fin ((K (F := F)).nSub 0) => tkIn m d (num c i)
  dn := fun q d c => match q with | 0 => bigSep Finset.univ fun i : Fin ((K (F := F)).nSub 0) => tkOut m d (num c i)
  go := fun q d c i => match q with | 0 => tkIn m d (num c i)
  td := fun q d c i => match q with | 0 => tkOut m d (num c i)
  x := fun _ _ => iprop(emp)

instance tkIn_storable (d : Dev nD) (w : Fin 32) : BI.Storable (upEmb : UEmb _ 𝕄) (tkIn m d w) := by
  unfold tkIn part; infer_instance
instance tkOut_storable (d : Dev nD) (w : Fin 32) : BI.Storable (upEmb : UEmb _ 𝕄) (tkOut m d w) := by
  unfold tkOut part; infer_instance

instance P_storable : (P (F := F) m).IsStorable where
  st q d c := match q with
    | 0 => (inferInstance : BI.Storable (upEmb : UEmb _ 𝕄) (bigSep Finset.univ fun i : Fin ((K (F := F)).nSub 0) => tkIn m d (num c i)))
  dn q d c := match q with
    | 0 => (inferInstance : BI.Storable (upEmb : UEmb _ 𝕄) (bigSep Finset.univ fun i : Fin ((K (F := F)).nSub 0) => tkOut m d (num c i)))
  go q d c i := match q with | 0 => tkIn_storable m d (num c i)
  td q d c i := match q with | 0 => tkOut_storable m d (num c i)

/-! ## The tasks' obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__lookup (coordsV c s) pV (Memref.isWhole_whole _) hV (Memref.isWhole_whole _)
          tV (Memref.isWhole_whole _) uV (Memref.isWhole_whole _) sP (Memref.isWhole_whole _) sH (Memref.isWhole_whole _)
          sR (Memref.isWhole_whole _) sB (Memref.isWhole_whole _) cc0_scratch4 cc0_scratch5 cc0_scoped0 cc0_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hok : OperandsOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) (Pv m d) (Hv m d) (Tv m d) hF (hok d).1 (hok d).2 (Uv m d) O W hO).trans
    (wp_mono frame _ _ fun _ => obl_post)

theorem vecSplit : (K (F := F)).VecSplit' (P m) 0 := by
  intro d c
  show (bigSep Finset.univ fun i : Fin ((K (F := F)).nSub 0) => tkIn m d (num c i)) ⊢ |={Set.univ}=> iprop(
      (bigSep Finset.univ fun i : Fin ((K (F := F)).nSub 0) => tkIn m d (num c i))
      ∗ ((bigSep Finset.univ fun i : Fin ((K (F := F)).nSub 0) => tkOut m d (num c i))
          -∗ bigSep Finset.univ fun i : Fin ((K (F := F)).nSub 0) => tkOut m d (num c i)))
  iintro H; imodintro
  isplitl [H]; · iexact H
  iintro H; iexact H

/-! ## The arrays over the subcores -/

/-- The subcores' numbers are the numbers below 32. -/
def numEquiv : Fin ((K (F := F)).nCore 0) × Fin ((K (F := F)).nSub 0) ≃ Fin 32 where
  toFun x := num x.1 x.2
  invFun w := (⟨w.val % 2, show w.val % 2 < 2 by omega⟩, ⟨w.val / 2, show w.val / 2 < 16 by omega⟩)
  left_inv x := by
    have h : x.1.val < 2 := x.1.isLt
    refine Prod.ext (Fin.ext ?_) (Fin.ext ?_)
    · show (2 * x.2.val + x.1.val) % 2 = x.1.val; omega
    · show (2 * x.2.val + x.1.val) / 2 = x.2.val; omega
  right_inv w := Fin.ext (by show 2 * (w.val / 2) + w.val % 2 = w.val; omega)

theorem over_cores (Φ : Fin 32 → sProp 𝕄) :
    (bigSep Finset.univ fun c : Fin ((K (F := F)).nCore 0) => bigSep Finset.univ fun i : Fin ((K (F := F)).nSub 0) => Φ (num c i)) = bigSep Finset.univ Φ := by
  rw [bigSep_univ_equiv (numEquiv (F := F)) Φ, bigSep_univ_prod]; rfl

/-- The row numbers' rows; the half offsets'; the result's. -/
theorem cover_p (d : Dev nD) (f : S32x4x128.Idx → BitVec 32) :
    (pLoc d ↦{fullShare} f : sProp 𝕄) = bigSep Finset.univ fun w : Fin 32 => pLoc d ↦[pSet w]{fullShare} f :=
  pts_cover (ℓ := pLoc d) Finset.univ pSet (fun x i j hi hj => Fin.ext (((mem_pSet i x).mp hi).symm.trans ((mem_pSet j x).mp hj)))
    (fun x => ⟨fun _ => ⟨x 0, (mem_pSet _ x).mpr rfl⟩, fun _ => Finset.mem_univ _⟩) f
theorem cover_h (d : Dev nD) (f : S32x512.Idx → BitVec 32) :
    (hLoc d ↦{fullShare} f : sProp 𝕄) = bigSep Finset.univ fun w : Fin 32 => hLoc d ↦[hSet w]{fullShare} f :=
  pts_cover (ℓ := hLoc d) Finset.univ hSet (fun x i j hi hj => Fin.ext (((mem_hSet i x).mp hi).symm.trans ((mem_hSet j x).mp hj)))
    (fun x => ⟨fun _ => ⟨x 0, (mem_hSet _ x).mpr rfl⟩, fun _ => Finset.mem_univ _⟩) f
theorem uSet_disj (x : S16384x128.Idx) (i j : Fin 32) (hi : x ∈ uSet i) (hj : x ∈ uSet j) : i = j :=
  Fin.ext (((mem_uSet i x).mp hi).symm.trans ((mem_uSet j x).mp hj))
theorem uSet_cover (x : S16384x128.Idx) : ∃ w : Fin 32, x ∈ uSet w := by
  have hx : (x 0).val < 16384 := (x 0).isLt
  have hq : (x 0).val / 512 < 32 := by omega
  exact ⟨⟨(x 0).val / 512, hq⟩, (mem_uSet _ x).mpr rfl⟩
theorem cover_u (d : Dev nD) (f : S16384x128.Idx → Elt F .f32) :
    (uLoc d ↦{fullShare} f : sProp 𝕄) = bigSep Finset.univ fun w : Fin 32 => uLoc d ↦[uSet w]{fullShare} f :=
  pts_cover (ℓ := uLoc d) Finset.univ uSet uSet_disj (fun x => ⟨fun _ => uSet_cover x, fun _ => Finset.mem_univ _⟩) f

/-- The four arrays whole are every subcore's part. -/
theorem over_parts (d : Dev nD) (Pn : S32x4x128.Idx → BitVec 32) (Hn : S32x512.Idx → BitVec 32) (Tb : S500000x128.Idx → Elt F .f32)
    (f : S16384x128.Idx → Elt F .f32) :
    (iprop((pLoc d ↦{fullShare} Pn) ∗ (hLoc d ↦{fullShare} Hn) ∗ (tLoc d ↦{fullShare} Tb) ∗ (uLoc d ↦{fullShare} f)) : sProp 𝕄)
      = bigSep Finset.univ fun w : Fin 32 => part d Pn Hn Tb w f := by
  unfold part
  rw [bigSep_sep', bigSep_sep', bigSep_sep', cover_p, cover_h, cover_u,
    show (tLoc d ↦{fullShare} Tb : sProp 𝕄) = bigSep Finset.univ fun w : Fin 32 => tLoc d ↦{leaf 5 fullShare w} Tb from
      pointsTo_leaves (ℓ := tLoc d) Finset.univ Tb 5 fullShare]

theorem st0_eq (d : Dev nD) : (bigSep Finset.univ fun c : Fin ((K (F := F)).nCore 0) => (P m).st 0 d c)
    = iprop((pLoc d ↦{fullShare} Pv m d) ∗ (hLoc d ↦{fullShare} Hv m d) ∗ (tLoc d ↦{fullShare} Tv m d) ∗ (uLoc d ↦{fullShare} Uv m d)) :=
  (over_cores (fun w => tkIn m d w)).trans (over_parts d _ _ _ _).symm
theorem dn0_eq (d : Dev nD) : (bigSep Finset.univ fun c : Fin ((K (F := F)).nCore 0) => (P m).dn 0 d c)
    = iprop((pLoc d ↦{fullShare} Pv m d) ∗ (hLoc d ↦{fullShare} Hv m d) ∗ (tLoc d ↦{fullShare} Tv m d) ∗ (uLoc d ↦{fullShare} Rv m d)) :=
  (over_cores (fun w => tkOut m d w)).trans (over_parts d _ _ _ _).symm

/-! ## The launch element of the certificate's ghost state -/

def u₀ : UU := (initOf (K (F := F)).hsCells (K (F := F)).hsToks, 1)

omit [FloatOps F] in
theorem all_emp {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [all_emp]; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), all_emp]
  iempintro

/-! ## @main on the TensorCore -/

theorem main_eq (d : Dev nD) : main (F := F) d = (StableHlo.seq hostOps >>= fun _ => ((sc (F := F)).run d 0 >>= fun _ => pure ⟨⟩)) := by
  rw [StableHlo.seq_bind_seqK]; rfl

/-- The arrays the run and the call read, and the rest. -/
theorem held_split_main (d : Dev nD) : ∃ R : sProp 𝕄, (StableHlo.held (d.tc : Thread nD τ) (Pipeline.ucRefs τ sig) (StableHlo.after hostOps (V0 m d)) : sProp 𝕄)
    = iprop((iLoc d ↦{fullShare} m (iLoc d)) ∗ (xLoc d ↦{fullShare} m (xLoc d)) ∗ (pLoc d ↦{fullShare} Pv m d) ∗ (hLoc d ↦{fullShare} Hv m d)
        ∗ (tLoc d ↦{fullShare} Tv m d) ∗ (uLoc d ↦{fullShare} Uv m d) ∗ R) := by
  have hn : ([main_arg0, main_arg1, main_v2, main_v7, main_v8, main_v9] : List (Ref sig .tc)).Nodup := by decide
  have hu : ∀ b ∈ ([main_arg0, main_arg1, main_v2, main_v7, main_v8, main_v9] : List (Ref sig .tc)),
      (Proc.devRef .tc b : DevRef τ sig) ∈ Pipeline.ucRefs τ sig := by decide
  obtain ⟨s', h⟩ := take_out (F := F) (fun b : DevRef τ sig => ((d, b) : Loc nD τ sig) ↦{fullShare} V1 m d b)
    (([main_arg0, main_arg1, main_v2, main_v7, main_v8, main_v9] : List (Ref sig .tc)).map (Proc.devRef (τ := τ) .tc))
    (Pipeline.ucRefs τ sig) (hn.map (Proc.devRef_injective _)) (fun g hg => by
      obtain ⟨b, hb, rfl⟩ := List.mem_map.mp hg
      exact hu b hb)
  refine ⟨bigSep s' fun b : DevRef τ sig => ((d, b) : Loc nD τ sig) ↦{fullShare} V1 m d b, h.trans ?_⟩
  simp only [List.map, List.foldr]
  rw [V1_arg0, V1_arg1]

/-- What @main leaves: the arguments as they were, the result at the lookup's values. -/
abbrev FIN (d : Dev nD) : sProp 𝕄 :=
  iprop((iLoc d ↦{fullShare} m (iLoc d)) ∗ (xLoc d ↦{fullShare} m (xLoc d)) ∗ (uLoc d ↦{fullShare} Rv m d))

/-- @main on device `d`'s TensorCore: the host operations' line, then the call. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  obtain ⟨R, hR⟩ := held_split_main m d
  unfold SparseCore.Cfg.tcRes SparseCore.Cfg.tcEnd
  rw [show (unscopedBufs d (fun b => m ((SparseCore.T d).loc b)) : sProp 𝕄) = StableHlo.held (d.tc : Thread nD τ) (Pipeline.ucRefs τ sig) (V0 m d) from
    Pipeline.unscopedBufs_held d (V0 m d), main_eq]
  iintro ⟨#Hctx, Hst, ⟨Hb, Hheld, Hts, -⟩, -⟩
  iapply (StableHlo.wp_seq 𝒱 none Set.univ d (Pipeline.ucRefs τ sig) _ hostOps hostOps_sub hostOps_fresh (V0 m d)) $$ [Hb Hheld]
  · isplitl [Hb] <;> iassumption
  iintro ⟨Hb, Hheld⟩
  ihave Hh := (Entails.of_eq hR) $$ Hheld
  icases Hh with ⟨Hi, Hx, Hp, Hh, Ht, Hu, -⟩
  rw [wp_bind]
  iapply ((K (F := F)).wp_run (D (F := F)) 𝒱 (EH := EH) (P := P m) κ d 0) $$ [Hst Hi Hx Hp Hh Ht Hu Hb Hts]
  isplitr; · iexact Hctx
  isplitl [Hst]; · iexact Hst
  isplitl [Hp Hh Ht Hu]
  · rw [st0_eq]
    isplitl [Hp]; · iexact Hp
    isplitl [Hh]; · iexact Hh
    isplitl [Ht]; · iexact Ht
    iexact Hu
  iintro ⟨Hst, Hdn⟩
  ihave Hdn' := (Entails.of_eq (dn0_eq m d)) $$ Hdn
  icases Hdn' with ⟨-, -, -, Hu⟩
  rw [wp_pure]; imodintro
  isplitl [Hst]; · iexact Hst
  isplitr [Hb Hts]
  · isplitl [Hi]; · iexact Hi
    isplitl [Hx]; · iexact Hx
    iexact Hu
  isplitl [Hb] <;> iassumption

def fq (d : Dev nD) (s' : Phys nD τ sig (Elt F)) : Prop :=
  s'.mem.mem (iLoc d) = m (iLoc d) ∧ s'.mem.mem (xLoc d) = m (xLoc d) ∧ s'.mem.mem (uLoc d) = Rv m d

set_option maxRecDepth 16384 in
theorem hfin (d : Dev nD) (s' : Phys nD τ sig (Elt F)) : iprop(FIN m d ∗ SI s') ⊢ (⌜fq m d s'⌝ : sProp 𝕄) := by
  iintro ⟨⟨Hi, Hx, Hu⟩, HSI⟩
  ihave H := (persistent_entails_right (SI_pointsTo_agree (st := s') (ℓ := iLoc d) (I := Finset.univ) (q := fullShare) (f := m (iLoc d)))) $$ [HSI Hi]
  · isplitl [HSI] <;> iassumption
  icases H with ⟨%h1, HSI, -⟩
  ihave H := (persistent_entails_right (SI_pointsTo_agree (st := s') (ℓ := xLoc d) (I := Finset.univ) (q := fullShare) (f := m (xLoc d)))) $$ [HSI Hx]
  · isplitl [HSI] <;> iassumption
  icases H with ⟨%h2, HSI, -⟩
  ihave H := (SI_pointsTo_agree (st := s') (ℓ := uLoc d) (I := Finset.univ) (q := fullShare) (f := (Rv m d : Buf (Elt F) (uLoc d)))) $$ [HSI Hu]
  · isplitl [HSI] <;> iassumption
  icases H with %h3
  ipureintro
  exact ⟨funext fun i => h1 i (Finset.mem_univ i), funext fun i => h2 i (Finset.mem_univ i), funext fun i => h3 i (Finset.mem_univ i)⟩

/-! ## The program's run -/

def QC : PUnit × MemSt nD τ sig (Elt F) → Prop := fun r =>
  (∀ c : Dev nD, r.2.mem (iLoc c) = m (iLoc c) ∧ r.2.mem (xLoc c) = m (xLoc c) ∧ r.2.mem (uLoc c) = Rv m c) ∧ r.2.sem = fun _ => 0

/-- The program runs, from operands in range: the arguments end as they were, the result at the lookup's values, every
    semaphore at zero. -/
theorem run_main [∀ e, Nonempty (Elt F e)] (hok : OperandsOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hok)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.Lookup
-- ==== Proof.Words.lean ====
/-
  WHAT THE LOOKUP IS, apart from any program: the array it computes from the row ids and the table (`lookup`), what the
  precondition says of the ids, and what the host's word operations on an id in range come to.
-/
module

public import proofs.«01_k».proof.Proof.Gen.Pre_in_table
public import Idealize.ShloMosaic.Lib.ReduceAll
public import Idealize.ShloMosaic.Lib.StableHlo.Predicate
public import Idealize.ShloMosaic.Lib.Pipeline.Value
public import Idealize.ShloMosaic.Lib.ValueIdx

@[expose] public section

noncomputable section

namespace Cert.Proof.Maths

open Idealize.ShloMosaic
open Idealize.ShloMosaic.ValueIdx

variable {F : FTy → Type} [FloatOps F]

abbrev Ids : Shape := ⟨1, ![16384]⟩
abbrev Table : Shape := ⟨2, ![1000000, 64]⟩
abbrev Out : Shape := ⟨2, ![16384, 128]⟩

/-- Row `n` of the result: the table's row the id `n` names in the low 64 lanes, zero in the high 64. -/
def lookup (ids : Ids.Idx → BitVec 32) (tab : Table.Idx → Elt F .f32) : Out.Idx → Elt F .f32 := fun x =>
  if h : (x 1).val < 64 then
    tab (ix2 ⟨(ids (ix1 ⟨(x 0).val, (x 0).isLt⟩)).toNat % 1000000, Nat.mod_lt _ (by omega)⟩ ⟨(x 1).val, h⟩)
  else FloatOps.ofBits .f32 0x00000000#32

/-- Every id names a row of the table. -/
def InTable (ids : Ids.Idx → BitVec 32) : Prop := ∀ x, (ids x).toNat < 1000000

theorem andi_bits {a b : BitVec 1} (h : IntOp.andi a b = 1#1) : a = 1#1 ∧ b = 1#1 := by
  revert h; unfold IntOp.andi; revert a b; decide

/-- A word at least 0 and less than 1000000, read signed, is a number below 1000000. -/
theorem id_range {v : BitVec 32} (h0 : IntOp.cmpi .sge v 0#32 = 1#1) (h1 : IntOp.cmpi .slt v 1000000#32 = 1#1) : v.toNat < 1000000 := by
  have hv : v.toNat < 4294967296 := v.isLt
  simp only [IntOp.cmpi, StableHlo.Predicate.ofBool_eq_one_iff, BitVec.sle_eq_decide, BitVec.slt_eq_decide, decide_eq_true_eq, BitVec.toInt_eq_toNat_cond,
    BitVec.toNat_ofNat] at h0 h1
  omega

open Cert.Pre_in_table in
/-- The precondition says every id names a row of the table. -/
theorem inTable_of_pre (ids : Ids.Idx → BitVec 32) (tab : Table.Idx → Elt F .f32)
    (h : Cert.Pre_in_table.fn (F := F) ids tab = fun _ => 1#1) : InTable ids := by
  intro x
  haveI : Subsingleton S_.Idx := ⟨fun _ _ => funext fun a => a.elim0⟩
  have e := congrFun h (Shape.Idx.first Cert.Pre_in_table.Facts.h_S_)
  simp only [Cert.Pre_in_table.fn] at e
  have e' := andi_bits (Host.reduce_andi_all _ _ _ _ _ e x)
  exact id_range e'.1 e'.2

/-! ## The host's words at an id in range -/

variable {v : BitVec 32}

/-- An id shifted right by one is its half. -/
theorem toNat_half (hv : v.toNat < 1000000) : (IntOp.shrsi .host v 1#32).toNat = v.toNat / 2 := by
  unfold IntOp.shrsi
  rw [if_pos (by decide), show v.sshiftRight' 1#32 = v.sshiftRight 1 from rfl, BitVec.sshiftRight_eq_of_msb_false
    (BitVec.msb_eq_false_iff_two_mul_lt.mpr (by omega)), BitVec.toNat_ushiftRight, Nat.shiftRight_eq_div_pow]

/-- The half offset of an id is 64 for an odd id and 0 for an even one. -/
theorem toNat_off : (IntOp.muli (IntOp.andi v 1#32) 64#32).toNat = v.toNat % 2 * 64 := by
  unfold IntOp.muli IntOp.andi
  rw [BitVec.toNat_mul, BitVec.toNat_and]
  show (v.toNat &&& 1) * 64 % 4294967296 = _
  rw [Nat.and_one_is_mod]; omega

end Cert.Proof.Maths
-- ==== Proof.Values.lean ====
/-
  THE KERNEL'S RESULT IS THE LOOKUP. The host operations' three operands, read at an index; on ids in range they are as the
  launch asks, and the array the launch leaves is the lookup of the two arguments.
-/
module

public import proofs.«01_k».proof.Proof.Launch
public import proofs.«01_k».proof.Proof.Words

@[expose] public section

noncomputable section

namespace Cert.Proof.Lookup

open Cert.KernelIdeal Cert.KernelIdeal.Gen
open Idealize.ShloMosaic Idealize.SL.Sem
open Idealize.ShloMosaic.ValueIdx
open Cert.Proof.Maths (InTable lookup)

variable {F : FTy → Type} [FloatOps F]
variable (m : (ℓ : Loc nD τ sig) → Buf (Elt F) ℓ) (ρ : Dev nD → PrngReg) (d : Dev nD)

/-- The two arguments. -/
abbrev ids : S16384.Idx → BitVec 32 := m (iLoc d)
abbrev tab : S1000000x64.Idx → Elt F .f32 := m (xLoc d)

theorem Pv_eq : Pv m d = shapeCast S32x4x128 (Host.shrsi (ids m d) (broadcastInDim S16384 ![] bcast_S_S16384 (constantI S_ 32 1#32)))
    shapeCasts_S16384_S32x4x128 := by
  unfold Pv V1; after_results; rfl
theorem Hv_eq : Hv m d = shapeCast S32x512 (muli (andi (ids m d) (broadcastInDim S16384 ![] bcast_S_S16384 (constantI S_ 32 1#32)))
    (broadcastInDim S16384 ![] bcast_S_S16384 (constantI S_ 32 64#32))) shapeCasts_S16384_S32x512 := by
  unfold Hv V1; after_results; rfl
theorem Tv_eq : Tv m d = shapeCast S500000x128 (tab m d) shapeCasts_S1000000x64_S500000x128 := by
  unfold Tv V1; after_results; rfl

/-- The row number at `(w, j, r)` is half the id at `512 w + 128 j + r`; the half offset at `(w, i)` is of the id at
    `512 w + i`; entry `(p, l)` of the paired table is entry `(2 p + l / 64, l % 64)` of the table. -/
theorem Pv_apply (n : Fin 16384) (w : Fin 32) (j : Fin 4) (r : Fin 128) (h : n.val = 512 * w.val + 128 * j.val + r.val) :
    Pv m d (ix3 w j r) = IntOp.shrsi .host (ids m d (ix1 n)) 1#32 := by
  rw [Pv_eq, shapeCast_apply _ _ (ix3 w j r : S32x4x128.Idx) (ix1 n : S16384.Idx)]
  · rfl
  · rw [Shape.rowMajor_val_one, Shape.rowMajor_val_three]
    show n.val = (w.val * 4 + j.val) * 128 + r.val
    omega
theorem Hv_apply (n : Fin 16384) (w : Fin 32) (i : Fin 512) (h : n.val = 512 * w.val + i.val) :
    Hv m d (ix2 w i) = IntOp.muli (IntOp.andi (ids m d (ix1 n)) 1#32) 64#32 := by
  rw [Hv_eq, shapeCast_apply _ _ (ix2 w i : S32x512.Idx) (ix1 n : S16384.Idx)]
  · rfl
  · rw [Shape.rowMajor_val_one, Shape.rowMajor_val_two]
    show n.val = w.val * 512 + i.val
    omega
theorem Tv_apply (p : Fin 500000) (l : Fin 128) (n : Fin 1000000) (k : Fin 64) (h : 64 * n.val + k.val = 128 * p.val + l.val) :
    Tv m d (ix2 p l) = tab m d (ix2 n k) := by
  rw [Tv_eq, shapeCast_apply _ _ (ix2 p l : S500000x128.Idx) (ix2 n k : S1000000x64.Idx)]
  rw [Shape.rowMajor_val_two, Shape.rowMajor_val_two]
  show n.val * 64 + k.val = p.val * 128 + l.val
  omega

/-- Ids in range make operands in range. -/
theorem operandsOK (h : ∀ d, InTable (ids m d)) : OperandsOK m := fun d => by
  constructor
  · intro x
    have h0 : (x 0).val < 32 := (x 0).isLt
    have h1 : (x 1).val < 4 := (x 1).isLt
    have h2 : (x 2).val < 128 := (x 2).isLt
    have e := (congrArg (Pv m d) (eq_ix3 x)).trans
      (Pv_apply m d ⟨512 * (x 0).val + 128 * (x 1).val + (x 2).val, by omega⟩ (x 0) (x 1) (x 2) rfl)
    have hid := h d (ix1 ⟨512 * (x 0).val + 128 * (x 1).val + (x 2).val, by omega⟩)
    rw [e, Cert.Proof.Maths.toNat_half hid]
    omega
  · intro x
    have h0 : (x 0).val < 32 := (x 0).isLt
    have h1 : (x 1).val < 512 := (x 1).isLt
    have e := (congrArg (Hv m d) (eq_ix2 x)).trans (Hv_apply m d ⟨512 * (x 0).val + (x 1).val, by omega⟩ (x 0) (x 1) rfl)
    rw [e, Cert.Proof.Maths.toNat_off]
    omega

/-- On ids in range the launch leaves the lookup. -/
theorem Rv_eq (h : InTable (ids m d)) : Rv m d = lookup (ids m d) (tab m d) := by
  funext x
  have h0 : (x 0).val < 16384 := (x 0).isLt
  have h1 : (x 1).val < 128 := (x 1).isLt
  have hid := h (ix1 ⟨(x 0).val, h0⟩)
  have hw : (x 0).val / 512 < 32 := by omega
  have hj : (x 0).val % 512 / 128 < 4 := by omega
  have hr : (x 0).val % 128 < 128 := by omega
  unfold Rv res gat lookup
  by_cases hl : (x 1).val < 64
  · rw [if_pos hl, dif_pos hl]
    have hi : 128 * ((x 0).val % 512 / 128) + (x 0).val % 128 < 512 := by omega
    have hO : (fH (Hv m d) ⟨(x 0).val / 512, hw⟩ (ix1 ⟨128 * ((x 0).val % 512 / 128) + (x 0).val % 128, hi⟩)).toNat
        = (ids m d (ix1 ⟨(x 0).val, h0⟩)).toNat % 2 * 64 := by
      unfold fH
      rw [← Cert.Proof.Maths.toNat_off]
      exact congrArg BitVec.toNat (Hv_apply m d ⟨(x 0).val, h0⟩ ⟨(x 0).val / 512, hw⟩ ⟨128 * ((x 0).val % 512 / 128) + (x 0).val % 128, hi⟩
        (by show (x 0).val = 512 * ((x 0).val / 512) + (128 * ((x 0).val % 512 / 128) + (x 0).val % 128); omega))
    unfold fR
    have hP : (Pv m d (ix3 ⟨(x 0).val / 512, hw⟩ ⟨(128 * ((x 0).val % 512 / 128) + (x 0).val % 128) / 128, by omega⟩
        ⟨(128 * ((x 0).val % 512 / 128) + (x 0).val % 128) % 128, by omega⟩)).toNat = (ids m d (ix1 ⟨(x 0).val, h0⟩)).toNat / 2 := by
      rw [← Cert.Proof.Maths.toNat_half hid]
      exact congrArg BitVec.toNat (Pv_apply m d ⟨(x 0).val, h0⟩ _ _ _ (by
        show (x 0).val = 512 * ((x 0).val / 512) + 128 * ((128 * ((x 0).val % 512 / 128) + (x 0).val % 128) / 128)
          + (128 * ((x 0).val % 512 / 128) + (x 0).val % 128) % 128
        omega))
    refine Tv_apply m d _ _ _ _ ?_
    show 64 * ((ids m d (ix1 ⟨(x 0).val, h0⟩)).toNat % 1000000) + (x 1).val
      = 128 * ((Pv m d (ix3 ⟨(x 0).val / 512, hw⟩ ⟨(128 * ((x 0).val % 512 / 128) + (x 0).val % 128) / 128, by omega⟩
        ⟨(128 * ((x 0).val % 512 / 128) + (x 0).val % 128) % 128, by omega⟩)).toNat % 500000)
        + ((fH (Hv m d) ⟨(x 0).val / 512, hw⟩ (ix1 ⟨128 * ((x 0).val % 512 / 128) + (x 0).val % 128, hi⟩)).toNat + (x 1).val) % 128
    rw [hO, hP]
    omega
  · rw [if_neg hl, dif_neg hl]

end Cert.Proof.Lookup
-- ==== Proof.Reference.lean ====
/-
  THE REFERENCE. On ids in range the reference's term is `lookup`: no id is negative, so none is wrapped; every id passes
  the range check, so no fill is taken; the gather reads the row the id names; and the zeros are joined on the right.
-/
module

public import proofs.«01_k».proof.Proof.Words
public import proofs.«01_k».proof.Proof.Gen.ReferenceIdeal.Run
public import Idealize.ShloMosaic.Lib.Routing.Ops

@[expose] public section

noncomputable section

namespace Cert.Proof.Reference

open Cert.ReferenceIdeal Cert.ReferenceIdeal.Gen
open Idealize.ShloMosaic Idealize.SL.Sem
open Idealize.ShloMosaic.ValueIdx
open Cert.Proof.Maths

variable {F : FTy → Type} [FloatOps F]

section
variable (ids : S16384.Idx → BitVec 32) (tab : S1000000x64.Idx → Elt F .f32)

/-- The ids as the gather takes them: a negative one wrapped, in a column. -/
def wrapped : S16384.Idx → BitVec 32 :=
  select (cmpi .slt ids (broadcastInDim S16384 ![] bcast_S_S16384 (constantI S_ 32 0#32)))
    (addi ids (broadcastInDim S16384 ![] bcast_S_S16384 (constantI S_ 32 1000000#32))) ids
def column : S16384x1.Idx → BitVec 32 := broadcastInDim S16384x1 ![0] bcast_S16384_S16384x1_0 (wrapped ids)

/-- Which ids pass the range check. -/
def passes : S16384.Idx → BitVec 1 :=
  Host.reduce IntOp.andi
    (andi (cmpi .sge (column ids) (broadcastInDim S16384x1 ![] bcast_S_S16384x1 (constantI S_ 32 0#32)))
      (cmpi .sle (column ids) (broadcastInDim S16384x1 ![0, 1] bcast_S1x1_S16384x1_0_1 (broadcastInDim S1x1 ![1] bcast_S1_S1x1_1 (constantI S1 32 999999#32)))))
    (constantI S_ 1 1#1) reducesTo_S16384x1_S16384_d1 h_S_

/-- The rows taken, and the reference's result. -/
def taken : S16384x64.Idx → Elt F .f32 :=
  select (broadcastInDim S16384x64 ![0] bcast_S16384_S16384x64_0 (passes ids))
    (Host.gather gather_S1000000x64_S16384x1_S16384x64_1_0_n_n_0_1_164 tab (column ids))
    (broadcastInDim S16384x64 ![] bcast_S_S16384x64 (constant (F := F) S_ .f32 0x7FC00000#32))
def joined : S16384x128.Idx → Elt F .f32 :=
  concatenate S16384x128 1 [⟨S16384x64, taken ids tab⟩, ⟨S16384x64, broadcastInDim S16384x64 ![] bcast_S_S16384x64 (constant (F := F) S_ .f32 0x00000000#32)⟩]
    concatenates_S16384x64_S16384x64_S16384x128_d1

variable {ids}

/-- An id in range is not wrapped. -/
theorem wrapped_eq (h : InTable ids) : wrapped ids = ids := by
  funext x
  have hx := h x
  have hc : IntOp.cmpi .slt (ids x) 0#32 ≠ 1#1 := fun e => by
    have := (StableHlo.Predicate.slt_iff_toNat (a := ids x) (b := 0#32) (by omega) (by decide)).1 e
    simp at this
  show Scalar.select (IntOp.cmpi .slt (ids x) 0#32) _ (ids x) = ids x
  unfold Scalar.select
  exact if_neg hc

theorem column_apply (h : InTable ids) (n : Fin 16384) (z : Fin 1) : column ids (ix2 n z : S16384x1.Idx) = ids (ix1 n) := by
  unfold column
  rw [wrapped_eq h]
  exact broadcastInDim_apply _ _ _ _ _ (fun a => by match a with | ⟨0, _⟩ => rfl)

/-- Every id in range passes the check. -/
theorem passes_eq (h : InTable ids) (x : S16384.Idx) : passes ids x = 1#1 := by
  refine Host.reduce_andi_one _ _ _ _ _ rfl fun i => ?_
  have hc : column ids i = ids (ix1 (i 0)) := (congrArg (column ids) (eq_ix2 i)).trans (column_apply h (i 0) (i 1))
  show IntOp.andi (IntOp.cmpi .sge (column ids i) 0#32) (IntOp.cmpi .sle (column ids i) 999999#32) = 1#1
  rw [hc]
  have hx := h (ix1 (i 0))
  rw [(StableHlo.Predicate.sge_iff_toNat (a := ids (ix1 (i 0))) (b := 0#32) (by omega) (by decide)).2 (Nat.zero_le _),
    (StableHlo.Predicate.sle_iff_toNat (a := ids (ix1 (i 0))) (b := 999999#32) (by omega) (by decide)).2 (by show _ ≤ 999999; omega)]
  rfl

theorem taken_apply (h : InTable ids) (n : Fin 16384) (y : Fin 64) :
    taken ids tab (ix2 n y : S16384x64.Idx) = tab (ix2 ⟨(ids (ix1 n)).toNat % 1000000, Nat.mod_lt _ (by omega)⟩ y) := by
  have hn := h (ix1 n)
  have hp : broadcastInDim S16384x64 ![0] bcast_S16384_S16384x64_0 (passes ids) (ix2 n y : S16384x64.Idx) = 1#1 := passes_eq h _
  unfold taken
  show Scalar.select (broadcastInDim S16384x64 ![0] bcast_S16384_S16384x64_0 (passes ids) (ix2 n y : S16384x64.Idx)) _ _ = _
  rw [hp]
  refine (if_pos rfl).trans ?_
  refine Routing.gather_row _ rfl rfl rfl rfl rfl tab (column ids) n y _ ?_ (by omega)
  rw [column_apply h]
  show _ = BitVec.ofNat 32 ((ids (ix1 n)).toNat % 1000000)
  rw [Nat.mod_eq_of_lt hn, BitVec.ofNat_toNat, BitVec.setWidth_eq]

/-- On ids in range the reference's result is the lookup. -/
theorem joined_eq (h : InTable ids) : joined ids tab = lookup ids tab := by
  funext x
  unfold joined lookup
  have h1 : (x 1).val < 128 := (x 1).isLt
  by_cases hl : (x 1).val < 64
  · rw [dif_pos hl, concatenate_pair_apply_left (t := S16384x128) (s₁ := S16384x64) (s₂ := S16384x64) 1 _ _ _ x rfl
      (ix2 ⟨(x 0).val, (x 0).isLt⟩ ⟨(x 1).val, hl⟩ : S16384x64.Idx) (fun b => by match b with | ⟨0, _⟩ => rfl | ⟨1, _⟩ => rfl)]
    exact taken_apply tab h _ _
  · rw [dif_neg hl, concatenate_pair_apply_right (t := S16384x128) (s₁ := S16384x64) (s₂ := S16384x64) 1 _ _ _ x rfl rfl
      (ix2 ⟨(x 0).val, (x 0).isLt⟩ ⟨(x 1).val - 64, by omega⟩ : S16384x64.Idx)
      (fun b hb => by match b with | ⟨0, _⟩ => rfl | ⟨1, _⟩ => exact absurd rfl hb) (by show (x 1).val - 64 + 64 = (x 1).val; omega)]
    rfl

end

/-- The reference's run: its result is `joined` of its arguments, which it leaves as they were. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v2) = joined (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  Cert.ReferenceIdeal.Value.run m ρ

end Cert.Proof.Reference
-- ==== Proof.lean ====
/-
  THE CERTIFICATE. The kernel's run — at the machine's floats (`Proof/LaunchBits.lean`) and at the extended reals
  (`Proof/Launch.lean`, the same text) — read at the arguments gives its two frames; the reference's run gives the third;
  the idealization rewrote nothing; and on ids in range both results are the one array `Maths.lookup` of the arguments
  (`Proof/Values.lean`, `Proof/Reference.lean`), which is the algebraic claim.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_in_table
public import proofs.«01_k».proof.Proof.Values
public import proofs.«01_k».proof.Proof.ValuesBits
public import proofs.«01_k».proof.Proof.Reference
public import Idealize.ShloMosaic.Lib.Quiescent
public import Idealize.ShloMosaic.Adequacy
public import Idealize.ShloMosaic.Init

@[expose] public section

noncomputable section

namespace Cert.Proof

open Idealize.ShloMosaic Idealize.SL.Sem

/-- The kernel at the machine's floats, on ids in range, runs, leaves its arguments and ends with every semaphore at zero. -/
theorem frame_kernel : Cert.quiescent_Kernel := fun m g hpre =>
  (θ_run _ _ _).mono (fun _ h => ⟨fun c => ⟨(h.1 c).1, (h.1 c).2.1⟩, h.2⟩)
    (LookupBits.run_main m g (LookupBits.operandsOK m fun d => Maths.inTable_of_pre _ _ (hpre d)))

/-- The same of the kernel at the extended reals. -/
theorem frame_kernelIdeal : Cert.quiescent_KernelIdeal := fun m g hpre =>
  (θ_run _ _ _).mono (fun _ h => ⟨fun c => ⟨(h.1 c).1, (h.1 c).2.1⟩, h.2⟩)
    (Lookup.run_main m g (Lookup.operandsOK m fun d => Maths.inTable_of_pre _ _ (hpre d)))

/-- The reference runs and leaves its arguments; it declares no semaphore. -/
theorem frame_referenceIdeal : Cert.quiescent_ReferenceIdeal := fun m g _ =>
  (θ_run _ _ _).mono (fun r h => ⟨fun c => (h c).2, sem_eq_zero_of_no_sems rfl r.2⟩) (Reference.run m g)

/-- In particular it does so on ids in range. -/
theorem frame_referenceIdeal_inTable : Cert.quiescent_ReferenceIdeal_pre_in_table := fun m g _ => frame_referenceIdeal m g trivial

/-- On ids in range the kernel and the reference both end with the lookup of the arguments. -/
theorem same_results : Cert.algebraic_KernelIdeal_ReferenceIdeal := fun m g m' g' hpre hm => by
  have hin : ∀ d, Maths.InTable (Lookup.ids m d) := fun d => Maths.inTable_of_pre _ _ (hpre d)
  refine ⟨fun c => Maths.lookup (Lookup.ids m c) (Lookup.tab m c), ?_, ?_⟩
  · exact (θ_run _ _ _).mono (fun _ h c => ⟨((h.1 c).2.2).trans (Lookup.Rv_eq m c (hin c)), (h.1 c).1, (h.1 c).2.1⟩)
      (Lookup.run_main m g (Lookup.operandsOK m hin))
  · refine (θ_run _ _ _).mono (fun _ h c => ⟨((h c).1).trans ?_, (h c).2⟩) (Reference.run m' g')
    rw [(hm c).1, (hm c).2]
    exact Reference.joined_eq _ (hin c)

theorem claim : Cert.Claim := ⟨Cert.Kernel.Gen.facts, Cert.KernelIdeal.Gen.facts, Cert.ReferenceIdeal.Gen.facts, Cert.Pre_in_table.Gen.facts,
  frame_kernel, frame_kernelIdeal, frame_referenceIdeal, frame_referenceIdeal_inTable, trivial, same_results⟩

end Cert.Proof

end
